-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  IdealRules.named_const.Statement Cert.KernelIdeal.κ "score_scale_log2" .f32 0x3DD53B95#32 (((Real.sqrt 192)⁻¹ * (Real.log 2)⁻¹ : ℝ) : EReal)
  ∧ IdealRules.named_const.Statement Cert.KernelIdeal.κ "score_scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v9)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v9_0)) (v1 : (c : Dev Cert.Kernel12Ideal.nD) → Buf (Elt Ideal) ((c.tc : Thread Cert.Kernel12Ideal.nD Cert.Kernel12Ideal.τ).loc Cert.Kernel12Ideal.main_v9_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9_0) = v0 c
          ∧ r.2.mem ((c.tc : Thread Cert.Kernel12Ideal.nD Cert.Kernel12Ideal.τ).loc Cert.Kernel12Ideal.main_v9_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_v11) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v16)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v16) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v9) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S8192x8x192 : Shape := ⟨3, ![8192, 8, 192]⟩
abbrev S8192x8x128 : Shape := ⟨3, ![8192, 8, 128]⟩
abbrev S8192x2048 : Shape := ⟨2, ![8192, 2048]⟩
abbrev S8192x1024 : Shape := ⟨2, ![8192, 1024]⟩
abbrev S_ : Shape := ⟨0, ![]⟩

class Facts : Prop where
  slices_S8192x2048_S8192x1024_0_512 : S8192x2048.Slices ![0, 512] S8192x1024
  bcast_S_S8192x8x192 : S_.BroadcastsInDim S8192x8x192 (![] : Fin 0 → Fin S8192x8x192.rank)
  bcast_S_S8192x8x128 : S_.BroadcastsInDim S8192x8x128 (![] : Fin 0 → Fin S8192x8x128.rank)
  bcast_S_S8192x1024 : S_.BroadcastsInDim S8192x1024 (![] : Fin 0 → Fin S8192x1024.rank)

variable [Facts]

def fn {F : FTy → Type} [FloatOps F] (main_arg0 : FVec F S8192x8x192 .f32) (main_arg1 : FVec F S8192x8x192 .f32) (main_arg2 : FVec F S8192x8x128 .f32) (main_arg3 : FVec F S8192x2048 .f32) : IVec S8192x8x192 1 × IVec S8192x8x192 1 × IVec S8192x8x128 1 × IVec S8192x1024 1 :=
  let main_v0 : FVec F S8192x1024 .f32 := (extractStridedSlice S8192x1024 ![0, 512] · slices_S8192x2048_S8192x1024_0_512) main_arg3
  let main_v1 : FVec F S8192x8x192 .f32 := Host.absf main_arg0
  let main_cst : FVec F S_ .f32 := constant S_ .f32 0x7F800000#32
  let main_v2 : FVec F S8192x8x192 .f32 := broadcastInDim S8192x8x192 ![] bcast_S_S8192x8x192 main_cst
  let main_v3 : IVec S8192x8x192 1 := cmpf .olt main_v1 main_v2
  let main_v4 : FVec F S8192x8x192 .f32 := Host.absf main_arg1
  let main_cst_0 : FVec F S_ .f32 := constant S_ .f32 0x7F800000#32
  let main_v5 : FVec F S8192x8x192 .f32 := broadcastInDim S8192x8x192 ![] bcast_S_S8192x8x192 main_cst_0
  let main_v6 : IVec S8192x8x192 1 := cmpf .olt main_v4 main_v5
  let main_v7 : FVec F S8192x8x128 .f32 := Host.absf main_arg2
  let main_cst_1 : FVec F S_ .f32 := constant S_ .f32 0x7F800000#32
  let main_v8 : FVec F S8192x8x128 .f32 := broadcastInDim S8192x8x128 ![] bcast_S_S8192x8x128 main_cst_1
  let main_v9 : IVec S8192x8x128 1 := cmpf .olt main_v7 main_v8
  let main_v10 : FVec F S8192x1024 .f32 := Host.absf main_v0
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  (main_v3, main_v6, main_v9, main_v12)
-- ==== Kernel.lean ====
abbrev S8192x8x192 : Shape := ⟨3, ![8192, 8, 192]⟩
abbrev S8192x8x128 : Shape := ⟨3, ![8192, 8, 128]⟩
abbrev S8192x2048 : Shape := ⟨2, ![8192, 2048]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩
abbrev S8192x8x64 : Shape := ⟨3, ![8192, 8, 64]⟩
abbrev S8192x8x256 : Shape := ⟨3, ![8192, 8, 256]⟩
abbrev S8x1x8192 : Shape := ⟨3, ![8, 1, 8192]⟩
abbrev S8x8x8192 : Shape := ⟨3, ![8, 8, 8192]⟩
abbrev S8192x256 : Shape := ⟨2, ![8192, 256]⟩
abbrev S8192x128 : Shape := ⟨2, ![8192, 128]⟩
abbrev S1x8x8192 : Shape := ⟨3, ![1, 8, 8192]⟩
abbrev S512x256 : Shape := ⟨2, ![512, 256]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 64
  | .vmem => 20
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x2048, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x128x8192, .f32⟩
  | .hbm, ⟨33, _⟩ => ⟨S8192x8x128, .f32⟩
  | .hbm, ⟨34, _⟩ => ⟨S8x8192x1, .f32⟩
  | .hbm, ⟨35, _⟩ => ⟨S8x8192x1, .f32⟩
  | .hbm, ⟨36, _⟩ => ⟨S_, .f32⟩
  | .hbm, ⟨37, _⟩ => ⟨S_, .f32⟩
  | .hbm, ⟨38, _⟩ => ⟨S8x8192x1, .f32⟩
  | .hbm, ⟨39, _⟩ => ⟨S8x8192x1, .f32⟩
  | .hbm, ⟨40, _⟩ => ⟨S8192x1024, .f32⟩
  | .hbm, ⟨41, _⟩ => ⟨S8192x8x128, .f32⟩
  | .hbm, ⟨42, _⟩ => ⟨S8x8192, .f32⟩
  | .hbm, ⟨43, _⟩ => ⟨S8x8192x1, .f32⟩
  | .hbm, ⟨44, _⟩ => ⟨S_, .f32⟩
  | .hbm, ⟨45, _⟩ => ⟨S8192x8x64, .f32⟩
  | .hbm, ⟨46, _⟩ => ⟨S8192x8x256, .f32⟩
  | .hbm, ⟨47, _⟩ => ⟨S8192x2048, .f32⟩
  | .hbm, ⟨48, _⟩ => ⟨S8192x2048, .bf16⟩
  | .hbm, ⟨49, _⟩ => ⟨S_, .f32⟩
  | .hbm, ⟨50, _⟩ => ⟨S8192x8x64, .f32⟩
  | .hbm, ⟨51, _⟩ => ⟨S8192x8x256, .f32⟩
  | .hbm, ⟨52, _⟩ => ⟨S8192x2048, .f32⟩
  | .hbm, ⟨53, _⟩ => ⟨S8192x2048, .bf16⟩
  | .hbm, ⟨54, _⟩ => ⟨S8192x1024, .f32⟩
  | .hbm, ⟨55, _⟩ => ⟨S8192x1024, .bf16⟩
  | .hbm, ⟨56, _⟩ => ⟨S8192x2048, .bf16⟩
  | .hbm, ⟨57, _⟩ => ⟨S8x1x8192, .f32⟩
  | .hbm, ⟨58, _⟩ => ⟨S8x8x8192, .f32⟩
  | .hbm, ⟨59, _⟩ => ⟨S8x1x8192, .f32⟩
  | .hbm, ⟨60, _⟩ => ⟨S8x8x8192, .f32⟩
  | .hbm, ⟨61, _⟩ => ⟨S8192x2048, .f32⟩
  | .hbm, ⟨62, _⟩ => ⟨S8192x2048, .f32⟩
  | .hbm, ⟨63, _⟩ => ⟨S8192x1024, .f32⟩
  | .local _ .vmem, ⟨0, _⟩ => ⟨S8192x256, .bf16⟩
  | .local _ .vmem, ⟨1, _⟩ => ⟨S8192x256, .bf16⟩
  | .local _ .vmem, ⟨2, _⟩ => ⟨S8192x128, .bf16⟩
  | .local _ .vmem, ⟨3, _⟩ => ⟨S8192x128, .bf16⟩
  | .local _ .vmem, ⟨4, _⟩ => ⟨S1x8x8192, .f32⟩
  | .local _ .vmem, ⟨5, _⟩ => ⟨S1x8x8192, .f32⟩
  | .local _ .vmem, ⟨6, _⟩ => ⟨S1x8x8192, .f32⟩
  | .local _ .vmem, ⟨7, _⟩ => ⟨S1x8x8192, .f32⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S8192x256, .f32⟩
  | .local _ .vmem, ⟨13, _⟩ => ⟨S8192x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | .local _ .vmem, ⟨18, _⟩ => ⟨S512x256, .f32⟩
  | .local _ .vmem, ⟨19, _⟩ => ⟨S512x128, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47_0 : Ref sig .tc := ⟨.hbm, 61, rfl⟩
abbrev main_v47_1 : Ref sig .tc := ⟨.hbm, 62, rfl⟩
abbrev main_v47_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_9 : Index := 0#32
  ![v17.toNat, 0]
def k0_off2 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v20 : Index := Scalar.indexCast v16
  let c0_10 : Index := 0#32
  ![v20.toNat, 0]
def k0_off3 (i : grid0.Coords) : Fin 3 → Nat :=
  let c0_14 : Index := 0#32
  let c0_15 : Index := 0#32
  let arg1 : BitVec 32 := BitVec.ofNat 32 (i 1).val
  let c512_i32 : BitVec 32 := 512#32
  let v15 : BitVec 32 := Scalar.muli arg1 c512_i32
  let v16 : BitVec 32 := v15
  let v27 : Index := Scalar.indexCast v16
  ![0, 0, v27.toNat]
@[reducible] def k0_t1_loop (i : grid0.Coords) : Scf.Loop 32 :=
  let c0_i32_40 : BitVec 32 := 0#32
  let c15_i32 : BitVec 32 := 15#32
  let arg1 : BitVec 32 := BitVec.ofNat 32 (i 1).val
  let v69 : BitVec 32 := Scalar.subi c15_i32 arg1
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c2_i32 : BitVec 32 := 2#32
  let c0_i32_36 : BitVec 32 := 0#32
  let v76 : BitVec 1 := Scalar.cmpi .sgt c2_i32 c0_i32_36
  let v77 : BitVec 32 := Scalar.extui v76
  let c0_i32_37 : BitVec 32 := 0#32
  let v78 : BitVec 1 := Scalar.cmpi .slt c2_i32 c0_i32_37
  let v79 : BitVec 32 := Scalar.extui v78
  let v80 : BitVec 32 := Scalar.subi v77 v79
  let v81 : BitVec 1 := Scalar.cmpi .ne v75 v80
  let v82 : BitVec 32 := Scalar.remsi v69 c2_i32
  let c0_i32_38 : BitVec 32 := 0#32
  let v83 : BitVec 1 := Scalar.cmpi .ne v82 c0_i32_38
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_42 : BitVec 32 := 1#32
  ⟨c0_i32_40, v91, c1_i32_42⟩
def k0_mult2 (i : grid0.Coords) (k0_t1 : Fin (k0_t1_loop i).trips) : BitVec 32 :=
  let arg1 : BitVec 32 := BitVec.ofNat 32 (i 1).val
  let c1_i32_60 : BitVec 32 := 1#32
  let v109 : BitVec 32 := Scalar.addi arg1 c1_i32_60
  let c2_i32_61 : BitVec 32 := 2#32
  let c0_i32_40 : BitVec 32 := 0#32
  let c1_i32_42 : BitVec 32 := 1#32
  let arg13 : BitVec 32 := Scf.iv c0_i32_40 c1_i32_42 k0_t1
  let v110 : BitVec 32 := Scalar.muli c2_i32_61 arg13
  let v111 : BitVec 32 := Scalar.addi v109 v110
  let c512_i32_62 : BitVec 32 := 512#32
  let v112 : BitVec 32 := Scalar.muli v111 c512_i32_62
  v112
def k0_off4 (i : grid0.Coords) (k0_t1 : Fin (k0_t1_loop i).trips) (c1_i32_60 : BitVec 32) : Fin 2 → Nat :=
  let arg1 : BitVec 32 := BitVec.ofNat 32 (i 1).val
  let v109 : BitVec 32 := Scalar.addi arg1 c1_i32_60
  let c2_i32_61 : BitVec 32 := 2#32
  let c0_i32_40 : BitVec 32 := 0#32
  let c1_i32_42 : BitVec 32 := 1#32
  let arg13 : BitVec 32 := Scf.iv c0_i32_40 c1_i32_42 k0_t1
  let v110 : BitVec 32 := Scalar.muli c2_i32_61 arg13
  let v111 : BitVec 32 := Scalar.addi v109 v110
  let c512_i32_62 : BitVec 32 := 512#32
  let v112 : BitVec 32 := Scalar.muli v111 c512_i32_62
  let v113 : BitVec 32 := v112
  let v114 : Index := Scalar.indexCast v113
  let c0_63 : Index := 0#32
  ![v114.toNat, 0]
def k0_off5 (i : grid0.Coords) (k0_t1 : Fin (k0_t1_loop i).trips) (c1_i32_60 : BitVec 32) : Fin 2 → Nat :=
  let arg1 : BitVec 32 := BitVec.ofNat 32 (i 1).val
  let v109 : BitVec 32 := Scalar.addi arg1 c1_i32_60
  let c2_i32_61 : BitVec 32 := 2#32
  let c0_i32_40 : BitVec 32 := 0#32
  let c1_i32_42 : BitVec 32 := 1#32
  let arg13 : BitVec 32 := Scf.iv c0_i32_40 c1_i32_42 k0_t1
  let v110 : BitVec 32 := Scalar.muli c2_i32_61 arg13
  let v111 : BitVec 32 := Scalar.addi v109 v110
  let c512_i32_62 : BitVec 32 := 512#32
  let v112 : BitVec 32 := Scalar.muli v111 c512_i32_62
  let v113 : BitVec 32 := v112
  let v117 : Index := Scalar.indexCast v113
  let c0_64 : Index := 0#32
  ![v117.toNat, 0]
def k0_mult3 (i : grid0.Coords) (k0_t1 : Fin (k0_t1_loop i).trips) : BitVec 32 :=
  let arg1 : BitVec 32 := BitVec.ofNat 32 (i 1).val
  let c2_i32_67 : BitVec 32 := 2#32
  let v122 : BitVec 32 := Scalar.addi arg1 c2_i32_67
  let c2_i32_68 : BitVec 32 := 2#32
  let c0_i32_40 : BitVec 32 := 0#32
  let c1_i32_42 : BitVec 32 := 1#32
  let arg13 : BitVec 32 := Scf.iv c0_i32_40 c1_i32_42 k0_t1
  let v123 : BitVec 32 := Scalar.muli c2_i32_68 arg13
  let v124 : BitVec 32 := Scalar.addi v122 v123
  let c512_i32_69 : BitVec 32 := 512#32
  let v125 : BitVec 32 := Scalar.muli v124 c512_i32_69
  v125
def k0_off6 (i : grid0.Coords) (k0_t1 : Fin (k0_t1_loop i).trips) (c1_i32_60 : BitVec 32) : Fin 3 → Nat :=
  let c0_75 : Index := 0#32
  let c0_76 : Index := 0#32
  let arg1 : BitVec 32 := BitVec.ofNat 32 (i 1).val
  let v109 : BitVec 32 := Scalar.addi arg1 c1_i32_60
  let c2_i32_61 : BitVec 32 := 2#32
  let c0_i32_40 : BitVec 32 := 0#32
  let c1_i32_42 : BitVec 32 := 1#32
  let arg13 : BitVec 32 := Scf.iv c0_i32_40 c1_i32_42 k0_t1
  let v110 : BitVec 32 := Scalar.muli c2_i32_61 arg13
  let v111 : BitVec 32 := Scalar.addi v109 v110
  let c512_i32_62 : BitVec 32 := 512#32
  let v112 : BitVec 32 := Scalar.muli v111 c512_i32_62
  let v113 : BitVec 32 := v112
  let v137 : Index := Scalar.indexCast v113
  ![0, 0, v137.toNat]
@[reducible] def k0_t2_loop (i : grid0.Coords) : Scf.Loop 32 :=
  let c0_i32_40 : BitVec 32 := 0#32
  let c15_i32 : BitVec 32 := 15#32
  let arg1 : BitVec 32 := BitVec.ofNat 32 (i 1).val
  let v69 : BitVec 32 := Scalar.subi c15_i32 arg1
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c2_i32 : BitVec 32 := 2#32
  let c0_i32_36 : BitVec 32 := 0#32
  let v76 : BitVec 1 := Scalar.cmpi .sgt c2_i32 c0_i32_36
  let v77 : BitVec 32 := Scalar.extui v76
  let c0_i32_37 : BitVec 32 := 0#32
  let v78 : BitVec 1 := Scalar.cmpi .slt c2_i32 c0_i32_37
  let v79 : BitVec 32 := Scalar.extui v78
  let v80 : BitVec 32 := Scalar.subi v77 v79
  let v81 : BitVec 1 := Scalar.cmpi .ne v75 v80
  let v82 : BitVec 32 := Scalar.remsi v69 c2_i32
  let c0_i32_38 : BitVec 32 := 0#32
  let v83 : BitVec 1 := Scalar.cmpi .ne v82 c0_i32_38
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let v88 : BitVec 32 := Scalar.addi c0_i32_40 v87
  let c1_i32_43 : BitVec 32 := 1#32
  ⟨v91, v88, c1_i32_43⟩
def k0_mult4 (i : grid0.Coords) (k0_t2 : Fin (k0_t2_loop i).trips) : BitVec 32 :=
  let arg1 : BitVec 32 := BitVec.ofNat 32 (i 1).val
  let c1_i32_60 : BitVec 32 := 1#32
  let v109 : BitVec 32 := Scalar.addi arg1 c1_i32_60
  let c2_i32_61 : BitVec 32 := 2#32
  let c0_i32_40 : BitVec 32 := 0#32
  let c15_i32 : BitVec 32 := 15#32
  let v69 : BitVec 32 := Scalar.subi c15_i32 arg1
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c2_i32 : BitVec 32 := 2#32
  let c0_i32_36 : BitVec 32 := 0#32
  let v76 : BitVec 1 := Scalar.cmpi .sgt c2_i32 c0_i32_36
  let v77 : BitVec 32 := Scalar.extui v76
  let c0_i32_37 : BitVec 32 := 0#32
  let v78 : BitVec 1 := Scalar.cmpi .slt c2_i32 c0_i32_37
  let v79 : BitVec 32 := Scalar.extui v78
  let v80 : BitVec 32 := Scalar.subi v77 v79
  let v81 : BitVec 1 := Scalar.cmpi .ne v75 v80
  let v82 : BitVec 32 := Scalar.remsi v69 c2_i32
  let c0_i32_38 : BitVec 32 := 0#32
  let v83 : BitVec 1 := Scalar.cmpi .ne v82 c0_i32_38
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_43 : BitVec 32 := 1#32
  let arg13 : BitVec 32 := Scf.iv v91 c1_i32_43 k0_t2
  let v110 : BitVec 32 := Scalar.muli c2_i32_61 arg13
  let v111 : BitVec 32 := Scalar.addi v109 v110
  let c512_i32_62 : BitVec 32 := 512#32
  let v112 : BitVec 32 := Scalar.muli v111 c512_i32_62
  v112
def k0_off7 (i : grid0.Coords) (k0_t2 : Fin (k0_t2_loop i).trips) (c1_i32_60 : BitVec 32) : Fin 2 → Nat :=
  let arg1 : BitVec 32 := BitVec.ofNat 32 (i 1).val
  let v109 : BitVec 32 := Scalar.addi arg1 c1_i32_60
  let c2_i32_61 : BitVec 32 := 2#32
  let c0_i32_40 : BitVec 32 := 0#32
  let c15_i32 : BitVec 32 := 15#32
  let v69 : BitVec 32 := Scalar.subi c15_i32 arg1
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c2_i32 : BitVec 32 := 2#32
  let c0_i32_36 : BitVec 32 := 0#32
  let v76 : BitVec 1 := Scalar.cmpi .sgt c2_i32 c0_i32_36
  let v77 : BitVec 32 := Scalar.extui v76
  let c0_i32_37 : BitVec 32 := 0#32
  let v78 : BitVec 1 := Scalar.cmpi .slt c2_i32 c0_i32_37
  let v79 : BitVec 32 := Scalar.extui v78
  let v80 : BitVec 32 := Scalar.subi v77 v79
  let v81 : BitVec 1 := Scalar.cmpi .ne v75 v80
  let v82 : BitVec 32 := Scalar.remsi v69 c2_i32
  let c0_i32_38 : BitVec 32 := 0#32
  let v83 : BitVec 1 := Scalar.cmpi .ne v82 c0_i32_38
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_43 : BitVec 32 := 1#32
  let arg13 : BitVec 32 := Scf.iv v91 c1_i32_43 k0_t2
  let v110 : BitVec 32 := Scalar.muli c2_i32_61 arg13
  let v111 : BitVec 32 := Scalar.addi v109 v110
  let c512_i32_62 : BitVec 32 := 512#32
  let v112 : BitVec 32 := Scalar.muli v111 c512_i32_62
  let v113 : BitVec 32 := v112
  let v114 : Index := Scalar.indexCast v113
  let c0_63 : Index := 0#32
  ![v114.toNat, 0]
def k0_off8 (i : grid0.Coords) (k0_t2 : Fin (k0_t2_loop i).trips) (c1_i32_60 : BitVec 32) : Fin 2 → Nat :=
  let arg1 : BitVec 32 := BitVec.ofNat 32 (i 1).val
  let v109 : BitVec 32 := Scalar.addi arg1 c1_i32_60
  let c2_i32_61 : BitVec 32 := 2#32
  let c0_i32_40 : BitVec 32 := 0#32
  let c15_i32 : BitVec 32 := 15#32
  let v69 : BitVec 32 := Scalar.subi c15_i32 arg1
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c2_i32 : BitVec 32 := 2#32
  let c0_i32_36 : BitVec 32 := 0#32
  let v76 : BitVec 1 := Scalar.cmpi .sgt c2_i32 c0_i32_36
  let v77 : BitVec 32 := Scalar.extui v76
  let c0_i32_37 : BitVec 32 := 0#32
  let v78 : BitVec 1 := Scalar.cmpi .slt c2_i32 c0_i32_37
  let v79 : BitVec 32 := Scalar.extui v78
  let v80 : BitVec 32 := Scalar.subi v77 v79
  let v81 : BitVec 1 := Scalar.cmpi .ne v75 v80
  let v82 : BitVec 32 := Scalar.remsi v69 c2_i32
  let c0_i32_38 : BitVec 32 := 0#32
  let v83 : BitVec 1 := Scalar.cmpi .ne v82 c0_i32_38
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_43 : BitVec 32 := 1#32
  let arg13 : BitVec 32 := Scf.iv v91 c1_i32_43 k0_t2
  let v110 : BitVec 32 := Scalar.muli c2_i32_61 arg13
  let v111 : BitVec 32 := Scalar.addi v109 v110
  let c512_i32_62 : BitVec 32 := 512#32
  let v112 : BitVec 32 := Scalar.muli v111 c512_i32_62
  let v113 : BitVec 32 := v112
  let v117 : Index := Scalar.indexCast v113
  let c0_64 : Index := 0#32
  ![v117.toNat, 0]
def k0_mult5 (i : grid0.Coords) (k0_t2 : Fin (k0_t2_loop i).trips) : BitVec 32 :=
  let arg1 : BitVec 32 := BitVec.ofNat 32 (i 1).val
  let c2_i32_67 : BitVec 32 := 2#32
  let v122 : BitVec 32 := Scalar.addi arg1 c2_i32_67
  let c2_i32_68 : BitVec 32 := 2#32
  let c0_i32_40 : BitVec 32 := 0#32
  let c15_i32 : BitVec 32 := 15#32
  let v69 : BitVec 32 := Scalar.subi c15_i32 arg1
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c2_i32 : BitVec 32 := 2#32
  let c0_i32_36 : BitVec 32 := 0#32
  let v76 : BitVec 1 := Scalar.cmpi .sgt c2_i32 c0_i32_36
  let v77 : BitVec 32 := Scalar.extui v76
  let c0_i32_37 : BitVec 32 := 0#32
  let v78 : BitVec 1 := Scalar.cmpi .slt c2_i32 c0_i32_37
  let v79 : BitVec 32 := Scalar.extui v78
  let v80 : BitVec 32 := Scalar.subi v77 v79
  let v81 : BitVec 1 := Scalar.cmpi .ne v75 v80
  let v82 : BitVec 32 := Scalar.remsi v69 c2_i32
  let c0_i32_38 : BitVec 32 := 0#32
  let v83 : BitVec 1 := Scalar.cmpi .ne v82 c0_i32_38
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_43 : BitVec 32 := 1#32
  let arg13 : BitVec 32 := Scf.iv v91 c1_i32_43 k0_t2
  let v123 : BitVec 32 := Scalar.muli c2_i32_68 arg13
  let v124 : BitVec 32 := Scalar.addi v122 v123
  let c512_i32_69 : BitVec 32 := 512#32
  let v125 : BitVec 32 := Scalar.muli v124 c512_i32_69
  v125
def k0_off9 (i : grid0.Coords) (k0_t2 : Fin (k0_t2_loop i).trips) (c1_i32_60 : BitVec 32) : Fin 3 → Nat :=
  let c0_75 : Index := 0#32
  let c0_76 : Index := 0#32
  let arg1 : BitVec 32 := BitVec.ofNat 32 (i 1).val
  let v109 : BitVec 32 := Scalar.addi arg1 c1_i32_60
  let c2_i32_61 : BitVec 32 := 2#32
  let c0_i32_40 : BitVec 32 := 0#32
  let c15_i32 : BitVec 32 := 15#32
  let v69 : BitVec 32 := Scalar.subi c15_i32 arg1
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c2_i32 : BitVec 32 := 2#32
  let c0_i32_36 : BitVec 32 := 0#32
  let v76 : BitVec 1 := Scalar.cmpi .sgt c2_i32 c0_i32_36
  let v77 : BitVec 32 := Scalar.extui v76
  let c0_i32_37 : BitVec 32 := 0#32
  let v78 : BitVec 1 := Scalar.cmpi .slt c2_i32 c0_i32_37
  let v79 : BitVec 32 := Scalar.extui v78
  let v80 : BitVec 32 := Scalar.subi v77 v79
  let v81 : BitVec 1 := Scalar.cmpi .ne v75 v80
  let v82 : BitVec 32 := Scalar.remsi v69 c2_i32
  let c0_i32_38 : BitVec 32 := 0#32
  let v83 : BitVec 1 := Scalar.cmpi .ne v82 c0_i32_38
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_43 : BitVec 32 := 1#32
  let arg13 : BitVec 32 := Scf.iv v91 c1_i32_43 k0_t2
  let v110 : BitVec 32 := Scalar.muli c2_i32_61 arg13
  let v111 : BitVec 32 := Scalar.addi v109 v110
  let c512_i32_62 : BitVec 32 := 512#32
  let v112 : BitVec 32 := Scalar.muli v111 c512_i32_62
  let v113 : BitVec 32 := v112
  let v137 : Index := Scalar.indexCast v113
  ![0, 0, v137.toNat]
def k0_cond2 (i : grid0.Coords) : BitVec 1 :=
  let c15_i32 : BitVec 32 := 15#32
  let arg1 : BitVec 32 := BitVec.ofNat 32 (i 1).val
  let v69 : BitVec 32 := Scalar.subi c15_i32 arg1
  let c2_i32_44 : BitVec 32 := 2#32
  let c0_i32_45 : BitVec 32 := 0#32
  let v92 : BitVec 1 := Scalar.cmpi .eq c2_i32_44 c0_i32_45
  let c1_i32_46 : BitVec 32 := 1#32
  let v93 : BitVec 32 := Scalar.select v92 c1_i32_46 c2_i32_44
  let v94 : BitVec 32 := Scalar.remsi v69 v93
  let c0_i32_48 : BitVec 32 := 0#32
  let v96 : BitVec 1 := Scalar.cmpi .slt v94 c0_i32_48
  let c0_i32_49 : BitVec 32 := 0#32
  let v97 : BitVec 1 := Scalar.cmpi .slt v93 c0_i32_49
  let v98 : BitVec 1 := Scalar.xori v96 v97
  let c0_i32_47 : BitVec 32 := 0#32
  let v95 : BitVec 1 := Scalar.cmpi .ne v94 c0_i32_47
  let v99 : BitVec 1 := Scalar.andi v98 v95
  let v100 : BitVec 32 := Scalar.addi v94 v93
  let v101 : BitVec 32 := Scalar.select v99 v100 v94
  let c1_i32_50 : BitVec 32 := 1#32
  let v102 : BitVec 1 := Scalar.cmpi .eq v101 c1_i32_50
  let v103 : BitVec 32 := Scalar.extui v102
  let c0_i32_51 : BitVec 32 := 0#32
  let v104 : BitVec 1 := Scalar.cmpi .ne v103 c0_i32_51
  v104

def k0_mult6 : BitVec 32 :=
  let c7680_i32 : BitVec 32 := 7680#32
  c7680_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "score_scale" => some (((Real.sqrt 192)⁻¹ : ℝ) : EReal)
  | "score_scale_log2" => some (((Real.sqrt 192)⁻¹ * (Real.log 2)⁻¹ : ℝ) : EReal)
  | _ => none
-- ==== ReferenceIdeal.lean ====
abbrev S8192x8x192 : Shape := ⟨3, ![8192, 8, 192]⟩
abbrev S8192x8x128 : Shape := ⟨3, ![8192, 8, 128]⟩
abbrev S8192x2048 : Shape := ⟨2, ![8192, 2048]⟩
abbrev S8192x1024 : Shape := ⟨2, ![8192, 1024]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8192x8x256 : Shape := ⟨3, ![8192, 8, 256]⟩

abbrev nBuf : Space → Nat
  | .hbm => 101
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x2048, .f32⟩
  | .hbm, ⟨4, _⟩ => ⟨S8192x1024, .f32⟩
  | .hbm, ⟨5, _⟩ => ⟨S8192x8x128, .f32⟩
  | .hbm, ⟨6, _⟩ => ⟨S8x8192x8192, .f32⟩
  | .hbm, ⟨7, _⟩ => ⟨S_, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x8192x8192, .i1⟩
  | .hbm, ⟨18, _⟩ => ⟨S_, .f32⟩
  | .hbm, ⟨19, _⟩ => ⟨S_, .f32⟩
  | .hbm, ⟨20, _⟩ => ⟨S8x8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .i1⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S8x8192, .f32⟩
  | .hbm, ⟨49, _⟩ => ⟨S8x8192, .f32⟩
  | .hbm, ⟨50, _⟩ => ⟨S8x8192x1, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S8x8192x8192, .f32⟩
  | .hbm, ⟨58, _⟩ => ⟨S8x8192x8192, .f32⟩
  | .hbm, ⟨59, _⟩ => ⟨S8x8192x1, .f32⟩
  | .hbm, ⟨60, _⟩ => ⟨S_, .f32⟩
  | .hbm, ⟨61, _⟩ => ⟨S8x8192x1, .f32⟩
  | .hbm, ⟨62, _⟩ => ⟨S8x8192x1, .f32⟩
  | .hbm, ⟨63, _⟩ => ⟨S8x128x8192, .f32⟩
  | .hbm, ⟨64, _⟩ => ⟨S8192x8x128, .f32⟩
  | .hbm, ⟨65, _⟩ => ⟨S8x128x8192, .f32⟩
  | .hbm, ⟨66, _⟩ => ⟨S8x8192x8192, .f32⟩
  | .hbm, ⟨67, _⟩ => ⟨S8x128x8192, .f32⟩
  | .hbm, ⟨68, _⟩ => ⟨S8192x8x128, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192x1, .f32⟩
  | .hbm, ⟨75, _⟩ => ⟨S8x8192x1, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192x8192, .f32⟩
  | .hbm, ⟨85, _⟩ => ⟨S8x8192x8192, .f32⟩
  | .hbm, ⟨86, _⟩ => ⟨S8x8192x8192, .f32⟩
  | .hbm, ⟨87, _⟩ => ⟨S8x8192x8192, .f32⟩
  | .hbm, ⟨88, _⟩ => ⟨S8x8192x192, .f32⟩
  | .hbm, ⟨89, _⟩ => ⟨S8192x8x192, .f32⟩
  | .hbm, ⟨90, _⟩ => ⟨S8x8192x192, .f32⟩
  | .hbm, ⟨91, _⟩ => ⟨S8192x8x192, .f32⟩
  | .hbm, ⟨92, _⟩ => ⟨S_, .i32⟩
  | .hbm, ⟨93, _⟩ => ⟨S_, .f32⟩
  | .hbm, ⟨94, _⟩ => ⟨S8192x8x256, .f32⟩
  | .hbm, ⟨95, _⟩ => ⟨S8192x2048, .f32⟩
  | .hbm, ⟨96, _⟩ => ⟨S_, .i32⟩
  | .hbm, ⟨97, _⟩ => ⟨S_, .f32⟩
  | .hbm, ⟨98, _⟩ => ⟨S8192x8x256, .f32⟩
  | .hbm, ⟨99, _⟩ => ⟨S8192x2048, .f32⟩
  | .hbm, ⟨100, _⟩ => ⟨S8192x1024, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c : Ref sig .tc := ⟨.hbm, 92, rfl⟩
abbrev main_call2_v0 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_call3_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Kernel2.lean ====
abbrev S8192x5632 : Shape := ⟨2, ![8192, 5632]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S8192x1408 : Shape := ⟨2, ![8192, 1408]⟩
abbrev S8192x2048 : Shape := ⟨2, ![8192, 2048]⟩
abbrev S512x1408 : Shape := ⟨2, ![512, 1408]⟩
abbrev S1024x1408 : Shape := ⟨2, ![1024, 1408]⟩
abbrev S512x1024 : Shape := ⟨2, ![512, 1024]⟩

abbrev nBuf : Space → Nat
  | .hbm => 15
  | .vmem => 11
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x5632, .f32⟩
  | .hbm, ⟨3, _⟩ => ⟨S2048x5632, .f32⟩
  | .hbm, ⟨4, _⟩ => ⟨S8192x5632, .bf16⟩
  | .hbm, ⟨5, _⟩ => ⟨S2048x4x1408, .f32⟩
  | .hbm, ⟨6, _⟩ => ⟨S4x2048x1408, .f32⟩
  | .hbm, ⟨7, _⟩ => ⟨S8192x1408, .f32⟩
  | .hbm, ⟨8, _⟩ => ⟨S8192x1408, .bf16⟩
  | .hbm, ⟨9, _⟩ => ⟨S8192x5632, .bf16⟩
  | .hbm, ⟨10, _⟩ => ⟨S2048x4x1408, .f32⟩
  | .hbm, ⟨11, _⟩ => ⟨S4x2048x1408, .f32⟩
  | .hbm, ⟨12, _⟩ => ⟨S8192x1408, .f32⟩
  | .hbm, ⟨13, _⟩ => ⟨S8192x1408, .bf16⟩
  | .hbm, ⟨14, _⟩ => ⟨S8192x2048, .bf16⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .bf16⟩
  | .local _ .vmem, ⟨5, _⟩ => ⟨S512x1408, .bf16⟩
  | .local _ .vmem, ⟨6, _⟩ => ⟨S1024x1408, .bf16⟩
  | .local _ .vmem, ⟨7, _⟩ => ⟨S1024x1408, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let v18 : BitVec 32 := Scalar.addi v17 arg1
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let v18 : BitVec 32 := Scalar.addi v17 arg1
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel3.lean ====
abbrev S8192x2048 : Shape := ⟨2, ![8192, 2048]⟩
abbrev S8192x5632 : Shape := ⟨2, ![8192, 5632]⟩
abbrev S8192x1408 : Shape := ⟨2, ![8192, 1408]⟩
abbrev S1024x1024 : Shape := ⟨2, ![1024, 1024]⟩
abbrev S1024x1408 : Shape := ⟨2, ![1024, 1408]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x2048, .bf16⟩
  | .hbm, ⟨3, _⟩ => ⟨S8192x5632, .bf16⟩
  | .hbm, ⟨4, _⟩ => ⟨S8192x1408, .f32⟩
  | .hbm, ⟨5, _⟩ => ⟨S8192x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let v18 : BitVec 32 := Scalar.addi v17 arg0
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let v18 : BitVec 32 := Scalar.addi v17 arg0
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x1408 : Shape := ⟨2, ![2048, 1408]⟩
abbrev S8192x1408 : Shape := ⟨2, ![8192, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S_, .f32⟩
  | .hbm, ⟨3, _⟩ => ⟨S2048x5632, .f32⟩
  | .hbm, ⟨4, _⟩ => ⟨S8192x5632, .f32⟩
  | .hbm, ⟨5, _⟩ => ⟨S5632x2048, .f32⟩
  | .hbm, ⟨6, _⟩ => ⟨S2048x5632, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S8192x1408, .f32⟩
  | .hbm, ⟨12, _⟩ => ⟨S8192x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x2048, .bf16⟩
  | .hbm, ⟨3, _⟩ => ⟨S5632x2048, .bf16⟩
  | .hbm, ⟨4, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c11_i32 : BitVec 32 := 11#32
  let v17 : BitVec 32 := Scalar.muli v16 c11_i32
  let v18 : BitVec 32 := Scalar.addi v17 arg1
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S_, .f32⟩
  | .hbm, ⟨3, _⟩ => ⟨S8192x5632, .f32⟩
  | .hbm, ⟨4, _⟩ => ⟨S8192x2048, .f32⟩
  | .hbm, ⟨5, _⟩ => ⟨S8192x5632, .f32⟩
  | .hbm, ⟨6, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .f32⟩
  | .hbm, ⟨5, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.muli v16 c4_i32
  let v18 : BitVec 32 := Scalar.addi v17 arg0
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.muli v16 c4_i32
  let v18 : BitVec 32 := Scalar.addi v17 arg0
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S8192x1408 : Shape := ⟨2, ![8192, 1408]⟩
abbrev S8192x5632 : Shape := ⟨2, ![8192, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x2048, .bf16⟩
  | .hbm, ⟨3, _⟩ => ⟨S2048x4x1408, .f32⟩
  | .hbm, ⟨4, _⟩ => ⟨S4x2048x1408, .f32⟩
  | .hbm, ⟨5, _⟩ => ⟨S8192x1408, .f32⟩
  | .hbm, ⟨6, _⟩ => ⟨S8192x1408, .bf16⟩
  | .hbm, ⟨7, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S8192x5632 : Shape := ⟨2, ![8192, 5632]⟩
abbrev S5632x2048 : Shape := ⟨2, ![5632, 2048]⟩
abbrev S8192x2048 : Shape := ⟨2, ![8192, 2048]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x5632, .bf16⟩
  | .hbm, ⟨4, _⟩ => ⟨S5632x2048, .bf16⟩
  | .hbm, ⟨5, _⟩ => ⟨S8192x2048, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli v16 c2_i32_4
  let v18 : BitVec 32 := Scalar.addi v17 arg2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let v18 : BitVec 32 := Scalar.addi v17 arg1
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .f32⟩
  | .hbm, ⟨5, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli v16 c2_i32_4
  let v18 : BitVec 32 := Scalar.addi v17 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.muli v16 c2_i32_4
  let v18 : BitVec 32 := Scalar.addi v17 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S8192x2048 : Shape := ⟨2, ![8192, 2048]⟩
abbrev S2048x1856 : Shape := ⟨2, ![2048, 1856]⟩
abbrev S_ : Shape := ⟨0, ![]⟩
abbrev S2048x64 : Shape := ⟨2, ![2048, 64]⟩
abbrev S2048x512 : Shape := ⟨2, ![2048, 512]⟩
abbrev S2048x256 : Shape := ⟨2, ![2048, 256]⟩
abbrev S2048x1920 : Shape := ⟨2, ![2048, 1920]⟩
abbrev S8192x1920 : Shape := ⟨2, ![8192, 1920]⟩
abbrev S1024x2048 : Shape := ⟨2, ![1024, 2048]⟩
abbrev S1024x1920 : Shape := ⟨2, ![1024, 1920]⟩

abbrev nBuf : Space → Nat
  | .hbm => 13
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x1856, .f32⟩
  | .hbm, ⟨2, _⟩ => ⟨S8192x2048, .bf16⟩
  | .hbm, ⟨3, _⟩ => ⟨S_, .f32⟩
  | .hbm, ⟨4, _⟩ => ⟨S2048x64, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x256, .f32⟩
  | .hbm, ⟨9, _⟩ => ⟨S2048x64, .f32⟩
  | .hbm, ⟨10, _⟩ => ⟨S2048x1920, .f32⟩
  | .hbm, ⟨11, _⟩ => ⟨S2048x1920, .bf16⟩
  | .hbm, ⟨12, _⟩ => ⟨S8192x1920, .f32⟩
  | .local _ .vmem, ⟨0, _⟩ => ⟨S1024x2048, .bf16⟩
  | .local _ .vmem, ⟨1, _⟩ => ⟨S1024x2048, .bf16⟩
  | .local _ .vmem, ⟨2, _⟩ => ⟨S2048x1920, .bf16⟩
  | .local _ .vmem, ⟨3, _⟩ => ⟨S1024x1920, .f32⟩
  | .local _ .vmem, ⟨4, _⟩ => ⟨S1024x1920, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x1856 : Shape := ⟨2, ![2048, 1856]⟩
abbrev S8192x1856 : Shape := ⟨2, ![8192, 1856]⟩
abbrev S8192x512 : Shape := ⟨2, ![8192, 512]⟩
abbrev S8192x256 : Shape := ⟨2, ![8192, 256]⟩
abbrev S8192x64 : Shape := ⟨2, ![8192, 64]⟩
abbrev S_ : Shape := ⟨0, ![]⟩
abbrev S8192x1920 : Shape := ⟨2, ![8192, 1920]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1856, .f32⟩
  | .hbm, ⟨2, _⟩ => ⟨S8192x1856, .f32⟩
  | .hbm, ⟨3, _⟩ => ⟨S8192x512, .f32⟩
  | .hbm, ⟨4, _⟩ => ⟨S8192x512, .f32⟩
  | .hbm, ⟨5, _⟩ => ⟨S8192x256, .f32⟩
  | .hbm, ⟨6, _⟩ => ⟨S8192x64, .f32⟩
  | .hbm, ⟨7, _⟩ => ⟨S8192x512, .f32⟩
  | .hbm, ⟨8, _⟩ => ⟨S_, .f32⟩
  | .hbm, ⟨9, _⟩ => ⟨S8192x64, .f32⟩
  | .hbm, ⟨10, _⟩ => ⟨S8192x1920, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x2048 : Shape := ⟨2, ![8192, 2048]⟩
abbrev S8192x1856 : Shape := ⟨2, ![8192, 1856]⟩
abbrev S_ : Shape := ⟨0, ![]⟩
abbrev S8192x64 : Shape := ⟨2, ![8192, 64]⟩
abbrev S8192x512 : Shape := ⟨2, ![8192, 512]⟩
abbrev S8192x256 : Shape := ⟨2, ![8192, 256]⟩
abbrev S8192x1920 : Shape := ⟨2, ![8192, 1920]⟩
abbrev S2048x1920 : Shape := ⟨2, ![2048, 1920]⟩
abbrev S1024x512 : Shape := ⟨2, ![1024, 512]⟩
abbrev S1024x1920 : Shape := ⟨2, ![1024, 1920]⟩
abbrev S512x1920 : Shape := ⟨2, ![512, 1920]⟩

abbrev nBuf : Space → Nat
  | .hbm => 14
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x1856, .f32⟩
  | .hbm, ⟨2, _⟩ => ⟨S8192x2048, .bf16⟩
  | .hbm, ⟨3, _⟩ => ⟨S_, .f32⟩
  | .hbm, ⟨4, _⟩ => ⟨S8192x64, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x256, .f32⟩
  | .hbm, ⟨9, _⟩ => ⟨S8192x64, .f32⟩
  | .hbm, ⟨10, _⟩ => ⟨S8192x1920, .f32⟩
  | .hbm, ⟨11, _⟩ => ⟨S8192x1920, .bf16⟩
  | .hbm, ⟨12, _⟩ => ⟨S2048x1920, .f32⟩
  | .hbm, ⟨13, _⟩ => ⟨S2048x1920, .bf16⟩
  | .local _ .vmem, ⟨0, _⟩ => ⟨S1024x512, .bf16⟩
  | .local _ .vmem, ⟨1, _⟩ => ⟨S1024x512, .bf16⟩
  | .local _ .vmem, ⟨2, _⟩ => ⟨S1024x1920, .bf16⟩
  | .local _ .vmem, ⟨3, _⟩ => ⟨S1024x1920, .bf16⟩
  | .local _ .vmem, ⟨4, _⟩ => ⟨S512x1920, .f32⟩
  | .local _ .vmem, ⟨5, _⟩ => ⟨S512x1920, .f32⟩
  | .local _ .vmem, ⟨6, _⟩ => ⟨S512x1920, .bf16⟩
  | .local _ .vmem, ⟨7, _⟩ => ⟨S512x1920, .bf16⟩
  | .local _ .vmem, ⟨8, _⟩ => ⟨S512x1920, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.muli v16 c4_i32
  let v18 : BitVec 32 := Scalar.addi v17 arg0
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.muli v16 c4_i32
  let v18 : BitVec 32 := Scalar.addi v17 arg0
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1920 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x2048 : Shape := ⟨2, ![8192, 2048]⟩
abbrev S8192x1856 : Shape := ⟨2, ![8192, 1856]⟩
abbrev S_ : Shape := ⟨0, ![]⟩
abbrev S2048x1856 : Shape := ⟨2, ![2048, 1856]⟩
abbrev S1856x2048 : Shape := ⟨2, ![1856, 2048]⟩
abbrev S2048x512 : Shape := ⟨2, ![2048, 512]⟩
abbrev S2048x256 : Shape := ⟨2, ![2048, 256]⟩
abbrev S2048x64 : Shape := ⟨2, ![2048, 64]⟩
abbrev S2048x1920 : Shape := ⟨2, ![2048, 1920]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1856, .f32⟩
  | .hbm, ⟨2, _⟩ => ⟨S_, .f32⟩
  | .hbm, ⟨3, _⟩ => ⟨S2048x1856, .f32⟩
  | .hbm, ⟨4, _⟩ => ⟨S8192x1856, .f32⟩
  | .hbm, ⟨5, _⟩ => ⟨S1856x2048, .f32⟩
  | .hbm, ⟨6, _⟩ => ⟨S2048x1856, .f32⟩
  | .hbm, ⟨7, _⟩ => ⟨S2048x512, .f32⟩
  | .hbm, ⟨8, _⟩ => ⟨S2048x512, .f32⟩
  | .hbm, ⟨9, _⟩ => ⟨S2048x256, .f32⟩
  | .hbm, ⟨10, _⟩ => ⟨S2048x64, .f32⟩
  | .hbm, ⟨11, _⟩ => ⟨S2048x512, .f32⟩
  | .hbm, ⟨12, _⟩ => ⟨S_, .f32⟩
  | .hbm, ⟨13, _⟩ => ⟨S2048x64, .f32⟩
  | .hbm, ⟨14, _⟩ => ⟨S2048x1920, .f32⟩
  | .hbm, ⟨15, _⟩ => ⟨S2048x1920, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel13.lean ====
abbrev S8192x1856 : Shape := ⟨2, ![8192, 1856]⟩
abbrev S2048x1856 : Shape := ⟨2, ![2048, 1856]⟩
abbrev S_ : Shape := ⟨0, ![]⟩
abbrev S8192x64 : Shape := ⟨2, ![8192, 64]⟩
abbrev S8192x512 : Shape := ⟨2, ![8192, 512]⟩
abbrev S8192x256 : Shape := ⟨2, ![8192, 256]⟩
abbrev S8192x1920 : Shape := ⟨2, ![8192, 1920]⟩
abbrev S2048x64 : Shape := ⟨2, ![2048, 64]⟩
abbrev S2048x512 : Shape := ⟨2, ![2048, 512]⟩
abbrev S2048x256 : Shape := ⟨2, ![2048, 256]⟩
abbrev S2048x1920 : Shape := ⟨2, ![2048, 1920]⟩
abbrev S8192x2048 : Shape := ⟨2, ![8192, 2048]⟩
abbrev S1024x1920 : Shape := ⟨2, ![1024, 1920]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1856, .f32⟩
  | .hbm, ⟨1, _⟩ => ⟨S2048x1856, .f32⟩
  | .hbm, ⟨2, _⟩ => ⟨S_, .f32⟩
  | .hbm, ⟨3, _⟩ => ⟨S8192x64, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x256, .f32⟩
  | .hbm, ⟨8, _⟩ => ⟨S8192x64, .f32⟩
  | .hbm, ⟨9, _⟩ => ⟨S8192x1920, .f32⟩
  | .hbm, ⟨10, _⟩ => ⟨S8192x1920, .bf16⟩
  | .hbm, ⟨11, _⟩ => ⟨S_, .f32⟩
  | .hbm, ⟨12, _⟩ => ⟨S2048x64, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x256, .f32⟩
  | .hbm, ⟨17, _⟩ => ⟨S2048x64, .f32⟩
  | .hbm, ⟨18, _⟩ => ⟨S2048x1920, .f32⟩
  | .hbm, ⟨19, _⟩ => ⟨S2048x1920, .bf16⟩
  | .hbm, ⟨20, _⟩ => ⟨S8192x2048, .bf16⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .bf16⟩
  | .local _ .vmem, ⟨5, _⟩ => ⟨S1024x1024, .bf16⟩
  | _, _ => ⟨S8192x1856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let v18 : BitVec 32 := Scalar.addi v17 arg1
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1856 : Shape := ⟨2, ![8192, 1856]⟩
abbrev S2048x1856 : Shape := ⟨2, ![2048, 1856]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1856, .f32⟩
  | .hbm, ⟨1, _⟩ => ⟨S2048x1856, .f32⟩
  | .hbm, ⟨2, _⟩ => ⟨S_, .f32⟩
  | .hbm, ⟨3, _⟩ => ⟨S8192x2048, .f32⟩
  | .hbm, ⟨4, _⟩ => ⟨S8192x1856, .f32⟩
  | .hbm, ⟨5, _⟩ => ⟨S8192x2048, .f32⟩
  | .hbm, ⟨6, _⟩ => ⟨S8192x2048, .bf16⟩
  | _, _ => ⟨S8192x1856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x2048 : Shape := ⟨2, ![8192, 2048]⟩
abbrev S8192x5632 : Shape := ⟨2, ![8192, 5632]⟩
abbrev S8192x1408 : Shape := ⟨2, ![8192, 1408]⟩
abbrev S1024x1024 : Shape := ⟨2, ![1024, 1024]⟩
abbrev S1024x1408 : Shape := ⟨2, ![1024, 1408]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x2048, .bf16⟩
  | .hbm, ⟨3, _⟩ => ⟨S8192x5632, .bf16⟩
  | .hbm, ⟨4, _⟩ => ⟨S8192x1408, .f32⟩
  | .hbm, ⟨5, _⟩ => ⟨S8192x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let v18 : BitVec 32 := Scalar.addi v17 arg0
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let v18 : BitVec 32 := Scalar.addi v17 arg0
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, v28.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x1408 : Shape := ⟨2, ![2048, 1408]⟩
abbrev S8192x1408 : Shape := ⟨2, ![8192, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S_, .f32⟩
  | .hbm, ⟨3, _⟩ => ⟨S2048x5632, .f32⟩
  | .hbm, ⟨4, _⟩ => ⟨S8192x5632, .f32⟩
  | .hbm, ⟨5, _⟩ => ⟨S5632x2048, .f32⟩
  | .hbm, ⟨6, _⟩ => ⟨S2048x5632, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S8192x1408, .f32⟩
  | .hbm, ⟨12, _⟩ => ⟨S8192x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel15.lean ====
abbrev S8192x2048 : Shape := ⟨2, ![8192, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S8192x1408 : Shape := ⟨2, ![8192, 1408]⟩
abbrev S8192x5632 : Shape := ⟨2, ![8192, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x2048, .bf16⟩
  | .hbm, ⟨3, _⟩ => ⟨S2048x4x1408, .f32⟩
  | .hbm, ⟨4, _⟩ => ⟨S4x2048x1408, .f32⟩
  | .hbm, ⟨5, _⟩ => ⟨S8192x1408, .f32⟩
  | .hbm, ⟨6, _⟩ => ⟨S8192x1408, .bf16⟩
  | .hbm, ⟨7, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.muli v16 c1_i32_5
  let v18 : BitVec 32 := Scalar.addi v17 arg2
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S8192x5632, .f32⟩
  | .hbm, ⟨3, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.OffsetsI.lean ====
/- The offsets and the trip counts of the backward kernel's body in closed form. -/
module

public import proofs.«01_k».proof.Proof.Gen.KernelIdeal.Frame
public import proofs.«01_k».proof.Proof.Gen.KernelIdeal.Loops
public import Idealize.ShloMosaic.Lib.LoopRemainder

@[expose] public section

namespace Cert.Proof.KernelIdeal

open Cert.KernelIdeal
open Idealize.ShloMosaic

theorem off1_eq : ∀ i : grid0.Coords, k0_off1 i = ![512 * (i 1).val, 0] := by decide +kernel
theorem off2_eq : ∀ i : grid0.Coords, k0_off2 i = ![512 * (i 1).val, 0] := by decide +kernel
theorem off3_eq : ∀ i : grid0.Coords, k0_off3 i = ![0, 0, 512 * (i 1).val] := by decide +kernel
theorem trips_eq : ∀ i : grid0.Coords, (k0_t1_loop i).trips = (15 - (i 1).val) / 2 := by decide +kernel
theorem off4_eq1 : ∀ (i : grid0.Coords) (k : Fin (k0_t1_loop i).trips),
    k0_off4 i k 1#32 = ![512 * ((i 1).val + 1 + 2 * k.val), 0] := by decide +kernel
theorem off4_eq2 : ∀ (i : grid0.Coords) (k : Fin (k0_t1_loop i).trips),
    k0_off4 i k 2#32 = ![512 * ((i 1).val + 2 + 2 * k.val), 0] := by decide +kernel
theorem off5_eq1 : ∀ (i : grid0.Coords) (k : Fin (k0_t1_loop i).trips),
    k0_off5 i k 1#32 = ![512 * ((i 1).val + 1 + 2 * k.val), 0] := by decide +kernel
theorem off5_eq2 : ∀ (i : grid0.Coords) (k : Fin (k0_t1_loop i).trips),
    k0_off5 i k 2#32 = ![512 * ((i 1).val + 2 + 2 * k.val), 0] := by decide +kernel
theorem off6_eq1 : ∀ (i : grid0.Coords) (k : Fin (k0_t1_loop i).trips),
    k0_off6 i k 1#32 = ![0, 0, 512 * ((i 1).val + 1 + 2 * k.val)] := by decide +kernel
theorem off6_eq2 : ∀ (i : grid0.Coords) (k : Fin (k0_t1_loop i).trips),
    k0_off6 i k 2#32 = ![0, 0, 512 * ((i 1).val + 2 + 2 * k.val)] := by decide +kernel
theorem cond2_iff : ∀ i : grid0.Coords, k0_cond2 i = 1#1 ↔ (15 - (i 1).val) % 2 = 1 := by decide +kernel

instance closed4_1 (i : grid0.Coords) (k : Fin (k0_t1_loop i).trips) : ClosedOff (k0_off4 i k 1#32) := ⟨_, off4_eq1 i k⟩
instance closed4_2 (i : grid0.Coords) (k : Fin (k0_t1_loop i).trips) : ClosedOff (k0_off4 i k 2#32) := ⟨_, off4_eq2 i k⟩
instance closed5_1 (i : grid0.Coords) (k : Fin (k0_t1_loop i).trips) : ClosedOff (k0_off5 i k 1#32) := ⟨_, off5_eq1 i k⟩
instance closed5_2 (i : grid0.Coords) (k : Fin (k0_t1_loop i).trips) : ClosedOff (k0_off5 i k 2#32) := ⟨_, off5_eq2 i k⟩
instance closed6_1 (i : grid0.Coords) (k : Fin (k0_t1_loop i).trips) : ClosedOff (k0_off6 i k 1#32) := ⟨_, off6_eq1 i k⟩
instance closed6_2 (i : grid0.Coords) (k : Fin (k0_t1_loop i).trips) : ClosedOff (k0_off6 i k 2#32) := ⟨_, off6_eq2 i k⟩

end Cert.Proof.KernelIdeal
-- ==== Proof.TripI.lean ====
/- One trip of the backward kernel's pair loop. -/
module

public import proofs.«01_k».proof.Proof.OffsetsI

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ
abbrev 𝒱₀ : Variants := Variants.none

section Body
variable (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x8x8192 .f32) (harg4 : arg4.IsWhole) (arg5 : Memref sig .tc .vmem S1x8x8192 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole)

/-- What one trip reads and writes: the four inputs it reads, the three arrays it adds into. -/
abbrev Trip (x2 : arg2.view.ty.Contents (Elt F)) (x3 : arg3.view.ty.Contents (Elt F)) (x4 : arg4.view.ty.Contents (Elt F))
    (x5 : arg5.view.ty.Contents (Elt F)) (f8 : arg8.view.ty.Contents (Elt F)) (f11 : arg11.view.ty.Contents (Elt F))
    (f12 : arg12.view.ty.Contents (Elt F)) : sProp 𝕄 :=
  iprop((arg2.view.loc (c : Thread nD τ) ↦{fullShare} x2) ∗ (arg3.view.loc (c : Thread nD τ) ↦{fullShare} x3) ∗ (arg4.view.loc (c : Thread nD τ) ↦{fullShare} x4) ∗ (arg5.view.loc (c : Thread nD τ) ↦{fullShare} x5)
    ∗ (arg8.view.loc (c : Thread nD τ) ↦{fullShare} f8) ∗ (arg11.view.loc (c : Thread nD τ) ↦{fullShare} f11) ∗ (arg12.view.loc (c : Thread nD τ) ↦{fullShare} f12))

set_option maxHeartbeats 4000000 in
def trip (arg1 : BitVec 32) (v12 : FVec F S512x256 .bf16) (v14 : FVec F S512x128 .bf16) (v69 c2_i32 v70 c0_i32_34 : BitVec 32)
    (x2 : arg2.view.ty.Contents (Elt F)) (x3 : arg3.view.ty.Contents (Elt F)) (x4 : arg4.view.ty.Contents (Elt F)) (x5 : arg5.view.ty.Contents (Elt F))
    (k : Fin (k0_t1_loop i).trips) (f8 : arg8.view.ty.Contents (Elt F)) (f11 : arg11.view.ty.Contents (Elt F)) (f12 : arg12.view.ty.Contents (Elt F)) :
    Σ' (L8 : List (View.Piece (Elt F) S8192x256 .f32)) (L11 : List (View.Piece (Elt F) S512x256 .f32)),
      {L12 : List (View.Piece (Elt F) S512x128 .f32) //
        Trip c arg2 arg3 arg4 arg5 arg8 arg11 arg12 x2 x3 x4 x5 f8 f11 f12
          ⊢ wp frame (wpE defs₀ 𝒱₀ (c : Thread nD τ) none) Set.univ
              (k0_t1_body i arg2 harg2 arg3 harg3 arg4 harg4 arg5 harg5 arg6 harg6 arg7 harg7 arg8 harg8 arg9 harg9 arg10 harg10 arg11 harg11 arg12 harg12 arg1 v12 v14 v69 c2_i32 v70 c0_i32_34 k ())
              (fun _ => Trip c arg2 arg3 arg4 arg5 arg8 arg11 arg12 x2 x3 x4 x5 (arg8.view.writes (Elt F) f8 L8)
                (arg11.view.writes (Elt F) f11 L11) (arg12.view.writes (Elt F) f12 L12))} := by
  refine ⟨?_, ?_, ?_, ?run⟩
  case run =>
    unfold Trip k0_t1_body
    iintro ⟨H2, H3, H4, H5, H8, H11, H12⟩
    sl_exec_parts
    sl_step
    sl_close

end Body

end Cert.Proof.KernelIdeal

end
-- ==== Proof.LoopI.lean ====
/- The values the pair loop of the backward kernel leaves, as a sweep over the query blocks. -/
module

public import proofs.«01_k».proof.Proof.TripI
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]
local notation "𝕄" => MT nD τ sig Unit (Elt F) ℕ (UR sig nD τ) ℕ

/-! ## The sweep in plain values -/

/-- What the body accumulates: the head's whole gradient of q, the block's gradients of k and of v. -/
@[ext] structure St (F : FTy → Type) where
  dq : Vec F S8192x256 .f32
  dk : Vec F S512x256 .f32
  dv : Vec F S512x128 .f32

theorem rows256 (b : Fin 16) : ∀ a, (![512 * b.val, 0] : Fin 2 → ℕ) a + S512x256.size a ≤ S8192x256.size a := by
  revert b; decide
theorem rows128 (b : Fin 16) : ∀ a, (![512 * b.val, 0] : Fin 2 → ℕ) a + S512x128.size a ≤ S8192x128.size a := by
  revert b; decide
theorem row8 (b : Fin 16) : ∀ a, (![0, 0, 512 * b.val] : Fin 3 → ℕ) a + S1x1x512.size a ≤ S1x8x8192.size a := by
  revert b; decide

/-- The 512 rows of query block `b`. -/
def qB {α : Type} (X : S8192x256.Idx → α) (b : Fin 16) : S512x256.Idx → α :=
  window (s := S8192x256) X ![512 * b.val, 0] S512x256.size (rows256 b)
def oB {α : Type} (X : S8192x128.Idx → α) (b : Fin 16) : S512x128.Idx → α :=
  window (s := S8192x128) X ![512 * b.val, 0] S512x128.size (rows128 b)
def lB {α : Type} (X : S1x8x8192.Idx → α) (b : Fin 16) : S1x1x512.Idx → α :=
  window (s := S1x8x8192) X ![0, 0, 512 * b.val] S1x1x512.size (row8 b)

section Acc
variable (K : FVec F S512x256 .bf16) (V : FVec F S512x128 .bf16) (X2 : Vec F S8192x256 .bf16) (X3 : Vec F S8192x128 .bf16)
  (X4 X5 : Vec F S1x8x8192 .f32)

/-- One block below the diagonal added. -/
def acc (b : Fin 16) (s : St F) : St F where
  dq := put (s := S8192x256) s.dq ![512 * b.val, 0] S512x256.size
    (k0_pay13 K (k0_pay3 V (oB X3 b)) (k0_pay8 K (qB X2 b) (lB X4 b)) (lB X5 b) (qB s.dq b))
  dk := k0_pay12 (k0_pay1 (qB X2 b)) (k0_pay3 V (oB X3 b)) (k0_pay8 K (qB X2 b) (lB X4 b)) (lB X5 b) s.dk
  dv := k0_pay10 (k0_pay9 K (qB X2 b) (oB X3 b) (lB X4 b) s.dv)

/-- The blocks after `j` added one by one, `n` of them. -/
def sweep (j : ℕ) (s : St F) : ℕ → St F
  | 0 => s
  | n + 1 => if h : j + 1 + n < 16 then acc K V X2 X3 X4 X5 ⟨j + 1 + n, h⟩ (sweep j s n) else sweep j s n

theorem sweep_succ (j : ℕ) (s : St F) (n : ℕ) (h : j + 1 + n < 16) :
    sweep K V X2 X3 X4 X5 j s (n + 1) = acc K V X2 X3 X4 X5 ⟨j + 1 + n, h⟩ (sweep K V X2 X3 X4 X5 j s n) := dif_pos h

end Acc

section Body
variable (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x8x8192 .f32) (harg4 : arg4.IsWhole) (arg5 : Memref sig .tc .vmem S1x8x8192 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole)
variable (arg1 : BitVec 32) (v12 : FVec F S512x256 .bf16) (v14 : FVec F S512x128 .bf16) (v69 c2_i32 v70 c0_i32_34 : BitVec 32)
    (x2 : arg2.view.ty.Contents (Elt F)) (x3 : arg3.view.ty.Contents (Elt F)) (x4 : arg4.view.ty.Contents (Elt F)) (x5 : arg5.view.ty.Contents (Elt F))

/-- The three accumulated arrays as the values they hold. -/
def rd (f8 : arg8.view.ty.Contents (Elt F)) (f11 : arg11.view.ty.Contents (Elt F)) (f12 : arg12.view.ty.Contents (Elt F)) : St F :=
  ⟨arg8.view.read (Elt F) f8, arg11.view.read (Elt F) f11, arg12.view.read (Elt F) f12⟩

theorem trip_lt (k : Fin (k0_t1_loop i).trips) : (i 1).val + 2 + 2 * k.val < 16 := by
  have h := k.isLt; have e := trips_eq i
  omega
theorem trip_lt' (k : Fin (k0_t1_loop i).trips) : (i 1).val + 1 + 2 * k.val < 16 := by
  have := trip_lt i k; omega

abbrev b1 (k : Fin (k0_t1_loop i).trips) : Fin 16 := ⟨(i 1).val + 1 + 2 * k.val, trip_lt' i k⟩
abbrev b2 (k : Fin (k0_t1_loop i).trips) : Fin 16 := ⟨(i 1).val + 2 + 2 * k.val, trip_lt i k⟩

variable (k : Fin (k0_t1_loop i).trips) (f8 : arg8.view.ty.Contents (Elt F)) (f11 : arg11.view.ty.Contents (Elt F)) (f12 : arg12.view.ty.Contents (Elt F))

/-- The loads of the trip's first block. -/
abbrev lq1 : Vec F S512x256 .bf16 := arg2.view.readAt (Elt F) (Rect.unit (s := S8192x256) (k0_off4 i k 1#32) S512x256.size (k0_off4_inb i k 0)).toLoadRect x2
abbrev lo1 : Vec F S512x128 .bf16 := arg3.view.readAt (Elt F) (Rect.unit (s := S8192x128) (k0_off5 i k 1#32) S512x128.size (k0_off5_inb i k 0)).toLoadRect x3
abbrev ll1 : Vec F S1x1x512 .f32 := arg4.view.readAt (Elt F) (Rect.unit (s := S1x8x8192) (k0_off6 i k 1#32) S1x1x512.size (k0_off6_inb i k 0)).toLoadRect x4
abbrev ld1 : Vec F S1x1x512 .f32 := arg5.view.readAt (Elt F) (Rect.unit (s := S1x8x8192) (k0_off6 i k 1#32) S1x1x512.size (k0_off6_inb i k 0)).toLoadRect x5
abbrev lg1 : Vec F S512x256 .f32 := arg8.view.readAt (Elt F) (Rect.unit (s := S8192x256) (k0_off4 i k 1#32) S512x256.size (k0_off4_inb i k 0)).toLoadRect f8
/-- The loads of the trip's second block. -/
abbrev lq2 : Vec F S512x256 .bf16 := arg2.view.readAt (Elt F) (Rect.unit (s := S8192x256) (k0_off4 i k 2#32) S512x256.size (k0_off4_inb i k 1)).toLoadRect x2
abbrev lo2 : Vec F S512x128 .bf16 := arg3.view.readAt (Elt F) (Rect.unit (s := S8192x128) (k0_off5 i k 2#32) S512x128.size (k0_off5_inb i k 1)).toLoadRect x3
abbrev ll2 : Vec F S1x1x512 .f32 := arg4.view.readAt (Elt F) (Rect.unit (s := S1x8x8192) (k0_off6 i k 2#32) S1x1x512.size (k0_off6_inb i k 1)).toLoadRect x4
abbrev ld2 : Vec F S1x1x512 .f32 := arg5.view.readAt (Elt F) (Rect.unit (s := S1x8x8192) (k0_off6 i k 2#32) S1x1x512.size (k0_off6_inb i k 1)).toLoadRect x5
abbrev lg2 : Vec F S512x256 .f32 := arg8.view.readAt (Elt F) (Rect.unit (s := S8192x256) (k0_off4 i k 2#32) S512x256.size (k0_off4_inb i k 1)).toLoadRect f8
abbrev w11 : Vec F S512x256 .f32 := k0_pay12 (k0_pay1 (lq1 i arg2 x2 k)) (k0_pay3 v14 (lo1 i arg3 x3 k)) (k0_pay8 v12 (lq1 i arg2 x2 k) (ll1 i arg4 x4 k)) (ld1 i arg5 x5 k)
  (arg11.view.readAt (Elt F) (Rect.unit (s := S512x256) ![0, 0] S512x256.size inb_S512x256_S512x256_0_0).toLoadRect f11)
abbrev w12 : Vec F S512x128 .f32 := k0_pay10 (k0_pay9 v12 (lq1 i arg2 x2 k) (lo1 i arg3 x3 k) (ll1 i arg4 x4 k)
  (arg12.view.readAt (Elt F) (Rect.unit (s := S512x128) ![0, 0] S512x128.size inb_S512x128_S512x128_0_0).toLoadRect f12))

theorem trip_1 : (trip c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 k f8 f11 f12).1
    = [⟨Rect.unit (s := S8192x256) (k0_off4 i k 2#32) S512x256.size (k0_off4_inb i k 1),
         k0_pay13 v12 (k0_pay3 v14 (lo2 i arg3 x3 k)) (k0_pay8 v12 (lq2 i arg2 x2 k) (ll2 i arg4 x4 k)) (ld2 i arg5 x5 k) (lg2 i arg8 k f8)⟩,
       ⟨Rect.unit (s := S8192x256) (k0_off4 i k 1#32) S512x256.size (k0_off4_inb i k 0),
         k0_pay13 v12 (k0_pay3 v14 (lo1 i arg3 x3 k)) (k0_pay8 v12 (lq1 i arg2 x2 k) (ll1 i arg4 x4 k)) (ld1 i arg5 x5 k) (lg1 i arg8 k f8)⟩] := rfl

theorem trip_2 : (trip c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 k f8 f11 f12).2.1
    = [⟨Rect.unit (s := S512x256) ![0, 0] S512x256.size inb_S512x256_S512x256_0_0,
         k0_pay12 (k0_pay1 (lq2 i arg2 x2 k)) (k0_pay3 v14 (lo2 i arg3 x3 k)) (k0_pay8 v12 (lq2 i arg2 x2 k) (ll2 i arg4 x4 k)) (ld2 i arg5 x5 k)
           (arg11.view.readCov [⟨Rect.unit (s := S512x256) ![0, 0] S512x256.size inb_S512x256_S512x256_0_0, w11 i arg2 arg3 arg4 arg5 arg11 v12 v14 x2 x3 x4 x5 k f11⟩]
             (Rect.unit (s := S512x256) ![0, 0] S512x256.size inb_S512x256_S512x256_0_0).toLoadRect)⟩,
       ⟨Rect.unit (s := S512x256) ![0, 0] S512x256.size inb_S512x256_S512x256_0_0, w11 i arg2 arg3 arg4 arg5 arg11 v12 v14 x2 x3 x4 x5 k f11⟩] := rfl

theorem trip_3 : (trip c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 k f8 f11 f12).2.2.1
    = [⟨Rect.unit (s := S512x128) ![0, 0] S512x128.size inb_S512x128_S512x128_0_0,
         k0_pay10 (k0_pay9 v12 (lq2 i arg2 x2 k) (lo2 i arg3 x3 k) (ll2 i arg4 x4 k)
           (arg12.view.readCov [⟨Rect.unit (s := S512x128) ![0, 0] S512x128.size inb_S512x128_S512x128_0_0, w12 i arg2 arg3 arg4 arg12 v12 x2 x3 x4 k f12⟩]
             (Rect.unit (s := S512x128) ![0, 0] S512x128.size inb_S512x128_S512x128_0_0).toLoadRect))⟩,
       ⟨Rect.unit (s := S512x128) ![0, 0] S512x128.size inb_S512x128_S512x128_0_0, w12 i arg2 arg3 arg4 arg12 v12 x2 x3 x4 k f12⟩] := rfl

theorem lq1_eq : lq1 i arg2 x2 k = qB (arg2.view.read (Elt F) x2) (b1 i k) := View.readAt_unit arg2.view x2 _ (off4_eq1 i k) _
theorem lo1_eq : lo1 i arg3 x3 k = oB (arg3.view.read (Elt F) x3) (b1 i k) := View.readAt_unit arg3.view x3 _ (off5_eq1 i k) _
theorem ll1_eq : ll1 i arg4 x4 k = lB (arg4.view.read (Elt F) x4) (b1 i k) := View.readAt_unit arg4.view x4 _ (off6_eq1 i k) _
theorem ld1_eq : ld1 i arg5 x5 k = lB (arg5.view.read (Elt F) x5) (b1 i k) := View.readAt_unit arg5.view x5 _ (off6_eq1 i k) _
theorem lg1_eq : lg1 i arg8 k f8 = qB (arg8.view.read (Elt F) f8) (b1 i k) := View.readAt_unit arg8.view f8 _ (off4_eq1 i k) _
theorem lq2_eq : lq2 i arg2 x2 k = qB (arg2.view.read (Elt F) x2) (b2 i k) := View.readAt_unit arg2.view x2 _ (off4_eq2 i k) _
theorem lo2_eq : lo2 i arg3 x3 k = oB (arg3.view.read (Elt F) x3) (b2 i k) := View.readAt_unit arg3.view x3 _ (off5_eq2 i k) _
theorem ll2_eq : ll2 i arg4 x4 k = lB (arg4.view.read (Elt F) x4) (b2 i k) := View.readAt_unit arg4.view x4 _ (off6_eq2 i k) _
theorem ld2_eq : ld2 i arg5 x5 k = lB (arg5.view.read (Elt F) x5) (b2 i k) := View.readAt_unit arg5.view x5 _ (off6_eq2 i k) _
theorem lg2_eq : lg2 i arg8 k f8 = qB (arg8.view.read (Elt F) f8) (b2 i k) := View.readAt_unit arg8.view f8 _ (off4_eq2 i k) _

/-- Rows put at one block do not show in another block's window. -/
theorem qB_put (X : S8192x256.Idx → F .f32) (a b : Fin 16) (w : S512x256.Idx → F .f32) (h : a ≠ b) :
    qB (put (s := S8192x256) X ![512 * a.val, 0] S512x256.size w) b = qB X b :=
  window_put_of_disjoint (s := S8192x256) X ![512 * a.val, 0] S512x256.size ![512 * b.val, 0] S512x256.size (rows256 b) w (0 : Fin 2) (by
    show 512 * b.val + 512 ≤ 512 * a.val ∨ 512 * a.val + 512 ≤ 512 * b.val
    have : a.val ≠ b.val := fun e => h (Fin.ext e)
    omega)

/-- The pieces one trip writes, read as values: two blocks added. -/
theorem trip_read :
    rd arg8 arg11 arg12
      (arg8.view.writes (Elt F) f8 (trip c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 k f8 f11 f12).1)
      (arg11.view.writes (Elt F) f11 (trip c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 k f8 f11 f12).2.1)
      (arg12.view.writes (Elt F) f12 (trip c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 k f8 f11 f12).2.2.1)
      = acc v12 v14 (arg2.view.read (Elt F) x2) (arg3.view.read (Elt F) x3) (arg4.view.read (Elt F) x4) (arg5.view.read (Elt F) x5) (b2 i k)
          (acc v12 v14 (arg2.view.read (Elt F) x2) (arg3.view.read (Elt F) x3) (arg4.view.read (Elt F) x4) (arg5.view.read (Elt F) x5) (b1 i k)
            (rd arg8 arg11 arg12 f8 f11 f12)) := by
  refine St.ext ?_ ?_ ?_
  · show arg8.view.read (Elt F) (arg8.view.writes (Elt F) f8 _) = _
    rw [trip_1]
    refine (View.read_writes_cons_put arg8.view f8 _ _ _ (off4_eq2 i k)).trans ?_
    have e1 := View.read_writes_cons_put arg8.view f8 (off := k0_off4 i k 1#32) (size := S512x256.size) (k0_off4_inb i k 0)
      (k0_pay13 v12 (k0_pay3 v14 (lo1 i arg3 x3 k)) (k0_pay8 v12 (lq1 i arg2 x2 k) (ll1 i arg4 x4 k)) (ld1 i arg5 x5 k) (lg1 i arg8 k f8)) [] (off4_eq1 i k)
    rw [e1, View.writes_nil, lq1_eq, lo1_eq, ll1_eq, ld1_eq, lg1_eq, lq2_eq, lo2_eq, ll2_eq, ld2_eq, lg2_eq]
    unfold acc rd
    dsimp only
    have hne : b1 i k ≠ b2 i k := fun h => by
      have e : (i 1).val + 1 + 2 * k.val = (i 1).val + 2 + 2 * k.val := congrArg Fin.val h
      omega
    exact congrArg (fun g => put (s := S8192x256) _ ![512 * (b2 i k).val, 0] S512x256.size (k0_pay13 v12 _ _ _ g)) (qB_put _ _ _ _ hne).symm
  · show arg11.view.read (Elt F) (arg11.view.writes (Elt F) f11 _) = _
    rw [trip_2]
    refine (View.read_writes_full arg11.view f11 _ _ _).trans ?_
    rw [View.readCov_full arg11.view]
    unfold w11
    rw [View.readAt_full arg11.view, lq1_eq, lo1_eq, ll1_eq, ld1_eq, lq2_eq, lo2_eq, ll2_eq, ld2_eq]
    unfold acc rd
    rfl
  · show arg12.view.read (Elt F) (arg12.view.writes (Elt F) f12 _) = _
    rw [trip_3]
    refine (View.read_writes_full arg12.view f12 _ _ _).trans ?_
    rw [View.readCov_full arg12.view]
    unfold w12
    rw [View.readAt_full arg12.view, lq1_eq, lo1_eq, ll1_eq, lq2_eq, lo2_eq, ll2_eq]
    unfold acc rd
    rfl

/-- The pieces the trips before `n` write, last first. -/
def pb (f8 : arg8.view.ty.Contents (Elt F)) (f11 : arg11.view.ty.Contents (Elt F)) (f12 : arg12.view.ty.Contents (Elt F)) :
    ℕ → List (View.Piece (Elt F) S8192x256 .f32) × List (View.Piece (Elt F) S512x256 .f32) × List (View.Piece (Elt F) S512x128 .f32)
  | 0 => ([], [], [])
  | n + 1 =>
    let p := pb f8 f11 f12 n
    if h : n < (k0_t1_loop i).trips then
      let T := trip c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 ⟨n, h⟩ (arg8.view.writes (Elt F) f8 p.1) (arg11.view.writes (Elt F) f11 p.2.1) (arg12.view.writes (Elt F) f12 p.2.2)
      (T.1 ++ p.1, T.2.1 ++ p.2.1, T.2.2.1 ++ p.2.2)
    else p

theorem pb_succ (n : ℕ) (h : n < (k0_t1_loop i).trips) :
    pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 (n + 1)
      = ((trip c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 ⟨n, h⟩ (arg8.view.writes (Elt F) f8 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).1) (arg11.view.writes (Elt F) f11 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).2.1) (arg12.view.writes (Elt F) f12 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).2.2)).1 ++ (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).1,
         (trip c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 ⟨n, h⟩ (arg8.view.writes (Elt F) f8 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).1) (arg11.view.writes (Elt F) f11 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).2.1) (arg12.view.writes (Elt F) f12 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).2.2)).2.1 ++ (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).2.1,
         (trip c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 ⟨n, h⟩ (arg8.view.writes (Elt F) f8 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).1) (arg11.view.writes (Elt F) f11 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).2.1) (arg12.view.writes (Elt F) f12 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).2.2)).2.2.1 ++ (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).2.2) := by
  rw [pb]; exact dif_pos h

/-- The pieces of the first `n` trips read as values: the sweep's first `2 * n` blocks. -/
theorem pb_read : ∀ n : ℕ, n ≤ (k0_t1_loop i).trips →
    rd arg8 arg11 arg12 (arg8.view.writes (Elt F) f8 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).1) (arg11.view.writes (Elt F) f11 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).2.1)
        (arg12.view.writes (Elt F) f12 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 f8 f11 f12 n).2.2)
      = sweep v12 v14 (arg2.view.read (Elt F) x2) (arg3.view.read (Elt F) x3) (arg4.view.read (Elt F) x4) (arg5.view.read (Elt F) x5)
          (i 1).val (rd arg8 arg11 arg12 f8 f11 f12) (2 * n)
  | 0, _ => rfl
  | n + 1, hn => by
    have h : n < (k0_t1_loop i).trips := hn
    rw [pb_succ (h := h), View.writes_append, View.writes_append, View.writes_append, trip_read, pb_read n (le_of_lt h)]
    have e : 2 * (n + 1) = (2 * n + 1) + 1 := by omega
    have h2 := trip_lt i ⟨n, h⟩
    rw [e, sweep_succ (h := by simp only at h2; omega), sweep_succ (h := by simp only at h2; omega)]
    congr 1
    simp only [Fin.mk.injEq]; omega

/-- The pair loop's invariant: the inputs as they are, the accumulated arrays at the pieces of the trips so far. -/
abbrev inv (G8 : arg8.view.ty.Contents (Elt F)) (G11 : arg11.view.ty.Contents (Elt F)) (G12 : arg12.view.ty.Contents (Elt F)) (n : ℕ) (_ : Unit) : sProp 𝕄 :=
  iprop((arg2.view.loc (c : Thread nD τ) ↦{fullShare} x2) ∗ (arg3.view.loc (c : Thread nD τ) ↦{fullShare} x3) ∗ (arg4.view.loc (c : Thread nD τ) ↦{fullShare} x4) ∗ (arg5.view.loc (c : Thread nD τ) ↦{fullShare} x5)
    ∗ (∃ f, (arg8.view.loc (c : Thread nD τ) ↦{fullShare} f) ∗ ⌜f = arg8.view.writes (Elt F) G8 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 G8 G11 G12 n).1⌝)
    ∗ (∃ f, (arg11.view.loc (c : Thread nD τ) ↦{fullShare} f) ∗ ⌜f = arg11.view.writes (Elt F) G11 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 G8 G11 G12 n).2.1⌝)
    ∗ (∃ f, (arg12.view.loc (c : Thread nD τ) ↦{fullShare} f) ∗ ⌜f = arg12.view.writes (Elt F) G12 (pb c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 G8 G11 G12 n).2.2⌝))

set_option maxHeartbeats 4000000 in
@[sl_loop, instance_reducible] def loopInv_k0_t1 (G8 : arg8.view.ty.Contents (Elt F)) (G11 : arg11.view.ty.Contents (Elt F)) (G12 : arg12.view.ty.Contents (Elt F)) :
    Gen.LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg1 v12 v14 v69 c2_i32 v70 c0_i32_34 where
  inv := inv c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 G8 G11 G12
  step k _ := by
    iintro ⟨H2, H3, H4, H5, ⟨%f8, H8, %h8⟩, ⟨%f11, H11, %h11⟩, ⟨%f12, H12, %h12⟩⟩
    iapply (wp_wand_r frame (wpE defs₀ 𝒱₀ (c : Thread nD τ) none) Set.univ)
    isplitl [H2 H3 H4 H5 H8 H11 H12]
    · iapply (trip c i arg2 harg2 arg3 harg3 arg4 harg4 arg5 harg5 arg6 harg6 arg7 harg7 arg8 harg8 arg9 harg9 arg10 harg10 arg11 harg11 arg12 harg12 arg1 v12 v14 v69 c2_i32 v70 c0_i32_34 x2 x3 x4 x5 k f8 f11 f12).2.2.2
      unfold Trip
      isplitl [H2]; · iexact H2
      isplitl [H3]; · iexact H3
      isplitl [H4]; · iexact H4
      isplitl [H5]; · iexact H5
      isplitl [H8]; · iexact H8
      isplitl [H11]; · iexact H11
      iexact H12
    · iintro %u ⟨H2, H3, H4, H5, H8, H11, H12⟩
      isplitl [H2]; · iexact H2
      isplitl [H3]; · iexact H3
      isplitl [H4]; · iexact H4
      isplitl [H5]; · iexact H5
      isplitl [H8]
      · iexists _; isplitl [H8]; · iexact H8
        ipureintro; rw [pb_succ (h := k.isLt), View.writes_append, ← h8, ← h11, ← h12]
      isplitl [H11]
      · iexists _; isplitl [H11]; · iexact H11
        ipureintro; rw [pb_succ (h := k.isLt), View.writes_append, ← h8, ← h11, ← h12]
      · iexists _; isplitl [H12]; · iexact H12
        ipureintro; rw [pb_succ (h := k.isLt), View.writes_append, ← h8, ← h11, ← h12]

end Body

end Cert.Proof.KernelIdeal

end
-- ==== Proof.BodyI.lean ====
/- The backward kernel's body, run in each of its four cases. -/
module

public import proofs.«01_k».proof.Proof.LoopI
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]
local notation "𝕄" => MT nD τ sig Unit (Elt F) ℕ (UR sig nD τ) ℕ

/-- Whether the point is the first of its head. -/
abbrev first (i : grid0.Coords) : BitVec 1 := Scalar.cmpi .ne (Scalar.extui (Scalar.cmpi .eq (BitVec.ofNat 32 (i 1).val) 0#32) : BitVec 32) 0#32

section Body
variable (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x8x8192 .f32) (harg4 : arg4.IsWhole) (arg5 : Memref sig .tc .vmem S1x8x8192 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole)

/-- Everything the body holds at a point. -/
abbrev All (x2 : arg2.view.ty.Contents (Elt F)) (x3 : arg3.view.ty.Contents (Elt F)) (x4 : arg4.view.ty.Contents (Elt F))
    (x5 : arg5.view.ty.Contents (Elt F)) (x6 : arg6.view.ty.Contents (Elt F)) (x7 : arg7.view.ty.Contents (Elt F)) (f8 : arg8.view.ty.Contents (Elt F))
    (f9 : arg9.view.ty.Contents (Elt F)) (f10 : arg10.view.ty.Contents (Elt F)) (f11 : arg11.view.ty.Contents (Elt F))
    (f12 : arg12.view.ty.Contents (Elt F)) : sProp 𝕄 :=
  iprop((arg2.view.loc (c : Thread nD τ) ↦{fullShare} x2) ∗ (arg3.view.loc (c : Thread nD τ) ↦{fullShare} x3) ∗ (arg4.view.loc (c : Thread nD τ) ↦{fullShare} x4) ∗ (arg5.view.loc (c : Thread nD τ) ↦{fullShare} x5)
    ∗ (arg6.view.loc (c : Thread nD τ) ↦{fullShare} x6) ∗ (arg7.view.loc (c : Thread nD τ) ↦{fullShare} x7)
    ∗ (arg8.view.loc (c : Thread nD τ) ↦{fullShare} f8) ∗ (arg9.view.loc (c : Thread nD τ) ↦{fullShare} f9) ∗ (arg10.view.loc (c : Thread nD τ) ↦{fullShare} f10)
    ∗ (arg11.view.loc (c : Thread nD τ) ↦{fullShare} f11) ∗ (arg12.view.loc (c : Thread nD τ) ↦{fullShare} f12))

set_option maxHeartbeats 8000000 in
/-- A later point of its head, an even number of blocks follows. -/
def run00 (h1 : ¬ first i = 1#1) (h2 : ¬ k0_cond2 i = 1#1)
    (x2 : arg2.view.ty.Contents (Elt F)) (x3 : arg3.view.ty.Contents (Elt F)) (x4 : arg4.view.ty.Contents (Elt F)) (x5 : arg5.view.ty.Contents (Elt F))
    (x6 : arg6.view.ty.Contents (Elt F)) (x7 : arg7.view.ty.Contents (Elt F)) (f8 : arg8.view.ty.Contents (Elt F)) (f9 : arg9.view.ty.Contents (Elt F))
    (f10 : arg10.view.ty.Contents (Elt F)) (f11 : arg11.view.ty.Contents (Elt F)) (f12 : arg12.view.ty.Contents (Elt F)) :
    Σ' (g8 : arg8.view.ty.Contents (Elt F)) (L9 : List (View.Piece (Elt F) S512x256 .f32)),
      {L10 : List (View.Piece (Elt F) S512x128 .f32) //
        All c arg2 arg3 arg4 arg5 arg6 arg7 arg8 arg9 arg10 arg11 arg12 x2 x3 x4 x5 x6 x7 f8 f9 f10 f11 f12
          ⊢ wp frame (wpE defs₀ 𝒱₀ (c : Thread nD τ) none) Set.univ
              (cc0_mla_bwd i arg2 harg2 arg3 harg3 arg4 harg4 arg5 harg5 arg6 harg6 arg7 harg7 arg8 harg8 arg9 harg9 arg10 harg10 arg11 harg11 arg12 harg12)
              (fun _ => iprop(∃ g11, ∃ g12, All c arg2 arg3 arg4 arg5 arg6 arg7 arg8 arg9 arg10 arg11 arg12 x2 x3 x4 x5 x6 x7 g8
                (arg9.view.writes (Elt F) f9 L9) (arg10.view.writes (Elt F) f10 L10) g11 g12))} := by
  refine ⟨?_, ?_, ?_, ?run⟩
  case run =>
    unfold All
    sl_unfold [cc0_mla_bwd]
    iintro ⟨H2, H3, H4, H5, H6, H7, H8, H9, H10, H11, H12⟩
    sl_exec_parts
    sl_step
    iexists _
    iexists _
    sl_close

set_option maxHeartbeats 8000000 in
/-- A later point of its head, an odd number of blocks follows. -/
def run01 (h1 : ¬ first i = 1#1) (h2 : k0_cond2 i = 1#1)
    (x2 : arg2.view.ty.Contents (Elt F)) (x3 : arg3.view.ty.Contents (Elt F)) (x4 : arg4.view.ty.Contents (Elt F)) (x5 : arg5.view.ty.Contents (Elt F))
    (x6 : arg6.view.ty.Contents (Elt F)) (x7 : arg7.view.ty.Contents (Elt F)) (f8 : arg8.view.ty.Contents (Elt F)) (f9 : arg9.view.ty.Contents (Elt F))
    (f10 : arg10.view.ty.Contents (Elt F)) (f11 : arg11.view.ty.Contents (Elt F)) (f12 : arg12.view.ty.Contents (Elt F)) :
    Σ' (g8 : arg8.view.ty.Contents (Elt F)) (L9 : List (View.Piece (Elt F) S512x256 .f32)),
      {L10 : List (View.Piece (Elt F) S512x128 .f32) //
        All c arg2 arg3 arg4 arg5 arg6 arg7 arg8 arg9 arg10 arg11 arg12 x2 x3 x4 x5 x6 x7 f8 f9 f10 f11 f12
          ⊢ wp frame (wpE defs₀ 𝒱₀ (c : Thread nD τ) none) Set.univ
              (cc0_mla_bwd i arg2 harg2 arg3 harg3 arg4 harg4 arg5 harg5 arg6 harg6 arg7 harg7 arg8 harg8 arg9 harg9 arg10 harg10 arg11 harg11 arg12 harg12)
              (fun _ => iprop(∃ g11, ∃ g12, All c arg2 arg3 arg4 arg5 arg6 arg7 arg8 arg9 arg10 arg11 arg12 x2 x3 x4 x5 x6 x7 g8
                (arg9.view.writes (Elt F) f9 L9) (arg10.view.writes (Elt F) f10 L10) g11 g12))} := by
  refine ⟨?_, ?_, ?_, ?run⟩
  case run =>
    unfold All
    sl_unfold [cc0_mla_bwd]
    iintro ⟨H2, H3, H4, H5, H6, H7, H8, H9, H10, H11, H12⟩
    sl_exec_parts
    sl_step
    iexists _
    iexists _
    sl_close

set_option maxHeartbeats 8000000 in
/-- The first point of its head, an even number of blocks follows. -/
def run10 (h1 : first i = 1#1) (h2 : ¬ k0_cond2 i = 1#1)
    (x2 : arg2.view.ty.Contents (Elt F)) (x3 : arg3.view.ty.Contents (Elt F)) (x4 : arg4.view.ty.Contents (Elt F)) (x5 : arg5.view.ty.Contents (Elt F))
    (x6 : arg6.view.ty.Contents (Elt F)) (x7 : arg7.view.ty.Contents (Elt F)) (f8 : arg8.view.ty.Contents (Elt F)) (f9 : arg9.view.ty.Contents (Elt F))
    (f10 : arg10.view.ty.Contents (Elt F)) (f11 : arg11.view.ty.Contents (Elt F)) (f12 : arg12.view.ty.Contents (Elt F)) :
    Σ' (g8 : arg8.view.ty.Contents (Elt F)) (L9 : List (View.Piece (Elt F) S512x256 .f32)),
      {L10 : List (View.Piece (Elt F) S512x128 .f32) //
        All c arg2 arg3 arg4 arg5 arg6 arg7 arg8 arg9 arg10 arg11 arg12 x2 x3 x4 x5 x6 x7 f8 f9 f10 f11 f12
          ⊢ wp frame (wpE defs₀ 𝒱₀ (c : Thread nD τ) none) Set.univ
              (cc0_mla_bwd i arg2 harg2 arg3 harg3 arg4 harg4 arg5 harg5 arg6 harg6 arg7 harg7 arg8 harg8 arg9 harg9 arg10 harg10 arg11 harg11 arg12 harg12)
              (fun _ => iprop(∃ g11, ∃ g12, All c arg2 arg3 arg4 arg5 arg6 arg7 arg8 arg9 arg10 arg11 arg12 x2 x3 x4 x5 x6 x7 g8
                (arg9.view.writes (Elt F) f9 L9) (arg10.view.writes (Elt F) f10 L10) g11 g12))} := by
  refine ⟨?_, ?_, ?_, ?run⟩
  case run =>
    unfold All
    sl_unfold [cc0_mla_bwd]
    iintro ⟨H2, H3, H4, H5, H6, H7, H8, H9, H10, H11, H12⟩
    sl_exec_parts
    sl_step
    iexists _
    iexists _
    sl_close

set_option maxHeartbeats 8000000 in
/-- The first point of its head, an odd number of blocks follows. -/
def run11 (h1 : first i = 1#1) (h2 : k0_cond2 i = 1#1)
    (x2 : arg2.view.ty.Contents (Elt F)) (x3 : arg3.view.ty.Contents (Elt F)) (x4 : arg4.view.ty.Contents (Elt F)) (x5 : arg5.view.ty.Contents (Elt F))
    (x6 : arg6.view.ty.Contents (Elt F)) (x7 : arg7.view.ty.Contents (Elt F)) (f8 : arg8.view.ty.Contents (Elt F)) (f9 : arg9.view.ty.Contents (Elt F))
    (f10 : arg10.view.ty.Contents (Elt F)) (f11 : arg11.view.ty.Contents (Elt F)) (f12 : arg12.view.ty.Contents (Elt F)) :
    Σ' (g8 : arg8.view.ty.Contents (Elt F)) (L9 : List (View.Piece (Elt F) S512x256 .f32)),
      {L10 : List (View.Piece (Elt F) S512x128 .f32) //
        All c arg2 arg3 arg4 arg5 arg6 arg7 arg8 arg9 arg10 arg11 arg12 x2 x3 x4 x5 x6 x7 f8 f9 f10 f11 f12
          ⊢ wp frame (wpE defs₀ 𝒱₀ (c : Thread nD τ) none) Set.univ
              (cc0_mla_bwd i arg2 harg2 arg3 harg3 arg4 harg4 arg5 harg5 arg6 harg6 arg7 harg7 arg8 harg8 arg9 harg9 arg10 harg10 arg11 harg11 arg12 harg12)
              (fun _ => iprop(∃ g11, ∃ g12, All c arg2 arg3 arg4 arg5 arg6 arg7 arg8 arg9 arg10 arg11 arg12 x2 x3 x4 x5 x6 x7 g8
                (arg9.view.writes (Elt F) f9 L9) (arg10.view.writes (Elt F) f10 L10) g11 g12))} := by
  refine ⟨?_, ?_, ?_, ?run⟩
  case run =>
    unfold All
    sl_unfold [cc0_mla_bwd]
    iintro ⟨H2, H3, H4, H5, H6, H7, H8, H9, H10, H11, H12⟩
    sl_exec_parts
    sl_step
    iexists _
    iexists _
    sl_close

end Body

end Cert.Proof.KernelIdeal

end
-- ==== Proof.ValuesI.lean ====
/- The values the backward kernel's body leaves at a point, in each of its four cases. -/
module

public import proofs.«01_k».proof.Proof.BodyI

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]
local notation "𝕄" => MT nD τ sig Unit (Elt F) ℕ (UR sig nD τ) ℕ

section Vals
variable (K : Vec F S512x256 .bf16) (V : Vec F S512x128 .bf16) (X2 : Vec F S8192x256 .bf16) (X3 : Vec F S8192x128 .bf16)
  (X4 X5 : Vec F S1x8x8192 .f32)

abbrev rowIx : IVec S512x512 32 := iota Kind.tc S512x512 32 [0] iota_S512x512_d0_w32
abbrev colIx : IVec S512x512 32 := iota Kind.tc S512x512 32 [1] iota_S512x512_d1_w32

/-- The diagonal block added, its entries above the diagonal left out. -/
def accD (b : Fin 16) (s : St F) : St F where
  dq := put (s := S8192x256) s.dq ![512 * b.val, 0] S512x256.size
    (k0_pay50 (k0_pay40 K) (k0_pay44 V (oB X3 b)) (k0_pay45 K (qB X2 b) (lB X4 b)) rowIx colIx (lB X5 b) (qB s.dq b))
  dk := k0_pay49 (k0_pay42 (qB X2 b)) (k0_pay44 V (oB X3 b)) (k0_pay45 K (qB X2 b) (lB X4 b)) rowIx colIx (lB X5 b) s.dk
  dv := k0_pay47 (k0_pay43 (oB X3 b)) (k0_pay45 K (qB X2 b) (lB X4 b)) rowIx colIx s.dv

/-- All a point adds: the diagonal block, then every later query block. -/
def fin (b : Fin 16) (dq : Vec F S8192x256 .f32) : St F :=
  sweep (k0_pay40 K) (k0_pay41 V) X2 X3 X4 X5 b.val (accD K V X2 X3 X4 X5 b ⟨dq, k0_pay38, k0_pay39⟩) (15 - b.val)

end Vals

section Body
variable (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x8x8192 .f32) (harg4 : arg4.IsWhole) (arg5 : Memref sig .tc .vmem S1x8x8192 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole)
variable (x2 : arg2.view.ty.Contents (Elt F)) (x3 : arg3.view.ty.Contents (Elt F)) (x4 : arg4.view.ty.Contents (Elt F)) (x5 : arg5.view.ty.Contents (Elt F))
    (x6 : arg6.view.ty.Contents (Elt F)) (x7 : arg7.view.ty.Contents (Elt F)) (B8 : arg8.view.ty.Contents (Elt F))

/-- The key block and the value block as loaded. -/
abbrev lk : Vec F S512x256 .bf16 := arg6.view.readAt (Elt F) (Rect.unit (s := S512x256) ![0, 0] S512x256.size inb_S512x256_S512x256_0_0).toLoadRect x6
abbrev lv : Vec F S512x128 .bf16 := arg7.view.readAt (Elt F) (Rect.unit (s := S512x128) ![0, 0] S512x128.size inb_S512x128_S512x128_0_0).toLoadRect x7
/-- The loads of the diagonal block. -/
abbrev lqD : Vec F S512x256 .bf16 := arg2.view.readAt (Elt F) (Rect.unit (s := S8192x256) (k0_off1 i) S512x256.size (k0_off1_inb i)).toLoadRect x2
abbrev loD : Vec F S512x128 .bf16 := arg3.view.readAt (Elt F) (Rect.unit (s := S8192x128) (k0_off2 i) S512x128.size (k0_off2_inb i)).toLoadRect x3
abbrev llD : Vec F S1x1x512 .f32 := arg4.view.readAt (Elt F) (Rect.unit (s := S1x8x8192) (k0_off3 i) S1x1x512.size (k0_off3_inb i)).toLoadRect x4
abbrev ldD : Vec F S1x1x512 .f32 := arg5.view.readAt (Elt F) (Rect.unit (s := S1x8x8192) (k0_off3 i) S1x1x512.size (k0_off3_inb i)).toLoadRect x5
abbrev lgD : Vec F S512x256 .f32 := arg8.view.readAt (Elt F) (Rect.unit (s := S8192x256) (k0_off1 i) S512x256.size (k0_off1_inb i)).toLoadRect B8
/-- The loads of the last block. -/
abbrev lqL : Vec F S512x256 .bf16 := arg2.view.readAt (Elt F) (Rect.unit (s := S8192x256) ![7680, 0] S512x256.size inb_S8192x256_S512x256_7680_0).toLoadRect x2
abbrev loL : Vec F S512x128 .bf16 := arg3.view.readAt (Elt F) (Rect.unit (s := S8192x128) ![7680, 0] S512x128.size inb_S8192x128_S512x128_7680_0).toLoadRect x3
abbrev llL : Vec F S1x1x512 .f32 := arg4.view.readAt (Elt F) (Rect.unit (s := S1x8x8192) ![0, 0, 7680] S1x1x512.size inb_S1x8x8192_S1x1x512_0_0_7680).toLoadRect x4
abbrev ldL : Vec F S1x1x512 .f32 := arg5.view.readAt (Elt F) (Rect.unit (s := S1x8x8192) ![0, 0, 7680] S1x1x512.size inb_S1x8x8192_S1x1x512_0_0_7680).toLoadRect x5
abbrev lgL : Vec F S512x256 .f32 := arg8.view.readAt (Elt F) (Rect.unit (s := S8192x256) ![7680, 0] S512x256.size inb_S8192x256_S512x256_7680_0).toLoadRect B8

abbrev z11 : List (View.Piece (Elt F) S512x256 .f32) := [⟨(Rect.unit (s := S512x256) ![0, 0] S512x256.size inb_S512x256_S512x256_0_0), k0_pay38⟩]
abbrev z12 : List (View.Piece (Elt F) S512x128 .f32) := [⟨(Rect.unit (s := S512x128) ![0, 0] S512x128.size inb_S512x128_S512x128_0_0), k0_pay39⟩]
abbrev z8 : List (View.Piece (Elt F) S8192x256 .f32) := [⟨(Rect.unit (s := S8192x256) ![0, 0] S8192x256.size inb_S8192x256_S8192x256_0_0), k0_pay37⟩]

/-- What the diagonal block writes. -/
abbrev dp : View.Piece (Elt F) S8192x256 .f32 := ⟨(Rect.unit (s := S8192x256) (k0_off1 i) S512x256.size (k0_off1_inb i)),
  k0_pay50 (k0_pay40 (lk arg6 x6)) (k0_pay44 (lv arg7 x7) (loD i arg3 x3)) (k0_pay45 (lk arg6 x6) (lqD i arg2 x2) (llD i arg4 x4)) rowIx colIx (ldD i arg5 x5) (lgD i arg8 B8)⟩
abbrev d8 : List (View.Piece (Elt F) S8192x256 .f32) := [dp i arg2 arg3 arg4 arg5 arg6 arg7 arg8 x2 x3 x4 x5 x6 x7 B8]
abbrev d11 : List (View.Piece (Elt F) S512x256 .f32) := ⟨(Rect.unit (s := S512x256) ![0, 0] S512x256.size inb_S512x256_S512x256_0_0),
  k0_pay49 (k0_pay42 (lqD i arg2 x2)) (k0_pay44 (lv arg7 x7) (loD i arg3 x3)) (k0_pay45 (lk arg6 x6) (lqD i arg2 x2) (llD i arg4 x4)) rowIx colIx (ldD i arg5 x5)
    (arg11.view.readCov z11 (Rect.unit (s := S512x256) ![0, 0] S512x256.size inb_S512x256_S512x256_0_0).toLoadRect)⟩ :: z11
abbrev d12 : List (View.Piece (Elt F) S512x128 .f32) := ⟨(Rect.unit (s := S512x128) ![0, 0] S512x128.size inb_S512x128_S512x128_0_0),
  k0_pay47 (k0_pay43 (loD i arg3 x3)) (k0_pay45 (lk arg6 x6) (lqD i arg2 x2) (llD i arg4 x4)) rowIx colIx
    (arg12.view.readCov z12 (Rect.unit (s := S512x128) ![0, 0] S512x128.size inb_S512x128_S512x128_0_0).toLoadRect)⟩ :: z12

abbrev G8 : arg8.view.ty.Contents (Elt F) := arg8.view.writes (Elt F) B8 (d8 i arg2 arg3 arg4 arg5 arg6 arg7 arg8 x2 x3 x4 x5 x6 x7 B8)
abbrev G11 : arg11.view.ty.Contents (Elt F) := arg11.view.writes (Elt F) arg11.view.junk (d11 i arg2 arg3 arg4 arg5 arg6 arg7 arg11 x2 x3 x4 x5 x6 x7)
abbrev G12 : arg12.view.ty.Contents (Elt F) := arg12.view.writes (Elt F) arg12.view.junk (d12 i arg2 arg3 arg4 arg6 arg12 x2 x3 x4 x6)

theorem lqD_eq : lqD i arg2 x2 = qB (arg2.view.read (Elt F) x2) (i 1) := View.readAt_unit arg2.view x2 _ (off1_eq i) _
theorem loD_eq : loD i arg3 x3 = oB (arg3.view.read (Elt F) x3) (i 1) := View.readAt_unit arg3.view x3 _ (off2_eq i) _
theorem llD_eq : llD i arg4 x4 = lB (arg4.view.read (Elt F) x4) (i 1) := View.readAt_unit arg4.view x4 _ (off3_eq i) _
theorem ldD_eq : ldD i arg5 x5 = lB (arg5.view.read (Elt F) x5) (i 1) := View.readAt_unit arg5.view x5 _ (off3_eq i) _
theorem lgD_eq : lgD i arg8 B8 = qB (arg8.view.read (Elt F) B8) (i 1) := View.readAt_unit arg8.view B8 _ (off1_eq i) _
theorem lqL_eq : lqL arg2 x2 = qB (arg2.view.read (Elt F) x2) 15 := rfl
theorem loL_eq : loL arg3 x3 = oB (arg3.view.read (Elt F) x3) 15 := rfl
theorem llL_eq : llL arg4 x4 = lB (arg4.view.read (Elt F) x4) 15 := rfl
theorem ldL_eq : ldL arg5 x5 = lB (arg5.view.read (Elt F) x5) 15 := rfl
theorem lgL_eq : lgL arg8 B8 = qB (arg8.view.read (Elt F) B8) 15 := rfl
theorem lk_eq : lk arg6 x6 = arg6.view.read (Elt F) x6 := View.readAt_full arg6.view x6 _
theorem lv_eq : lv arg7 x7 = arg7.view.read (Elt F) x7 := View.readAt_full arg7.view x7 _

/-- After the diagonal block. -/
theorem diag_read : rd arg8 arg11 arg12 (G8 i arg2 arg3 arg4 arg5 arg6 arg7 arg8 x2 x3 x4 x5 x6 x7 B8) (G11 i arg2 arg3 arg4 arg5 arg6 arg7 arg11 x2 x3 x4 x5 x6 x7)
      (G12 i arg2 arg3 arg4 arg6 arg12 x2 x3 x4 x6)
    = accD (arg6.view.read (Elt F) x6) (arg7.view.read (Elt F) x7) (arg2.view.read (Elt F) x2) (arg3.view.read (Elt F) x3) (arg4.view.read (Elt F) x4) (arg5.view.read (Elt F) x5) (i 1)
        ⟨arg8.view.read (Elt F) B8, k0_pay38, k0_pay39⟩ := by
  refine St.ext ?_ ?_ ?_
  · refine (View.read_writes_cons_put arg8.view B8 _ _ _ (off1_eq i)).trans ?_
    rw [View.writes_nil, lqD_eq, loD_eq, llD_eq, ldD_eq, lgD_eq, lk_eq, lv_eq]
    rfl
  · refine (View.read_writes_full arg11.view _ _ _ _).trans ?_
    rw [View.readCov_full arg11.view, lqD_eq, loD_eq, llD_eq, ldD_eq, lk_eq, lv_eq]
    rfl
  · refine (View.read_writes_full arg12.view _ _ _ _).trans ?_
    rw [View.readCov_full arg12.view, lqD_eq, loD_eq, llD_eq, lk_eq]
    rfl

/-- The pieces of the pair loop. -/
abbrev lp : List (View.Piece (Elt F) S8192x256 .f32) × List (View.Piece (Elt F) S512x256 .f32) × List (View.Piece (Elt F) S512x128 .f32) :=
  pb c i arg2 harg2 arg3 harg3 arg4 harg4 arg5 harg5 arg6 harg6 arg7 harg7 arg8 harg8 arg9 harg9 arg10 harg10 arg11 harg11 arg12 harg12 (BitVec.ofNat 32 (i 1).val) (k0_pay40 (lk arg6 x6)) (k0_pay41 (lv arg7 x7))
    (Scalar.subi 15#32 (BitVec.ofNat 32 (i 1).val)) 2#32 (Scalar.divsi (Scalar.subi 15#32 (BitVec.ofNat 32 (i 1).val)) 2#32) 0#32 x2 x3 x4 x5
    (G8 i arg2 arg3 arg4 arg5 arg6 arg7 arg8 x2 x3 x4 x5 x6 x7 B8) (G11 i arg2 arg3 arg4 arg5 arg6 arg7 arg11 x2 x3 x4 x5 x6 x7) (G12 i arg2 arg3 arg4 arg6 arg12 x2 x3 x4 x6)
    (k0_t1_loop i).trips

abbrev E8 : arg8.view.ty.Contents (Elt F) := arg8.view.writes (Elt F) (G8 i arg2 arg3 arg4 arg5 arg6 arg7 arg8 x2 x3 x4 x5 x6 x7 B8) (lp c i arg2 harg2 arg3 harg3 arg4 harg4 arg5 harg5 arg6 harg6 arg7 harg7 arg8 harg8 arg9 harg9 arg10 harg10 arg11 harg11 arg12 harg12 x2 x3 x4 x5 x6 x7 B8).1
abbrev E11 : arg11.view.ty.Contents (Elt F) := arg11.view.writes (Elt F) (G11 i arg2 arg3 arg4 arg5 arg6 arg7 arg11 x2 x3 x4 x5 x6 x7) (lp c i arg2 harg2 arg3 harg3 arg4 harg4 arg5 harg5 arg6 harg6 arg7 harg7 arg8 harg8 arg9 harg9 arg10 harg10 arg11 harg11 arg12 harg12 x2 x3 x4 x5 x6 x7 B8).2.1
abbrev E12 : arg12.view.ty.Contents (Elt F) := arg12.view.writes (Elt F) (G12 i arg2 arg3 arg4 arg6 arg12 x2 x3 x4 x6) (lp c i arg2 harg2 arg3 harg3 arg4 harg4 arg5 harg5 arg6 harg6 arg7 harg7 arg8 harg8 arg9 harg9 arg10 harg10 arg11 harg11 arg12 harg12 x2 x3 x4 x5 x6 x7 B8).2.2

/-- After the pair loop. -/
theorem loop_read : rd arg8 arg11 arg12 (E8 c i arg2 harg2 arg3 harg3 arg4 harg4 arg5 harg5 arg6 harg6 arg7 harg7 arg8 harg8 arg9 harg9 arg10 harg10 arg11 harg11 arg12 harg12 x2 x3 x4 x5 x6 x7 B8) (E11 c i arg2 harg2 arg3 harg3 arg4 harg4 arg5 harg5 arg6 harg6 arg7 harg7 arg8 harg8 arg9 harg9 arg10 harg10 arg11 harg11 arg12 harg12 x2 x3 x4 x5 x6 x7 B8) (E12 c i arg2 harg2 arg3 harg3 arg4 harg4 arg5 harg5 arg6 harg6 arg7 harg7 arg8 harg8 arg9 harg9 arg10 harg10 arg11 harg11 arg12 harg12 x2 x3 x4 x5 x6 x7 B8)
    = sweep (k0_pay40 (arg6.view.read (Elt F) x6)) (k0_pay41 (arg7.view.read (Elt F) x7)) (arg2.view.read (Elt F) x2) (arg3.view.read (Elt F) x3) (arg4.view.read (Elt F) x4) (arg5.view.read (Elt F) x5) (i 1).val
        (accD (arg6.view.read (Elt F) x6) (arg7.view.read (Elt F) x7) (arg2.view.read (Elt F) x2) (arg3.view.read (Elt F) x3) (arg4.view.read (Elt F) x4) (arg5.view.read (Elt F) x5) (i 1)
          ⟨arg8.view.read (Elt F) B8, k0_pay38, k0_pay39⟩) (2 * (k0_t1_loop i).trips) := by
  unfold E8 E11 E12 lp
  refine (pb_read c i arg2 harg2 arg3 harg3 arg4 harg4 arg5 harg5 arg6 harg6 arg7 harg7 arg8 harg8 arg9 harg9 arg10 harg10 arg11 harg11 arg12 harg12 _ _ _ _ _ _ _ x2 x3 x4 x5 _ _ _ (k0_t1_loop i).trips (le_refl _)).trans ?_
  rw [diag_read, lk_eq, lv_eq]

/-- An even number of later blocks. -/
theorem fin_even (h2 : ¬ k0_cond2 i = 1#1) : rd arg8 arg11 arg12 (E8 c i arg2 harg2 arg3 harg3 arg4 harg4 arg5 harg5 arg6 harg6 arg7 harg7 arg8 harg8 arg9 harg9 arg10 harg10 arg11 harg11 arg12 harg12 x2 x3 x4 x5 x6 x7 B8) (E11 c i arg2 harg2 arg3 harg3 arg4 harg4 arg5 harg5 arg6 harg6 arg7 harg7 arg8 harg8 arg9 harg9 arg10 harg10 arg11 harg11 arg12 harg12 x2 x3 x4 x5 x6 x7 B8) (E12 c i arg2 harg2 arg3 harg3 arg4 harg4 arg5 harg5 arg6 harg6 arg7 harg7 arg8 harg8 arg9 harg9 arg10 harg10 arg11 harg11 arg12 harg12 x2 x3 x4 x5 x6 x7 B8)
    = fin (arg6.view.read (Elt F) x6) (arg7.view.read (Elt F) x7) (arg2.view.read (Elt F) x2) (arg3.view.read (Elt F) x3) (arg4.view.read (Elt F) x4) (arg5.view.read (Elt F) x5) (i 1) (arg8.view.read (Elt F) B8) := by
  rw [loop_read]
  unfold fin
  have e : 2 * (k0_t1_loop i).trips = 15 - (i 1).val := by
    have h := trips_eq i
    have h' := mt (cond2_iff i).mpr h2
    omega
  rw [e]

/-- What the last block writes. -/
abbrev e8 : List (View.Piece (Elt F) S8192x256 .f32) := [⟨(Rect.unit (s := S8192x256) ![7680, 0] S512x256.size inb_S8192x256_S512x256_7680_0),
  k0_pay60 (k0_pay40 (lk arg6 x6)) (k0_pay35 (k0_pay40 (lk arg6 x6)) (k0_pay41 (lv arg7 x7)) (lqL arg2 x2) (loL arg3 x3) (llL arg4 x4) (ldL arg5 x5))
    (lgL arg8 (E8 c i arg2 harg2 arg3 harg3 arg4 harg4 arg5 harg5 arg6 harg6 arg7 harg7 arg8 harg8 arg9 harg9 arg10 harg10 arg11 harg11 arg12 harg12 x2 x3 x4 x5 x6 x7 B8))⟩]
abbrev e11 : List (View.Piece (Elt F) S512x256 .f32) := [⟨(Rect.unit (s := S512x256) ![0, 0] S512x256.size inb_S512x256_S512x256_0_0),
  k0_pay59 (k0_pay36 (k0_pay40 (lk arg6 x6)) (k0_pay41 (lv arg7 x7)) (lqL arg2 x2) (loL arg3 x3) (llL arg4 x4) (ldL arg5 x5)
    (arg11.view.readAt (Elt F) (Rect.unit (s := S512x256) ![0, 0] S512x256.size inb_S512x256_S512x256_0_0).toLoadRect (E11 c i arg2 harg2 arg3 harg3 arg4 harg4 arg5 harg5 arg6 harg6 arg7 harg7 arg8 harg8 arg9 harg9 arg10 harg10 arg11 harg11 arg12 harg12 x2 x3 x4 x5 x6 x7 B8)))⟩]
abbrev e12 : List (View.Piece (Elt F) S512x128 .f32) := [⟨(Rect.unit (s := S512x128) ![0, 0] S512x128.size inb_S512x128_S512x128_0_0),
  k0_pay34 (k0_pay40 (lk arg6 x6)) (lqL arg2 x2) (loL arg3 x3) (llL arg4 x4)
    (arg12.view.readAt (Elt F) (Rect.unit (s := S512x128) ![0, 0] S512x128.size inb_S512x128_S512x128_0_0).toLoadRect (E12 c i arg2 harg2 arg3 harg3 arg4 harg4 arg5 harg5 arg6 harg6 arg7 harg7 arg8 harg8 arg9 harg9 arg10 harg10 arg11 harg11 arg12 harg12 x2 x3 x4 x5 x6 x7 B8))⟩]

/-- An odd number of later blocks. -/
theorem fin_odd (h2 : k0_cond2 i = 1#1) : rd arg8 arg11 arg12
      (arg8.view.writes (Elt F) (E8 c i arg2 harg2 arg3 harg3 arg4 harg4 arg5 harg5 arg6 harg6 arg7 harg7 arg8 harg8 arg9 harg9 arg10 harg10 arg11 harg11 arg12 harg12 x2 x3 x4 x5 x6 x7 B8) (e8 c i arg2 harg2 arg3 harg3 arg4 harg4 arg5 harg5 arg6 harg6 arg7 harg7 arg8 harg8 arg9 harg9 arg10 harg10 arg11 harg11 arg12 harg12 x2 x3 x4 x5 x6 x7 B8))
      (arg11.view.writes (Elt F) (E11 c i arg2 harg2 arg3 harg3 arg4 harg4 arg5 harg5 arg6 harg6 arg7 harg7 arg8 harg8 arg9 harg9 arg10 harg10 arg11 harg11 arg12 harg12 x2 x3 x4 x5 x6 x7 B8) (e11 c i arg2 harg2 arg3 harg3 arg4 harg4 arg5 harg5 arg6 harg6 arg7 harg7 arg8 harg8 arg9 harg9 arg10 harg10 arg11 harg11 arg12 harg12 x2 x3 x4 x5 x6 x7 B8))
      (arg12.view.writes (Elt F) (E12 c i arg2 harg2 arg3 harg3 arg4 harg4 arg5 harg5 arg6 harg6 arg7 harg7 arg8 harg8 arg9 harg9 arg10 harg10 arg11 harg11 arg12 harg12 x2 x3 x4 x5 x6 x7 B8) (e12 c i arg2 harg2 arg3 harg3 arg4 harg4 arg5 harg5 arg6 harg6 arg7 harg7 arg8 harg8 arg9 harg9 arg10 harg10 arg11 harg11 arg12 harg12 x2 x3 x4 x5 x6 x7 B8))
    = fin (arg6.view.read (Elt F) x6) (arg7.view.read (Elt F) x7) (arg2.view.read (Elt F) x2) (arg3.view.read (Elt F) x3) (arg4.view.read (Elt F) x4) (arg5.view.read (Elt F) x5) (i 1) (arg8.view.read (Elt F) B8) := by
  have h' := (cond2_iff i).mp h2
  have ht := trips_eq i
  have e : 15 - (i 1).val = 2 * (k0_t1_loop i).trips + 1 := by omega
  have hb : (i 1).val + 1 + 2 * (k0_t1_loop i).trips < 16 := by omega
  have eb : (⟨(i 1).val + 1 + 2 * (k0_t1_loop i).trips, hb⟩ : Fin 16) = 15 := Fin.ext (by show (i 1).val + 1 + 2 * (k0_t1_loop i).trips = 15; omega)
  unfold fin
  rw [e, sweep_succ (h := hb), ← loop_read (harg2 := harg2) (harg3 := harg3) (harg4 := harg4) (harg5 := harg5) (harg6 := harg6) (harg7 := harg7) (harg8 := harg8) (arg9 := arg9) (harg9 := harg9) (arg10 := arg10) (harg10 := harg10) (harg11 := harg11) (harg12 := harg12) (c := c), eb]
  refine St.ext ?_ ?_ ?_
  · refine (View.read_writes_cons_put arg8.view _ _ _ _ (off' := ![512 * (15 : Fin 16).val, 0]) rfl).trans ?_
    rw [View.writes_nil, lk_eq, lv_eq]
    rfl
  · refine (View.read_writes_full arg11.view _ _ _ _).trans ?_
    rw [View.readAt_full arg11.view, lk_eq, lv_eq]
    rfl
  · refine (View.read_writes_full arg12.view _ _ _ _).trans ?_
    rw [View.readAt_full arg12.view, lk_eq]
    rfl

theorem first_iff : ∀ i : grid0.Coords, first i = 1#1 ↔ (i 1).val = 0 := by decide +kernel

variable (f9 : arg9.view.ty.Contents (Elt F)) (f10 : arg10.view.ty.Contents (Elt F)) (f11 : arg11.view.ty.Contents (Elt F)) (f12 : arg12.view.ty.Contents (Elt F))

/-- What a point starts from: zeros at the first point of a head, what the head's points so far left at the others. -/
def base (f8 : Vec F S8192x256 .f32) : Vec F S8192x256 .f32 := if (i 1).val = 0 then k0_pay37 else f8

set_option maxHeartbeats 400000 in
theorem body_run11 (h1 : first i = 1#1) (h2 : k0_cond2 i = 1#1) : All c arg2 arg3 arg4 arg5 arg6 arg7 arg8 arg9 arg10 arg11 arg12 x2 x3 x4 x5 x6 x7 B8 f9 f10 f11 f12
    ⊢ wp frame (wpE defs₀ 𝒱₀ (c : Thread nD τ) none) Set.univ
        (cc0_mla_bwd i arg2 harg2 arg3 harg3 arg4 harg4 arg5 harg5 arg6 harg6 arg7 harg7 arg8 harg8 arg9 harg9 arg10 harg10 arg11 harg11 arg12 harg12)
        (fun _ => iprop(∃ g11, ∃ g12, All c arg2 arg3 arg4 arg5 arg6 arg7 arg8 arg9 arg10 arg11 arg12 x2 x3 x4 x5 x6 x7
          (harg8.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dq) (harg9.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dk) (harg10.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dv) g11 g12)) := by
  have hb : arg8.view.read (Elt F) (arg8.view.writes (Elt F) arg8.view.junk z8) = base i (arg8.view.read (Elt F) B8) := (View.read_writes_full arg8.view arg8.view.junk _ _ _).trans (if_pos ((first_iff i).mp h1)).symm
  have hf := fin_odd c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8) h2
  have hG : G8 i arg2 arg3 arg4 arg5 arg6 arg7 arg8 x2 x3 x4 x5 x6 x7 (arg8.view.writes (Elt F) arg8.view.junk z8) = arg8.view.writes (Elt F) arg8.view.junk (dp i arg2 arg3 arg4 arg5 arg6 arg7 arg8 x2 x3 x4 x5 x6 x7 (arg8.view.writes (Elt F) arg8.view.junk z8) :: z8) :=
    (View.writes_append _ _ [dp i arg2 arg3 arg4 arg5 arg6 arg7 arg8 x2 x3 x4 x5 x6 x7 (arg8.view.writes (Elt F) arg8.view.junk z8)] z8).symm
  have hE8 : E8 c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8) = arg8.view.writes (Elt F) arg8.view.junk ((lp c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8)).1 ++ (dp i arg2 arg3 arg4 arg5 arg6 arg7 arg8 x2 x3 x4 x5 x6 x7 (arg8.view.writes (Elt F) arg8.view.junk z8) :: z8)) := by
    unfold E8; rw [View.writes_append, hG]
  have hE11 : E11 c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8) = arg11.view.writes (Elt F) arg11.view.junk ((lp c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8)).2.1 ++ d11 i arg2 arg3 arg4 arg5 arg6 arg7 arg11 x2 x3 x4 x5 x6 x7) := (View.writes_append _ _ _ _).symm
  have hE12 : E12 c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8) = arg12.view.writes (Elt F) arg12.view.junk ((lp c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8)).2.2 ++ d12 i arg2 arg3 arg4 arg6 arg12 x2 x3 x4 x6) := (View.writes_append _ _ _ _).symm
  rw [hb] at hf
  unfold e8 e11 e12 rd at hf
  rw [hE8, hE11, hE12] at hf
  unfold lp at hf
  rw [hG] at hf
  have e8 : (run11 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).1 = _ := harg8.eq_unread (congrArg St.dq hf)
  have h9 : k0_pay59 (run11.sl.r_7 c i arg2 harg2 arg3 harg3 arg4 harg4 arg5 harg5 arg6 harg6 arg7 harg7 arg8 harg8 arg9 harg9 arg10 harg10 arg11 harg11 arg12 harg12 x2 x3 x4 x5 x6 x7) = (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dk := by
    unfold run11.sl.r_7 run11.sl.v140
    exact (View.read_writes_full arg11.view _ inb_S512x256_S512x256_0_0 _ _).symm.trans (congrArg St.dk hf)
  have e9 : arg9.view.writes (Elt F) f9 (run11 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.1 = _ :=
    harg9.eq_unread ((View.read_writes_full arg9.view f9 _ _ _).trans ((View.readAt_full arg11.view (arg11.view.writes (Elt F) arg11.view.junk (run11.sl.H11_1_1 c i arg2 harg2 arg3 harg3 arg4 harg4 arg5 harg5 arg6 harg6 arg7 harg7 arg8 harg8 arg9 harg9 arg10 harg10 arg11 harg11 arg12 harg12 x2 x3 x4 x5 x6 x7)) _).trans ((View.read_writes_full arg11.view _ _ _ _).trans h9)))
  have h10 : k0_pay34 (run11.sl.r arg6 x6) (lqL arg2 x2) (loL arg3 x3) (llL arg4 x4) (run11.sl.v126 c i arg2 harg2 arg3 harg3 arg4 harg4 arg5 harg5 arg6 harg6 arg7 harg7 arg8 harg8 arg9 harg9 arg10 harg10 arg11 harg11 arg12 harg12 x2 x3 x4 x5 x6 x7) = (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dv := by
    unfold run11.sl.v126
    exact (View.read_writes_full arg12.view _ inb_S512x128_S512x128_0_0 _ _).symm.trans (congrArg St.dv hf)
  have e10 : arg10.view.writes (Elt F) f10 (run11 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.2.1 = _ :=
    harg10.eq_unread ((View.read_writes_full arg10.view f10 _ _ _).trans ((View.readAt_full arg12.view (arg12.view.writes (Elt F) arg12.view.junk (run11.sl.H12_1_1 c i arg2 harg2 arg3 harg3 arg4 harg4 arg5 harg5 arg6 harg6 arg7 harg7 arg8 harg8 arg9 harg9 arg10 harg10 arg11 harg11 arg12 harg12 x2 x3 x4 x5 x6 x7)) _).trans ((View.read_writes_full arg12.view _ _ _ _).trans h10)))
  rw [← e8, ← e9, ← e10]
  exact (run11 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.2.2

set_option maxHeartbeats 400000 in
theorem body_run10 (h1 : first i = 1#1) (h2 : ¬ k0_cond2 i = 1#1) : All c arg2 arg3 arg4 arg5 arg6 arg7 arg8 arg9 arg10 arg11 arg12 x2 x3 x4 x5 x6 x7 B8 f9 f10 f11 f12
    ⊢ wp frame (wpE defs₀ 𝒱₀ (c : Thread nD τ) none) Set.univ
        (cc0_mla_bwd i arg2 harg2 arg3 harg3 arg4 harg4 arg5 harg5 arg6 harg6 arg7 harg7 arg8 harg8 arg9 harg9 arg10 harg10 arg11 harg11 arg12 harg12)
        (fun _ => iprop(∃ g11, ∃ g12, All c arg2 arg3 arg4 arg5 arg6 arg7 arg8 arg9 arg10 arg11 arg12 x2 x3 x4 x5 x6 x7
          (harg8.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dq) (harg9.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dk) (harg10.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dv) g11 g12)) := by
  have hb : arg8.view.read (Elt F) (arg8.view.writes (Elt F) arg8.view.junk z8) = base i (arg8.view.read (Elt F) B8) := (View.read_writes_full arg8.view arg8.view.junk _ _ _).trans (if_pos ((first_iff i).mp h1)).symm
  have hf := fin_even c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8) h2
  have hG : G8 i arg2 arg3 arg4 arg5 arg6 arg7 arg8 x2 x3 x4 x5 x6 x7 (arg8.view.writes (Elt F) arg8.view.junk z8) = arg8.view.writes (Elt F) arg8.view.junk (dp i arg2 arg3 arg4 arg5 arg6 arg7 arg8 x2 x3 x4 x5 x6 x7 (arg8.view.writes (Elt F) arg8.view.junk z8) :: z8) :=
    (View.writes_append _ _ [dp i arg2 arg3 arg4 arg5 arg6 arg7 arg8 x2 x3 x4 x5 x6 x7 (arg8.view.writes (Elt F) arg8.view.junk z8)] z8).symm
  have hE8 : E8 c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8) = arg8.view.writes (Elt F) arg8.view.junk ((lp c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8)).1 ++ (dp i arg2 arg3 arg4 arg5 arg6 arg7 arg8 x2 x3 x4 x5 x6 x7 (arg8.view.writes (Elt F) arg8.view.junk z8) :: z8)) := by
    unfold E8; rw [View.writes_append, hG]
  have hE11 : E11 c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8) = arg11.view.writes (Elt F) arg11.view.junk ((lp c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8)).2.1 ++ d11 i arg2 arg3 arg4 arg5 arg6 arg7 arg11 x2 x3 x4 x5 x6 x7) := (View.writes_append _ _ _ _).symm
  have hE12 : E12 c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8) = arg12.view.writes (Elt F) arg12.view.junk ((lp c i arg2 harg2 arg3 harg3 arg4 harg4 arg5 harg5 arg6 harg6 arg7 harg7 arg8 harg8 arg9 harg9 arg10 harg10 arg11 harg11 arg12 harg12 x2 x3 x4 x5 x6 x7 (arg8.view.writes (Elt F) arg8.view.junk z8)).2.2 ++ d12 i arg2 arg3 arg4 arg6 arg12 x2 x3 x4 x6) := (View.writes_append _ _ _ _).symm
  rw [hb] at hf
  unfold rd at hf
  rw [hE8, hE11, hE12] at hf
  unfold lp at hf
  rw [hG] at hf
  have e8 : (run10 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).1 = _ := harg8.eq_unread (congrArg St.dq hf)
  have e9 : arg9.view.writes (Elt F) f9 (run10 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.1 = _ :=
    harg9.eq_unread ((View.read_writes_full arg9.view f9 _ _ _).trans ((View.readAt_full arg11.view _ _).trans (congrArg St.dk hf)))
  have e10 : arg10.view.writes (Elt F) f10 (run10 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.2.1 = _ :=
    harg10.eq_unread ((View.read_writes_full arg10.view f10 _ _ _).trans ((View.readAt_full arg12.view _ _).trans (congrArg St.dv hf)))
  rw [← e8, ← e9, ← e10]
  exact (run10 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.2.2

set_option maxHeartbeats 400000 in
theorem body_run01 (h1 : ¬ first i = 1#1) (h2 : k0_cond2 i = 1#1) : All c arg2 arg3 arg4 arg5 arg6 arg7 arg8 arg9 arg10 arg11 arg12 x2 x3 x4 x5 x6 x7 B8 f9 f10 f11 f12
    ⊢ wp frame (wpE defs₀ 𝒱₀ (c : Thread nD τ) none) Set.univ
        (cc0_mla_bwd i arg2 harg2 arg3 harg3 arg4 harg4 arg5 harg5 arg6 harg6 arg7 harg7 arg8 harg8 arg9 harg9 arg10 harg10 arg11 harg11 arg12 harg12)
        (fun _ => iprop(∃ g11, ∃ g12, All c arg2 arg3 arg4 arg5 arg6 arg7 arg8 arg9 arg10 arg11 arg12 x2 x3 x4 x5 x6 x7
          (harg8.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dq) (harg9.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dk) (harg10.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dv) g11 g12)) := by
  have hb : arg8.view.read (Elt F) B8 = base i (arg8.view.read (Elt F) B8) := (if_neg (fun e => h1 ((first_iff i).mpr e))).symm
  have hf := fin_odd c i arg2 harg2 arg3 harg3 arg4 harg4 arg5 harg5 arg6 harg6 arg7 harg7 arg8 harg8 arg9 harg9 arg10 harg10 arg11 harg11 arg12 harg12 x2 x3 x4 x5 x6 x7 B8 h2
  have hE8 : E8 c i arg2 harg2 arg3 harg3 arg4 harg4 arg5 harg5 arg6 harg6 arg7 harg7 arg8 harg8 arg9 harg9 arg10 harg10 arg11 harg11 arg12 harg12 x2 x3 x4 x5 x6 x7 B8 = arg8.view.writes (Elt F) B8 ((lp c i arg2 harg2 arg3 harg3 arg4 harg4 arg5 harg5 arg6 harg6 arg7 harg7 arg8 harg8 arg9 harg9 arg10 harg10 arg11 harg11 arg12 harg12 x2 x3 x4 x5 x6 x7 B8).1 ++ (d8 i arg2 arg3 arg4 arg5 arg6 arg7 arg8 x2 x3 x4 x5 x6 x7 B8)) := (View.writes_append _ _ _ _).symm
  have hE11 : E11 c i arg2 harg2 arg3 harg3 arg4 harg4 arg5 harg5 arg6 harg6 arg7 harg7 arg8 harg8 arg9 harg9 arg10 harg10 arg11 harg11 arg12 harg12 x2 x3 x4 x5 x6 x7 B8 = arg11.view.writes (Elt F) arg11.view.junk ((lp c i arg2 harg2 arg3 harg3 arg4 harg4 arg5 harg5 arg6 harg6 arg7 harg7 arg8 harg8 arg9 harg9 arg10 harg10 arg11 harg11 arg12 harg12 x2 x3 x4 x5 x6 x7 B8).2.1 ++ d11 i arg2 arg3 arg4 arg5 arg6 arg7 arg11 x2 x3 x4 x5 x6 x7) := (View.writes_append _ _ _ _).symm
  have hE12 : E12 c i arg2 harg2 arg3 harg3 arg4 harg4 arg5 harg5 arg6 harg6 arg7 harg7 arg8 harg8 arg9 harg9 arg10 harg10 arg11 harg11 arg12 harg12 x2 x3 x4 x5 x6 x7 B8 = arg12.view.writes (Elt F) arg12.view.junk ((lp c i arg2 harg2 arg3 harg3 arg4 harg4 arg5 harg5 arg6 harg6 arg7 harg7 arg8 harg8 arg9 harg9 arg10 harg10 arg11 harg11 arg12 harg12 x2 x3 x4 x5 x6 x7 B8).2.2 ++ d12 i arg2 arg3 arg4 arg6 arg12 x2 x3 x4 x6) := (View.writes_append _ _ _ _).symm
  rw [hb] at hf
  unfold e8 e11 e12 rd at hf
  rw [hE8, hE11, hE12] at hf
  have e8 : (run01 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).1 = _ := harg8.eq_unread (congrArg St.dq hf)
  have h9 : k0_pay59 (run01.sl.r_7 c i arg2 harg2 arg3 harg3 arg4 harg4 arg5 harg5 arg6 harg6 arg7 harg7 arg8 harg8 arg9 harg9 arg10 harg10 arg11 harg11 arg12 harg12 x2 x3 x4 x5 x6 x7 B8) = (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dk := by
    unfold run01.sl.r_7 run01.sl.v140
    exact (View.read_writes_full arg11.view _ inb_S512x256_S512x256_0_0 _ _).symm.trans (congrArg St.dk hf)
  have e9 : arg9.view.writes (Elt F) f9 (run01 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.1 = _ :=
    harg9.eq_unread ((View.read_writes_full arg9.view f9 _ _ _).trans ((View.readAt_full arg11.view (arg11.view.writes (Elt F) arg11.view.junk (run01.sl.H11_1_1 c i arg2 harg2 arg3 harg3 arg4 harg4 arg5 harg5 arg6 harg6 arg7 harg7 arg8 harg8 arg9 harg9 arg10 harg10 arg11 harg11 arg12 harg12 x2 x3 x4 x5 x6 x7 B8)) _).trans ((View.read_writes_full arg11.view _ _ _ _).trans h9)))
  have h10 : k0_pay34 (run01.sl.r arg6 x6) (lqL arg2 x2) (loL arg3 x3) (llL arg4 x4) (run01.sl.v126 c i arg2 harg2 arg3 harg3 arg4 harg4 arg5 harg5 arg6 harg6 arg7 harg7 arg8 harg8 arg9 harg9 arg10 harg10 arg11 harg11 arg12 harg12 x2 x3 x4 x5 x6 x7 B8) = (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dv := by
    unfold run01.sl.v126
    exact (View.read_writes_full arg12.view _ inb_S512x128_S512x128_0_0 _ _).symm.trans (congrArg St.dv hf)
  have e10 : arg10.view.writes (Elt F) f10 (run01 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.2.1 = _ :=
    harg10.eq_unread ((View.read_writes_full arg10.view f10 _ _ _).trans ((View.readAt_full arg12.view (arg12.view.writes (Elt F) arg12.view.junk (run01.sl.H12_1_1 c i arg2 harg2 arg3 harg3 arg4 harg4 arg5 harg5 arg6 harg6 arg7 harg7 arg8 harg8 arg9 harg9 arg10 harg10 arg11 harg11 arg12 harg12 x2 x3 x4 x5 x6 x7 B8)) _).trans ((View.read_writes_full arg12.view _ _ _ _).trans h10)))
  rw [← e8, ← e9, ← e10]
  exact (run01 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.2.2

set_option maxHeartbeats 400000 in
theorem body_run00 (h1 : ¬ first i = 1#1) (h2 : ¬ k0_cond2 i = 1#1) : All c arg2 arg3 arg4 arg5 arg6 arg7 arg8 arg9 arg10 arg11 arg12 x2 x3 x4 x5 x6 x7 B8 f9 f10 f11 f12
    ⊢ wp frame (wpE defs₀ 𝒱₀ (c : Thread nD τ) none) Set.univ
        (cc0_mla_bwd i arg2 harg2 arg3 harg3 arg4 harg4 arg5 harg5 arg6 harg6 arg7 harg7 arg8 harg8 arg9 harg9 arg10 harg10 arg11 harg11 arg12 harg12)
        (fun _ => iprop(∃ g11, ∃ g12, All c arg2 arg3 arg4 arg5 arg6 arg7 arg8 arg9 arg10 arg11 arg12 x2 x3 x4 x5 x6 x7
          (harg8.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dq) (harg9.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dk) (harg10.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dv) g11 g12)) := by
  have hb : arg8.view.read (Elt F) B8 = base i (arg8.view.read (Elt F) B8) := (if_neg (fun e => h1 ((first_iff i).mpr e))).symm
  have hf := fin_even c i arg2 harg2 arg3 harg3 arg4 harg4 arg5 harg5 arg6 harg6 arg7 harg7 arg8 harg8 arg9 harg9 arg10 harg10 arg11 harg11 arg12 harg12 x2 x3 x4 x5 x6 x7 B8 h2
  have hE8 : E8 c i arg2 harg2 arg3 harg3 arg4 harg4 arg5 harg5 arg6 harg6 arg7 harg7 arg8 harg8 arg9 harg9 arg10 harg10 arg11 harg11 arg12 harg12 x2 x3 x4 x5 x6 x7 B8 = arg8.view.writes (Elt F) B8 ((lp c i arg2 harg2 arg3 harg3 arg4 harg4 arg5 harg5 arg6 harg6 arg7 harg7 arg8 harg8 arg9 harg9 arg10 harg10 arg11 harg11 arg12 harg12 x2 x3 x4 x5 x6 x7 B8).1 ++ (d8 i arg2 arg3 arg4 arg5 arg6 arg7 arg8 x2 x3 x4 x5 x6 x7 B8)) := (View.writes_append _ _ _ _).symm
  have hE11 : E11 c i arg2 harg2 arg3 harg3 arg4 harg4 arg5 harg5 arg6 harg6 arg7 harg7 arg8 harg8 arg9 harg9 arg10 harg10 arg11 harg11 arg12 harg12 x2 x3 x4 x5 x6 x7 B8 = arg11.view.writes (Elt F) arg11.view.junk ((lp c i arg2 harg2 arg3 harg3 arg4 harg4 arg5 harg5 arg6 harg6 arg7 harg7 arg8 harg8 arg9 harg9 arg10 harg10 arg11 harg11 arg12 harg12 x2 x3 x4 x5 x6 x7 B8).2.1 ++ d11 i arg2 arg3 arg4 arg5 arg6 arg7 arg11 x2 x3 x4 x5 x6 x7) := (View.writes_append _ _ _ _).symm
  have hE12 : E12 c i arg2 harg2 arg3 harg3 arg4 harg4 arg5 harg5 arg6 harg6 arg7 harg7 arg8 harg8 arg9 harg9 arg10 harg10 arg11 harg11 arg12 harg12 x2 x3 x4 x5 x6 x7 B8 = arg12.view.writes (Elt F) arg12.view.junk ((lp c i arg2 harg2 arg3 harg3 arg4 harg4 arg5 harg5 arg6 harg6 arg7 harg7 arg8 harg8 arg9 harg9 arg10 harg10 arg11 harg11 arg12 harg12 x2 x3 x4 x5 x6 x7 B8).2.2 ++ d12 i arg2 arg3 arg4 arg6 arg12 x2 x3 x4 x6) := (View.writes_append _ _ _ _).symm
  rw [hb] at hf
  unfold rd at hf
  rw [hE8, hE11, hE12] at hf
  have e8 : (run00 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).1 = _ := harg8.eq_unread (congrArg St.dq hf)
  have e9 : arg9.view.writes (Elt F) f9 (run00 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.1 = _ :=
    harg9.eq_unread ((View.read_writes_full arg9.view f9 _ _ _).trans ((View.readAt_full arg11.view _ _).trans (congrArg St.dk hf)))
  have e10 : arg10.view.writes (Elt F) f10 (run00 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.2.1 = _ :=
    harg10.eq_unread ((View.read_writes_full arg10.view f10 _ _ _).trans ((View.readAt_full arg12.view _ _).trans (congrArg St.dv hf)))
  rw [← e8, ← e9, ← e10]
  exact (run00 c i arg2 harg2 arg3 harg3 arg4 harg4 arg5 harg5 arg6 harg6 arg7 harg7 arg8 harg8 arg9 harg9 arg10 harg10 arg11 harg11 arg12 harg12 h1 h2 x2 x3 x4 x5 x6 x7 B8 f9 f10 f11 f12).2.2.2

/-- The body leaves the point's values in the three outputs. -/
theorem body_run : All c arg2 arg3 arg4 arg5 arg6 arg7 arg8 arg9 arg10 arg11 arg12 x2 x3 x4 x5 x6 x7 B8 f9 f10 f11 f12
    ⊢ wp frame (wpE defs₀ 𝒱₀ (c : Thread nD τ) none) Set.univ
        (cc0_mla_bwd i arg2 harg2 arg3 harg3 arg4 harg4 arg5 harg5 arg6 harg6 arg7 harg7 arg8 harg8 arg9 harg9 arg10 harg10 arg11 harg11 arg12 harg12)
        (fun _ => iprop(∃ g11, ∃ g12, All c arg2 arg3 arg4 arg5 arg6 arg7 arg8 arg9 arg10 arg11 arg12 x2 x3 x4 x5 x6 x7
          (harg8.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dq) (harg9.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dk) (harg10.unread (Val := Elt F) (fin (arg6.view.read (Elt F) x6) (arg7.view.read (Elt F) x7) (arg2.view.read (Elt F) x2) (arg3.view.read (Elt F) x3) (arg4.view.read (Elt F) x4) (arg5.view.read (Elt F) x5) (i 1) (base i (arg8.view.read (Elt F) B8))).dv) g11 g12)) := by
  by_cases h1 : first i = 1#1 <;> by_cases h2 : k0_cond2 i = 1#1
  · exact body_run11 c i arg2 harg2 arg3 harg3 arg4 harg4 arg5 harg5 arg6 harg6 arg7 harg7 arg8 harg8 arg9 harg9 arg10 harg10 arg11 harg11 arg12 harg12 x2 x3 x4 x5 x6 x7 B8 f9 f10 f11 f12 h1 h2
  · exact body_run10 c i arg2 harg2 arg3 harg3 arg4 harg4 arg5 harg5 arg6 harg6 arg7 harg7 arg8 harg8 arg9 harg9 arg10 harg10 arg11 harg11 arg12 harg12 x2 x3 x4 x5 x6 x7 B8 f9 f10 f11 f12 h1 h2
  · exact body_run01 c i arg2 harg2 arg3 harg3 arg4 harg4 arg5 harg5 arg6 harg6 arg7 harg7 arg8 harg8 arg9 harg9 arg10 harg10 arg11 harg11 arg12 harg12 x2 x3 x4 x5 x6 x7 B8 f9 f10 f11 f12 h1 h2
  · exact body_run00 c i arg2 harg2 arg3 harg3 arg4 harg4 arg5 harg5 arg6 harg6 arg7 harg7 arg8 harg8 arg9 harg9 arg10 harg10 arg11 harg11 arg12 harg12 x2 x3 x4 x5 x6 x7 B8 f9 f10 f11 f12 h1 h2

end Body

end Cert.Proof.KernelIdeal

end
-- ==== Proof.FrameI.lean ====
/- The backward kernel's run from launch: what its three outputs hold at every point, and the frame. -/
module

public import proofs.«01_k».proof.Proof.ValuesI
public import Idealize.ShloMosaic.PureOps.BitExact

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Idealize.ShloMosaic.Pipeline (Dat Cfg Window BodyObligation cellOf ΦA)

variable {F : FTy → Type} [FloatOps F] [Named F]
local notation "𝕄" => MT nD τ sig Unit (Elt F) ℕ (UR sig nD τ) ℕ

section Body
variable (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x8x8192 .f32) (harg4 : arg4.IsWhole) (arg5 : Memref sig .tc .vmem S1x8x8192 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole)

set_option maxHeartbeats 800000 in
/-- The body on any staging memrefs: the six inputs kept, the three outputs at the point's values. -/
theorem body_owns (X2 : Vec F S8192x256 .bf16) (X3 : Vec F S8192x128 .bf16) (X4 X5 : Vec F S1x8x8192 .f32) (X6 : Vec F S512x256 .bf16)
    (X7 : Vec F S512x128 .bf16) (D8 : Vec F S8192x256 .f32) (D9 : Vec F S512x256 .f32) (D10 : Vec F S512x128 .f32) (K : PUnit → sProp 𝕄) :
    iprop((owns (c : Thread nD τ) arg2 fullShare X2) ∗ (owns (c : Thread nD τ) arg3 fullShare X3) ∗ (owns (c : Thread nD τ) arg4 fullShare X4) ∗ (owns (c : Thread nD τ) arg5 fullShare X5) ∗ (owns (c : Thread nD τ) arg6 fullShare X6) ∗ (owns (c : Thread nD τ) arg7 fullShare X7) ∗ (owns (c : Thread nD τ) arg8 fullShare D8) ∗ (owns (c : Thread nD τ) arg9 fullShare D9) ∗ (owns (c : Thread nD τ) arg10 fullShare D10)
        ∗ (∃ f11, (arg11.view.loc (c : Thread nD τ) ↦{fullShare} f11)) ∗ (∃ f12, (arg12.view.loc (c : Thread nD τ) ↦{fullShare} f12))
        ∗ (iprop((owns (c : Thread nD τ) arg2 fullShare X2) ∗ (owns (c : Thread nD τ) arg3 fullShare X3) ∗ (owns (c : Thread nD τ) arg4 fullShare X4) ∗ (owns (c : Thread nD τ) arg5 fullShare X5) ∗ (owns (c : Thread nD τ) arg6 fullShare X6) ∗ (owns (c : Thread nD τ) arg7 fullShare X7) ∗ (owns (c : Thread nD τ) arg8 fullShare (fin X6 X7 X2 X3 X4 X5 (i 1) (base i D8)).dq) ∗ (owns (c : Thread nD τ) arg9 fullShare (fin X6 X7 X2 X3 X4 X5 (i 1) (base i D8)).dk) ∗ (owns (c : Thread nD τ) arg10 fullShare (fin X6 X7 X2 X3 X4 X5 (i 1) (base i D8)).dv)
            ∗ (∃ f11, (arg11.view.loc (c : Thread nD τ) ↦{fullShare} f11)) ∗ (∃ f12, (arg12.view.loc (c : Thread nD τ) ↦{fullShare} f12))) -∗ K ⟨⟩))
      ⊢ wp frame (wpE (defs₀ (F := F)) 𝒱₀ (c : Thread nD τ) none) Set.univ
          (cc0_mla_bwd i arg2 harg2 arg3 harg3 arg4 harg4 arg5 harg5 arg6 harg6 arg7 harg7 arg8 harg8 arg9 harg9 arg10 harg10 arg11 harg11 arg12 harg12) K := by
  unfold owns
  rw [harg2.set_eq_univ, harg3.set_eq_univ, harg4.set_eq_univ, harg5.set_eq_univ, harg6.set_eq_univ, harg7.set_eq_univ, harg8.set_eq_univ, harg9.set_eq_univ, harg10.set_eq_univ]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, H11⟩, ⟨%f12, H12⟩, Hk⟩
  have hrun := body_run c i arg2 harg2 arg3 harg3 arg4 harg4 arg5 harg5 arg6 harg6 arg7 harg7 arg8 harg8 arg9 harg9 arg10 harg10 arg11 harg11 arg12 harg12 f2 f3 f4 f5 f6 f7 f8 f9 f10 f11 f12
  rw [h2, h3, h4, h5, h6, h7, h8] at hrun
  iapply (wp_wand_r frame (wpE defs₀ 𝒱₀ (c : Thread nD τ) none) Set.univ)
  isplitl [H2 H3 H4 H5 H6 H7 H8 H9 H10 H11 H12]
  · iapply hrun
    unfold All
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %u ⟨%g11, %g12, H2, H3, H4, H5, H6, H7, H8, H9, H10, H11, H12⟩
    iapply Hk
    isplitl [H2]
    · iexists _; isplitr
      · ipureintro; exact h2
      · iexact H2
    isplitl [H3]
    · iexists _; isplitr
      · ipureintro; exact h3
      · iexact H3
    isplitl [H4]
    · iexists _; isplitr
      · ipureintro; exact h4
      · iexact H4
    isplitl [H5]
    · iexists _; isplitr
      · ipureintro; exact h5
      · iexact H5
    isplitl [H6]
    · iexists _; isplitr
      · ipureintro; exact h6
      · iexact H6
    isplitl [H7]
    · iexists _; isplitr
      · ipureintro; exact h7
      · iexact H7
    isplitl [H8]
    · iexists _; isplitr
      · ipureintro; exact harg8.read_unread _
      · iexact H8
    isplitl [H9]
    · iexists _; isplitr
      · ipureintro; exact harg9.read_unread _
      · iexact H9
    isplitl [H10]
    · iexists _; isplitr
      · ipureintro; exact harg10.read_unread _
      · iexact H10
    isplitl [H11]; · iexists _; iexact H11
    iexists _; iexact H12

end Body

variable (m : (ℓ : Loc nD τ sig) → Buf (Elt F) ℓ) (ρ : Dev nD → PrngReg)

/-! ## What the points leave -/

/-- A point's values, from its blocks and what the head's gradient of q held before. -/
def at_ (c : Dev nD) (t : Fin cfg0.N) (p : Vec F S8192x256 .f32) : St F :=
  fin (iblk m c 4 t) (iblk m c 5 t) (iblk m c 0 t) (iblk m c 1 t) (iblk m c 2 t) (iblk m c 3 t) (grid0.coords t 1) (base (grid0.coords t) p)

/-- The head's gradient of q after point `n`. -/
def dqAt (c : Dev nD) : ℕ → Vec F S8192x256 .f32
  | 0 => (at_ m c ⟨0, by decide⟩ k0_pay37).dq
  | n + 1 => if h : n + 1 < cfg0.N then (at_ m c ⟨n + 1, h⟩ (dqAt c n)).dq else dqAt c n

theorem coord1 : ∀ t : Fin cfg0.N, ((grid0.coords t) 1).val = t.val % 16 := by decide +kernel

theorem dqAt_eq (c : Dev nD) (t : Fin cfg0.N) : dqAt m c t.val = (at_ m c t (dqAt m c (t.val - 1))).dq := by
  obtain ⟨n, h⟩ := t
  cases n with
  | zero =>
    show (at_ m c ⟨0, _⟩ k0_pay37).dq = _
    have hb : ∀ p : Vec F S8192x256 .f32, base (grid0.coords ⟨0, h⟩) p = k0_pay37 := fun p => if_pos (coord1 ⟨0, h⟩)
    unfold at_
    rw [hb, hb]
  | succ n =>
    show (if h : n + 1 < cfg0.N then (at_ m c ⟨n + 1, h⟩ (dqAt m c n)).dq else dqAt m c n) = _
    rw [dif_pos h]
    rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (at_ m c t (dqAt m c (t.val - 1))).dq
    | ⟨7, _⟩ => (at_ m c t (dqAt m c (t.val - 1))).dk
    | ⟨8, _⟩ => (at_ m c t (dqAt m c (t.val - 1))).dv
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (at_ m c t (dqAt m c (t.val - 1))).dq := by dsimp only [dats]
theorem after0_7 (c : Dev nD) (t : Fin cfg0.N) : (dats m 0 c).after 7 t = (at_ m c t (dqAt m c (t.val - 1))).dk := by dsimp only [dats]
theorem after0_8 (c : Dev nD) (t : Fin cfg0.N) : (dats m 0 c).after 8 t = (at_ m c t (dqAt m c (t.val - 1))).dv := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the point starts from: at a head's first point nothing of the buffer counts; later the buffer holds what the point before left. -/
theorem base_before (c : Dev nD) (t : Fin cfg0.N) (d) :
    base (grid0.coords t) ((dats m 0 c).before 6 t d) = base (grid0.coords t) (dqAt m c (t.val - 1)) := by
  by_cases h : t.val % 16 = 0
  · have h0 : ((grid0.coords t) 1).val = 0 := (coord1 t).trans h
    exact (if_pos h0).trans (if_pos h0).symm
  · have ht : t.val ≠ 0 := fun e => h (by rw [e])
    have hfl : (cfg0.win 6).flush ⟨t.val - 1, Nat.lt_of_le_of_lt (Nat.sub_le _ _) t.isLt⟩ = false := by
      refine Bool.eq_false_iff.mpr fun e => ?_
      have := (flush0_6 ⟨t.val - 1, Nat.lt_of_le_of_lt (Nat.sub_le _ _) t.isLt⟩).mp e
      have e' : (t.val - 1) % 16 = 15 := this
      omega
    rw [(dats m 0 c).before_out_kept 6 rfl t ht hfl (fun _ => rfl) (fun _ _ => rfl) d, after0_6]
    exact congrArg (base (grid0.coords t)) (dqAt_eq m c ⟨t.val - 1, Nat.lt_of_le_of_lt (Nat.sub_le _ _) t.isLt⟩).symm

/-! ## The body obligation -/

set_option maxHeartbeats 800000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5,
    after0_6, after0_7, after0_8]
  unfold Pipeline.ΦA
  rw [scopedRest0_eq]
  iintro ⟨⟨⟨H11, H12⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_owns c (grid0.coords t) _ _ _ _ _ _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 7 t d7) ((dats m 0 c).before 8 t d8))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexact H11
  isplitl [H12]; · iexact H12
  rw [base_before]
  iintro ⟨H0, H1, H2, H3, H4, H5, H6, H7, H8, H11, H12⟩
  isplitl [H11 H12 Hr]
  · isplitr [Hr]
    · isplitl [H11]; · iexact H11
      iexact H12
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The run and the frame -/

set_option backward.isDefEq.respectTransparency.types false in
/-- Every execution of the program ends, with every array of the pipeline at what the points left and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.Proof.KernelIdeal

end
-- ==== Proof.Frames.lean ====
/-
  The claims about the runs themselves: each program ends with its arguments unchanged and every semaphore at zero, and the
  kernel's named constants are the words they replace.
-/
module

public import proofs.«01_k».proof.Defs
public import proofs.«01_k».proof.Proof.Frame
public import proofs.«01_k».proof.Proof.FrameI
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- The side conditions of the precondition `finite` hold. -/
theorem preFacts : Cert.Pre_finite.Facts where
  slices_S8192x2048_S8192x1024_0_512 := by decide
  bcast_S_S8192x8x192 := by decide
  bcast_S_S8192x8x128 := by decide
  bcast_S_S8192x1024 := by decide

/-- The kernel, on words: it ends, its arguments unchanged, its semaphores at zero. -/
theorem quiescent_Kernel : Cert.quiescent_Kernel (hKernel := Cert.Kernel.Gen.facts) :=
  fun m g _ => Cert.Proof.Kernel.frame_run m g

/-- The kernel with its constants named, over the extended reals: the same. -/
theorem quiescent_KernelIdeal : Cert.quiescent_KernelIdeal (hKernelIdeal := Cert.KernelIdeal.Gen.facts) :=
  fun m g _ => Cert.Proof.KernelIdeal.frame_run m g

/-- The reference: the same. -/
theorem quiescent_ReferenceIdeal : Cert.quiescent_ReferenceIdeal (hReferenceIdeal := Cert.ReferenceIdeal.Gen.facts) :=
  fun m g _ => (θ_run _ _ _).mono (fun r h => ⟨fun c => (h c).2.2.2, sem_eq_zero_of_no_sems (by decide) r.2⟩)
    (Cert.ReferenceIdeal.Value.run m g)

/-- The two named constants stand for the words that the kernel holds. -/
theorem preserves : Cert.preserves_Kernel_KernelIdeal :=
  ⟨IdealRules.named_const.statement Cert.KernelIdeal.κ "score_scale_log2" .f32 0x3DD53B95#32
      (((Real.sqrt 192)⁻¹ * (Real.log 2)⁻¹ : ℝ) : EReal) rfl,
    IdealRules.named_const.statement Cert.KernelIdeal.κ "score_scale" .f32 0x3D93CD3A#32 (((Real.sqrt 192)⁻¹ : ℝ) : EReal) rfl⟩

end Cert.Proof

end
-- ==== Proof.Attn.lean ====
/-
  Causal softmax attention and its gradients over the reals, for one head. A row or column is a natural number; outside the
  arrays the numbers are zero, so that a head's 192 columns may be summed as 256.
-/
module

public import Idealize.ShloMosaic.PureOps.Ideal.Laws
public import Idealize.ShloMosaic.Lib.ValueIdx

@[expose] public section

noncomputable section

namespace Cert.Proof.Attn

open Finset

/-- A sum of reals, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

/-- A sum of extended reals that are all real, over the first `n` numbers. -/
theorem sum_coe {n : ℕ} (f : Fin n → EReal) (g : ℕ → ℝ) (h : ∀ i : Fin n, f i = (g i.val : EReal)) :
    ∑ i, f i = ((∑ i ∈ range n, g i : ℝ) : EReal) := by
  rw [coe_sum, sum_range]
  exact sum_congr rfl fun i _ => h i

/-- One head's queries, keys, values and the cotangent of its output. -/
structure Head where
  q : ℕ → ℕ → ℝ
  k : ℕ → ℕ → ℝ
  v : ℕ → ℕ → ℝ
  o : ℕ → ℕ → ℝ

/-- The score scale, one over the root of the head's width. -/
def c1 : ℝ := (Real.sqrt 192)⁻¹

variable (H : Head)

/-- The score of query `i` and key `j`. -/
def sc (i j : ℕ) : ℝ := (∑ d ∈ range 256, H.q i d * H.k j d) * c1
/-- What the exponentials of a row add up to, its scores shifted by `M`. -/
def den (M : ℝ) (i : ℕ) : ℝ := ∑ j ∈ range 8192, if j ≤ i then Real.exp (sc H i j - M) else 0
/-- The probability of key `j` for query `i`, for `j ≤ i`. -/
def pr (i j : ℕ) : ℝ := Real.exp (sc H i j) / den H 0 i
/-- The same, zero for a key after the query. -/
def pm (i j : ℕ) : ℝ := if j ≤ i then pr H i j else 0
/-- The cotangent of the probability. -/
def gr (i j : ℕ) : ℝ := ∑ d ∈ range 128, H.o i d * H.v j d
/-- Its mean over a row. -/
def dl (i : ℕ) : ℝ := ∑ j ∈ range 8192, pm H i j * gr H i j
/-- The cotangent of the scaled score, for `j ≤ i`. -/
def ds (i j : ℕ) : ℝ := pr H i j * (gr H i j - dl H i)
/-- The same, zero for a key after the query. -/
def st (i j : ℕ) : ℝ := if j ≤ i then ds H i j else 0

/-- The gradient of q. -/
def gq (i d : ℕ) : ℝ := ∑ j ∈ range 8192, st H i j * H.k j d * c1
/-- The gradient of k. -/
def gk (j d : ℕ) : ℝ := ∑ i ∈ range 8192, st H i j * H.q i d * c1
/-- The gradient of v. -/
def gv (j d : ℕ) : ℝ := ∑ i ∈ range 8192, pm H i j * H.o i d

/-- A shift of a row's scores scales its sum. -/
theorem den_shift (M : ℝ) (i : ℕ) : den H M i = den H 0 i * Real.exp (-M) := by
  unfold den
  rw [sum_mul]
  refine sum_congr rfl fun j _ => ?_
  split
  · rw [← Real.exp_add]; congr 1; ring
  · ring

/-- The key at the query itself counts, so the sum is positive. -/
theorem den_pos (M : ℝ) (i : ℕ) (hi : i < 8192) : 0 < den H M i := by
  unfold den
  refine sum_pos' (fun j _ => ?_) ⟨i, mem_range.mpr hi, ?_⟩
  · split
    · exact (Real.exp_pos _).le
    · exact le_refl _
  · rw [if_pos (le_refl i)]; exact Real.exp_pos _

/-- The probability does not see the shift. -/
theorem pr_shift (M : ℝ) (i j : ℕ) (hi : i < 8192) : Real.exp (sc H i j - M) / den H M i = pr H i j := by
  have h0 := (den_pos H 0 i hi).ne'
  have he := (Real.exp_pos (-M)).ne'
  rw [den_shift, sub_eq_add_neg, Real.exp_add, mul_div_mul_right _ _ he, pr]

theorem log_two_ne : Real.log 2 ≠ 0 := (Real.log_pos one_lt_two).ne'

/-- The kernel's probability: two to the power of the score less the row's log-sum, both in units of log 2. -/
theorem pow_eq (M : ℝ) (i j : ℕ) (hi : i < 8192) :
    Real.rpow 2 ((∑ d ∈ range 256, H.q i d * H.k j d) * ((Real.sqrt 192)⁻¹ * (Real.log 2)⁻¹) - (M + Real.log (den H M i)) * (Real.log 2)⁻¹) = pr H i j := by
  have hl := log_two_ne
  have e : (∑ d ∈ range 256, H.q i d * H.k j d) * ((Real.sqrt 192)⁻¹ * (Real.log 2)⁻¹) - (M + Real.log (den H M i)) * (Real.log 2)⁻¹
      = (sc H i j - M - Real.log (den H M i)) * (Real.log 2)⁻¹ := by
    unfold sc c1; ring
  rw [e]
  rw [Real.rpow_eq_pow, Real.rpow_def_of_pos two_pos, mul_comm (Real.log 2), mul_assoc, inv_mul_cancel₀ hl, mul_one, Real.exp_sub,
    Real.exp_log (den_pos H M i hi), pr_shift H M i j hi]

/-- A row's masked exponential over its sum. -/
theorem pm_shift (M : ℝ) (i j : ℕ) (hi : i < 8192) :
    (if j ≤ i then Real.exp (sc H i j - M) else 0) / den H M i = pm H i j := by
  unfold pm
  split
  · exact pr_shift H M i j hi
  · exact zero_div _

/-- The kernel's row mean: the cotangent against the attention's output. -/
theorem delta_eq (i : ℕ) :
    ∑ d ∈ range 128, H.o i d * (∑ j ∈ range 8192, H.v j d * pm H i j) = dl H i := by
  unfold dl gr
  simp only [mul_sum]
  rw [sum_comm]
  exact sum_congr rfl fun j _ => sum_congr rfl fun d _ => by ring

/-- The reference's softmax gradient: the quotient rule with the sum in the denominator. -/
theorem quot_eq (M : ℝ) (i j : ℕ) (hi : i < 8192) :
    (gr H i j / den H M i + -(∑ l ∈ range 8192, gr H i l * (1 / (den H M i * den H M i)) * (if l ≤ i then Real.exp (sc H i l - M) else 0)))
      * (if j ≤ i then Real.exp (sc H i j - M) else 0) = st H i j := by
  have hd := (den_pos H M i hi).ne'
  unfold st
  split
  · have e : ∑ l ∈ range 8192, gr H i l * (1 / (den H M i * den H M i)) * (if l ≤ i then Real.exp (sc H i l - M) else 0) = dl H i / den H M i := by
      unfold dl
      rw [sum_div]
      refine sum_congr rfl fun l _ => ?_
      rw [← pm_shift H M i l hi]
      generalize (if l ≤ i then Real.exp (sc H i l - M) else 0) = x
      field_simp
    rw [e]
    unfold ds
    rw [← pr_shift H M i j hi]
    field_simp
    ring
  · exact mul_zero _

end Cert.Proof.Attn

end
-- ==== Proof.PaysI.lean ====
/-
  The kernel's block operations over the extended reals, on blocks whose numbers are all real: each is the real operation.
-/
module

public import proofs.«01_k».proof.Proof.Attn
public import proofs.«01_k».proof.Proof.Gen.KernelIdeal.Skeleton
public import Idealize.ShloMosaic.Lib.Pipeline.Value
public import Idealize.ShloMosaic.Lib.ValueIdx
public import Idealize.ShloMosaic.PureOps.Ideal.Laws
public import Idealize.ShloMosaic.PureOps.IdealRules

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx
open Finset Cert.Proof.Attn

/-- The block holds the reals `f`. -/
def Is2 {n0 n1 : ℕ} (X : (⟨2, ![n0, n1]⟩ : Shape).Idx → EReal) (f : ℕ → ℕ → ℝ) : Prop :=
  ∀ (a : Fin n0) (b : Fin n1), X (ix2 a b) = ((f a.val b.val : ℝ) : EReal)

/-- The row vector holds the reals `f`. -/
def IsRow {n : ℕ} (X : (⟨3, ![1, 1, n]⟩ : Shape).Idx → EReal) (f : ℕ → ℝ) : Prop :=
  ∀ b : Fin n, X (ix3 0 0 b) = ((f b.val : ℝ) : EReal)

section Dots
variable (A : FVec Ideal S512x256 .bf16) (B : FVec Ideal S512x256 .bf16) (A' B' : FVec Ideal S512x128 .bf16) (P : FVec Ideal S512x512 .bf16)

abbrev dd1 := dot_S512x256_S512x256_S512x512_1_1_0_0_n_n
abbrev dd2 := dot_S512x128_S512x128_S512x512_1_1_0_0_n_n
abbrev dd3 := dot_S512x512_S512x128_S512x128_1_0_0_1_n_n
abbrev dd4 := dot_S512x512_S512x256_S512x256_1_0_0_1_n_n
abbrev dd5 := dot_S512x512_S512x256_S512x256_0_0_1_1_n_n

theorem dot1 (a b : Fin 512) : matmul dd1 none A B (constant S512x512 .f32 0x00000000#32) (ix2 a b) = ∑ k : Fin 256, A (ix2 a k) * B (ix2 b k) := by
  simp only [matmul]
  rw [Ideal.matmul_constant_zero_apply, ← Equiv.sum_comp (contrEquiv1 dd1 256 rfl rfl).symm]
  refine Finset.sum_congr rfl fun k _ => ?_
  have hk := contrEquiv1_symm_val dd1 256 rfl rfl k
  have el : dd1.lhsIdx (ix2 a b) ((contrEquiv1 dd1 256 rfl rfl).symm k) = ix2 a k := funext fun x => Fin.ext (by
    match x with
    | ⟨0, _⟩ =>
      show (DotDims.lhsIdx dd1 (ix2 a b) _ 0).val = _
      unfold DotDims.lhsIdx
      rw [dif_neg (by decide), dif_pos (by decide)]; rfl
    | ⟨1, _⟩ => exact (DotDims.lhsIdx_val_of_single dd1 rfl _ _).trans hk)
  have er : dd1.rhsIdx (ix2 a b) ((contrEquiv1 dd1 256 rfl rfl).symm k) = ix2 b k := funext fun x => Fin.ext (by
    match x with
    | ⟨0, _⟩ =>
      show (DotDims.rhsIdx dd1 (ix2 a b) _ 0).val = _
      unfold DotDims.rhsIdx
      rw [dif_neg (by decide), dif_pos (by decide)]; rfl
    | ⟨1, _⟩ => exact (DotDims.rhsIdx_val_of_single dd1 rfl _ _).trans hk)
  rw [el, er]

theorem dot2 (a b : Fin 512) : matmul dd2 none A' B' (constant S512x512 .f32 0x00000000#32) (ix2 a b) = ∑ k : Fin 128, A' (ix2 a k) * B' (ix2 b k) := by
  simp only [matmul]
  rw [Ideal.matmul_constant_zero_apply, ← Equiv.sum_comp (contrEquiv1 dd2 128 rfl rfl).symm]
  refine Finset.sum_congr rfl fun k _ => ?_
  have hk := contrEquiv1_symm_val dd2 128 rfl rfl k
  have el : dd2.lhsIdx (ix2 a b) ((contrEquiv1 dd2 128 rfl rfl).symm k) = ix2 a k := funext fun x => Fin.ext (by
    match x with
    | ⟨0, _⟩ =>
      show (DotDims.lhsIdx dd2 (ix2 a b) _ 0).val = _
      unfold DotDims.lhsIdx
      rw [dif_neg (by decide), dif_pos (by decide)]; rfl
    | ⟨1, _⟩ => exact (DotDims.lhsIdx_val_of_single dd2 rfl _ _).trans hk)
  have er : dd2.rhsIdx (ix2 a b) ((contrEquiv1 dd2 128 rfl rfl).symm k) = ix2 b k := funext fun x => Fin.ext (by
    match x with
    | ⟨0, _⟩ =>
      show (DotDims.rhsIdx dd2 (ix2 a b) _ 0).val = _
      unfold DotDims.rhsIdx
      rw [dif_neg (by decide), dif_pos (by decide)]; rfl
    | ⟨1, _⟩ => exact (DotDims.rhsIdx_val_of_single dd2 rfl _ _).trans hk)
  rw [el, er]

theorem dot3 (a : Fin 512) (d : Fin 128) : matmul dd3 none P B' (constant S512x128 .f32 0x00000000#32) (ix2 a d) = ∑ k : Fin 512, P (ix2 a k) * B' (ix2 k d) := by
  simp only [matmul]
  rw [Ideal.matmul_constant_zero_apply, ← Equiv.sum_comp (contrEquiv1 dd3 512 rfl rfl).symm]
  refine Finset.sum_congr rfl fun k _ => ?_
  have hk := contrEquiv1_symm_val dd3 512 rfl rfl k
  have el : dd3.lhsIdx (ix2 a d) ((contrEquiv1 dd3 512 rfl rfl).symm k) = ix2 a k := funext fun x => Fin.ext (by
    match x with
    | ⟨0, _⟩ =>
      show (DotDims.lhsIdx dd3 (ix2 a d) _ 0).val = _
      unfold DotDims.lhsIdx
      rw [dif_neg (by decide), dif_pos (by decide)]; rfl
    | ⟨1, _⟩ => exact (DotDims.lhsIdx_val_of_single dd3 rfl _ _).trans hk)
  have er : dd3.rhsIdx (ix2 a d) ((contrEquiv1 dd3 512 rfl rfl).symm k) = ix2 k d := funext fun x => Fin.ext (by
    match x with
    | ⟨0, _⟩ => exact (DotDims.rhsIdx_val_of_single dd3 rfl _ _).trans hk
    | ⟨1, _⟩ =>
      show (DotDims.rhsIdx dd3 (ix2 a d) _ 1).val = _
      unfold DotDims.rhsIdx
      rw [dif_neg (by decide), dif_pos (by decide)]; rfl)
  rw [el, er]

theorem dot4 (a : Fin 512) (d : Fin 256) : matmul dd4 none P B (constant S512x256 .f32 0x00000000#32) (ix2 a d) = ∑ k : Fin 512, P (ix2 a k) * B (ix2 k d) := by
  simp only [matmul]
  rw [Ideal.matmul_constant_zero_apply, ← Equiv.sum_comp (contrEquiv1 dd4 512 rfl rfl).symm]
  refine Finset.sum_congr rfl fun k _ => ?_
  have hk := contrEquiv1_symm_val dd4 512 rfl rfl k
  have el : dd4.lhsIdx (ix2 a d) ((contrEquiv1 dd4 512 rfl rfl).symm k) = ix2 a k := funext fun x => Fin.ext (by
    match x with
    | ⟨0, _⟩ =>
      show (DotDims.lhsIdx dd4 (ix2 a d) _ 0).val = _
      unfold DotDims.lhsIdx
      rw [dif_neg (by decide), dif_pos (by decide)]; rfl
    | ⟨1, _⟩ => exact (DotDims.lhsIdx_val_of_single dd4 rfl _ _).trans hk)
  have er : dd4.rhsIdx (ix2 a d) ((contrEquiv1 dd4 512 rfl rfl).symm k) = ix2 k d := funext fun x => Fin.ext (by
    match x with
    | ⟨0, _⟩ => exact (DotDims.rhsIdx_val_of_single dd4 rfl _ _).trans hk
    | ⟨1, _⟩ =>
      show (DotDims.rhsIdx dd4 (ix2 a d) _ 1).val = _
      unfold DotDims.rhsIdx
      rw [dif_neg (by decide), dif_pos (by decide)]; rfl)
  rw [el, er]

theorem dot5 (b : Fin 512) (d : Fin 256) : matmul dd5 none P B (constant S512x256 .f32 0x00000000#32) (ix2 b d) = ∑ k : Fin 512, P (ix2 k b) * B (ix2 k d) := by
  simp only [matmul]
  rw [Ideal.matmul_constant_zero_apply, ← Equiv.sum_comp (contrEquiv1 dd5 512 rfl rfl).symm]
  refine Finset.sum_congr rfl fun k _ => ?_
  have hk := contrEquiv1_symm_val dd5 512 rfl rfl k
  have el : dd5.lhsIdx (ix2 b d) ((contrEquiv1 dd5 512 rfl rfl).symm k) = ix2 k b := funext fun x => Fin.ext (by
    match x with
    | ⟨0, _⟩ => exact (DotDims.lhsIdx_val_of_single dd5 rfl _ _).trans hk
    | ⟨1, _⟩ =>
      show (DotDims.lhsIdx dd5 (ix2 b d) _ 1).val = _
      unfold DotDims.lhsIdx
      rw [dif_neg (by decide), dif_pos (by decide)]; rfl)
  have er : dd5.rhsIdx (ix2 b d) ((contrEquiv1 dd5 512 rfl rfl).symm k) = ix2 k d := funext fun x => Fin.ext (by
    match x with
    | ⟨0, _⟩ => exact (DotDims.rhsIdx_val_of_single dd5 rfl _ _).trans hk
    | ⟨1, _⟩ =>
      show (DotDims.rhsIdx dd5 (ix2 b d) _ 1).val = _
      unfold DotDims.rhsIdx
      rw [dif_neg (by decide), dif_pos (by decide)]; rfl)
  rw [el, er]

end Dots

/-! ## The named constants, the casts, a row spread over a block -/

theorem scale2_eq : (Named.named κ "score_scale_log2" 0x3DD53B95#32 : Ideal .f32) = (((Real.sqrt 192)⁻¹ * (Real.log 2)⁻¹ : ℝ) : EReal) :=
  IdealRules.named_const.ideal_named_scalar κ "score_scale_log2" _ _ rfl
theorem scale_eq : (Named.named κ "score_scale" 0x3D93CD3A#32 : Ideal .f32) = ((c1 : ℝ) : EReal) :=
  IdealRules.named_const.ideal_named_scalar κ "score_scale" _ _ rfl

theorem row_apply (D : Vec Ideal S1x1x512 .f32) (a b : Fin 512) :
    broadcastTo S512x512 (shapeCast S1x512 D shapeCasts_S1x1x512_S1x512) broadcasts_S1x512_S512x512 (ix2 a b) = D (ix3 0 0 b) := by
  refine (broadcastTo_apply _ broadcasts_S1x512_S512x512 (ix2 a b) (ix2 (n0 := 1) (n1 := 512) 0 b) ?_).trans ?_
  · intro x
    match x with
    | ⟨0, _⟩ => rfl
    | ⟨1, _⟩ => rfl
  · exact shapeCast_apply D shapeCasts_S1x1x512_S1x512 (ix2 (n0 := 1) (n1 := 512) 0 b) (ix3 (n0 := 1) (n1 := 1) (n2 := 512) 0 0 b) (by
      rewrite [Shape.rowMajor_val_two, Shape.rowMajor_val_three]; rfl)

theorem pay1_eq (X : Vec Ideal S512x256 .bf16) : k0_pay1 X = X := shapeCast_self _ _
theorem pay2_eq (X : Vec Ideal S512x128 .bf16) : k0_pay2 X = X := shapeCast_self _ _
theorem pay40_eq (X : Vec Ideal S512x256 .bf16) : k0_pay40 X = X := shapeCast_self _ _
theorem pay41_eq (X : Vec Ideal S512x128 .bf16) : k0_pay41 X = X := shapeCast_self _ _
theorem pay42_eq (X : Vec Ideal S512x256 .bf16) : k0_pay42 X = X := shapeCast_self _ _
theorem pay43_eq (X : Vec Ideal S512x128 .bf16) : k0_pay43 X = X := shapeCast_self _ _
theorem pay10_eq (X : FVec Ideal S512x128 .f32) : k0_pay10 X = X := shapeCast_self _ _

/-! ## Products of real blocks -/

section Real
variable {A B : FVec Ideal S512x256 .bf16} {A' B' : FVec Ideal S512x128 .bf16} {P : FVec Ideal S512x512 .bf16}
variable {f g : ℕ → ℕ → ℝ}

theorem is1 (hA : Is2 A f) (hB : Is2 B g) :
    Is2 (matmul dot_S512x256_S512x256_S512x512_1_1_0_0_n_n none A B (constant S512x512 .f32 0x00000000#32) : FVec Ideal S512x512 .f32) fun a b => ∑ d ∈ range 256, f a d * g b d := fun a b =>
  (dot1 A B a b).trans (sum_coe _ _ fun d => by rw [hA, hB, EReal.coe_mul])

theorem is2 (hA : Is2 A' f) (hB : Is2 B' g) :
    Is2 (matmul dot_S512x128_S512x128_S512x512_1_1_0_0_n_n none A' B' (constant S512x512 .f32 0x00000000#32) : FVec Ideal S512x512 .f32) fun a b => ∑ d ∈ range 128, f a d * g b d := fun a b =>
  (dot2 A' B' a b).trans (sum_coe _ _ fun d => by rw [hA, hB, EReal.coe_mul])

theorem is3 (hA : Is2 P f) (hB : Is2 B' g) :
    Is2 (matmul dot_S512x512_S512x128_S512x128_1_0_0_1_n_n none P B' (constant S512x128 .f32 0x00000000#32) : FVec Ideal S512x128 .f32) fun a d => ∑ b ∈ range 512, f a b * g b d := fun a b =>
  (dot3 B' P a b).trans (sum_coe _ _ fun d => by rw [hA, hB, EReal.coe_mul])

theorem is4 (hA : Is2 P f) (hB : Is2 B g) :
    Is2 (matmul dot_S512x512_S512x256_S512x256_1_0_0_1_n_n none P B (constant S512x256 .f32 0x00000000#32) : FVec Ideal S512x256 .f32) fun a d => ∑ b ∈ range 512, f a b * g b d := fun a b =>
  (dot4 B P a b).trans (sum_coe _ _ fun d => by rw [hA, hB, EReal.coe_mul])

theorem is5 (hA : Is2 P f) (hB : Is2 B g) :
    Is2 (matmul dot_S512x512_S512x256_S512x256_0_0_1_1_n_n none P B (constant S512x256 .f32 0x00000000#32) : FVec Ideal S512x256 .f32) fun b d => ∑ a ∈ range 512, f a b * g a d := fun a b =>
  (dot5 B P a b).trans (sum_coe _ _ fun d => by rw [hA, hB, EReal.coe_mul])

end Real

/-! ## The payloads -/

section Pays
variable {K Q : Vec Ideal S512x256 .bf16} {V O : Vec Ideal S512x128 .bf16} {L D : Vec Ideal S1x1x512 .f32}
variable {G P : FVec Ideal S512x512 .f32} {S : Vec Ideal S512x256 .f32} {S' : Vec Ideal S512x128 .f32}
variable {k q v o g p s : ℕ → ℕ → ℝ} {l dlt : ℕ → ℝ}

/-- The probability that the kernel computes from a key row, a query row and a row's log-sum. -/
def prob (k q : ℕ → ℕ → ℝ) (l : ℕ → ℝ) (a b : ℕ) : ℝ :=
  Real.rpow 2 ((∑ d ∈ range 256, k a d * q b d) * ((Real.sqrt 192)⁻¹ * (Real.log 2)⁻¹) - l b)

theorem pay3_is (hV : Is2 V v) (hO : Is2 O o) : Is2 (k0_pay3 V O) fun a b => ∑ d ∈ range 128, v a d * o b d := by
  unfold k0_pay3
  rw [pay2_eq]
  exact is2 hV hO

theorem pay44_is (hV : Is2 V v) (hO : Is2 O o) : Is2 (k0_pay44 V O) fun a b => ∑ d ∈ range 128, v a d * o b d := by
  unfold k0_pay44
  rw [pay41_eq, pay43_eq]
  exact is2 hV hO

theorem exp2_is {X : FVec Ideal S512x512 .f32} {f : ℕ → ℕ → ℝ} (hX : Is2 X f) (hL : IsRow L l) :
    Is2 (exp2 (subf (mulf X (broadcast S512x512 (Named.named κ "score_scale_log2" 0x3DD53B95#32 : Ideal .f32)))
        (broadcastTo S512x512 (shapeCast S1x512 L shapeCasts_S1x1x512_S1x512) broadcasts_S1x512_S512x512)) : FVec Ideal S512x512 .f32)
      fun a b => Real.rpow 2 (f a b * ((Real.sqrt 192)⁻¹ * (Real.log 2)⁻¹) - l b) := fun a b => by
  show Ideal.exp2 (X (ix2 a b) * (Named.named κ "score_scale_log2" 0x3DD53B95#32 : Ideal .f32)
    - broadcastTo S512x512 (shapeCast S1x512 L shapeCasts_S1x1x512_S1x512) broadcasts_S1x512_S512x512 (ix2 a b)) = _
  rw [row_apply, hX, hL, scale2_eq, ← EReal.coe_mul, ← EReal.coe_sub, Ideal.exp2_coe]

theorem pay8_is (hK : Is2 K k) (hQ : Is2 Q q) (hL : IsRow L l) : Is2 (k0_pay8 K Q L) (prob k q l) := by
  unfold k0_pay8
  rw [pay1_eq]
  exact exp2_is (is1 hK hQ) hL

theorem pay45_is (hK : Is2 K k) (hQ : Is2 Q q) (hL : IsRow L l) : Is2 (k0_pay45 K Q L) (prob k q l) := by
  unfold k0_pay45
  rw [pay40_eq, pay42_eq]
  exact exp2_is (is1 hK hQ) hL

theorem pay9_is (hK : Is2 K k) (hQ : Is2 Q q) (hL : IsRow L l) (hO : Is2 O o) (hS : Is2 S' s) :
    Is2 (k0_pay9 K Q O L S') fun a d => s a d + ∑ b ∈ range 512, prob k q l a b * o b d := fun a d => by
  have h := is3 (P := truncf .bf16 (k0_pay8 K Q L) bitsLt_bf16_f32) (pay8_is hK hQ hL) hO a d
  unfold k0_pay9
  rw [pay2_eq]
  refine (congrArg (fun x : EReal => (S' (ix2 a d) : EReal) + x) h).trans ?_
  rw [hS, ← EReal.coe_add]

theorem pay11_is (hG : Is2 G g) (hP : Is2 P p) (hD : IsRow D dlt) : Is2 (k0_pay11 G P D) fun a b => p a b * (g a b - dlt b) := fun a b => by
  show P (ix2 a b) * (G (ix2 a b) - broadcastTo S512x512 (shapeCast S1x512 D shapeCasts_S1x1x512_S1x512) broadcasts_S1x512_S512x512 (ix2 a b)) = _
  rw [row_apply, hP, hG, hD, ← EReal.coe_sub, ← EReal.coe_mul]

theorem scaled_is {X : FVec Ideal S512x256 .f32} {f : ℕ → ℕ → ℝ} (hX : Is2 X f) (hS : Is2 S s) :
    Is2 (addf S (mulf X (broadcast S512x256 (Named.named κ "score_scale" 0x3D93CD3A#32 : Ideal .f32))) : FVec Ideal S512x256 .f32)
      fun a d => s a d + f a d * c1 := fun a d => by
  show S (ix2 a d) + X (ix2 a d) * (Named.named κ "score_scale" 0x3D93CD3A#32 : Ideal .f32) = _
  rw [hX, hS, scale_eq, ← EReal.coe_mul, ← EReal.coe_add]

theorem pay12_is (hQ : Is2 Q q) (hG : Is2 G g) (hP : Is2 P p) (hD : IsRow D dlt) (hS : Is2 S s) :
    Is2 (k0_pay12 Q G P D S) fun a d => s a d + (∑ b ∈ range 512, p a b * (g a b - dlt b) * q b d) * c1 := by
  unfold k0_pay12
  dsimp only
  rw [shapeCast_self]
  exact scaled_is (is4 (pay11_is hG hP hD) hQ) hS

theorem pay13_is (hK : Is2 K k) (hG : Is2 G g) (hP : Is2 P p) (hD : IsRow D dlt) (hS : Is2 S s) :
    Is2 (k0_pay13 K G P D S) fun b d => s b d + (∑ a ∈ range 512, p a b * (g a b - dlt b) * k a d) * c1 := by
  unfold k0_pay13
  dsimp only
  rw [shapeCast_self]
  exact scaled_is (is5 (pay11_is hG hP hD) hK) hS

/-! ## The diagonal block -/

abbrev ixRow : IVec S512x512 32 := iota Kind.tc S512x512 32 [0] iota_S512x512_d0_w32
abbrev ixCol : IVec S512x512 32 := iota Kind.tc S512x512 32 [1] iota_S512x512_d1_w32

theorem toInt_small (n : ℕ) (h : n < 8192) : (BitVec.ofNat 32 n).toInt = n := by
  rw [BitVec.toInt_eq_toNat_of_lt] <;> rw [BitVec.toNat_ofNat] <;> omega

theorem ix_slt (a b : ℕ) (ha : a < 8192) (hb : b < 8192) :
    IntOp.cmpi .sgt (BitVec.ofNat 32 a) (BitVec.ofNat 32 b) = if b < a then 1#1 else 0#1 := by
  show BitVec.ofBool ((BitVec.ofNat 32 b).slt (BitVec.ofNat 32 a)) = _
  unfold BitVec.slt
  rw [toInt_small a ha, toInt_small b hb]
  by_cases h : b < a
  · rw [if_pos h, decide_eq_true (by omega)]; rfl
  · rw [if_neg h, decide_eq_false (by omega)]; rfl

theorem pay46_is (hP : Is2 P p) : Is2 (k0_pay46 P ixRow ixCol) fun a b => if a ≤ b then p a b else 0 := fun a b => by
  show Scalar.select (IntOp.cmpi .sgt (ixRow (ix2 a b)) (ixCol (ix2 a b))) (Scalar.ofBits .f32 0x00000000#32 : Ideal .f32) (P (ix2 a b)) = _
  rw [show ixRow (ix2 a b) = BitVec.ofNat 32 a.val from iota_single_apply .tc S512x512 32 0 iota_S512x512_d0_w32 (ix2 a b),
    show ixCol (ix2 a b) = BitVec.ofNat 32 b.val from iota_single_apply .tc S512x512 32 1 iota_S512x512_d1_w32 (ix2 a b)]
  show Scalar.select (IntOp.cmpi .sgt (BitVec.ofNat 32 a.val) (BitVec.ofNat 32 b.val)) (Ideal.ofBits .f32 0x00000000#32) (P (ix2 a b)) = _
  rw [ix_slt _ _ (by omega) (by omega)]
  dsimp only
  by_cases h : a.val ≤ b.val
  · rw [if_neg (by omega), if_pos h, select_zero, hP]
  · rw [if_pos (by omega), if_neg h, select_one, Ideal.ofBits_zero_f32, EReal.coe_zero]

theorem pay47_is (hO : Is2 O o) (hP : Is2 P p) (hS : Is2 S' s) :
    Is2 (k0_pay47 O P ixRow ixCol S') fun a d => s a d + ∑ b ∈ range 512, (if a ≤ b then p a b else 0) * o b d := fun a d => by
  have h := is3 (P := truncf .bf16 (k0_pay46 P ixRow ixCol) bitsLt_bf16_f32) (pay46_is hP) hO a d
  unfold k0_pay47
  dsimp only
  rw [shapeCast_self]
  refine (congrArg (fun x : EReal => (S' (ix2 a d) : EReal) + x) h).trans ?_
  rw [hS, ← EReal.coe_add]

theorem pay48_is (hG : Is2 G g) (hP : Is2 P p) (hD : IsRow D dlt) :
    Is2 (k0_pay48 G P ixRow ixCol D) fun a b => (if a ≤ b then p a b else 0) * (g a b - dlt b) := fun a b => by
  show k0_pay46 P ixRow ixCol (ix2 a b) * (G (ix2 a b) - broadcastTo S512x512 (shapeCast S1x512 D shapeCasts_S1x1x512_S1x512) broadcasts_S1x512_S512x512 (ix2 a b)) = _
  rw [row_apply, pay46_is hP, hG, hD, ← EReal.coe_sub, ← EReal.coe_mul]

theorem pay49_is (hQ : Is2 Q q) (hG : Is2 G g) (hP : Is2 P p) (hD : IsRow D dlt) (hS : Is2 S s) :
    Is2 (k0_pay49 Q G P ixRow ixCol D S) fun a d => s a d + (∑ b ∈ range 512, (if a ≤ b then p a b else 0) * (g a b - dlt b) * q b d) * c1 := by
  unfold k0_pay49
  dsimp only
  rw [shapeCast_self]
  exact scaled_is (is4 (pay48_is hG hP hD) hQ) hS

theorem pay50_is (hK : Is2 K k) (hG : Is2 G g) (hP : Is2 P p) (hD : IsRow D dlt) (hS : Is2 S s) :
    Is2 (k0_pay50 K G P ixRow ixCol D S) fun b d => s b d + (∑ a ∈ range 512, (if a ≤ b then p a b else 0) * (g a b - dlt b) * k a d) * c1 := by
  unfold k0_pay50
  dsimp only
  rw [shapeCast_self]
  exact scaled_is (is5 (pay48_is hG hP hD) hK) hS

theorem pay37_is : Is2 (k0_pay37 : FVec Ideal S8192x256 .f32) fun _ _ => 0 := fun _ _ => Ideal.ofBits_zero_f32
theorem pay38_is : Is2 (k0_pay38 : FVec Ideal S512x256 .f32) fun _ _ => 0 := fun _ _ => by
  unfold k0_pay38
  dsimp only
  rw [shapeCast_self]
  exact Ideal.ofBits_zero_f32
theorem pay39_is : Is2 (k0_pay39 : FVec Ideal S512x128 .f32) fun _ _ => 0 := fun _ _ => by
  unfold k0_pay39
  dsimp only
  rw [shapeCast_self]
  exact Ideal.ofBits_zero_f32

end Pays

end Cert.Proof.KernelIdeal

end
-- ==== Proof.SweepI.lean ====
/-
  What one point of the grid leaves, over the reals: the gradients of k and v of its key block are complete, and the
  gradient of q has gained the block's part.
-/
module

public import proofs.«01_k».proof.Proof.PaysI
public import proofs.«01_k».proof.Proof.ValuesI

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx Idealize.ShloMosaic.VecWindow
open Finset Cert.Proof.Attn

theorem Is2.congr {n0 n1 : ℕ} {X : (⟨2, ![n0, n1]⟩ : Shape).Idx → EReal} {f g : ℕ → ℕ → ℝ} (h : Is2 X f)
    (e : ∀ a b, a < n0 → b < n1 → f a b = g a b) : Is2 X g := fun a b => by rw [h, e _ _ a.isLt b.isLt]

/-! ## Windows -/

theorem emb_rows {n : ℕ} (b : Fin 16) (inb) (r : Fin 512) (d : Fin n) (h : 512 * b.val + r.val < 8192) :
    (Rect.unit (s := ⟨2, ![8192, n]⟩) ![512 * b.val, 0] ![512, n] inb).emb (ix2 (n0 := 512) (n1 := n) r d) = ix2 ⟨512 * b.val + r.val, h⟩ d := by
  funext x
  match x with
  | ⟨0, _⟩ => exact Fin.ext (show 512 * b.val + 1 * r.val = _ by rw [one_mul])
  | ⟨1, _⟩ => exact Fin.ext (show 0 + 1 * d.val = _ by rw [one_mul, zero_add])

theorem qB_is {X : S8192x256.Idx → EReal} {f : ℕ → ℕ → ℝ} (h : Is2 X f) (b : Fin 16) :
    Is2 (qB X b) fun r d => f (512 * b.val + r) d := fun r d => by
  have hr : 512 * b.val + r.val < 8192 := by omega
  exact (congrArg X (emb_rows b (rows256 b) r d hr)).trans (h _ _)

theorem oB_is {X : S8192x128.Idx → EReal} {f : ℕ → ℕ → ℝ} (h : Is2 X f) (b : Fin 16) :
    Is2 (oB X b) fun r d => f (512 * b.val + r) d := fun r d => by
  have hr : 512 * b.val + r.val < 8192 := by omega
  exact (congrArg X (emb_rows b (rows128 b) r d hr)).trans (h _ _)

/-- The first of a row array's eight equal rows holds the reals `f`. -/
def IsRow8 (X : S1x8x8192.Idx → EReal) (f : ℕ → ℝ) : Prop := ∀ i : Fin 8192, X (ix3 (n0 := 1) (n1 := 8) (n2 := 8192) 0 0 i) = ((f i.val : ℝ) : EReal)

theorem lB_is {X : S1x8x8192.Idx → EReal} {f : ℕ → ℝ} (h : IsRow8 X f) (b : Fin 16) :
    IsRow (lB X b) fun r => f (512 * b.val + r) := fun r => by
  have hr : 512 * b.val + r.val < 8192 := by omega
  refine (congrArg X ?_).trans (h ⟨512 * b.val + r.val, hr⟩)
  funext x
  match x with
  | ⟨0, _⟩ => rfl
  | ⟨1, _⟩ => rfl
  | ⟨2, _⟩ => exact Fin.ext (show 512 * b.val + 1 * r.val = _ by rw [one_mul])

theorem put_is {X : S8192x256.Idx → EReal} {w : S512x256.Idx → EReal} {f g : ℕ → ℕ → ℝ} (h : Is2 X f) (b : Fin 16) (hw : Is2 w g) :
    Is2 (put (s := S8192x256) X ![512 * b.val, 0] S512x256.size w)
      fun i d => if 512 * b.val ≤ i ∧ i < 512 * b.val + 512 then g (i - 512 * b.val) d else f i d := fun i d => by
  show (if h : _ then w _ else X (ix2 i d)) = _
  by_cases hi : 512 * b.val ≤ i.val ∧ i.val < 512 * b.val + 512
  · have hall : ∀ a : Fin 2, (![512 * b.val, 0] : Fin 2 → ℕ) a ≤ ((ix2 i d : S8192x256.Idx) a).val
        ∧ ((ix2 i d : S8192x256.Idx) a).val < (![512 * b.val, 0] : Fin 2 → ℕ) a + S512x256.size a := fun a => by
      match a with
      | ⟨0, _⟩ => exact hi
      | ⟨1, _⟩ => exact ⟨Nat.zero_le _, by show d.val < 0 + 256; omega⟩
    rw [dif_pos hall]
    dsimp only
    rw [if_pos hi]
    refine (congrArg w ?_).trans (hw ⟨i.val - 512 * b.val, by omega⟩ d)
    funext x
    match x with
    | ⟨0, _⟩ => rfl
    | ⟨1, _⟩ => rfl
  · rw [dif_neg fun hall => hi (hall (0 : Fin 2))]
    dsimp only
    rw [if_neg hi, h]

/-! ## One block added -/

/-- The values hold the reals. -/
structure IsSt (s : St Ideal) (A B C : ℕ → ℕ → ℝ) : Prop where
  dq : Is2 s.dq A
  dk : Is2 s.dk B
  dv : Is2 s.dv C

section Point
variable {H : Head} {M : ℕ → ℝ} {j : ℕ}
variable {K : Vec Ideal S512x256 .bf16} {V : Vec Ideal S512x128 .bf16} {X2 : Vec Ideal S8192x256 .bf16} {X3 : Vec Ideal S8192x128 .bf16}
  {X4 X5 : Vec Ideal S1x8x8192 .f32}

/-- The blocks a point reads hold its head's reals. -/
structure IsIn (H : Head) (M : ℕ → ℝ) (j : ℕ) (K : Vec Ideal S512x256 .bf16) (V : Vec Ideal S512x128 .bf16) (X2 : Vec Ideal S8192x256 .bf16)
    (X3 : Vec Ideal S8192x128 .bf16) (X4 X5 : Vec Ideal S1x8x8192 .f32) : Prop where
  k : Is2 K fun a d => H.k (512 * j + a) d
  v : Is2 V fun a d => H.v (512 * j + a) d
  q : Is2 X2 H.q
  o : Is2 X3 H.o
  l : IsRow8 X4 fun i => (M i + Real.log (den H (M i) i)) * (Real.log 2)⁻¹
  d : IsRow8 X5 (dl H)

/-- The block's part of the gradient of q. -/
def tq (H : Head) (j i d : ℕ) : ℝ := ∑ a ∈ range 512, st H i (512 * j + a) * H.k (512 * j + a) d * c1

theorem prob_eq (b a r : ℕ) (h : 512 * b + r < 8192) :
    prob (fun a d => H.k (512 * j + a) d) (fun r d => H.q (512 * b + r) d)
      (fun r => (M (512 * b + r) + Real.log (den H (M (512 * b + r)) (512 * b + r))) * (Real.log 2)⁻¹) a r = pr H (512 * b + r) (512 * j + a) := by
  rw [← pow_eq H (M (512 * b + r)) _ (512 * j + a) h]
  unfold prob
  simp only [mul_comm (H.k _ _)]

theorem gr_eq (i jj : ℕ) : ∑ d ∈ range 128, H.v jj d * H.o i d = gr H i jj := by
  unfold gr
  simp only [mul_comm (H.v _ _)]

theorem acc_is (hin : IsIn H M j K V X2 X3 X4 X5) (b : Fin 16) (hb : j < b.val) {s : St Ideal} {A B C : ℕ → ℕ → ℝ} (hs : IsSt s A B C) :
    IsSt (acc (k0_pay40 K) (k0_pay41 V) X2 X3 X4 X5 b s)
      (fun i d => if 512 * b.val ≤ i ∧ i < 512 * b.val + 512 then A i d + tq H j i d else A i d)
      (fun a d => B a d + ∑ r ∈ range 512, st H (512 * b.val + r) (512 * j + a) * H.q (512 * b.val + r) d * c1)
      (fun a d => C a d + ∑ r ∈ range 512, pm H (512 * b.val + r) (512 * j + a) * H.o (512 * b.val + r) d) := by
  rw [pay40_eq, pay41_eq]
  have hQ := qB_is hin.q b
  have hO := oB_is hin.o b
  have hG := pay3_is hin.v hO
  have hP := pay8_is hin.k hQ (lB_is hin.l b)
  have hD := lB_is hin.d b
  refine ⟨?_, ?_, ?_⟩
  · refine (put_is hs.dq b (pay13_is hin.k hG hP hD (qB_is hs.dq b))).congr fun i d hi _ => ?_
    by_cases hw : 512 * b.val ≤ i ∧ i < 512 * b.val + 512
    · rw [if_pos hw, if_pos hw]
      have e : 512 * b.val + (i - 512 * b.val) = i := by omega
      unfold tq
      rw [e, sum_mul]
      congr 1
      refine sum_congr rfl fun a ha => ?_
      have ha' := mem_range.mp ha
      rw [prob_eq _ _ _ (by omega), gr_eq, e]
      unfold st ds
      rw [if_pos (by omega)]
    · rw [if_neg hw, if_neg hw]
  · have h := pay12_is (S := s.dk) hQ hG hP hD hs.dk
    refine Is2.congr (X := k0_pay12 (k0_pay1 (qB X2 b)) (k0_pay3 V (oB X3 b)) (k0_pay8 K (qB X2 b) (lB X4 b)) (lB X5 b) s.dk) (by rw [pay1_eq]; exact h) fun a d ha _ => ?_
    rw [sum_mul]
    congr 1
    refine sum_congr rfl fun r hr => ?_
    have hr' := mem_range.mp hr
    rw [prob_eq _ _ _ (by omega), gr_eq]
    unfold st ds
    rw [if_pos (by omega)]
  · have h := pay9_is (S' := s.dv) hin.k hQ (lB_is hin.l b) hO hs.dv
    refine Is2.congr (X := k0_pay10 (F := Ideal) (k0_pay9 (F := Ideal) K (qB X2 b) (oB X3 b) (lB X4 b) s.dv)) (by rw [pay10_eq]; exact h) fun a d ha _ => ?_
    congr 1
    refine sum_congr rfl fun r hr => ?_
    have hr' := mem_range.mp hr
    rw [prob_eq _ _ _ (by omega)]
    unfold pm
    rw [if_pos (by omega)]

theorem accD_is (hin : IsIn H M j K V X2 X3 X4 X5) (b : Fin 16) (hb : j = b.val) {s : St Ideal} {A B C : ℕ → ℕ → ℝ} (hs : IsSt s A B C) :
    IsSt (accD K V X2 X3 X4 X5 b s)
      (fun i d => if 512 * b.val ≤ i ∧ i < 512 * b.val + 512 then A i d + tq H j i d else A i d)
      (fun a d => B a d + ∑ r ∈ range 512, st H (512 * b.val + r) (512 * j + a) * H.q (512 * b.val + r) d * c1)
      (fun a d => C a d + ∑ r ∈ range 512, pm H (512 * b.val + r) (512 * j + a) * H.o (512 * b.val + r) d) := by
  have hQ := qB_is hin.q b
  have hO := oB_is hin.o b
  have hG := pay44_is hin.v hO
  have hP := pay45_is hin.k hQ (lB_is hin.l b)
  have hD := lB_is hin.d b
  refine ⟨?_, ?_, ?_⟩
  · refine Is2.congr (X := put (s := S8192x256) s.dq ![512 * b.val, 0] S512x256.size
        (k0_pay50 (k0_pay40 K) (k0_pay44 V (oB X3 b)) (k0_pay45 K (qB X2 b) (lB X4 b)) rowIx colIx (lB X5 b) (qB s.dq b)))
      (put_is hs.dq b (by rw [pay40_eq]; exact pay50_is hin.k hG hP hD (qB_is hs.dq b))) fun i d hi _ => ?_
    by_cases hw : 512 * b.val ≤ i ∧ i < 512 * b.val + 512
    · rw [if_pos hw, if_pos hw]
      have e : 512 * b.val + (i - 512 * b.val) = i := by omega
      unfold tq
      rw [e, sum_mul]
      congr 1
      refine sum_congr rfl fun a ha => ?_
      have ha' := mem_range.mp ha
      rw [prob_eq _ _ _ (by omega), gr_eq, e]
      unfold st ds
      by_cases hm : a ≤ i - 512 * b.val
      · rw [if_pos hm, if_pos (by omega)]
      · rw [if_neg hm, if_neg (by omega), zero_mul]
    · rw [if_neg hw, if_neg hw]
  · refine Is2.congr (X := k0_pay49 (k0_pay42 (qB X2 b)) (k0_pay44 V (oB X3 b)) (k0_pay45 K (qB X2 b) (lB X4 b)) rowIx colIx (lB X5 b) s.dk)
      (by rw [pay42_eq]; exact pay49_is hQ hG hP hD hs.dk) fun a d ha _ => ?_
    rw [sum_mul]
    congr 1
    refine sum_congr rfl fun r hr => ?_
    have hr' := mem_range.mp hr
    rw [prob_eq _ _ _ (by omega), gr_eq]
    unfold st ds
    by_cases hm : a ≤ r
    · rw [if_pos hm, if_pos (by omega)]
    · rw [if_neg hm, if_neg (by omega), zero_mul]
  · refine Is2.congr (X := k0_pay47 (k0_pay43 (oB X3 b)) (k0_pay45 K (qB X2 b) (lB X4 b)) rowIx colIx s.dv)
      (by rw [pay43_eq]; exact pay47_is hO hP hs.dv) fun a d ha _ => ?_
    congr 1
    refine sum_congr rfl fun r hr => ?_
    have hr' := mem_range.mp hr
    rw [prob_eq _ _ _ (by omega)]
    unfold pm
    by_cases hm : a ≤ r
    · rw [if_pos hm, if_pos (by omega)]
    · rw [if_neg hm, if_neg (by omega)]

/-! ## The whole point -/

theorem st_before (i a : ℕ) (h : i < 512 * j) : st H i (512 * j + a) = 0 := if_neg (by omega)
theorem pm_before (i a : ℕ) (h : i < 512 * j) : pm H i (512 * j + a) = 0 := if_neg (by omega)
theorem tq_before (i d : ℕ) (h : i < 512 * j) : tq H j i d = 0 := sum_eq_zero fun a _ => by rw [st_before i a h, zero_mul, zero_mul]

theorem sweep_is (hin : IsIn H M j K V X2 X3 X4 X5) (hj : j < 16) {dq : Vec Ideal S8192x256 .f32} {A : ℕ → ℕ → ℝ} (hA : Is2 dq A) : ∀ n, j + 1 + n ≤ 16 →
    IsSt (sweep (k0_pay40 K) (k0_pay41 V) X2 X3 X4 X5 j (accD K V X2 X3 X4 X5 ⟨j, hj⟩ ⟨dq, k0_pay38 (F := Ideal), k0_pay39 (F := Ideal)⟩) n)
      (fun i d => if i < 512 * (j + 1 + n) then A i d + tq H j i d else A i d)
      (fun a d => ∑ i ∈ range (512 * (j + 1 + n)), st H i (512 * j + a) * H.q i d * c1)
      (fun a d => ∑ i ∈ range (512 * (j + 1 + n)), pm H i (512 * j + a) * H.o i d)
  | 0, _ => by
    have h := accD_is hin ⟨j, hj⟩ rfl (s := ⟨dq, k0_pay38 (F := Ideal), k0_pay39 (F := Ideal)⟩) ⟨hA, pay38_is, pay39_is⟩
    have e : 512 * (j + 1 + 0) = 512 * j + 512 := by ring
    rw [e]
    refine ⟨h.dq.congr fun i d _ _ => ?_, h.dk.congr fun a d _ _ => ?_, h.dv.congr fun a d _ _ => ?_⟩
    · dsimp only
      by_cases h1 : i < 512 * j + 512
      · by_cases h2 : 512 * j ≤ i
        · rw [if_pos ⟨h2, h1⟩, if_pos h1]
        · rw [if_neg (fun h => h2 h.1), if_pos h1, tq_before i d (by omega), add_zero]
      · rw [if_neg (fun h => h1 h.2), if_neg h1]
    · rw [sum_range_add, sum_eq_zero (s := range (512 * j)) fun i hi => by rw [st_before i a (mem_range.mp hi), zero_mul, zero_mul]]
    · rw [sum_range_add, sum_eq_zero (s := range (512 * j)) fun i hi => by rw [pm_before i a (mem_range.mp hi), zero_mul]]
  | n + 1, hn => by
    have h := acc_is hin ⟨j + 1 + n, by omega⟩ (by show j < j + 1 + n; omega) (sweep_is hin hj hA n (by omega))
    rw [sweep_succ _ _ _ _ _ _ _ _ _ (by omega)]
    have e : 512 * (j + 1 + (n + 1)) = 512 * (j + 1 + n) + 512 := by ring
    rw [e]
    refine ⟨h.dq.congr fun i d _ _ => ?_, h.dk.congr fun a d _ _ => ?_, h.dv.congr fun a d _ _ => ?_⟩
    · dsimp only
      by_cases h1 : i < 512 * (j + 1 + n)
      · rw [if_neg (fun h => by omega), if_pos h1, if_pos (by omega)]
      · rw [if_neg h1]
        by_cases h2 : i < 512 * (j + 1 + n) + 512
        · rw [if_pos ⟨by omega, h2⟩, if_pos h2]
        · rw [if_neg (fun h => h2 h.2), if_neg h2]
    · rw [sum_range_add _ (512 * (j + 1 + n)) 512]
    · rw [sum_range_add _ (512 * (j + 1 + n)) 512]

theorem fin_is (hj : j < 16) (hin : IsIn H M j K V X2 X3 X4 X5) {dq : Vec Ideal S8192x256 .f32} {A : ℕ → ℕ → ℝ} (hA : Is2 dq A) :
    IsSt (fin K V X2 X3 X4 X5 ⟨j, hj⟩ dq) (fun i d => A i d + tq H j i d) (fun a d => gk H (512 * j + a) d) (fun a d => gv H (512 * j + a) d) := by
  have h := sweep_is hin hj hA (15 - j) (by omega)
  have e : 512 * (j + 1 + (15 - j)) = 8192 := by omega
  rw [e] at h
  exact ⟨h.dq.congr fun i d hi _ => if_pos hi, h.dk, h.dv⟩

end Point

end Cert.Proof.KernelIdeal

end
-- ==== Proof.Scores.lean ====
/-
  The causal softmax of the arguments at an index, over the reals: the masked scores, the rows' maxima, exponentials, sums
  and probabilities, and the output.
-/
module

public import proofs.«01_k».proof.Proof.Attn
public import proofs.«01_k».proof.Proof.Gen.ReferenceIdeal.Read
public import Idealize.ShloMosaic.Lib.ValueIdx
public import Idealize.ShloMosaic.Lib.IdealHost
public import Idealize.ShloMosaic.PureOps.Ideal.Laws

@[expose] public section

set_option maxRecDepth 16384

noncomputable section

namespace Cert.Proof.Ref

open Cert.ReferenceIdeal Cert.ReferenceIdeal.Gen Cert.ReferenceIdeal.Read
open Idealize.ShloMosaic Idealize.ShloMosaic.TcCoe Idealize.ShloMosaic.ValueIdx
open Finset Cert.Proof.Attn

/-! ## The arguments, head by head -/

/-- The four arguments hold the heads' reals, extended by zero past their columns. -/
structure Holds (x0 x1 : S8192x8x192.Idx → EReal) (x2 : S8192x8x128.Idx → EReal) (x3 : S8192x2048.Idx → EReal) (H : ℕ → Head) : Prop where
  q : ∀ (i : Fin 8192) (h : Fin 8) (d : Fin 192), x0 (ix3 i h d) = (((H h.val).q i.val d.val : ℝ) : EReal)
  k : ∀ (i : Fin 8192) (h : Fin 8) (d : Fin 192), x1 (ix3 i h d) = (((H h.val).k i.val d.val : ℝ) : EReal)
  v : ∀ (i : Fin 8192) (h : Fin 8) (d : Fin 128), x2 (ix3 i h d) = (((H h.val).v i.val d.val : ℝ) : EReal)
  o : ∀ (i : Fin 8192) (h : Fin 8) (d : Fin 128) (e : Fin 2048), e.val = 512 + 128 * h.val + d.val →
    x3 (ix2 i e) = (((H h.val).o i.val d.val : ℝ) : EReal)
  q0 : ∀ h i d, 192 ≤ d → (H h).q i d = 0
  k0 : ∀ h i d, 192 ≤ d → (H h).k i d = 0

/-- The heads of finite arguments. -/
theorem exists_heads {x0 x1 : S8192x8x192.Idx → EReal} {x2 : S8192x8x128.Idx → EReal} {x3 : S8192x2048.Idx → EReal}
    (h0 : ∀ i, ∃ r : ℝ, x0 i = r) (h1 : ∀ i, ∃ r : ℝ, x1 i = r) (h2 : ∀ i, ∃ r : ℝ, x2 i = r)
    (h3 : ∀ (i : Fin 8192) (e : Fin 2048), 512 ≤ e.val → e.val < 1536 → ∃ r : ℝ, x3 (ix2 i e) = r) : ∃ H, Holds x0 x1 x2 x3 H := by
  have hT : ∀ {x : EReal}, (∃ r : ℝ, x = r) → x = ((x.toReal : ℝ) : EReal) := fun {x} ⟨r, hr⟩ => by rw [hr]; rfl
  refine ⟨fun h => ⟨fun i d => if e : i < 8192 ∧ h < 8 ∧ d < 192 then (x0 (ix3 ⟨i, e.1⟩ ⟨h, e.2.1⟩ ⟨d, e.2.2⟩)).toReal else 0,
    fun i d => if e : i < 8192 ∧ h < 8 ∧ d < 192 then (x1 (ix3 ⟨i, e.1⟩ ⟨h, e.2.1⟩ ⟨d, e.2.2⟩)).toReal else 0,
    fun i d => if e : i < 8192 ∧ h < 8 ∧ d < 128 then (x2 (ix3 ⟨i, e.1⟩ ⟨h, e.2.1⟩ ⟨d, e.2.2⟩)).toReal else 0,
    fun i d => if e : i < 8192 ∧ 512 + 128 * h + d < 2048 then (x3 (ix2 ⟨i, e.1⟩ ⟨512 + 128 * h + d, e.2⟩)).toReal else 0⟩, ?_, ?_, ?_, ?_, ?_, ?_⟩
  · intro i h d
    dsimp only
    rw [dif_pos ⟨i.isLt, h.isLt, d.isLt⟩]
    exact hT (h0 _)
  · intro i h d
    dsimp only
    rw [dif_pos ⟨i.isLt, h.isLt, d.isLt⟩]
    exact hT (h1 _)
  · intro i h d
    dsimp only
    rw [dif_pos ⟨i.isLt, h.isLt, d.isLt⟩]
    exact hT (h2 _)
  · intro i h d e he
    obtain ⟨e, hlt⟩ := e
    dsimp only at he ⊢
    subst he
    rw [dif_pos ⟨i.isLt, hlt⟩]
    exact hT (h3 _ _ (by dsimp only; omega) (by dsimp only; omega))
  · intro h i d hd
    exact dif_neg fun e => by omega
  · intro h i d hd
    exact dif_neg fun e => by omega

/-! ## Constants -/

theorem bits_192 : Ideal.ofBits .f32 0x43400000#32 = ((192 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_bot : Ideal.ofBits .f32 0xFF800000#32 = ⊥ := by simp [Ideal.ofBits, Ideal.ieee]

theorem root_ne : √(192 : ℝ) ≠ 0 := (Real.sqrt_pos.mpr (by norm_num)).ne'

section
variable {x0 x1 : S8192x8x192.Idx → EReal} {x2 : S8192x8x128.Idx → EReal} {x3 : S8192x2048.Idx → EReal} {H : ℕ → Head} (hx : Holds x0 x1 x2 x3 H)
include hx

/-! ## The masked scores -/

theorem dot_pad (h i j : ℕ) : ∑ d ∈ range 192, (H h).q i d * (H h).k j d = ∑ d ∈ range 256, (H h).q i d * (H h).k j d := by
  rw [show 256 = 192 + 64 from rfl, sum_range_add, sum_eq_zero (s := range 64) fun d _ => by rw [hx.q0 _ _ _ (Nat.le_add_right _ _), zero_mul], add_zero]

theorem v2_at (h : Fin 8) (i j : Fin 8192) :
    val_main_v2 (F := Ideal) x0 x1 (ix3 h i j) = ((∑ d ∈ range 256, (H h.val).q i.val d * (H h.val).k j.val d : ℝ) : EReal) := by
  rw [val_main_v2_apply, ← dot_pad hx]
  refine sum_coe _ (fun d => (H h.val).q i.val d * (H h.val).k j.val d) fun d => ?_
  have e0 : lidx_main_v2 (ix3 h i j) d = ix3 i h d := by funext a; match a with | ⟨0, _⟩ => rfl | ⟨1, _⟩ => rfl | ⟨2, _⟩ => rfl
  have e1 : ridx_main_v2 (ix3 h i j) d = ix3 j h d := by funext a; match a with | ⟨0, _⟩ => rfl | ⟨1, _⟩ => rfl | ⟨2, _⟩ => rfl
  rw [e0, e1, hx.q, hx.k, EReal.coe_mul]

omit hx in
theorem v4_at (i : S8x8192x8192.Idx) : val_main_v4 (F := Ideal) i = ((√192 : ℝ) : EReal) := by
  rw [val_main_v4_apply, val_main_v3_apply, val_main_cst_apply, Ideal.hostUnary_sqrt_def, Ideal.ofBits_def, bits_192, Ideal.sqrt_coe,
    if_neg (by norm_num)]

theorem v5_at (h : Fin 8) (i j : Fin 8192) : val_main_v5 (F := Ideal) x0 x1 (ix3 h i j) = ((sc (H h.val) i.val j.val : ℝ) : EReal) := by
  rw [val_main_v5_apply, v2_at hx, v4_at, Ideal.hostDivf_def, Ideal.div_coe root_ne, ← EReal.coe_mul]
  unfold sc c1
  rw [one_div]

omit hx in
theorem toInt_ofNat (n : ℕ) (h : n < 8192) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

omit hx in
theorem mask_at (h : Fin 8) (i j : Fin 8192) : val_main_v13_1 (F := Ideal) (ix3 h i j) = if j.val ≤ i.val then 1#1 else 0#1 := by
  rw [val_main_v13_1_apply, val_main_v12_apply, val_main_v11_apply, val_main_v9_apply, val_main_v10_apply, val_main_v7_apply, val_main_v8_apply,
    val_main_v6_apply, val_main_v6_apply]
  show BitVec.ofBool ((BitVec.ofNat 32 j.val).sle (BitVec.ofNat 32 i.val)) = _
  rw [BitVec.sle_eq_decide, toInt_ofNat _ j.isLt, toInt_ofNat _ i.isLt]
  by_cases hji : j.val ≤ i.val
  · rw [if_pos hji, decide_eq_true (by exact_mod_cast hji)]; rfl
  · rw [if_neg hji, decide_eq_false (by exact_mod_cast hji)]; rfl

theorem v13_at (h : Fin 8) (i j : Fin 8192) :
    val_main_v13_0 (F := Ideal) x0 x1 (ix3 h i j) = if j.val ≤ i.val then ((sc (H h.val) i.val j.val : ℝ) : EReal) else ⊥ := by
  rw [val_main_v13_0_apply, mask_at, v5_at hx]
  by_cases hji : j.val ≤ i.val
  · rw [if_pos hji, if_pos hji, select_one]
  · rw [if_neg hji, if_neg hji, select_zero, val_main_call0_v2_apply, val_main_call0_v0_apply, val_main_cst_0_apply, Ideal.ofBits_def, bits_bot]

/-! ## The rows' maxima -/

omit hx in
theorem foldl_max {ι : Type} (x : ι → EReal) (l : List ι) (r : EReal) :
    r ≤ l.foldl (fun r n => max r (x n)) r ∧ (∀ n ∈ l, x n ≤ l.foldl (fun r n => max r (x n)) r)
      ∧ (r < ⊤ → (∀ n, x n < ⊤) → l.foldl (fun r n => max r (x n)) r < ⊤) := by
  induction l generalizing r with
  | nil => exact ⟨le_refl _, fun n h => absurd h List.not_mem_nil, fun h _ => h⟩
  | cons a l ih =>
    obtain ⟨i1, i2, i3⟩ := ih (max r (x a))
    refine ⟨(le_max_left _ _).trans i1, fun n hn => ?_, fun hr hx => i3 (max_lt hr (hx a)) hx⟩
    rcases List.mem_cons.mp hn with rfl | hn
    · exact (le_max_right _ _).trans i1
    · exact i2 n hn

theorem v14_at (h : Fin 8) (i : Fin 8192) : ∃ M : ℝ, val_main_v14 (F := Ideal) x0 x1 (ix2 h i) = M := by
  have hlt : ∀ y, val_main_v13_0 (F := Ideal) x0 x1 y < ⊤ := fun y => by
    obtain ⟨a, b, c, rfl⟩ : ∃ (a : Fin 8) (b c : Fin 8192), y = ix3 a b c := ⟨_, _, _, eq_ix3 y⟩
    rw [v13_at hx]
    split
    · exact EReal.coe_lt_top _
    · exact bot_lt_top
  obtain ⟨f1, f2, f3⟩ := foldl_max (fun n => val_main_v13_0 (F := Ideal) x0 x1 (S8x8192x8192.rowMajor.symm n))
    ((List.finRange S8x8192x8192.numel).filter fun n => reducesTo_S8x8192x8192_S8x8192_d2.drop (S8x8192x8192.rowMajor.symm n) = ix2 h i)
    (val_main_cst_1 (F := Ideal) (Shape.Idx.first h_S_))
  have hmem := f2 (S8x8192x8192.rowMajor (ix3 h i i)) (List.mem_filter.mpr ⟨List.mem_finRange _, by
    rw [Equiv.symm_apply_apply]
    exact decide_eq_true (funext fun a => Fin.ext (by match a with | ⟨0, _⟩ => rfl | ⟨1, _⟩ => rfl))⟩)
  rw [Equiv.symm_apply_apply, v13_at hx, if_pos (le_refl _)] at hmem
  have htop := f3 (by rw [val_main_cst_1_apply, Ideal.ofBits_def, bits_bot]; exact bot_lt_top) fun n => hlt _
  change _ ≤ val_main_v14 (F := Ideal) x0 x1 (ix2 h i) at hmem
  change val_main_v14 (F := Ideal) x0 x1 (ix2 h i) < ⊤ at htop
  exact ⟨(val_main_v14 (F := Ideal) x0 x1 (ix2 h i)).toReal,
    (EReal.coe_toReal htop.ne (lt_of_lt_of_le (EReal.bot_lt_coe _) hmem).ne').symm⟩

/-- The maximum of a row against minus infinity is the maximum. -/
theorem v21_eq : val_main_v21 (F := Ideal) x0 x1 = val_main_v14 (F := Ideal) x0 x1 := by
  funext i
  rw [val_main_v21_apply, val_main_v20_apply, val_main_cst_3_apply, Ideal.ofBits_def, bits_bot, Ideal.maximumf_def]
  exact max_eq_right bot_le

end

/-! ## Exponentials, sums, probabilities and the output -/

/-- The reals of the rows' maxima. -/
structure Maxima (x0 x1 : S8192x8x192.Idx → EReal) (M : ℕ → ℕ → ℝ) : Prop where
  eq : ∀ (h : Fin 8) (i : Fin 8192), val_main_v14 (F := Ideal) x0 x1 (ix2 h i) = ((M h.val i.val : ℝ) : EReal)

theorem exists_maxima {x0 x1 : S8192x8x192.Idx → EReal} {x2 : S8192x8x128.Idx → EReal} {x3 : S8192x2048.Idx → EReal} {H : ℕ → Head}
    (hx : Holds x0 x1 x2 x3 H) : ∃ M, Maxima x0 x1 M := by
  refine ⟨fun h i => if e : h < 8 ∧ i < 8192 then (v14_at hx ⟨h, e.1⟩ ⟨i, e.2⟩).choose else 0, ⟨fun h i => ?_⟩⟩
  dsimp only
  rw [dif_pos ⟨h.isLt, i.isLt⟩]
  exact (v14_at hx h i).choose_spec

section
variable {x0 x1 : S8192x8x192.Idx → EReal} {x2 : S8192x8x128.Idx → EReal} {x3 : S8192x2048.Idx → EReal} {H : ℕ → Head} {M : ℕ → ℕ → ℝ}
variable (hx : Holds x0 x1 x2 x3 H) (hM : Maxima x0 x1 M)
include hx hM

/-- A masked exponential. -/
abbrev ex (H : ℕ → Head) (M : ℕ → ℕ → ℝ) (h i j : ℕ) : ℝ := if j ≤ i then Real.exp (sc (H h) i j - M h i) else 0

theorem v31_at (h : Fin 8) (i : Fin 8192) (z : Fin 1) : val_main_v31 (F := Ideal) x0 x1 (ix3 h i z) = ((M h.val i.val : ℝ) : EReal) := by
  rw [val_main_v31_apply, v21_eq hx]
  have e : idx_main_v31 (ix3 h i z) = ix2 h i := by funext a; match a with | ⟨0, _⟩ => rfl | ⟨1, _⟩ => rfl
  rw [e, hM.eq]

theorem v34_at (h : Fin 8) (i j : Fin 8192) : val_main_v34 (F := Ideal) x0 x1 (ix3 h i j) = ((ex H M h.val i.val j.val : ℝ) : EReal) := by
  rw [val_main_v34_apply, val_main_v33_apply, val_main_v32_apply]
  have e : idx_main_v32 (ix3 h i j) = ix3 h i 0 := by funext a; match a with | ⟨0, _⟩ => rfl | ⟨1, _⟩ => rfl | ⟨2, _⟩ => rfl
  rw [e, v31_at hx hM, v13_at hx, Ideal.hostUnary_exp_def, Ideal.subf_def]
  unfold ex
  by_cases hji : j.val ≤ i.val
  · rw [if_pos hji, if_pos hji, ← EReal.coe_sub, Ideal.exp_coe]
  · rw [if_neg hji, if_neg hji, EReal.bot_sub, Ideal.exp_bot, EReal.coe_zero]

theorem v35_at (h : Fin 8) (i : Fin 8192) : val_main_v35 (F := Ideal) x0 x1 (ix2 h i) = ((den (H h.val) (M h.val i.val) i.val : ℝ) : EReal) := by
  rw [val_main_v35_apply, val_main_cst_9_apply, Ideal.ofBits_def, Ideal.ofBits_zero_f32, zero_add]
  refine sum_coe _ (fun j => ex H M h.val i.val j) fun j => ?_
  have e : idx_main_v35 (ix2 h i) j = ix3 h i j := by funext a; match a with | ⟨0, _⟩ => rfl | ⟨1, _⟩ => rfl | ⟨2, _⟩ => rfl
  rw [e, v34_at hx hM]

theorem v36_at (h : Fin 8) (i : Fin 8192) (z : Fin 1) :
    val_main_v36 (F := Ideal) x0 x1 (ix3 h i z) = ((den (H h.val) (M h.val i.val) i.val : ℝ) : EReal) := by
  rw [val_main_v36_apply]
  have e : idx_main_v36 (ix3 h i z) = ix2 h i := by funext a; match a with | ⟨0, _⟩ => rfl | ⟨1, _⟩ => rfl
  rw [e, v35_at hx hM]

theorem v38_at (h : Fin 8) (i j : Fin 8192) : val_main_v38 (F := Ideal) x0 x1 (ix3 h i j) = ((pm (H h.val) i.val j.val : ℝ) : EReal) := by
  rw [val_main_v38_apply, v34_at hx hM, val_main_v37_apply]
  have e : idx_main_v37 (ix3 h i j) = ix3 h i 0 := by funext a; match a with | ⟨0, _⟩ => rfl | ⟨1, _⟩ => rfl | ⟨2, _⟩ => rfl
  rw [e, v36_at hx hM, Ideal.hostDivf_def, Ideal.div_coe (den_pos _ _ _ i.isLt).ne', ← EReal.coe_mul, mul_one_div, pm_shift _ _ _ _ i.isLt]

/-- The output. -/
theorem v42_at (h : Fin 8) (d : Fin 128) (i : Fin 8192) :
    val_main_v42 (F := Ideal) x0 x1 x2 (ix3 h d i) = ((∑ j ∈ range 8192, (H h.val).v j d.val * pm (H h.val) i.val j : ℝ) : EReal) := by
  rw [val_main_v42_apply]
  refine sum_coe _ (fun j => (H h.val).v j d.val * pm (H h.val) i.val j) fun j => ?_
  have e0 : lidx_main_v42 (ix3 h d i) j = ix3 j h d := by funext a; match a with | ⟨0, _⟩ => rfl | ⟨1, _⟩ => rfl | ⟨2, _⟩ => rfl
  have e1 : ridx_main_v42 (ix3 h d i) j = ix3 h i j := by funext a; match a with | ⟨0, _⟩ => rfl | ⟨1, _⟩ => rfl | ⟨2, _⟩ => rfl
  rw [e0, e1, hx.v, v38_at hx hM, EReal.coe_mul]

theorem v43_at (i : Fin 8192) (h : Fin 8) (d : Fin 128) :
    val_main_v43 (F := Ideal) x0 x1 x2 (ix3 i h d) = ((∑ j ∈ range 8192, (H h.val).v j d.val * pm (H h.val) i.val j : ℝ) : EReal) := by
  rw [val_main_v43_apply]
  have e : idx_main_v43 (ix3 i h d) = ix3 h d i := by funext a; match a with | ⟨0, _⟩ => rfl | ⟨1, _⟩ => rfl | ⟨2, _⟩ => rfl
  rw [e, v42_at hx hM]

omit hM in
/-- The cotangent of the output. -/
theorem v1_at (i : Fin 8192) (h : Fin 8) (d : Fin 128) : val_main_v1 (F := Ideal) x3 (ix3 i h d) = (((H h.val).o i.val d.val : ℝ) : EReal) := by
  rw [val_main_v1_apply, val_main_v0_apply]
  have e : idx_main_v0 (idx_main_v1 (ix3 i h d)) = ix2 i ⟨512 + 128 * h.val + d.val, by omega⟩ := by
    funext a
    match a with
    | ⟨0, _⟩ => exact Fin.ext (show ((i.val * 8 + h.val) * 128 + d.val) / 1024 = i.val by omega)
    | ⟨1, _⟩ => exact Fin.ext (show 512 + ((i.val * 8 + h.val) * 128 + d.val) % 1024 = 512 + 128 * h.val + d.val by omega)
  rw [e, hx.o i h d _ rfl]

end

end Cert.Proof.Ref

end
-- ==== Proof.HostI.lean ====
/-
  What the kernel call reads: the host's arrays at an index, over the reals.
-/
module

public import proofs.«01_k».proof.Proof.Scores
public import proofs.«01_k».proof.Proof.Gen.KernelIdeal.Frame
public import Idealize.ShloMosaic.Lib.Pipeline.Value
public import Idealize.ShloMosaic.Lib.StableHlo.Run

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx Idealize.ShloMosaic.StableHlo
open Idealize.SL.Sem
open Cert.ReferenceIdeal.Read
open Finset Cert.Proof.Attn Cert.Proof.Ref

variable (m : (ℓ : Loc nD τ sig) → Buf (Elt Ideal) ℓ) (c : Dev nD)

/-- Device `c`'s arguments at launch. -/
abbrev a0 : S8192x8x192.Idx → EReal := m ((c : Thread nD τ).loc main_arg0)
abbrev a1 : S8192x8x192.Idx → EReal := m ((c : Thread nD τ).loc main_arg1)
abbrev a2 : S8192x8x128.Idx → EReal := m ((c : Thread nD τ).loc main_arg2)
abbrev a3 : S8192x2048.Idx → EReal := m ((c : Thread nD τ).loc main_arg3)

/-! ## The host's arrays as functions of the arguments -/

section
variable (x0 x1 : S8192x8x192.Idx → EReal) (x2 : S8192x8x128.Idx → EReal) (x3 : S8192x2048.Idx → EReal)

def hPad (x : S8192x8x192.Idx → EReal) : S8192x2048.Idx → EReal :=
  shapeCast S8192x2048 (concatenate S8192x8x256 2 [⟨S8192x8x192, x⟩, ⟨S8192x8x64, broadcastInDim S8192x8x64 ![] bcast_S_S8192x8x64
    (constant (F := Ideal) S_ .f32 0x00000000#32)⟩] concatenates_S8192x8x192_S8192x8x64_S8192x8x256_d2) shapeCasts_S8192x8x256_S8192x2048

def hMax : S8x8192x1.Idx → EReal := broadcastInDim S8x8192x1 ![0, 1] bcast_S8x8192_S8x8192x1_0_1 (val_main_v14 (F := Ideal) x0 x1)
def hExp : S8x8192x8192.Idx → EReal := Host.exp (F := Ideal) (φ := .f32) (subf (F := Ideal) (φ := .f32) (val_main_v13_0 (F := Ideal) x0 x1)
  (broadcastInDim S8x8192x8192 ![0, 1, 2] bcast_S8x8192x1_S8x8192x8192_0_1_2 (hMax x0 x1)))
def hSum : S8x8192x1.Idx → EReal := broadcastInDim S8x8192x1 ![0, 1] bcast_S8x8192_S8x8192x1_0_1
  (Host.reduceAdd (F := Ideal) (φ := .f32) (hExp x0 x1) (constant S_ .f32 0x00000000#32) reducesTo_S8x8192x8192_S8x8192_d2 h_S_)
def hOut : S8192x8x128.Idx → EReal := transpose S8192x8x128 [2, 0, 1] (Host.dotGeneral (F := Ideal) (φ₁ := .f32) (φ₂ := .f32) dot_S8192x8x128_S8x8192x8192_S8x128x8192_0_2_2_1_1_0 none x2
  (Host.divf (F := Ideal) (φ := .f32) (hExp x0 x1) (broadcastInDim S8x8192x8192 ![0, 1, 2] bcast_S8x8192x1_S8x8192x8192_0_1_2 (hSum x0 x1))))
  transposes_S8x128x8192_S8192x8x128_2_0_1
def hLse : S8x8192x1.Idx → EReal := Host.divf (F := Ideal) (φ := .f32) (addf (F := Ideal) (φ := .f32) (hMax x0 x1) (Host.log (F := Ideal) (φ := .f32) (hSum x0 x1)))
  (broadcastInDim S8x8192x1 ![] bcast_S_S8x8192x1 (Host.log (F := Ideal) (φ := .f32) (constant S_ .f32 0x40000000#32)))
def hDel : S8x8192x1.Idx → EReal := broadcastInDim S8x8192x1 ![0, 1] bcast_S8x8192_S8x8192x1_0_1
  (Host.dotGeneral (F := Ideal) (φ₁ := .f32) (φ₂ := .f32) dot_S8192x8x128_S8192x8x128_S8x8192_2_2_n_n_10_10 none (val_main_v1 (F := Ideal) x3) (hOut x0 x1 x2))
def hRows (x : S8x8192x1.Idx → EReal) : S8x8x8192.Idx → EReal := broadcastInDim S8x8x8192 ![0, 1, 2] bcast_S8x1x8192_S8x8x8192_0_1_2
  (transpose S8x1x8192 [0, 2, 1] x transposes_S8x8192x1_S8x1x8192_0_2_1)
end

theorem V35 : V m c main_v35 = hPad (a0 m c) := by
  dsimp only [V, hostOps0, hostOps0_1, hostOps0_2, List.flatten_cons, List.flatten_nil, List.append_nil, List.cons_append, List.nil_append]
  simp only [TRef.ternary, TRef.unary, TRef.toBuf, TRef.ofBuf, cast_eq]
  after_results_simp <;> rfl

theorem V39 : V m c main_v39 = hPad (a1 m c) := by
  dsimp only [V, hostOps0, hostOps0_1, hostOps0_2, List.flatten_cons, List.flatten_nil, List.append_nil, List.cons_append, List.nil_append]
  simp only [TRef.ternary, TRef.unary, TRef.toBuf, TRef.ofBuf, cast_eq]
  after_results_simp <;> rfl

theorem V41 : V m c main_v41 = shapeCast S8192x1024 (a2 m c) shapeCasts_S8192x8x128_S8192x1024 := by
  dsimp only [V, hostOps0, hostOps0_1, hostOps0_2, List.flatten_cons, List.flatten_nil, List.append_nil, List.cons_append, List.nil_append]
  simp only [TRef.ternary, TRef.unary, TRef.toBuf, TRef.ofBuf, cast_eq]
  after_results_simp <;> rfl

theorem V42 : V m c main_v42 = a3 m c := by
  dsimp only [V, hostOps0, hostOps0_1, hostOps0_2, List.flatten_cons, List.flatten_nil, List.append_nil, List.cons_append, List.nil_append]
  simp only [TRef.ternary, TRef.unary, TRef.toBuf, TRef.ofBuf, cast_eq]
  after_results_simp <;> rfl

theorem V44 : V m c main_v44 = hRows (hLse (a0 m c) (a1 m c)) := by
  dsimp only [V, hostOps0, hostOps0_1, hostOps0_2, List.flatten_cons, List.flatten_nil, List.append_nil, List.cons_append, List.nil_append]
  simp only [TRef.ternary, TRef.unary, TRef.toBuf, TRef.ofBuf, cast_eq]
  after_results_simp <;> rfl

theorem V46 : V m c main_v46 = hRows (hDel (a0 m c) (a1 m c) (a2 m c) (a3 m c)) := by
  dsimp only [V, hostOps0, hostOps0_1, hostOps0_2, List.flatten_cons, List.flatten_nil, List.append_nil, List.cons_append, List.nil_append]
  simp only [TRef.ternary, TRef.unary, TRef.toBuf, TRef.ofBuf, cast_eq]
  after_results_simp <;> rfl

end Cert.Proof.KernelIdeal

end
-- ==== Proof.HostAtI.lean ====
/-
  The arrays the kernel call reads, at an index, over the reals.
-/
module

public import proofs.«01_k».proof.Proof.HostI

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx
open Cert.ReferenceIdeal.Read
open Finset Cert.Proof.Attn Cert.Proof.Ref

/-! ## Layout -/

theorem hPad_at {x : S8192x8x192.Idx → EReal} {f : ℕ → ℕ → ℕ → ℝ}
    (hf : ∀ (i : Fin 8192) (h : Fin 8) (d : Fin 192), x (ix3 i h d) = ((f h.val i.val d.val : ℝ) : EReal)) (h0 : ∀ h i d, 192 ≤ d → f h i d = 0)
    (i : Fin 8192) (e : Fin 2048) : hPad x (ix2 i e) = ((f (e.val / 256) i.val (e.val % 256) : ℝ) : EReal) := by
  have hh : e.val / 256 < 8 := by omega
  have hd : e.val % 256 < 256 := by omega
  unfold hPad
  rw [shapeCast_apply _ _ (ix2 i e) (ix3 (n0 := 8192) (n1 := 8) (n2 := 256) i ⟨e.val / 256, hh⟩ ⟨e.val % 256, hd⟩) (by
    rewrite [Shape.rowMajor_val_two, Shape.rowMajor_val_three]
    show (i.val * 8 + e.val / 256) * 256 + e.val % 256 = i.val * 2048 + e.val
    omega)]
  by_cases hlt : e.val % 256 < 192
  · rw [concatenate_pair_apply_left (t := S8192x8x256) (s₁ := S8192x8x192) (s₂ := S8192x8x64) 2 x _ _ _ rfl (ix3 i ⟨e.val / 256, hh⟩ ⟨e.val % 256, hlt⟩) (fun b => by
      match b with
      | ⟨0, _⟩ => rfl
      | ⟨1, _⟩ => rfl
      | ⟨2, _⟩ => rfl), hf]
  · rw [concatenate_pair_apply_right (t := S8192x8x256) (s₁ := S8192x8x192) (s₂ := S8192x8x64) 2 x _ _ _ rfl rfl
      (ix3 (n0 := 8192) (n1 := 8) (n2 := 64) i ⟨e.val / 256, hh⟩ ⟨e.val % 256 - 192, by omega⟩) (fun b hb => by
        match b, hb with
        | ⟨0, _⟩, _ => rfl
        | ⟨1, _⟩, _ => rfl
        | ⟨2, _⟩, hb => exact absurd rfl hb) (by show e.val % 256 - 192 + 192 = e.val % 256; omega),
      broadcastInDim_scalar_apply, h0 _ _ _ (by omega)]
    exact Ideal.ofBits_zero_f32

theorem cast_at {x : S8192x8x128.Idx → EReal} {f : ℕ → ℕ → ℕ → ℝ}
    (hf : ∀ (i : Fin 8192) (h : Fin 8) (d : Fin 128), x (ix3 i h d) = ((f h.val i.val d.val : ℝ) : EReal)) (i : Fin 8192) (e : Fin 1024) :
    shapeCast S8192x1024 x shapeCasts_S8192x8x128_S8192x1024 (ix2 i e) = ((f (e.val / 128) i.val (e.val % 128) : ℝ) : EReal) := by
  have hh : e.val / 128 < 8 := by omega
  have hd : e.val % 128 < 128 := by omega
  rw [shapeCast_apply _ _ (ix2 i e) (ix3 (n0 := 8192) (n1 := 8) (n2 := 128) i ⟨e.val / 128, hh⟩ ⟨e.val % 128, hd⟩) (by
    rewrite [Shape.rowMajor_val_two, Shape.rowMajor_val_three]
    show (i.val * 8 + e.val / 128) * 128 + e.val % 128 = i.val * 1024 + e.val
    omega), hf]

theorem hRows_at (x : S8x8192x1.Idx → EReal) (h r : Fin 8) (i : Fin 8192) : hRows x (ix3 h r i) = x (ix3 (n0 := 8) (n1 := 8192) (n2 := 1) h i 0) := by
  unfold hRows
  rw [broadcastInDim_apply _ _ _ (ix3 h r i) (ix3 (n0 := 8) (n1 := 1) (n2 := 8192) h 0 i) (fun a => by
      match a with
      | ⟨0, _⟩ => show h.val = if (8 : ℕ) = 1 then 0 else h.val; rw [if_neg (by decide)]
      | ⟨1, _⟩ => show 0 = if (1 : ℕ) = 1 then 0 else r.val; rw [if_pos rfl]
      | ⟨2, _⟩ => show i.val = if (8192 : ℕ) = 1 then 0 else i.val; rw [if_neg (by decide)]),
    transpose_apply _ _ _ _ (ix3 (n0 := 8) (n1 := 8192) (n2 := 1) h i 0) (fun b => by
      match b with
      | ⟨0, _⟩ => rfl
      | ⟨1, _⟩ => rfl
      | ⟨2, _⟩ => rfl)]

theorem lse_of (A B : S8x8192x1.Idx → EReal) (i : S8x8192x1.Idx) {a b : ℝ} (hA : A i = (a : EReal)) (hB : B i = (b : EReal)) (hb : 0 < b) :
    Host.divf (F := Ideal) (φ := .f32) (addf (F := Ideal) (φ := .f32) A (Host.log (F := Ideal) (φ := .f32) B))
      (broadcastInDim S8x8192x1 ![] bcast_S_S8x8192x1 (Host.log (F := Ideal) (φ := .f32) (constant S_ .f32 0x40000000#32))) i
    = (((a + Real.log b) * (Real.log 2)⁻¹ : ℝ) : EReal) := by
  have e1 : Ideal.log (b : EReal) = ((Real.log b : ℝ) : EReal) := by
    rw [Ideal.log_coe, if_neg (not_le.mpr hb)]
  have e2 : Ideal.log ((2 : ℝ) : EReal) = ((Real.log 2 : ℝ) : EReal) := by
    rw [Ideal.log_coe, if_neg (show ¬((2 : ℝ) ≤ 0) by norm_num)]
  rw [hostDivf_apply, broadcastInDim_scalar_apply]
  refine (show _ = Ideal.div (A i + Ideal.log (B i)) (Ideal.log (Ideal.ofBits .f32 0x40000000#32)) from rfl).trans ?_
  rw [hA, hB, bits_two, e1, e2, ← EReal.coe_add, Ideal.div_coe log_two_ne, ← EReal.coe_mul, one_div]

/-! ## The rows -/

section
variable {x0 x1 : S8192x8x192.Idx → EReal} {x2 : S8192x8x128.Idx → EReal} {x3 : S8192x2048.Idx → EReal} {H : ℕ → Head} {M : ℕ → ℕ → ℝ}
variable (hx : Holds x0 x1 x2 x3 H) (hM : Maxima x0 x1 M)
include hx

theorem hMax_eq : hMax x0 x1 = val_main_v31 (F := Ideal) x0 x1 := by
  unfold hMax val_main_v31
  rw [v21_eq hx]

theorem hExp_eq : hExp x0 x1 = val_main_v34 (F := Ideal) x0 x1 := by
  unfold hExp
  rw [hMax_eq hx]
  rfl

theorem hSum_eq : hSum x0 x1 = val_main_v36 (F := Ideal) x0 x1 := by
  unfold hSum
  rw [hExp_eq hx]
  rfl

theorem hOut_eq : hOut x0 x1 x2 = val_main_v43 (F := Ideal) x0 x1 x2 := by
  unfold hOut
  rw [hExp_eq hx, hSum_eq hx]
  rfl

include hM

theorem hLse_at (h : Fin 8) (i : Fin 8192) (z : Fin 1) : hLse x0 x1 (ix3 h i z)
    = (((M h.val i.val + Real.log (den (H h.val) (M h.val i.val) i.val)) * (Real.log 2)⁻¹ : ℝ) : EReal) := by
  unfold hLse
  rw [hMax_eq hx, hSum_eq hx]
  exact lse_of _ _ (ix3 h i z) (v31_at hx hM _ _ _) (v36_at hx hM _ _ _) (den_pos (H h.val) (M h.val i.val) _ i.isLt)

abbrev dd : DotDims S8192x8x128 S8192x8x128 S8x8192 := dot_S8192x8x128_S8192x8x128_S8x8192_2_2_n_n_10_10

omit hx hM in
theorem dd_l0 (i : S8x8192.Idx) (q : dd.contr.Idx) : (dd.lhsIdx i q 0).val = (i 1).val := by
  unfold DotDims.lhsIdx
  rw [dif_pos (show (0 : Fin S8192x8x128.rank) ∈ dd.lhsBatch by decide)]
  rfl
omit hx hM in
theorem dd_l1 (i : S8x8192.Idx) (q : dd.contr.Idx) : (dd.lhsIdx i q 1).val = (i 0).val := by
  unfold DotDims.lhsIdx
  rw [dif_pos (show (1 : Fin S8192x8x128.rank) ∈ dd.lhsBatch by decide)]
  rfl
omit hx hM in
theorem dd_r0 (i : S8x8192.Idx) (q : dd.contr.Idx) : (dd.rhsIdx i q 0).val = (i 1).val := by
  unfold DotDims.rhsIdx
  rw [dif_pos (show (0 : Fin S8192x8x128.rank) ∈ dd.rhsBatch by decide)]
  rfl
omit hx hM in
theorem dd_r1 (i : S8x8192.Idx) (q : dd.contr.Idx) : (dd.rhsIdx i q 1).val = (i 0).val := by
  unfold DotDims.rhsIdx
  rw [dif_pos (show (1 : Fin S8192x8x128.rank) ∈ dd.rhsBatch by decide)]
  rfl

omit hx hM in
theorem dd_at (x y : S8192x8x128.Idx → EReal) (h : Fin 8) (i : Fin 8192) :
    Host.dotGeneral (F := Ideal) (φ₁ := .f32) (φ₂ := .f32) dd none x y (ix2 h i) = ∑ d : Fin 128, x (ix3 i h d) * y (ix3 i h d) := by
  simp only [Host.dotGeneral]
  rw [Ideal.dotGeneral_apply, ← Equiv.sum_comp (contrEquiv1 dd 128 rfl rfl).symm]
  refine sum_congr rfl fun d _ => ?_
  have hk := contrEquiv1_symm_val dd 128 rfl rfl d
  have el : dd.lhsIdx (ix2 h i) ((contrEquiv1 dd 128 rfl rfl).symm d) = ix3 i h d := funext fun a => Fin.ext (by
    match a with
    | ⟨0, _⟩ => exact dd_l0 _ _
    | ⟨1, _⟩ => exact dd_l1 _ _
    | ⟨2, _⟩ => exact (dd.lhsIdx_val_of_single rfl _ _).trans hk)
  have er : dd.rhsIdx (ix2 h i) ((contrEquiv1 dd 128 rfl rfl).symm d) = ix3 i h d := funext fun a => Fin.ext (by
    match a with
    | ⟨0, _⟩ => exact dd_r0 _ _
    | ⟨1, _⟩ => exact dd_r1 _ _
    | ⟨2, _⟩ => exact (dd.rhsIdx_val_of_single rfl _ _).trans hk)
  rw [el, er]

theorem hDel_at (h : Fin 8) (i : Fin 8192) (z : Fin 1) : hDel x0 x1 x2 x3 (ix3 h i z) = ((dl (H h.val) i.val : ℝ) : EReal) := by
  unfold hDel
  rw [hOut_eq hx, broadcastInDim_apply _ _ _ (ix3 h i z) (ix2 (n0 := 8) (n1 := 8192) h i) (fun a => by
      match a with
      | ⟨0, _⟩ => show h.val = if (8 : ℕ) = 1 then 0 else h.val; rw [if_neg (by decide)]
      | ⟨1, _⟩ => show i.val = if (8192 : ℕ) = 1 then 0 else i.val; rw [if_neg (by decide)]),
    dd_at, ← delta_eq]
  refine sum_coe _ (fun d => (H h.val).o i.val d * ∑ j ∈ range 8192, (H h.val).v j d * pm (H h.val) i.val j) fun d => ?_
  rw [v1_at hx, v43_at hx hM, EReal.coe_mul]

end

end Cert.Proof.KernelIdeal

end
-- ==== Proof.ArraysI.lean ====
/-
  The kernel call's three results, over the reals: the gradients of q, k and v, head by head.
-/
module

public import proofs.«01_k».proof.Proof.SweepI
public import proofs.«01_k».proof.Proof.HostAtI
public import proofs.«01_k».proof.Proof.FrameI
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.ValueIdx
open Idealize.ShloMosaic.Pipeline (Dat)
open Finset Cert.Proof.Attn Cert.Proof.Ref

variable (m : (ℓ : Loc nD τ sig) → Buf (Elt Ideal) ℓ) (c : Dev nD) {H : ℕ → Head} {M : ℕ → ℕ → ℝ}

/-! ## The blocks -/

theorem idx0 : ∀ t : Fin cfg0.N, win0_0.index t 0 = 0 ∧ win0_0.index t 1 = t.val / 16 := by decide +kernel
theorem idx1 : ∀ t : Fin cfg0.N, win0_1.index t 0 = 0 ∧ win0_1.index t 1 = 4 + t.val / 16 := by decide +kernel
theorem idx2 : ∀ t : Fin cfg0.N, win0_2.index t 0 = t.val / 16 ∧ win0_2.index t 1 = 0 ∧ win0_2.index t 2 = 0 := by decide +kernel
theorem idx3 : ∀ t : Fin cfg0.N, win0_3.index t 0 = t.val / 16 ∧ win0_3.index t 1 = 0 ∧ win0_3.index t 2 = 0 := by decide +kernel
theorem idx4 : ∀ t : Fin cfg0.N, win0_4.index t 0 = t.val % 16 ∧ win0_4.index t 1 = t.val / 16 := by decide +kernel
theorem idx5 : ∀ t : Fin cfg0.N, win0_5.index t 0 = t.val % 16 ∧ win0_5.index t 1 = t.val / 16 := by decide +kernel
theorem idx6 : ∀ t : Fin cfg0.N, win0_6.index t 0 = 0 ∧ win0_6.index t 1 = t.val / 16 := by decide +kernel
theorem idx7 : ∀ t : Fin cfg0.N, win0_7.index t 0 = t.val % 16 ∧ win0_7.index t 1 = t.val / 16 := by decide +kernel
theorem idx8 : ∀ t : Fin cfg0.N, win0_8.index t 0 = t.val % 16 ∧ win0_8.index t 1 = t.val / 16 := by decide +kernel

theorem lt128 (t : Fin cfg0.N) : t.val < 128 := t.isLt

section
variable (hx : Holds (a0 m c) (a1 m c) (a2 m c) (a3 m c) H)
include hx

theorem blk0 (t : Fin cfg0.N) : Is2 (iblk m c 0 t : S8192x256.Idx → EReal) (H (t.val / 16)).q := fun a b => by
  have ht := lt128 t
  have hb := b.isLt
  unfold iblk
  rw [View.read_apply]
  show V m c main_v35 _ = _
  rw [V35]
  refine (congrArg (hPad (a0 m c)) (show _ = ix2 (n0 := 8192) (n1 := 2048) a ⟨256 * (t.val / 16) + b.val, by omega⟩ from ?_)).trans
    ((hPad_at (f := fun h i d => (H h).q i d) hx.q (fun h i d hd => hx.q0 h i d hd) a _).trans ?_)
  · funext x
    match x with
    | ⟨0, _⟩ => exact Fin.ext (show win0_0.index t 0 * 8192 + 1 * a.val = a.val by rw [(idx0 t).1]; omega)
    | ⟨1, _⟩ => exact Fin.ext (show win0_0.index t 1 * 256 + 1 * b.val = 256 * (t.val / 16) + b.val by rw [(idx0 t).2]; omega)
  · have e1 : (256 * (t.val / 16) + b.val) / 256 = t.val / 16 := by omega
    have e2 : (256 * (t.val / 16) + b.val) % 256 = b.val := by omega
    dsimp only
    rw [e1, e2]

theorem blk4 (t : Fin cfg0.N) : Is2 (iblk m c 4 t : S512x256.Idx → EReal) fun a d => (H (t.val / 16)).k (512 * (t.val % 16) + a) d := fun a b => by
  have ht := lt128 t
  have ha := a.isLt
  have hb := b.isLt
  unfold iblk
  rw [View.read_apply]
  show V m c main_v39 _ = _
  rw [V39]
  refine (congrArg (hPad (a1 m c)) (show _ = ix2 (n0 := 8192) (n1 := 2048) ⟨512 * (t.val % 16) + a.val, by omega⟩ ⟨256 * (t.val / 16) + b.val, by omega⟩ from ?_)).trans
    ((hPad_at (f := fun h i d => (H h).k i d) hx.k (fun h i d hd => hx.k0 h i d hd) _ _).trans ?_)
  · funext x
    match x with
    | ⟨0, _⟩ => exact Fin.ext (show win0_4.index t 0 * 512 + 1 * a.val = 512 * (t.val % 16) + a.val by rw [(idx4 t).1]; omega)
    | ⟨1, _⟩ => exact Fin.ext (show win0_4.index t 1 * 256 + 1 * b.val = 256 * (t.val / 16) + b.val by rw [(idx4 t).2]; omega)
  · have e1 : (256 * (t.val / 16) + b.val) / 256 = t.val / 16 := by omega
    have e2 : (256 * (t.val / 16) + b.val) % 256 = b.val := by omega
    dsimp only
    rw [e1, e2]

theorem blk5 (t : Fin cfg0.N) : Is2 (iblk m c 5 t : S512x128.Idx → EReal) fun a d => (H (t.val / 16)).v (512 * (t.val % 16) + a) d := fun a b => by
  have ht := lt128 t
  have ha := a.isLt
  have hb := b.isLt
  unfold iblk
  rw [View.read_apply]
  show V m c main_v41 _ = _
  rw [V41]
  refine (congrArg (shapeCast S8192x1024 (a2 m c) shapeCasts_S8192x8x128_S8192x1024)
      (show _ = ix2 (n0 := 8192) (n1 := 1024) ⟨512 * (t.val % 16) + a.val, by omega⟩ ⟨128 * (t.val / 16) + b.val, by omega⟩ from ?_)).trans
    ((cast_at (f := fun h i d => (H h).v i d) hx.v _ _).trans ?_)
  · funext x
    match x with
    | ⟨0, _⟩ => exact Fin.ext (show win0_5.index t 0 * 512 + 1 * a.val = 512 * (t.val % 16) + a.val by rw [(idx5 t).1]; omega)
    | ⟨1, _⟩ => exact Fin.ext (show win0_5.index t 1 * 128 + 1 * b.val = 128 * (t.val / 16) + b.val by rw [(idx5 t).2]; omega)
  · have e1 : (128 * (t.val / 16) + b.val) / 128 = t.val / 16 := by omega
    have e2 : (128 * (t.val / 16) + b.val) % 128 = b.val := by omega
    dsimp only
    rw [e1, e2]

theorem blk1 (t : Fin cfg0.N) : Is2 (iblk m c 1 t : S8192x128.Idx → EReal) (H (t.val / 16)).o := fun a b => by
  have ht := lt128 t
  have hb := b.isLt
  unfold iblk
  rw [View.read_apply]
  show V m c main_v42 _ = _
  rw [V42]
  refine (congrArg (a3 m c) (show _ = ix2 (n0 := 8192) (n1 := 2048) a ⟨512 + 128 * (t.val / 16) + b.val, by omega⟩ from ?_)).trans
    (hx.o a ⟨t.val / 16, by omega⟩ b _ rfl)
  funext x
  match x with
  | ⟨0, _⟩ => exact Fin.ext (show win0_1.index t 0 * 8192 + 1 * a.val = a.val by rw [(idx1 t).1]; omega)
  | ⟨1, _⟩ => exact Fin.ext (show win0_1.index t 1 * 128 + 1 * b.val = 512 + 128 * (t.val / 16) + b.val by rw [(idx1 t).2]; omega)

variable (hM : Maxima (a0 m c) (a1 m c) M)
include hM

theorem blk2 (t : Fin cfg0.N) : IsRow8 (iblk m c 2 t : S1x8x8192.Idx → EReal)
    fun i => (M (t.val / 16) i + Real.log (den (H (t.val / 16)) (M (t.val / 16) i) i)) * (Real.log 2)⁻¹ := fun i => by
  have ht := lt128 t
  unfold iblk
  rw [View.read_apply]
  show V m c main_v44 _ = _
  rw [V44]
  refine (congrArg (hRows (hLse (a0 m c) (a1 m c))) (show _ = ix3 (n0 := 8) (n1 := 8) (n2 := 8192) ⟨t.val / 16, by omega⟩ 0 i from ?_)).trans
    ((hRows_at _ _ _ _).trans (hLse_at hx hM _ _ _))
  funext x
  match x with
  | ⟨0, _⟩ => exact Fin.ext (show win0_2.index t 0 * 1 + 1 * 0 = t.val / 16 by rw [(idx2 t).1]; omega)
  | ⟨1, _⟩ => exact Fin.ext (show win0_2.index t 1 * 8 + 1 * 0 = 0 by rw [(idx2 t).2.1])
  | ⟨2, _⟩ => exact Fin.ext (show win0_2.index t 2 * 8192 + 1 * i.val = i.val by rw [(idx2 t).2.2]; omega)

theorem blk3 (t : Fin cfg0.N) : IsRow8 (iblk m c 3 t : S1x8x8192.Idx → EReal) (dl (H (t.val / 16))) := fun i => by
  have ht := lt128 t
  unfold iblk
  rw [View.read_apply]
  show V m c main_v46 _ = _
  rw [V46]
  refine (congrArg (hRows (hDel (a0 m c) (a1 m c) (a2 m c) (a3 m c))) (show _ = ix3 (n0 := 8) (n1 := 8) (n2 := 8192) ⟨t.val / 16, by omega⟩ 0 i from ?_)).trans
    ((hRows_at _ _ _ _).trans (hDel_at hx hM _ _ _))
  funext x
  match x with
  | ⟨0, _⟩ => exact Fin.ext (show win0_3.index t 0 * 1 + 1 * 0 = t.val / 16 by rw [(idx3 t).1]; omega)
  | ⟨1, _⟩ => exact Fin.ext (show win0_3.index t 1 * 8 + 1 * 0 = 0 by rw [(idx3 t).2.1])
  | ⟨2, _⟩ => exact Fin.ext (show win0_3.index t 2 * 8192 + 1 * i.val = i.val by rw [(idx3 t).2.2]; omega)

/-! ## The points -/

theorem at_is (t : Fin cfg0.N) {p : Vec Ideal S8192x256 .f32} {A : ℕ → ℕ → ℝ} (hA : Is2 (base (F := Ideal) (grid0.coords t) p) A) :
    IsSt (at_ m c t p) (fun i d => A i d + tq (H (t.val / 16)) (t.val % 16) i d) (fun a d => gk (H (t.val / 16)) (512 * (t.val % 16) + a) d)
      (fun a d => gv (H (t.val / 16)) (512 * (t.val % 16) + a) d) := by
  have e : grid0.coords t 1 = (⟨t.val % 16, Nat.mod_lt _ (by decide)⟩ : Fin 16) := Fin.ext (coord1 t)
  unfold at_
  rw [e]
  exact fin_is (Nat.mod_lt _ (by decide)) ⟨blk4 m c hx t, blk5 m c hx t, blk0 m c hx t, blk1 m c hx t, blk2 m c hx hM t, blk3 m c hx hM t⟩ hA

omit hx hM in
theorem tq_add (h j i d : ℕ) : ∑ l ∈ range (512 * (j + 1)), st (H h) i l * (H h).k l d * c1
    = ∑ l ∈ range (512 * j), st (H h) i l * (H h).k l d * c1 + tq (H h) j i d := by
  rw [Nat.mul_succ, sum_range_add]
  rfl

theorem dq_is : ∀ n (hn : n < cfg0.N), Is2 (dqAt m c n)
    fun i d => ∑ l ∈ range (512 * (n % 16 + 1)), st (H (n / 16)) i l * (H (n / 16)).k l d * c1 := by
  intro n
  induction n with
  | zero =>
    intro hn
    rw [dqAt_eq m c ⟨0, hn⟩]
    refine (at_is m c hx hM ⟨0, hn⟩ (A := fun _ _ => 0) ?_).dq.congr fun i d _ _ => ?_
    · rw [base, if_pos (show (grid0.coords (⟨0, hn⟩ : Fin cfg0.N) 1).val = 0 from coord1 ⟨0, hn⟩)]
      exact pay37_is
    · dsimp only
      rw [tq_add]
      rfl
  | succ n ih =>
    intro hn
    rw [dqAt_eq m c ⟨n + 1, hn⟩]
    by_cases h0 : (n + 1) % 16 = 0
    · refine (at_is m c hx hM ⟨n + 1, hn⟩ (A := fun _ _ => 0) ?_).dq.congr fun i d _ _ => ?_
      · rw [base, if_pos ((coord1 ⟨n + 1, hn⟩).trans h0)]
        exact pay37_is
      · dsimp only
        rw [tq_add, h0]
        rfl
    · have e1 : (n + 1) / 16 = n / 16 := by omega
      have e2 : (n + 1) % 16 = n % 16 + 1 := by omega
      refine (at_is m c hx hM ⟨n + 1, hn⟩ (A := fun i d => ∑ l ∈ range (512 * (n % 16 + 1)), st (H (n / 16)) i l * (H (n / 16)).k l d * c1) ?_).dq.congr
        fun i d _ _ => ?_
      · rw [base, if_neg fun e => h0 ((coord1 ⟨n + 1, hn⟩).symm.trans e)]
        exact ih (Nat.lt_of_succ_lt hn)
      · dsimp only
        rw [e1, e2]
        exact (tq_add _ _ _ _).symm

theorem base_is (t : Fin cfg0.N) : ∃ A, Is2 (base (F := Ideal) (grid0.coords t) (dqAt m c (t.val - 1))) A := by
  by_cases h0 : (grid0.coords t 1).val = 0
  · exact ⟨fun _ _ => 0, by rw [base, if_pos h0]; exact pay37_is⟩
  · exact ⟨_, by rw [base, if_neg h0]; exact dq_is m c hx hM (t.val - 1) (Nat.lt_of_le_of_lt (Nat.sub_le _ _) t.isLt)⟩

end

/-! ## The results -/

def gradQ (H : ℕ → Head) : S8192x2048.Idx → EReal := fun y => ((gq (H ((y 1).val / 256)) (y 0).val ((y 1).val % 256) : ℝ) : EReal)
def gradK (H : ℕ → Head) : S8192x2048.Idx → EReal := fun y => ((gk (H ((y 1).val / 256)) (y 0).val ((y 1).val % 256) : ℝ) : EReal)
def gradV (H : ℕ → Head) : S8192x1024.Idx → EReal := fun y => ((gv (H ((y 1).val / 128)) (y 0).val ((y 1).val % 128) : ℝ) : EReal)

section
variable (hx : Holds (a0 m c) (a1 m c) (a2 m c) (a3 m c) H) (hM : Maxima (a0 m c) (a1 m c) M)
include hx hM

theorem flushed6 (t : Fin cfg0.N) (hf : (cfg0.win 6).flush t = true) :
    (dats m 0 c).flushed 6 t = ((cfg0.win 6).blk t).view.read (Elt Ideal) (gradQ H) := by
  have ht := lt128 t
  have h15 := (flush0_6 t).mp hf
  show (cfg0.win 6).cut (grid0.coords t) ((dats m 0 c).after 6 t) = _
  rw [after0_6, ← dqAt_eq]
  funext y
  obtain ⟨a, b, rfl⟩ : ∃ (a : Fin 8192) (b : Fin 256), y = ix2 a b := ⟨_, _, eq_ix2 y⟩
  have hb := b.isLt
  rw [View.read_apply]
  refine (show _ = dqAt m c t.val (ix2 a b) from rfl).trans ((dq_is m c hx hM t.val t.isLt a b).trans ?_)
  show _ = ((gq (H ((win0_6.index t 1 * 256 + 1 * b.val) / 256)) (win0_6.index t 0 * 8192 + 1 * a.val) ((win0_6.index t 1 * 256 + 1 * b.val) % 256) : ℝ) : EReal)
  rw [(idx6 t).1, (idx6 t).2, show (t.val / 16 * 256 + 1 * b.val) / 256 = t.val / 16 by omega, show (t.val / 16 * 256 + 1 * b.val) % 256 = b.val by omega,
    show 0 * 8192 + 1 * a.val = a.val by omega, show 512 * (t.val % 16 + 1) = 8192 by omega]
  rfl

theorem flushed7 (t : Fin cfg0.N) (hf : (cfg0.win 7).flush t = true) :
    (dats m 0 c).flushed 7 t = ((cfg0.win 7).blk t).view.read (Elt Ideal) (gradK H) := by
  have ht := lt128 t
  show (cfg0.win 7).cut (grid0.coords t) ((dats m 0 c).after 7 t) = _
  rw [after0_7]
  funext y
  obtain ⟨a, b, rfl⟩ : ∃ (a : Fin 512) (b : Fin 256), y = ix2 a b := ⟨_, _, eq_ix2 y⟩
  have hb := b.isLt
  rw [View.read_apply]
  obtain ⟨A, hA⟩ : ∃ A, Is2 (base (F := Ideal) (grid0.coords t) (dqAt m c (t.val - 1))) A := base_is m c hx hM t
  refine (show _ = (at_ m c t (dqAt m c (t.val - 1))).dk (ix2 a b) from rfl).trans (((at_is m c hx hM t hA).dk a b).trans ?_)
  show _ = ((gk (H ((win0_7.index t 1 * 256 + 1 * b.val) / 256)) (win0_7.index t 0 * 512 + 1 * a.val) ((win0_7.index t 1 * 256 + 1 * b.val) % 256) : ℝ) : EReal)
  rw [(idx7 t).1, (idx7 t).2, show (t.val / 16 * 256 + 1 * b.val) / 256 = t.val / 16 by omega, show (t.val / 16 * 256 + 1 * b.val) % 256 = b.val by omega,
    show t.val % 16 * 512 + 1 * a.val = 512 * (t.val % 16) + a.val by omega]

theorem flushed8 (t : Fin cfg0.N) (hf : (cfg0.win 8).flush t = true) :
    (dats m 0 c).flushed 8 t = ((cfg0.win 8).blk t).view.read (Elt Ideal) (gradV H) := by
  have ht := lt128 t
  show (cfg0.win 8).cut (grid0.coords t) ((dats m 0 c).after 8 t) = _
  rw [after0_8]
  funext y
  obtain ⟨a, b, rfl⟩ : ∃ (a : Fin 512) (b : Fin 128), y = ix2 a b := ⟨_, _, eq_ix2 y⟩
  have hb := b.isLt
  rw [View.read_apply]
  obtain ⟨A, hA⟩ : ∃ A, Is2 (base (F := Ideal) (grid0.coords t) (dqAt m c (t.val - 1))) A := base_is m c hx hM t
  refine (show _ = (at_ m c t (dqAt m c (t.val - 1))).dv (ix2 a b) from rfl).trans (((at_is m c hx hM t hA).dv a b).trans ?_)
  show _ = ((gv (H ((win0_8.index t 1 * 128 + 1 * b.val) / 128)) (win0_8.index t 0 * 512 + 1 * a.val) ((win0_8.index t 1 * 128 + 1 * b.val) % 128) : ℝ) : EReal)
  rw [(idx8 t).1, (idx8 t).2, show (t.val / 16 * 128 + 1 * b.val) / 128 = t.val / 16 by omega, show (t.val / 16 * 128 + 1 * b.val) % 128 = b.val by omega,
    show t.val % 16 * 512 + 1 * a.val = 512 * (t.val % 16) + a.val by omega]

theorem final6 : (dats m 0 c).arrAt 6 cfg0.N = gradQ H :=
  (dats m 0 c).arrAt_eq_of_cover 6 (gradQ H) (flushed6 m c hx hM) fun i => by
    have h0 : (i 0 : ℕ) < 8192 := (i 0).isLt
    have h1 : (i 1 : ℕ) < 2048 := (i 1).isLt
    have ht : (i 1 : ℕ) / 256 * 16 + 15 < cfg0.N := by show _ < 128; omega
    have hI := idx6 ⟨_, ht⟩
    refine ⟨⟨_, ht⟩, (flush0_6 ⟨_, ht⟩).mpr (by dsimp only; omega), ?_⟩
    show i ∈ ((View.whole main_v47_0).slice (win0_6.rect ⟨_, ht⟩)).set
    rw [View.set_slice_whole, Rect.mem_set_unit]
    intro a
    match a with
    | ⟨0, _⟩ =>
      show win0_6.index ⟨_, ht⟩ 0 * 8192 ≤ (i 0 : ℕ) ∧ (i 0 : ℕ) < win0_6.index ⟨_, ht⟩ 0 * 8192 + 8192
      rw [hI.1]; omega
    | ⟨1, _⟩ =>
      show win0_6.index ⟨_, ht⟩ 1 * 256 ≤ (i 1 : ℕ) ∧ (i 1 : ℕ) < win0_6.index ⟨_, ht⟩ 1 * 256 + 256
      rw [hI.2]; dsimp only; omega

theorem final7 : (dats m 0 c).arrAt 7 cfg0.N = gradK H :=
  (dats m 0 c).arrAt_eq_of_cover 7 (gradK H) (flushed7 m c hx hM) fun i => by
    have h0 : (i 0 : ℕ) < 8192 := (i 0).isLt
    have h1 : (i 1 : ℕ) < 2048 := (i 1).isLt
    have ht : (i 1 : ℕ) / 256 * 16 + (i 0 : ℕ) / 512 < cfg0.N := by show _ < 128; omega
    have hI := idx7 ⟨_, ht⟩
    refine ⟨⟨_, ht⟩, flush0_7 ⟨_, ht⟩, ?_⟩
    show i ∈ ((View.whole main_v47_1).slice (win0_7.rect ⟨_, ht⟩)).set
    rw [View.set_slice_whole, Rect.mem_set_unit]
    intro a
    match a with
    | ⟨0, _⟩ =>
      show win0_7.index ⟨_, ht⟩ 0 * 512 ≤ (i 0 : ℕ) ∧ (i 0 : ℕ) < win0_7.index ⟨_, ht⟩ 0 * 512 + 512
      rw [hI.1]; dsimp only; omega
    | ⟨1, _⟩ =>
      show win0_7.index ⟨_, ht⟩ 1 * 256 ≤ (i 1 : ℕ) ∧ (i 1 : ℕ) < win0_7.index ⟨_, ht⟩ 1 * 256 + 256
      rw [hI.2]; dsimp only; omega

theorem final8 : (dats m 0 c).arrAt 8 cfg0.N = gradV H :=
  (dats m 0 c).arrAt_eq_of_cover 8 (gradV H) (flushed8 m c hx hM) fun i => by
    have h0 : (i 0 : ℕ) < 8192 := (i 0).isLt
    have h1 : (i 1 : ℕ) < 1024 := (i 1).isLt
    have ht : (i 1 : ℕ) / 128 * 16 + (i 0 : ℕ) / 512 < cfg0.N := by show _ < 128; omega
    have hI := idx8 ⟨_, ht⟩
    refine ⟨⟨_, ht⟩, flush0_8 ⟨_, ht⟩, ?_⟩
    show i ∈ ((View.whole main_v47_2).slice (win0_8.rect ⟨_, ht⟩)).set
    rw [View.set_slice_whole, Rect.mem_set_unit]
    intro a
    match a with
    | ⟨0, _⟩ =>
      show win0_8.index ⟨_, ht⟩ 0 * 512 ≤ (i 0 : ℕ) ∧ (i 0 : ℕ) < win0_8.index ⟨_, ht⟩ 0 * 512 + 512
      rw [hI.1]; dsimp only; omega
    | ⟨1, _⟩ =>
      show win0_8.index ⟨_, ht⟩ 1 * 128 ≤ (i 1 : ℕ) ∧ (i 1 : ℕ) < win0_8.index ⟨_, ht⟩ 1 * 128 + 128
      rw [hI.2]; dsimp only; omega

end

end Cert.Proof.KernelIdeal

end
-- ==== Proof.Grad.lean ====
/-
  The reference's gradients at an index, over the reals.
-/
module

public import proofs.«01_k».proof.Proof.Scores

@[expose] public section

set_option maxRecDepth 16384

noncomputable section

namespace Cert.Proof.Ref

open Cert.ReferenceIdeal Cert.ReferenceIdeal.Gen Cert.ReferenceIdeal.Read
open Idealize.ShloMosaic Idealize.ShloMosaic.TcCoe Idealize.ShloMosaic.ValueIdx
open Finset Cert.Proof.Attn

variable {x0 x1 : S8192x8x192.Idx → EReal} {x2 : S8192x8x128.Idx → EReal} {x3 : S8192x2048.Idx → EReal} {H : ℕ → Head} {M : ℕ → ℕ → ℝ}
variable (hx : Holds x0 x1 x2 x3 H) (hM : Maxima x0 x1 M)

section
include hx

theorem v44_at (h : Fin 8) (d : Fin 128) (i : Fin 8192) : val_main_v44 (F := Ideal) x3 (ix3 h d i) = (((H h.val).o i.val d.val : ℝ) : EReal) := by
  rw [val_main_v44_apply]
  have e : idx_main_v44 (ix3 h d i) = ix3 i h d := by funext a; match a with | ⟨0, _⟩ => rfl | ⟨1, _⟩ => rfl | ⟨2, _⟩ => rfl
  rw [e, v1_at hx]

/-- The cotangent of a probability. -/
theorem v45_at (h : Fin 8) (i j : Fin 8192) : val_main_v45 (F := Ideal) x2 x3 (ix3 h i j) = ((gr (H h.val) i.val j.val : ℝ) : EReal) := by
  rw [val_main_v45_apply]
  refine sum_coe _ (fun d => (H h.val).o i.val d * (H h.val).v j.val d) fun d => ?_
  have e0 : lidx_main_v45 (ix3 h i j) d = ix3 h d i := by funext a; match a with | ⟨0, _⟩ => rfl | ⟨1, _⟩ => rfl | ⟨2, _⟩ => rfl
  have e1 : ridx_main_v45 (ix3 h i j) d = ix3 j h d := by funext a; match a with | ⟨0, _⟩ => rfl | ⟨1, _⟩ => rfl | ⟨2, _⟩ => rfl
  rw [e0, e1, v44_at hx, hx.v, EReal.coe_mul]

include hM

/-! ## The gradient of v -/

theorem v47_at (j : Fin 8192) (h : Fin 8) (d : Fin 128) : val_main_v47 (F := Ideal) x0 x1 x3 (ix3 j h d) = ((gv (H h.val) j.val d.val : ℝ) : EReal) := by
  rw [val_main_v47_apply]
  have e : idx_main_v47 (ix3 j h d) = ix3 h d j := by funext a; match a with | ⟨0, _⟩ => rfl | ⟨1, _⟩ => rfl | ⟨2, _⟩ => rfl
  rw [e, val_main_v46_apply]
  refine sum_coe _ (fun i => pm (H h.val) i j.val * (H h.val).o i d.val) fun i => ?_
  have e0 : lidx_main_v46 (ix3 h d j) i = ix3 h d i := by funext a; match a with | ⟨0, _⟩ => rfl | ⟨1, _⟩ => rfl | ⟨2, _⟩ => rfl
  have e1 : ridx_main_v46 (ix3 h d j) i = ix3 h i j := by funext a; match a with | ⟨0, _⟩ => rfl | ⟨1, _⟩ => rfl | ⟨2, _⟩ => rfl
  rw [e0, e1, v44_at hx, v38_at hx hM, ← EReal.coe_mul, mul_comm]

/-! ## The cotangent of the scores -/

theorem v41_at (h : Fin 8) (i : Fin 8192) (z : Fin 1) : val_main_v41 (F := Ideal) x0 x1 (ix3 h i z)
    = ((1 / (den (H h.val) (M h.val i.val) i.val * den (H h.val) (M h.val i.val) i.val) : ℝ) : EReal) := by
  have hd := (den_pos (H h.val) (M h.val i.val) _ i.isLt).ne'
  rw [val_main_v41_apply, val_main_v40_apply, val_main_cst_10_apply, val_main_v39_apply, v36_at hx hM, Ideal.mulf_def, Ideal.hostDivf_def,
    Ideal.ofBits_def, Ideal.ofBits_one_f32, ← EReal.coe_mul, Ideal.div_coe (mul_ne_zero hd hd), one_mul]

theorem v50_at (h : Fin 8) (i j : Fin 8192) : val_main_v50 (F := Ideal) x0 x1 x2 x3 (ix3 h i j)
    = ((gr (H h.val) i.val j.val * (1 / (den (H h.val) (M h.val i.val) i.val * den (H h.val) (M h.val i.val) i.val)) * ex H M h.val i.val j.val : ℝ) : EReal) := by
  rw [val_main_v50_apply, val_main_v49_apply, val_main_v48_apply, v45_at hx, v34_at hx hM]
  have e : idx_main_v48 (ix3 h i j) = ix3 h i 0 := by funext a; match a with | ⟨0, _⟩ => rfl | ⟨1, _⟩ => rfl | ⟨2, _⟩ => rfl
  rw [e, v41_at hx hM, Ideal.mulf_def, Ideal.mulf_def, ← EReal.coe_mul, ← EReal.coe_mul]

/-- The row's term of the cotangent, without its sign. -/
def rowTerm (H : ℕ → Head) (M : ℕ → ℕ → ℝ) (h i : ℕ) : ℝ :=
  ∑ l ∈ range 8192, gr (H h) i l * (1 / (den (H h) (M h i) i * den (H h) (M h i) i)) * ex H M h i l

theorem v51_at (h : Fin 8) (i : Fin 8192) : val_main_v51 (F := Ideal) x0 x1 x2 x3 (ix2 h i) = ((rowTerm H M h.val i.val : ℝ) : EReal) := by
  rw [val_main_v51_apply, val_main_cst_11_apply, Ideal.ofBits_def, Ideal.ofBits_zero_f32, zero_add]
  refine sum_coe _ (fun l => gr (H h.val) i.val l * (1 / (den (H h.val) (M h.val i.val) i.val * den (H h.val) (M h.val i.val) i.val)) * ex H M h.val i.val l)
    fun j => ?_
  have e : idx_main_v51 (ix2 h i) j = ix3 h i j := by funext a; match a with | ⟨0, _⟩ => rfl | ⟨1, _⟩ => rfl | ⟨2, _⟩ => rfl
  rw [e, v50_at hx hM]

theorem v53_at (h : Fin 8) (i : Fin 8192) (z : Fin 1) : val_main_v53 (F := Ideal) x0 x1 x2 x3 (ix3 h i z) = ((-rowTerm H M h.val i.val : ℝ) : EReal) := by
  rw [val_main_v53_apply, val_main_v52_apply]
  have hz : z.val = 0 := by omega
  have e : idx_main_v52 (ix3 h i z) = ix2 h i := by
    funext a
    match a with
    | ⟨0, _⟩ => exact Fin.ext (show ((h.val * 8192 + i.val) * 1 + z.val) / 8192 = h.val by omega)
    | ⟨1, _⟩ => exact Fin.ext (show ((h.val * 8192 + i.val) * 1 + z.val) % 8192 = i.val by omega)
  rw [e, v51_at hx hM, Ideal.hostNegf_def, Ideal.negf_def, EReal.coe_neg]

theorem v56_at (h : Fin 8) (i : Fin 8192) : val_main_v56 (F := Ideal) x0 x1 x2 x3 (ix2 h i) = ((-rowTerm H M h.val i.val : ℝ) : EReal) := by
  rw [val_main_v56_apply, val_main_cst_12_apply, Ideal.ofBits_def, Ideal.ofBits_zero_f32, zero_add, Fin.sum_univ_one]
  have e : idx_main_v56 (ix2 h i) 0 = ix3 h i 0 := by funext a; match a with | ⟨0, _⟩ => rfl | ⟨1, _⟩ => rfl | ⟨2, _⟩ => rfl
  rw [e, v53_at hx hM]

theorem v59_at (h : Fin 8) (i j : Fin 8192) : val_main_v59 (F := Ideal) x0 x1 x2 x3 (ix3 h i j) = ((st (H h.val) i.val j.val : ℝ) : EReal) := by
  rw [val_main_v59_apply, val_main_v58_apply, val_main_v55_apply, val_main_v54_apply, val_main_v57_apply, v45_at hx, v34_at hx hM]
  have e0 : idx_main_v54 (ix3 h i j) = ix3 h i 0 := by funext a; match a with | ⟨0, _⟩ => rfl | ⟨1, _⟩ => rfl | ⟨2, _⟩ => rfl
  have e1 : idx_main_v57 (ix3 h i j) = ix2 h i := by funext a; match a with | ⟨0, _⟩ => rfl | ⟨1, _⟩ => rfl
  rw [e0, e1, v36_at hx hM, v56_at hx hM, Ideal.hostDivf_def, Ideal.addf_def, Ideal.mulf_def, Ideal.div_coe (den_pos _ _ _ i.isLt).ne',
    ← EReal.coe_mul, ← EReal.coe_add, ← EReal.coe_mul, mul_one_div]
  exact congrArg _ (quot_eq (H h.val) (M h.val i.val) i.val j.val i.isLt)

theorem v60_at (h : Fin 8) (i j : Fin 8192) : val_main_v60 (F := Ideal) x0 x1 x2 x3 (ix3 h i j) = ((st (H h.val) i.val j.val : ℝ) : EReal) := by
  rw [val_main_v60_apply, mask_at, v59_at hx hM]
  by_cases hji : j.val ≤ i.val
  · rw [if_pos hji, select_one]
  · rw [if_neg hji, select_zero, val_main_call1_v0_apply, val_main_call1_cst_apply, Ideal.ofBits_def, Ideal.ofBits_zero_f32]
    unfold st
    rw [if_neg hji, EReal.coe_zero]

theorem v62_at (h : Fin 8) (i j : Fin 8192) : val_main_v62 (F := Ideal) x0 x1 x2 x3 (ix3 h i j) = ((st (H h.val) i.val j.val * c1 : ℝ) : EReal) := by
  rw [val_main_v62_apply, v60_at hx hM, val_main_v61_apply, val_main_v3_apply, val_main_cst_apply, Ideal.hostUnary_sqrt_def, Ideal.ofBits_def, bits_192,
    Ideal.sqrt_coe, if_neg (by norm_num), Ideal.hostDivf_def, Ideal.div_coe root_ne, ← EReal.coe_mul]
  unfold c1
  rw [one_div]

/-! ## The gradients of q and k -/

theorem v64_at (j : Fin 8192) (h : Fin 8) (d : Fin 192) : val_main_v64 (F := Ideal) x0 x1 x2 x3 (ix3 j h d) = ((gk (H h.val) j.val d.val : ℝ) : EReal) := by
  rw [val_main_v64_apply]
  have e : idx_main_v64 (ix3 j h d) = ix3 h j d := by funext a; match a with | ⟨0, _⟩ => rfl | ⟨1, _⟩ => rfl | ⟨2, _⟩ => rfl
  rw [e, val_main_v63_apply]
  refine sum_coe _ (fun i => st (H h.val) i j.val * (H h.val).q i d.val * c1) fun i => ?_
  have e0 : lidx_main_v63 (ix3 h j d) i = ix3 h i j := by funext a; match a with | ⟨0, _⟩ => rfl | ⟨1, _⟩ => rfl | ⟨2, _⟩ => rfl
  have e1 : ridx_main_v63 (ix3 h j d) i = ix3 i h d := by funext a; match a with | ⟨0, _⟩ => rfl | ⟨1, _⟩ => rfl | ⟨2, _⟩ => rfl
  rw [e0, e1, v62_at hx hM, hx.q, ← EReal.coe_mul, mul_right_comm]

theorem v66_at (i : Fin 8192) (h : Fin 8) (d : Fin 192) : val_main_v66 (F := Ideal) x0 x1 x2 x3 (ix3 i h d) = ((gq (H h.val) i.val d.val : ℝ) : EReal) := by
  rw [val_main_v66_apply]
  have e : idx_main_v66 (ix3 i h d) = ix3 h i d := by funext a; match a with | ⟨0, _⟩ => rfl | ⟨1, _⟩ => rfl | ⟨2, _⟩ => rfl
  rw [e, val_main_v65_apply]
  refine sum_coe _ (fun j => st (H h.val) i.val j * (H h.val).k j d.val * c1) fun j => ?_
  have e0 : lidx_main_v65 (ix3 h i d) j = ix3 h i j := by funext a; match a with | ⟨0, _⟩ => rfl | ⟨1, _⟩ => rfl | ⟨2, _⟩ => rfl
  have e1 : ridx_main_v65 (ix3 h i d) j = ix3 j h d := by funext a; match a with | ⟨0, _⟩ => rfl | ⟨1, _⟩ => rfl | ⟨2, _⟩ => rfl
  rw [e0, e1, v62_at hx hM, hx.k, ← EReal.coe_mul, mul_right_comm]

end

/-! ## The results -/

theorem pad_at {y : S8192x8x192.Idx → EReal} {z : S_.Idx → EReal} {f : ℕ → ℕ → ℕ → ℝ}
    (hy : ∀ (i : Fin 8192) (h : Fin 8) (d : Fin 192), y (ix3 i h d) = ((f h.val i.val d.val : ℝ) : EReal)) (hz : ∀ i, z i = 0)
    (h0 : ∀ h i d, 192 ≤ d → f h i d = 0) (i : Fin 8192) (h : Fin 8) (d : Fin 256) :
    pad S8192x8x256 ![0, 0, 0] ![0, 0, 64] ![0, 0, 0] y z pads_S8192x8x192_S8192x8x256_000_000_0640 h_S_ (ix3 i h d) = ((f h.val i.val d.val : ℝ) : EReal) := by
  unfold pad
  dsimp only
  split
  · rename_i hin
    have hd : d.val < 192 := by
      have := (hin 2).2.2
      change (d.val - 0) / (0 + 1) < 192 at this
      omega
    refine (congrArg y (funext fun a => Fin.ext ?_ : _ = ix3 i h ⟨d.val, hd⟩)).trans (hy i h ⟨d.val, hd⟩)
    match a with
    | ⟨0, _⟩ => show (i.val - 0) / (0 + 1) = i.val; omega
    | ⟨1, _⟩ => show (h.val - 0) / (0 + 1) = h.val; omega
    | ⟨2, _⟩ => show (d.val - 0) / (0 + 1) = d.val; omega
  · rename_i hin
    have hd : 192 ≤ d.val := by
      by_contra hlt
      refine hin fun a => ?_
      match a with
      | ⟨0, _⟩ => show 0 ≤ i.val ∧ (i.val - 0) % (0 + 1) = 0 ∧ (i.val - 0) / (0 + 1) < 8192; omega
      | ⟨1, _⟩ => show 0 ≤ h.val ∧ (h.val - 0) % (0 + 1) = 0 ∧ (h.val - 0) / (0 + 1) < 8; omega
      | ⟨2, _⟩ => show 0 ≤ d.val ∧ (d.val - 0) % (0 + 1) = 0 ∧ (d.val - 0) / (0 + 1) < 192; omega
    rw [hz, h0 _ _ _ hd, EReal.coe_zero]

theorem c0_at (i : S_.Idx) : val_main_call2_v0 (F := Ideal) i = 0 := by
  rw [val_main_call2_v0_apply, val_main_c_apply]
  show (((0#32 : BitVec 32).toInt : ℝ) : EReal) = 0
  simp

theorem c1_at (i : S_.Idx) : val_main_call3_v0 (F := Ideal) i = 0 := by
  rw [val_main_call3_v0_apply, val_main_c_13_apply]
  show (((0#32 : BitVec 32).toInt : ℝ) : EReal) = 0
  simp

section
include hx hM

theorem gq_zero (h i d : ℕ) (hd : 192 ≤ d) : gq (H h) i d = 0 :=
  sum_eq_zero fun j _ => by rw [hx.k0 h j d hd, mul_zero, zero_mul]

theorem gk_zero (h i d : ℕ) (hd : 192 ≤ d) : gk (H h) i d = 0 :=
  sum_eq_zero fun j _ => by rw [hx.q0 h j d hd, mul_zero, zero_mul]

theorem v68_at (i : Fin 8192) (e : Fin 2048) : val_main_v68 (F := Ideal) x0 x1 x2 x3 (ix2 i e)
    = ((gq (H (e.val / 256)) i.val (e.val % 256) : ℝ) : EReal) := by
  rw [val_main_v68_apply]
  have hh : e.val / 256 < 8 := by omega
  have hd : e.val % 256 < 256 := by omega
  have en : idx_main_v68 (ix2 i e) = ix3 (n0 := 8192) (n1 := 8) (n2 := 256) i ⟨e.val / 256, hh⟩ ⟨e.val % 256, hd⟩ := by
    funext a
    match a with
    | ⟨0, _⟩ => exact Fin.ext (show (i.val * 2048 + e.val) / 2048 = i.val by omega)
    | ⟨1, _⟩ => exact Fin.ext (show (i.val * 2048 + e.val) / 256 % 8 = e.val / 256 by omega)
    | ⟨2, _⟩ => exact Fin.ext (show (i.val * 2048 + e.val) % 256 = e.val % 256 by omega)
  rw [en]
  exact pad_at (f := fun h i d => gq (H h) i d) (v66_at hx hM) c0_at (gq_zero hx hM) i ⟨e.val / 256, hh⟩ ⟨e.val % 256, hd⟩

theorem v70_at (i : Fin 8192) (e : Fin 2048) : val_main_v70 (F := Ideal) x0 x1 x2 x3 (ix2 i e)
    = ((gk (H (e.val / 256)) i.val (e.val % 256) : ℝ) : EReal) := by
  rw [val_main_v70_apply]
  have hh : e.val / 256 < 8 := by omega
  have hd : e.val % 256 < 256 := by omega
  have en : idx_main_v70 (ix2 i e) = ix3 (n0 := 8192) (n1 := 8) (n2 := 256) i ⟨e.val / 256, hh⟩ ⟨e.val % 256, hd⟩ := by
    funext a
    match a with
    | ⟨0, _⟩ => exact Fin.ext (show (i.val * 2048 + e.val) / 2048 = i.val by omega)
    | ⟨1, _⟩ => exact Fin.ext (show (i.val * 2048 + e.val) / 256 % 8 = e.val / 256 by omega)
    | ⟨2, _⟩ => exact Fin.ext (show (i.val * 2048 + e.val) % 256 = e.val % 256 by omega)
  rw [en]
  exact pad_at (f := fun h i d => gk (H h) i d) (v64_at hx hM) c1_at (gk_zero hx hM) i ⟨e.val / 256, hh⟩ ⟨e.val % 256, hd⟩

theorem v71_at (i : Fin 8192) (e : Fin 1024) : val_main_v71 (F := Ideal) x0 x1 x3 (ix2 i e)
    = ((gv (H (e.val / 128)) i.val (e.val % 128) : ℝ) : EReal) := by
  rw [val_main_v71_apply]
  have hh : e.val / 128 < 8 := by omega
  have hd : e.val % 128 < 128 := by omega
  have en : idx_main_v71 (ix2 i e) = ix3 (n0 := 8192) (n1 := 8) (n2 := 128) i ⟨e.val / 128, hh⟩ ⟨e.val % 128, hd⟩ := by
    funext a
    match a with
    | ⟨0, _⟩ => exact Fin.ext (show (i.val * 1024 + e.val) / 1024 = i.val by omega)
    | ⟨1, _⟩ => exact Fin.ext (show (i.val * 1024 + e.val) / 128 % 8 = e.val / 128 by omega)
    | ⟨2, _⟩ => exact Fin.ext (show (i.val * 1024 + e.val) % 128 = e.val % 128 by omega)
  rw [en, v47_at hx hM]

end

end Cert.Proof.Ref

end
-- ==== Proof.Algebra.lean ====
/-
  The kernel's results are the reference's, over the extended reals, for finite arguments.
-/
module

public import proofs.«01_k».proof.Defs
public import proofs.«01_k».proof.Proof.Frames
public import proofs.«01_k».proof.Proof.ArraysI
public import proofs.«01_k».proof.Proof.Grad

@[expose] public section

set_option maxRecDepth 16384

noncomputable section

namespace Cert.Proof

open Idealize.ShloMosaic Idealize.ShloMosaic.TcCoe Idealize.ShloMosaic.ValueIdx Idealize.SL.Sem
open Cert.Proof.Attn Cert.Proof.Ref

/-! ## Finiteness -/

theorem bits_inf : Ideal.ofBits .f32 0x7F800000#32 = ⊤ := by simp [Ideal.ofBits, Ideal.ieee]

/-- An extended real whose absolute value is below infinity is a real. -/
theorem real_of_lt {x : EReal} (h : FloatOps.cmpf (F := Ideal) (φ := .f32) .olt (FloatOps.hostAbsf (F := Ideal) (φ := .f32) x) (Ideal.ofBits .f32 0x7F800000#32) = 1#1) :
    ∃ r : ℝ, x = r := by
  rw [Ideal.hostAbsf_def, Ideal.absf_def, bits_inf, Ideal.cmpf_def] at h
  have hlt : max x (-x) < ⊤ := by
    by_contra hn
    simp [Ideal.cmp, hn] at h
  have h1 : x ≠ ⊤ := (lt_of_le_of_lt (le_max_left _ _) hlt).ne
  have h2 : x ≠ ⊥ := by
    rintro rfl
    have := lt_of_le_of_lt (le_max_right (⊥ : EReal) (-⊥)) hlt
    rw [EReal.neg_bot] at this
    exact lt_irrefl _ this
  exact ⟨x.toReal, (EReal.coe_toReal h1 h2).symm⟩

/-- The heads that finite arguments hold. -/
theorem heads_of_finite [hf : Cert.Pre_finite.Facts] {x0 x1 : Cert.ReferenceIdeal.S8192x8x192.Idx → EReal} {x2 : Cert.ReferenceIdeal.S8192x8x128.Idx → EReal}
    {x3 : Cert.ReferenceIdeal.S8192x2048.Idx → EReal}
    (h0 : (Cert.Pre_finite.fn (F := Ideal) x0 x1 x2 x3).1 = fun _ => 1#1) (h1 : (Cert.Pre_finite.fn (F := Ideal) x0 x1 x2 x3).2.1 = fun _ => 1#1)
    (h2 : (Cert.Pre_finite.fn (F := Ideal) x0 x1 x2 x3).2.2.1 = fun _ => 1#1) (h3 : (Cert.Pre_finite.fn (F := Ideal) x0 x1 x2 x3).2.2.2 = fun _ => 1#1) :
    ∃ H, Holds x0 x1 x2 x3 H := by
  refine exists_heads (fun i => real_of_lt (congrFun h0 i)) (fun i => real_of_lt (congrFun h1 i)) (fun i => real_of_lt (congrFun h2 i)) fun i e he1 he2 => ?_
  have h := real_of_lt (congrFun h3 (ix2 (n0 := 8192) (n1 := 1024) i ⟨e.val - 512, by omega⟩))
  obtain ⟨r, hr⟩ := h
  refine ⟨r, Eq.trans (congrArg x3 (funext fun a => ?_)) hr⟩
  match a with
  | ⟨0, _⟩ => exact Fin.ext (show i.val = 0 + i.val by omega)
  | ⟨1, _⟩ => exact Fin.ext (show e.val = 512 + (e.val - 512) by omega)

/-! ## The claim -/

theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre harg
  have hH : ∀ c, ∃ H, Holds (Cert.Proof.KernelIdeal.a0 m c) (Cert.Proof.KernelIdeal.a1 m c) (Cert.Proof.KernelIdeal.a2 m c) (Cert.Proof.KernelIdeal.a3 m c) H :=
    fun c => heads_of_finite (hf := preFacts) (hpre c).1 (hpre c).2.1 (hpre c).2.2.1 (hpre c).2.2.2
  choose H hx using hH
  have hM' : ∀ c, ∃ M, Maxima (Cert.Proof.KernelIdeal.a0 m c) (Cert.Proof.KernelIdeal.a1 m c) M := fun c => exists_maxima (hx c)
  choose M hM using hM'
  refine ⟨fun c => Cert.Proof.KernelIdeal.gradQ (H c), fun c => Cert.Proof.KernelIdeal.gradK (H c), fun c => Cert.Proof.KernelIdeal.gradV (H c), ?_, ?_⟩
  · refine (θ_run _ _ _).mono (fun r h c => ?_) (Cert.Proof.KernelIdeal.run_main m g)
    have hc := h.1 c
    exact ⟨(hc.1 6).trans (Cert.Proof.KernelIdeal.final6 m c (hx c) (hM c)), (hc.1 7).trans (Cert.Proof.KernelIdeal.final7 m c (hx c) (hM c)),
      (hc.1 8).trans (Cert.Proof.KernelIdeal.final8 m c (hx c) (hM c)),
      (hc.2 Cert.KernelIdeal.main_arg0 (Pipeline.mem_restRefs_of Cert.KernelIdeal.main_arg0 (by decide) (by decide))).trans (Cert.KernelIdeal.Gen.V_main_arg0 m c),
      (hc.2 Cert.KernelIdeal.main_arg1 (Pipeline.mem_restRefs_of Cert.KernelIdeal.main_arg1 (by decide) (by decide))).trans (Cert.KernelIdeal.Gen.V_main_arg1 m c),
      (hc.2 Cert.KernelIdeal.main_arg2 (Pipeline.mem_restRefs_of Cert.KernelIdeal.main_arg2 (by decide) (by decide))).trans (Cert.KernelIdeal.Gen.V_main_arg2 m c),
      (hc.2 Cert.KernelIdeal.main_arg3 (Pipeline.mem_restRefs_of Cert.KernelIdeal.main_arg3 (by decide) (by decide))).trans (Cert.KernelIdeal.Gen.V_main_arg3 m c)⟩
  · refine (θ_run _ _ _).mono (fun r h c => ?_) (Cert.ReferenceIdeal.Value.run m' g')
    obtain ⟨e0, e1, e2, e3⟩ := harg c
    obtain ⟨r0, r1, r2, ha⟩ := h c
    refine ⟨r0.trans ?_, r1.trans ?_, r2.trans ?_, ha⟩
    · rw [Cert.ReferenceIdeal.Read.val_main_v68_eq, e0, e1, e2, e3]
      funext y
      obtain ⟨i, e, rfl⟩ : ∃ (i : Fin 8192) (e : Fin 2048), y = ix2 i e := ⟨_, _, eq_ix2 y⟩
      exact v68_at (hx c) (hM c) i e
    · rw [Cert.ReferenceIdeal.Read.val_main_v70_eq, e0, e1, e2, e3]
      funext y
      obtain ⟨i, e, rfl⟩ : ∃ (i : Fin 8192) (e : Fin 2048), y = ix2 i e := ⟨_, _, eq_ix2 y⟩
      exact v70_at (hx c) (hM c) i e
    · rw [Cert.ReferenceIdeal.Read.val_main_v71_eq, e0, e1, e3]
      funext y
      obtain ⟨i, e, rfl⟩ : ∃ (i : Fin 8192) (e : Fin 1024), y = ix2 i e := ⟨_, _, eq_ix2 y⟩
      exact v71_at (hx c) (hM c) i e

end Cert.Proof

end
-- ==== Proof.ProductsFrames.lean ====
/-
  The claims about the product kernels' runs and their references': each program ends with its arguments unchanged and every
  semaphore at zero.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import Idealize.ShloMosaic.Lib.Quiescent

@[expose] public section

noncomputable section

open Idealize.ShloMosaic Idealize.ShloMosaic.TcCoe Idealize.SL.Sem

namespace Cert.Proof

/-! ## The kernel `d_h2` -/

theorem quiescent_Kernel2 : Cert.quiescent_Kernel2 (hKernel2 := Cert.Kernel2.Gen.facts) :=
  fun m g _ => Cert.Kernel2.Gen.frame m g

theorem quiescent_Kernel2Ideal : Cert.quiescent_Kernel2Ideal (hKernel2Ideal := Cert.Kernel2Ideal.Gen.facts) :=
  fun m g _ => Cert.Kernel2Ideal.Gen.frame m g

theorem quiescent_Reference2Ideal : Cert.quiescent_Reference2Ideal (hReference2Ideal := Cert.Reference2Ideal.Gen.facts) :=
  fun m g _ => (θ_run _ _ _).mono (fun r h => ⟨fun c => (h c).2, sem_eq_zero_of_no_sems (by decide) r.2⟩) (Cert.Reference2Ideal.Value.run m g)

/-! ## The kernel `grad_w_gate` -/

theorem quiescent_Kernel3 : Cert.quiescent_Kernel3 (hKernel3 := Cert.Kernel3.Gen.facts) :=
  fun m g _ => Cert.Kernel3.Gen.frame m g

theorem quiescent_Kernel3Ideal : Cert.quiescent_Kernel3Ideal (hKernel3Ideal := Cert.Kernel3Ideal.Gen.facts) :=
  fun m g _ => Cert.Kernel3Ideal.Gen.frame m g

theorem quiescent_Reference3Ideal : Cert.quiescent_Reference3Ideal (hReference3Ideal := Cert.Reference3Ideal.Gen.facts) :=
  fun m g _ => (θ_run _ _ _).mono (fun r h => ⟨fun c => (h c).2.2, sem_eq_zero_of_no_sems (by decide) r.2⟩) (Cert.Reference3Ideal.Value.run m g)

/-! ## The kernel `d_a` -/

theorem quiescent_Kernel4 : Cert.quiescent_Kernel4 (hKernel4 := Cert.Kernel4.Gen.facts) :=
  fun m g _ => Cert.Kernel4.Gen.frame m g

theorem quiescent_Kernel4Ideal : Cert.quiescent_Kernel4Ideal (hKernel4Ideal := Cert.Kernel4Ideal.Gen.facts) :=
  fun m g _ => Cert.Kernel4Ideal.Gen.frame m g

theorem quiescent_Reference4Ideal : Cert.quiescent_Reference4Ideal (hReference4Ideal := Cert.Reference4Ideal.Gen.facts) :=
  fun m g _ => (θ_run _ _ _).mono (fun r h => ⟨fun c => (h c).2, sem_eq_zero_of_no_sems (by decide) r.2⟩) (Cert.Reference4Ideal.Value.run m g)

/-! ## The kernel `grad_w_down` -/

theorem quiescent_Kernel5 : Cert.quiescent_Kernel5 (hKernel5 := Cert.Kernel5.Gen.facts) :=
  fun m g _ => Cert.Kernel5.Gen.frame m g

theorem quiescent_Kernel5Ideal : Cert.quiescent_Kernel5Ideal (hKernel5Ideal := Cert.Kernel5Ideal.Gen.facts) :=
  fun m g _ => Cert.Kernel5Ideal.Gen.frame m g

theorem quiescent_Reference5Ideal : Cert.quiescent_Reference5Ideal (hReference5Ideal := Cert.Reference5Ideal.Gen.facts) :=
  fun m g _ => (θ_run _ _ _).mono (fun r h => ⟨fun c => (h c).2.2, sem_eq_zero_of_no_sems (by decide) r.2⟩) (Cert.Reference5Ideal.Value.run m g)

/-! ## The kernel `gate_proj` -/

theorem quiescent_Kernel6 : Cert.quiescent_Kernel6 (hKernel6 := Cert.Kernel6.Gen.facts) :=
  fun m g _ => Cert.Kernel6.Gen.frame m g

theorem quiescent_Kernel6Ideal : Cert.quiescent_Kernel6Ideal (hKernel6Ideal := Cert.Kernel6Ideal.Gen.facts) :=
  fun m g _ => Cert.Kernel6Ideal.Gen.frame m g

theorem quiescent_Reference6Ideal : Cert.quiescent_Reference6Ideal (hReference6Ideal := Cert.Reference6Ideal.Gen.facts) :=
  fun m g _ => (θ_run _ _ _).mono (fun r h => ⟨fun c => (h c).2, sem_eq_zero_of_no_sems (by decide) r.2⟩) (Cert.Reference6Ideal.Value.run m g)

/-! ## The kernel `down_proj` -/

theorem quiescent_Kernel7 : Cert.quiescent_Kernel7 (hKernel7 := Cert.Kernel7.Gen.facts) :=
  fun m g _ => Cert.Kernel7.Gen.frame m g

theorem quiescent_Kernel7Ideal : Cert.quiescent_Kernel7Ideal (hKernel7Ideal := Cert.Kernel7Ideal.Gen.facts) :=
  fun m g _ => Cert.Kernel7Ideal.Gen.frame m g

theorem quiescent_Reference7Ideal : Cert.quiescent_Reference7Ideal (hReference7Ideal := Cert.Reference7Ideal.Gen.facts) :=
  fun m g _ => (θ_run _ _ _).mono (fun r h => ⟨fun c => (h c).2, sem_eq_zero_of_no_sems (by decide) r.2⟩) (Cert.Reference7Ideal.Value.run m g)

/-! ## The kernel `d_cat` -/

theorem quiescent_Kernel8 : Cert.quiescent_Kernel8 (hKernel8 := Cert.Kernel8.Gen.facts) :=
  fun m g _ => Cert.Kernel8.Gen.frame m g

theorem quiescent_Kernel8Ideal : Cert.quiescent_Kernel8Ideal (hKernel8Ideal := Cert.Kernel8Ideal.Gen.facts) :=
  fun m g _ => Cert.Kernel8Ideal.Gen.frame m g

theorem quiescent_Reference8Ideal : Cert.quiescent_Reference8Ideal (hReference8Ideal := Cert.Reference8Ideal.Gen.facts) :=
  fun m g _ => (θ_run _ _ _).mono (fun r h => ⟨fun c => (h c).2, sem_eq_zero_of_no_sems (by decide) r.2⟩) (Cert.Reference8Ideal.Value.run m g)

/-! ## The kernel `grad_w_o` -/

theorem quiescent_Kernel9 : Cert.quiescent_Kernel9 (hKernel9 := Cert.Kernel9.Gen.facts) :=
  fun m g _ => Cert.Kernel9.Gen.frame m g

theorem quiescent_Kernel9Ideal : Cert.quiescent_Kernel9Ideal (hKernel9Ideal := Cert.Kernel9Ideal.Gen.facts) :=
  fun m g _ => Cert.Kernel9Ideal.Gen.frame m g

theorem quiescent_Reference9Ideal : Cert.quiescent_Reference9Ideal (hReference9Ideal := Cert.Reference9Ideal.Gen.facts) :=
  fun m g _ => (θ_run _ _ _).mono (fun r h => ⟨fun c => (h c).2.2, sem_eq_zero_of_no_sems (by decide) r.2⟩) (Cert.Reference9Ideal.Value.run m g)

/-! ## The kernel `o_proj` -/

theorem quiescent_Kernel10 : Cert.quiescent_Kernel10 (hKernel10 := Cert.Kernel10.Gen.facts) :=
  fun m g _ => Cert.Kernel10.Gen.frame m g

theorem quiescent_Kernel10Ideal : Cert.quiescent_Kernel10Ideal (hKernel10Ideal := Cert.Kernel10Ideal.Gen.facts) :=
  fun m g _ => Cert.Kernel10Ideal.Gen.frame m g

theorem quiescent_Reference10Ideal : Cert.quiescent_Reference10Ideal (hReference10Ideal := Cert.Reference10Ideal.Gen.facts) :=
  fun m g _ => (θ_run _ _ _).mono (fun r h => ⟨fun c => (h c).2, sem_eq_zero_of_no_sems (by decide) r.2⟩) (Cert.Reference10Ideal.Value.run m g)

/-! ## The kernel `z_proj` -/

theorem quiescent_Kernel11 : Cert.quiescent_Kernel11 (hKernel11 := Cert.Kernel11.Gen.facts) :=
  fun m g _ => Cert.Kernel11.Gen.frame m g

theorem quiescent_Kernel11Ideal : Cert.quiescent_Kernel11Ideal (hKernel11Ideal := Cert.Kernel11Ideal.Gen.facts) :=
  fun m g _ => Cert.Kernel11Ideal.Gen.frame m g

theorem quiescent_Reference11Ideal : Cert.quiescent_Reference11Ideal (hReference11Ideal := Cert.Reference11Ideal.Gen.facts) :=
  fun m g _ => (θ_run _ _ _).mono (fun r h => ⟨fun c => (h c).2, sem_eq_zero_of_no_sems (by decide) r.2⟩) (Cert.Reference11Ideal.Value.run m g)

/-! ## The kernel `grad_w_in` -/

theorem quiescent_Kernel12 : Cert.quiescent_Kernel12 (hKernel12 := Cert.Kernel12.Gen.facts) :=
  fun m g _ => Cert.Kernel12.Gen.frame m g

theorem quiescent_Kernel12Ideal : Cert.quiescent_Kernel12Ideal (hKernel12Ideal := Cert.Kernel12Ideal.Gen.facts) :=
  fun m g _ => Cert.Kernel12Ideal.Gen.frame m g

theorem quiescent_Reference12Ideal : Cert.quiescent_Reference12Ideal (hReference12Ideal := Cert.Reference12Ideal.Gen.facts) :=
  fun m g _ => (θ_run _ _ _).mono (fun r h => ⟨fun c => (h c).2.2, sem_eq_zero_of_no_sems (by decide) r.2⟩) (Cert.Reference12Ideal.Value.run m g)

/-! ## The kernel `d_h` -/

theorem quiescent_Kernel13 : Cert.quiescent_Kernel13 (hKernel13 := Cert.Kernel13.Gen.facts) :=
  fun m g _ => Cert.Kernel13.Gen.frame m g

theorem quiescent_Kernel13Ideal : Cert.quiescent_Kernel13Ideal (hKernel13Ideal := Cert.Kernel13Ideal.Gen.facts) :=
  fun m g _ => Cert.Kernel13Ideal.Gen.frame m g

theorem quiescent_Reference13Ideal : Cert.quiescent_Reference13Ideal (hReference13Ideal := Cert.Reference13Ideal.Gen.facts) :=
  fun m g _ => (θ_run _ _ _).mono (fun r h => ⟨fun c => (h c).2, sem_eq_zero_of_no_sems (by decide) r.2⟩) (Cert.Reference13Ideal.Value.run m g)

/-! ## The kernel `grad_w_up` -/

theorem quiescent_Kernel14 : Cert.quiescent_Kernel14 (hKernel14 := Cert.Kernel14.Gen.facts) :=
  fun m g _ => Cert.Kernel14.Gen.frame m g

theorem quiescent_Kernel14Ideal : Cert.quiescent_Kernel14Ideal (hKernel14Ideal := Cert.Kernel14Ideal.Gen.facts) :=
  fun m g _ => Cert.Kernel14Ideal.Gen.frame m g

theorem quiescent_Reference14Ideal : Cert.quiescent_Reference14Ideal (hReference14Ideal := Cert.Reference14Ideal.Gen.facts) :=
  fun m g _ => (θ_run _ _ _).mono (fun r h => ⟨fun c => (h c).2.2, sem_eq_zero_of_no_sems (by decide) r.2⟩) (Cert.Reference14Ideal.Value.run m g)

/-! ## The kernel `up_proj` -/

theorem quiescent_Kernel15 : Cert.quiescent_Kernel15 (hKernel15 := Cert.Kernel15.Gen.facts) :=
  fun m g _ => Cert.Kernel15.Gen.frame m g

theorem quiescent_Kernel15Ideal : Cert.quiescent_Kernel15Ideal (hKernel15Ideal := Cert.Kernel15Ideal.Gen.facts) :=
  fun m g _ => Cert.Kernel15Ideal.Gen.frame m g

theorem quiescent_Reference15Ideal : Cert.quiescent_Reference15Ideal (hReference15Ideal := Cert.Reference15Ideal.Gen.facts) :=
  fun m g _ => (θ_run _ _ _).mono (fun r h => ⟨fun c => (h c).2, sem_eq_zero_of_no_sems (by decide) r.2⟩) (Cert.Reference15Ideal.Value.run m g)

end Cert.Proof

end
-- ==== Proof.Products.lean ====
/-
  Products of matrices over the extended reals, by index: a matrix as a function of two numbers, the contraction
  patterns the kernels and the references use, and a sum over a range cut into blocks.
-/
module

public import Idealize.ShloMosaic.Lib.Pipeline.Value
public import Idealize.ShloMosaic.Lib.StableHlo.Run
public import Idealize.ShloMosaic.Lib.ValueIdx
public import Idealize.ShloMosaic.PureOps.Ideal.Laws
public import Idealize.ShloMosaic.PureOps.IdealRules

@[expose] public section

noncomputable section

namespace Cert.Proof.Products

open Idealize.ShloMosaic Idealize.ShloMosaic.ValueIdx
open Finset

/-- The matrix's entries are `f`. -/
def At2 {n0 n1 : ℕ} (X : (⟨2, ![n0, n1]⟩ : Shape).Idx → EReal) (f : ℕ → ℕ → EReal) : Prop :=
  ∀ (a : Fin n0) (b : Fin n1), X (ix2 a b) = f a.val b.val

/-- The matrix's entries, zero outside it. -/
def ent {n0 n1 : ℕ} (X : (⟨2, ![n0, n1]⟩ : Shape).Idx → EReal) (a b : ℕ) : EReal :=
  if h : a < n0 ∧ b < n1 then X (ix2 ⟨a, h.1⟩ ⟨b, h.2⟩) else 0

theorem at2_ent {n0 n1 : ℕ} (X : (⟨2, ![n0, n1]⟩ : Shape).Idx → EReal) : At2 X (ent X) := fun a b => by
  unfold ent
  rw [dif_pos ⟨a.isLt, b.isLt⟩]

/-- The matrix with entries `f`. -/
def mat {n0 n1 : ℕ} (f : ℕ → ℕ → EReal) : (⟨2, ![n0, n1]⟩ : Shape).Idx → EReal := fun y => f (y 0).val (y 1).val

theorem At2.eq_mat {n0 n1 : ℕ} {X : (⟨2, ![n0, n1]⟩ : Shape).Idx → EReal} {f : ℕ → ℕ → EReal} (h : At2 X f) : X = mat f := funext fun y => by
  obtain ⟨a, b, rfl⟩ : ∃ (a : Fin n0) (b : Fin n1), y = ix2 a b := ⟨_, _, eq_ix2 y⟩
  exact h a b

/-! ## The contraction patterns -/

section
variable {K M N : ℕ}

/-- Both operands contracted along their rows. -/
abbrev dTN (wf : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- Both operands contracted along their columns. -/
abbrev dNT (wf : DotDims.WF ⟨2, ![M, K]⟩ ⟨2, ![N, K]⟩ ⟨2, ![M, N]⟩ [1] [1] [0] [0] [] []) : DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

/-- The first operand contracted along its columns, the second along its rows. -/
abbrev dNN (wf : DotDims.WF ⟨2, ![M, K]⟩ ⟨2, ![K, N]⟩ ⟨2, ![M, N]⟩ [1] [0] [0] [1] [] []) : DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

theorem sum_tn (wf : DotDims.WF ⟨2, ![K, M]⟩ ⟨2, ![K, N]⟩ ⟨2, ![M, N]⟩ [0] [0] [1] [1] [] [])
    {A : (⟨2, ![K, M]⟩ : Shape).Idx → EReal} {B : (⟨2, ![K, N]⟩ : Shape).Idx → EReal} {f g : ℕ → ℕ → EReal} (hA : At2 A f) (hB : At2 B g)
    (a : Fin M) (b : Fin N) :
    ∑ k : (dTN wf).contr.Idx, A ((dTN wf).lhsIdx (ix2 a b) k) * B ((dTN wf).rhsIdx (ix2 a b) k) = ∑ k ∈ range K, f k a.val * g k b.val := by
  rw [← Equiv.sum_comp (contrEquiv1 (dTN wf) K rfl rfl).symm, sum_range]
  refine Finset.sum_congr rfl fun k _ => ?_
  have hk := contrEquiv1_symm_val (dTN wf) K rfl rfl k
  have el : (dTN wf).lhsIdx (ix2 a b) ((contrEquiv1 (dTN wf) K rfl rfl).symm k) = ix2 k a := funext fun x => Fin.ext (by
    match x with
    | ⟨0, _⟩ => exact (DotDims.lhsIdx_val_of_single (dTN wf) rfl _ _).trans hk
    | ⟨1, _⟩ =>
      show (DotDims.lhsIdx (dTN wf) (ix2 a b) _ 1).val = _
      unfold DotDims.lhsIdx
      rw [dif_neg (by exact List.not_mem_nil), dif_pos (by exact List.mem_singleton.mpr rfl)]; rfl)
  have er : (dTN wf).rhsIdx (ix2 a b) ((contrEquiv1 (dTN wf) K rfl rfl).symm k) = ix2 k b := funext fun x => Fin.ext (by
    match x with
    | ⟨0, _⟩ => exact (DotDims.rhsIdx_val_of_single (dTN wf) rfl _ _).trans hk
    | ⟨1, _⟩ =>
      show (DotDims.rhsIdx (dTN wf) (ix2 a b) _ 1).val = _
      unfold DotDims.rhsIdx
      rw [dif_neg (by exact List.not_mem_nil), dif_pos (by exact List.mem_singleton.mpr rfl)]; rfl)
  rw [el, er, hA, hB]

theorem sum_nt (wf : DotDims.WF ⟨2, ![M, K]⟩ ⟨2, ![N, K]⟩ ⟨2, ![M, N]⟩ [1] [1] [0] [0] [] [])
    {A : (⟨2, ![M, K]⟩ : Shape).Idx → EReal} {B : (⟨2, ![N, K]⟩ : Shape).Idx → EReal} {f g : ℕ → ℕ → EReal} (hA : At2 A f) (hB : At2 B g)
    (a : Fin M) (b : Fin N) :
    ∑ k : (dNT wf).contr.Idx, A ((dNT wf).lhsIdx (ix2 a b) k) * B ((dNT wf).rhsIdx (ix2 a b) k) = ∑ k ∈ range K, f a.val k * g b.val k := by
  rw [← Equiv.sum_comp (contrEquiv1 (dNT wf) K rfl rfl).symm, sum_range]
  refine Finset.sum_congr rfl fun k _ => ?_
  have hk := contrEquiv1_symm_val (dNT wf) K rfl rfl k
  have el : (dNT wf).lhsIdx (ix2 a b) ((contrEquiv1 (dNT wf) K rfl rfl).symm k) = ix2 a k := funext fun x => Fin.ext (by
    match x with
    | ⟨0, _⟩ =>
      show (DotDims.lhsIdx (dNT wf) (ix2 a b) _ 0).val = _
      unfold DotDims.lhsIdx
      rw [dif_neg (by exact List.not_mem_nil), dif_pos (by exact List.mem_singleton.mpr rfl)]; rfl
    | ⟨1, _⟩ => exact (DotDims.lhsIdx_val_of_single (dNT wf) rfl _ _).trans hk)
  have er : (dNT wf).rhsIdx (ix2 a b) ((contrEquiv1 (dNT wf) K rfl rfl).symm k) = ix2 b k := funext fun x => Fin.ext (by
    match x with
    | ⟨0, _⟩ =>
      show (DotDims.rhsIdx (dNT wf) (ix2 a b) _ 0).val = _
      unfold DotDims.rhsIdx
      rw [dif_neg (by exact List.not_mem_nil), dif_pos (by exact List.mem_singleton.mpr rfl)]; rfl
    | ⟨1, _⟩ => exact (DotDims.rhsIdx_val_of_single (dNT wf) rfl _ _).trans hk)
  rw [el, er, hA, hB]

theorem sum_nn (wf : DotDims.WF ⟨2, ![M, K]⟩ ⟨2, ![K, N]⟩ ⟨2, ![M, N]⟩ [1] [0] [0] [1] [] [])
    {A : (⟨2, ![M, K]⟩ : Shape).Idx → EReal} {B : (⟨2, ![K, N]⟩ : Shape).Idx → EReal} {f g : ℕ → ℕ → EReal} (hA : At2 A f) (hB : At2 B g)
    (a : Fin M) (b : Fin N) :
    ∑ k : (dNN wf).contr.Idx, A ((dNN wf).lhsIdx (ix2 a b) k) * B ((dNN wf).rhsIdx (ix2 a b) k) = ∑ k ∈ range K, f a.val k * g k b.val := by
  rw [← Equiv.sum_comp (contrEquiv1 (dNN wf) K rfl rfl).symm, sum_range]
  refine Finset.sum_congr rfl fun k _ => ?_
  have hk := contrEquiv1_symm_val (dNN wf) K rfl rfl k
  have el : (dNN wf).lhsIdx (ix2 a b) ((contrEquiv1 (dNN wf) K rfl rfl).symm k) = ix2 a k := funext fun x => Fin.ext (by
    match x with
    | ⟨0, _⟩ =>
      show (DotDims.lhsIdx (dNN wf) (ix2 a b) _ 0).val = _
      unfold DotDims.lhsIdx
      rw [dif_neg (by exact List.not_mem_nil), dif_pos (by exact List.mem_singleton.mpr rfl)]; rfl
    | ⟨1, _⟩ => exact (DotDims.lhsIdx_val_of_single (dNN wf) rfl _ _).trans hk)
  have er : (dNN wf).rhsIdx (ix2 a b) ((contrEquiv1 (dNN wf) K rfl rfl).symm k) = ix2 k b := funext fun x => Fin.ext (by
    match x with
    | ⟨0, _⟩ => exact (DotDims.rhsIdx_val_of_single (dNN wf) rfl _ _).trans hk
    | ⟨1, _⟩ =>
      show (DotDims.rhsIdx (dNN wf) (ix2 a b) _ 1).val = _
      unfold DotDims.rhsIdx
      rw [dif_neg (by exact List.not_mem_nil), dif_pos (by exact List.mem_singleton.mpr rfl)]; rfl)
  rw [el, er, hA, hB]

end

/-- A kernel's product of two blocks, at an index. -/
theorem matmul_tn {K M N : ℕ} {φ₁ φ₂ : FTy} (wf : DotDims.WF ⟨2, ![K, M]⟩ ⟨2, ![K, N]⟩ ⟨2, ![M, N]⟩ [0] [0] [1] [1] [] [])
    {A : FVec Ideal ⟨2, ![K, M]⟩ φ₁} {B : FVec Ideal ⟨2, ![K, N]⟩ φ₂} {f g : ℕ → ℕ → EReal} (hA : At2 A f) (hB : At2 B g) :
    At2 (matmul (dTN wf) none A B (constant ⟨2, ![M, N]⟩ .f32 0x00000000#32)) fun a b => ∑ k ∈ range K, f k a * g k b := fun a b => by
  simp only [matmul]
  rw [Ideal.matmul_constant_zero_apply]
  exact sum_tn wf hA hB a b

theorem matmul_nt {K M N : ℕ} {φ₁ φ₂ : FTy} (wf : DotDims.WF ⟨2, ![M, K]⟩ ⟨2, ![N, K]⟩ ⟨2, ![M, N]⟩ [1] [1] [0] [0] [] [])
    {A : FVec Ideal ⟨2, ![M, K]⟩ φ₁} {B : FVec Ideal ⟨2, ![N, K]⟩ φ₂} {f g : ℕ → ℕ → EReal} (hA : At2 A f) (hB : At2 B g) :
    At2 (matmul (dNT wf) none A B (constant ⟨2, ![M, N]⟩ .f32 0x00000000#32)) fun a b => ∑ k ∈ range K, f a k * g b k := fun a b => by
  simp only [matmul]
  rw [Ideal.matmul_constant_zero_apply]
  exact sum_nt wf hA hB a b

theorem matmul_nn {K M N : ℕ} {φ₁ φ₂ : FTy} (wf : DotDims.WF ⟨2, ![M, K]⟩ ⟨2, ![K, N]⟩ ⟨2, ![M, N]⟩ [1] [0] [0] [1] [] [])
    {A : FVec Ideal ⟨2, ![M, K]⟩ φ₁} {B : FVec Ideal ⟨2, ![K, N]⟩ φ₂} {f g : ℕ → ℕ → EReal} (hA : At2 A f) (hB : At2 B g) :
    At2 (matmul (dNN wf) none A B (constant ⟨2, ![M, N]⟩ .f32 0x00000000#32)) fun a b => ∑ k ∈ range K, f a k * g k b := fun a b => by
  simp only [matmul]
  rw [Ideal.matmul_constant_zero_apply]
  exact sum_nn wf hA hB a b

/-- The host's product of two matrices, at an index. -/
theorem host_tn {K M N : ℕ} {φ₁ φ₂ : FTy} (wf : DotDims.WF ⟨2, ![K, M]⟩ ⟨2, ![K, N]⟩ ⟨2, ![M, N]⟩ [0] [0] [1] [1] [] [])
    {A : FVec Ideal ⟨2, ![K, M]⟩ φ₁} {B : FVec Ideal ⟨2, ![K, N]⟩ φ₂} {f g : ℕ → ℕ → EReal} (hA : At2 A f) (hB : At2 B g) :
    At2 (Host.dotGeneral (dTN wf) none A B) fun a b => ∑ k ∈ range K, f k a * g k b := fun a b => by
  simp only [Host.dotGeneral]
  rw [Ideal.dotGeneral_apply]
  exact sum_tn wf hA hB a b

theorem host_nt {K M N : ℕ} {φ₁ φ₂ : FTy} (wf : DotDims.WF ⟨2, ![M, K]⟩ ⟨2, ![N, K]⟩ ⟨2, ![M, N]⟩ [1] [1] [0] [0] [] [])
    {A : FVec Ideal ⟨2, ![M, K]⟩ φ₁} {B : FVec Ideal ⟨2, ![N, K]⟩ φ₂} {f g : ℕ → ℕ → EReal} (hA : At2 A f) (hB : At2 B g) :
    At2 (Host.dotGeneral (dNT wf) none A B) fun a b => ∑ k ∈ range K, f a k * g b k := fun a b => by
  simp only [Host.dotGeneral]
  rw [Ideal.dotGeneral_apply]
  exact sum_nt wf hA hB a b

theorem host_nn {K M N : ℕ} {φ₁ φ₂ : FTy} (wf : DotDims.WF ⟨2, ![M, K]⟩ ⟨2, ![K, N]⟩ ⟨2, ![M, N]⟩ [1] [0] [0] [1] [] [])
    {A : FVec Ideal ⟨2, ![M, K]⟩ φ₁} {B : FVec Ideal ⟨2, ![K, N]⟩ φ₂} {f g : ℕ → ℕ → EReal} (hA : At2 A f) (hB : At2 B g) :
    At2 (Host.dotGeneral (dNN wf) none A B) fun a b => ∑ k ∈ range K, f a k * g k b := fun a b => by
  simp only [Host.dotGeneral]
  rw [Ideal.dotGeneral_apply]
  exact sum_nn wf hA hB a b

/-- One more block of the sum. -/
theorem sum_block (f : ℕ → EReal) (B n : ℕ) : ∑ l ∈ range (B * (n + 1)), f l = ∑ l ∈ range (B * n), f l + ∑ l ∈ range B, f (B * n + l) := by
  rw [Nat.mul_succ, sum_range_add]

end Cert.Proof.Products

end
-- ==== Proof.PairI.lean ====
/-
  The call `d_h2` over the extended reals: what its result holds after the run.
-/
module

public import proofs.«01_k».proof.Proof.Products
public import proofs.«01_k».proof.Proof.Gen.Kernel2Ideal.Value
public import Idealize.ShloMosaic.Lib.Tactic
public import Idealize.ShloMosaic.Lib.VecWindow

@[expose] public section

set_option maxRecDepth 16384

noncomputable section

namespace Cert.Proof.Pair

open Cert.Kernel2Ideal Cert.Kernel2Ideal.Gen Cert.Kernel2Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products

theorem zz : (![0, 0] : Fin 2 → Nat) = fun _ => 0 := funext fun a => by fin_cases a <;> rfl

/-! ## One grid point -/

/-- Both products added to the accumulator. -/
def both (W : Vec Ideal S512x1024 .f32) (X : Vec Ideal S512x1408 .bf16) (Y : Vec Ideal S1024x1408 .bf16) (X' : Vec Ideal S512x1408 .bf16) (Y' : Vec Ideal S1024x1408 .bf16) :
    Vec Ideal S512x1024 .f32 := k0_pay3 (F := Ideal) (k0_pay2 (F := Ideal) W X Y) X' Y'

section
variable (c : Dev nD) (i : grid0.Coords) (a3 : Memref sig .tc .vmem S512x1408 .bf16) (h3 : a3.IsWhole) (a4 : Memref sig .tc .vmem S1024x1408 .bf16) (h4 : a4.IsWhole)
  (a5 : Memref sig .tc .vmem S512x1408 .bf16) (h5 : a5.IsWhole) (a6 : Memref sig .tc .vmem S1024x1408 .bf16) (h6 : a6.IsWhole)
  (a7 : Memref sig .tc .vmem S512x1024 .bf16) (h7 : a7.IsWhole) (a8 : Memref sig .tc .vmem S512x1024 .f32) (h8 : a8.IsWhole)
  (X : Vec Ideal S512x1408 .bf16) (Y : Vec Ideal S1024x1408 .bf16) (X' : Vec Ideal S512x1408 .bf16) (Y' : Vec Ideal S1024x1408 .bf16) (W : Vec Ideal S512x1024 .f32)

theorem acc_A (hc0 : cond0_0 i) (hc1 : ¬cond0_1 i) :
    sout0_A_0 c i a3 h3 a4 h4 a5 h5 a6 h6 a7 h7 a8 h8 hc0 hc1 X Y X' Y' = both (k0_pay1 (F := Ideal)) X Y X' Y' := by
  unfold sout0_A_0 both
  rw [View.read_writes_eq_canon _ _ _ (scover0_A_0 c i a3 h3 a4 h4 a5 h5 a6 h6 a7 h7 a8 h8 hc0 hc1 X Y X' Y')]
  unfold kernelRun0_A
  dsimp only
  sl_unfold_words
  simp only [View.canon_cons_unit_zero (S := S512x1024) zz, View.readCov_full (s := S512x1024), View.readAt_eq_ld, h3.read_unread, h4.read_unread, h5.read_unread, h6.read_unread, View.ld_unit_zero (S := S512x1408) zz, View.ld_unit_zero (S := S1024x1408) zz, View.ld_unit_zero (S := S512x1024) zz]

theorem acc_B (hc0 : ¬cond0_0 i) (hc1 : ¬cond0_1 i) :
    sout0_B_0 c i a3 h3 a4 h4 a5 h5 a6 h6 a7 h7 a8 h8 hc0 hc1 X Y X' Y' W = both W X Y X' Y' := by
  unfold sout0_B_0 both
  rw [View.read_writes_eq_canon _ _ _ (scover0_B_0 c i a3 h3 a4 h4 a5 h5 a6 h6 a7 h7 a8 h8 hc0 hc1 X Y X' Y' W)]
  unfold kernelRun0_B
  dsimp only
  sl_unfold_words
  simp only [View.canon_cons_unit_zero (S := S512x1024) zz, View.readCov_full (s := S512x1024), View.readAt_eq_ld, h3.read_unread, h4.read_unread, h5.read_unread, h6.read_unread, h8.read_unread, View.ld_unit_zero (S := S512x1408) zz, View.ld_unit_zero (S := S1024x1408) zz, View.ld_unit_zero (S := S512x1024) zz]

theorem acc_C (hc0 : ¬cond0_0 i) (hc1 : cond0_1 i) :
    sout0_C_0 c i a3 h3 a4 h4 a5 h5 a6 h6 a7 h7 a8 h8 hc0 hc1 X Y X' Y' W = both W X Y X' Y' := by
  unfold sout0_C_0 both
  rw [View.read_writes_eq_canon _ _ _ (scover0_C_0 c i a3 h3 a4 h4 a5 h5 a6 h6 a7 h7 a8 h8 hc0 hc1 X Y X' Y' W)]
  unfold kernelRun0_C
  dsimp only
  sl_unfold_words
  simp only [View.canon_cons_unit_zero (S := S512x1024) zz, View.readCov_full (s := S512x1024), View.readAt_eq_ld, h3.read_unread, h4.read_unread, h5.read_unread, h6.read_unread, h8.read_unread, View.ld_unit_zero (S := S512x1408) zz, View.ld_unit_zero (S := S1024x1408) zz, View.ld_unit_zero (S := S512x1024) zz]

theorem out_C_4 (hc0 : ¬cond0_0 i) (hc1 : cond0_1 i) :
    out0_C_4 c i a3 h3 a4 h4 a5 h5 a6 h6 a7 h7 a8 h8 hc0 hc1 X Y X' Y' W = k0_pay4 (F := Ideal) (both W X Y X' Y') := by
  unfold out0_C_4 both
  rw [View.read_writes_eq_canon _ _ _ (cover0_C_4 c i a3 h3 a4 h4 a5 h5 a6 h6 a7 h7 a8 h8 hc0 hc1 X Y X' Y' W)]
  unfold kernelRun0_C
  dsimp only
  sl_unfold_words
  simp only [View.canon_cons_unit_zero (S := S512x1024) zz, View.readCov_full (s := S512x1024), View.readAt_eq_ld, h3.read_unread, h4.read_unread, h5.read_unread, h6.read_unread, h8.read_unread, View.ld_unit_zero (S := S512x1408) zz, View.ld_unit_zero (S := S1024x1408) zz, View.ld_unit_zero (S := S512x1024) zz]

end

theorem pay1_at : At2 (k0_pay1 (F := Ideal)) fun _ _ => 0 := fun a b => by
  unfold k0_pay1
  rw [shapeCast_self]
  exact Ideal.ofBits_zero_f32

theorem pay2_at {W : Vec Ideal S512x1024 .f32} {X : Vec Ideal S512x1408 .bf16} {Y : Vec Ideal S1024x1408 .bf16} {w f g : ℕ → ℕ → EReal}
    (hW : At2 W w) (hX : At2 X f) (hY : At2 Y g) :
    At2 (k0_pay2 (F := Ideal) W X Y) fun a b => w a b + ∑ k ∈ range 1408, f a k * g b k := fun a b => by
  unfold k0_pay2
  simp only [shapeCast_self]
  exact congrArg₂ (· + ·) (hW a b) (matmul_nt (φ₁ := .bf16) (φ₂ := .bf16) _ hX hY a b)

theorem pay3_at {W : Vec Ideal S512x1024 .f32} {X : Vec Ideal S512x1408 .bf16} {Y : Vec Ideal S1024x1408 .bf16} {w f g : ℕ → ℕ → EReal}
    (hW : At2 W w) (hX : At2 X f) (hY : At2 Y g) :
    At2 (k0_pay3 (F := Ideal) W X Y) fun a b => w a b + ∑ k ∈ range 1408, f a k * g b k := fun a b => by
  unfold k0_pay3
  simp only [shapeCast_self]
  exact congrArg₂ (· + ·) (hW a b) (matmul_nt (φ₁ := .bf16) (φ₂ := .bf16) _ hX hY a b)

/-! ## The blocks read -/

variable (m : (ℓ : Loc nD τ sig) → Buf (Elt Ideal) ℓ) (c : Dev nD)

/-- Device `c`'s arguments at launch. -/
abbrev a0 : S8192x5632.Idx → EReal := m ((c : Thread nD τ).loc main_arg0)
abbrev a1 : S8192x5632.Idx → EReal := m ((c : Thread nD τ).loc main_arg1)
abbrev a2 : S2048x5632.Idx → EReal := m ((c : Thread nD τ).loc main_arg2)
abbrev a3 : S2048x5632.Idx → EReal := m ((c : Thread nD τ).loc main_arg3)

/-- The four column shards of a weight, stacked by rows. -/
def shards (w : S2048x5632.Idx → EReal) : S8192x1408.Idx → EReal :=
  shapeCast S8192x1408 (transpose S4x2048x1408 [1, 0, 2] (shapeCast S2048x4x1408 w shapeCasts_S2048x5632_S2048x4x1408)
    transposes_S2048x4x1408_S4x2048x1408_1_0_2) shapeCasts_S4x2048x1408_S8192x1408

theorem shards_at (w : S2048x5632.Idx → EReal) (r : Fin 8192) (k : Fin 1408) :
    shards w (ix2 r k) = ent w (r.val % 2048) (1408 * (r.val / 2048) + k.val) := by
  have hr := r.isLt
  have hk := k.isLt
  have h0 : r.val / 2048 < 4 := by omega
  have h1 : r.val % 2048 < 2048 := by omega
  unfold shards
  rw [shapeCast_apply _ _ (ix2 r k) (ix3 (n0 := 4) (n1 := 2048) (n2 := 1408) ⟨r.val / 2048, h0⟩ ⟨r.val % 2048, h1⟩ k) (by
      rewrite [Shape.rowMajor_val_two, Shape.rowMajor_val_three]
      show (r.val / 2048 * 2048 + r.val % 2048) * 1408 + k.val = r.val * 1408 + k.val
      omega),
    transpose_apply _ _ _ _ (ix3 (n0 := 2048) (n1 := 4) (n2 := 1408) ⟨r.val % 2048, h1⟩ ⟨r.val / 2048, h0⟩ k) (fun b => by
      match b with
      | ⟨0, _⟩ => rfl
      | ⟨1, _⟩ => rfl
      | ⟨2, _⟩ => rfl),
    shapeCast_apply _ _ _ (ix2 (n0 := 2048) (n1 := 5632) ⟨r.val % 2048, h1⟩ ⟨1408 * (r.val / 2048) + k.val, by omega⟩) (by
      rewrite [Shape.rowMajor_val_two, Shape.rowMajor_val_three]
      show r.val % 2048 * 5632 + (1408 * (r.val / 2048) + k.val) = (r.val % 2048 * 4 + r.val / 2048) * 1408 + k.val
      omega)]
  exact at2_ent w _ _

theorem V0 : V m c main_v0 = a0 m c := by
  dsimp only [V, hostOps0]
  after_results_simp <;> rfl

theorem V5 : V m c main_v5 = a1 m c := by
  dsimp only [V, hostOps0]
  after_results_simp <;> rfl

theorem V4 : V m c main_v4 = shards (a2 m c) := by
  dsimp only [V, hostOps0]
  after_results_simp <;> rfl

theorem V9 : V m c main_v9 = shards (a3 m c) := by
  dsimp only [V, hostOps0]
  after_results_simp <;> rfl

theorem idx0 : ∀ t : Fin cfg0.N, win0_0.index t 0 = t.val / 8 ∧ win0_0.index t 1 = t.val % 4 := by decide +kernel
theorem idx1 : ∀ t : Fin cfg0.N, win0_1.index t 0 = 2 * (t.val % 4) + t.val / 4 % 2 ∧ win0_1.index t 1 = 0 := by decide +kernel
theorem idx2 : ∀ t : Fin cfg0.N, win0_2.index t 0 = t.val / 8 ∧ win0_2.index t 1 = t.val % 4 := by decide +kernel
theorem idx3 : ∀ t : Fin cfg0.N, win0_3.index t 0 = 2 * (t.val % 4) + t.val / 4 % 2 ∧ win0_3.index t 1 = 0 := by decide +kernel
theorem idx4 : ∀ t : Fin cfg0.N, win0_4.index t 0 = t.val / 8 ∧ win0_4.index t 1 = t.val / 4 % 2 := by decide +kernel

theorem lt128 (t : Fin cfg0.N) : t.val < 128 := t.isLt

theorem blk0 (t : Fin cfg0.N) : At2 (iblk m c 0 t : S512x1408.Idx → EReal) fun a k => ent (a0 m c) (512 * (t.val / 8) + a) (1408 * (t.val % 4) + k) := fun a k => by
  have ht := lt128 t
  have ha := a.isLt
  have hk := k.isLt
  unfold iblk
  rw [View.read_apply]
  show V m c main_v0 _ = _
  rw [V0]
  refine (congrArg (a0 m c) (show _ = ix2 (n0 := 8192) (n1 := 5632) ⟨512 * (t.val / 8) + a.val, by omega⟩ ⟨1408 * (t.val % 4) + k.val, by omega⟩ from ?_)).trans
    (at2_ent (a0 m c) _ _)
  funext x
  match x with
  | ⟨0, _⟩ => exact Fin.ext (show win0_0.index t 0 * 512 + 1 * a.val = 512 * (t.val / 8) + a.val by rw [(idx0 t).1]; omega)
  | ⟨1, _⟩ => exact Fin.ext (show win0_0.index t 1 * 1408 + 1 * k.val = 1408 * (t.val % 4) + k.val by rw [(idx0 t).2]; omega)

theorem blk2 (t : Fin cfg0.N) : At2 (iblk m c 2 t : S512x1408.Idx → EReal) fun a k => ent (a1 m c) (512 * (t.val / 8) + a) (1408 * (t.val % 4) + k) := fun a k => by
  have ht := lt128 t
  have ha := a.isLt
  have hk := k.isLt
  unfold iblk
  rw [View.read_apply]
  show V m c main_v5 _ = _
  rw [V5]
  refine (congrArg (a1 m c) (show _ = ix2 (n0 := 8192) (n1 := 5632) ⟨512 * (t.val / 8) + a.val, by omega⟩ ⟨1408 * (t.val % 4) + k.val, by omega⟩ from ?_)).trans
    (at2_ent (a1 m c) _ _)
  funext x
  match x with
  | ⟨0, _⟩ => exact Fin.ext (show win0_2.index t 0 * 512 + 1 * a.val = 512 * (t.val / 8) + a.val by rw [(idx2 t).1]; omega)
  | ⟨1, _⟩ => exact Fin.ext (show win0_2.index t 1 * 1408 + 1 * k.val = 1408 * (t.val % 4) + k.val by rw [(idx2 t).2]; omega)

theorem blk1 (t : Fin cfg0.N) : At2 (iblk m c 1 t : S1024x1408.Idx → EReal) fun b k => ent (a2 m c) (1024 * (t.val / 4 % 2) + b) (1408 * (t.val % 4) + k) := fun b k => by
  have ht := lt128 t
  have hb := b.isLt
  have hk := k.isLt
  unfold iblk
  rw [View.read_apply]
  show V m c main_v4 _ = _
  rw [V4]
  refine (congrArg (shards (a2 m c)) (show _ = ix2 (n0 := 8192) (n1 := 1408) ⟨2048 * (t.val % 4) + 1024 * (t.val / 4 % 2) + b.val, by omega⟩ k from ?_)).trans
    ((shards_at (a2 m c) _ _).trans ?_)
  · funext x
    match x with
    | ⟨0, _⟩ => exact Fin.ext (show win0_1.index t 0 * 1024 + 1 * b.val = 2048 * (t.val % 4) + 1024 * (t.val / 4 % 2) + b.val by rw [(idx1 t).1]; omega)
    | ⟨1, _⟩ => exact Fin.ext (show win0_1.index t 1 * 1408 + 1 * k.val = k.val by rw [(idx1 t).2]; omega)
  · dsimp only
    rw [show (2048 * (t.val % 4) + 1024 * (t.val / 4 % 2) + b.val) % 2048 = 1024 * (t.val / 4 % 2) + b.val by omega,
      show (2048 * (t.val % 4) + 1024 * (t.val / 4 % 2) + b.val) / 2048 = t.val % 4 by omega]

theorem blk3 (t : Fin cfg0.N) : At2 (iblk m c 3 t : S1024x1408.Idx → EReal) fun b k => ent (a3 m c) (1024 * (t.val / 4 % 2) + b) (1408 * (t.val % 4) + k) := fun b k => by
  have ht := lt128 t
  have hb := b.isLt
  have hk := k.isLt
  unfold iblk
  rw [View.read_apply]
  show V m c main_v9 _ = _
  rw [V9]
  refine (congrArg (shards (a3 m c)) (show _ = ix2 (n0 := 8192) (n1 := 1408) ⟨2048 * (t.val % 4) + 1024 * (t.val / 4 % 2) + b.val, by omega⟩ k from ?_)).trans
    ((shards_at (a3 m c) _ _).trans ?_)
  · funext x
    match x with
    | ⟨0, _⟩ => exact Fin.ext (show win0_3.index t 0 * 1024 + 1 * b.val = 2048 * (t.val % 4) + 1024 * (t.val / 4 % 2) + b.val by rw [(idx3 t).1]; omega)
    | ⟨1, _⟩ => exact Fin.ext (show win0_3.index t 1 * 1408 + 1 * k.val = k.val by rw [(idx3 t).2]; omega)
  · dsimp only
    rw [show (2048 * (t.val % 4) + 1024 * (t.val / 4 % 2) + b.val) % 2048 = 1024 * (t.val / 4 % 2) + b.val by omega,
      show (2048 * (t.val % 4) + 1024 * (t.val / 4 % 2) + b.val) / 2048 = t.val % 4 by omega]

/-! ## The accumulated sums -/

/-- The sums' terms `l` at entry `(a, b)` of point `n`'s block. -/
abbrev term (n a b l : ℕ) : EReal := ent (a0 m c) (512 * (n / 8) + a) l * ent (a2 m c) (1024 * (n / 4 % 2) + b) l
abbrev term' (n a b l : ℕ) : EReal := ent (a1 m c) (512 * (n / 8) + a) l * ent (a3 m c) (1024 * (n / 4 % 2) + b) l

/-- One point's products added to the sums over the blocks before it. -/
theorem step (t : Fin cfg0.N) {W : Vec Ideal S512x1024 .f32}
    (hW : At2 W fun a b => ∑ l ∈ range (1408 * (t.val % 4)), term m c t.val a b l + ∑ l ∈ range (1408 * (t.val % 4)), term' m c t.val a b l) :
    At2 (both W (iblk m c 0 t) (iblk m c 1 t) (iblk m c 2 t) (iblk m c 3 t))
      fun a b => ∑ l ∈ range (1408 * (t.val % 4 + 1)), term m c t.val a b l + ∑ l ∈ range (1408 * (t.val % 4 + 1)), term' m c t.val a b l := fun a b => by
  refine (pay3_at (pay2_at hW (blk0 m c t) (blk1 m c t)) (blk2 m c t) (blk3 m c t) a b).trans ?_
  dsimp only
  rw [sum_block (term m c t.val a.val b.val) 1408 (t.val % 4), sum_block (term' m c t.val a.val b.val) 1408 (t.val % 4), add_right_comm (∑ l ∈ range (1408 * (t.val % 4)), term m c t.val a.val b.val l),
    add_assoc]

theorem acc_at (n : ℕ) (hn : n < cfg0.N) :
    At2 (outsAt0 m c n hn).2 fun a b => ∑ l ∈ range (1408 * (n % 4 + 1)), term m c n a b l + ∑ l ∈ range (1408 * (n % 4 + 1)), term' m c n a b l := by
  induction n using Nat.strong_induction_on with
  | _ n ih =>
    have hN : n < 128 := hn
    by_cases h0 : n % 4 = 0
    · rw [outsAt0_A m c ⟨n, hn⟩ h0 (by dsimp only; omega)]
      dsimp only
      rw [acc_A]
      refine step m c ⟨n, hn⟩ fun a b => ?_
      rw [pay1_at a b]
      dsimp only
      rw [h0, Nat.mul_zero, sum_range_zero, sum_range_zero, add_zero]
    · have hp : At2 (outsAt0 m c (n - 1) (Nat.lt_of_le_of_lt (Nat.sub_le _ _) hn)).2
          fun a b => ∑ l ∈ range (1408 * (n % 4)), term m c n a b l + ∑ l ∈ range (1408 * (n % 4)), term' m c n a b l := fun a b => by
        rw [ih (n - 1) (by omega) _ a b]
        dsimp only
        unfold term term'
        rw [show (n - 1) % 4 + 1 = n % 4 by omega, show (n - 1) / 8 = n / 8 by omega, show (n - 1) / 4 = n / 4 by omega]
      by_cases h3 : n % 4 = 3
      · rw [outsAt0_C m c ⟨n, hn⟩ h0 h3]
        dsimp only
        rw [acc_C]
        exact step m c ⟨n, hn⟩ hp
      · rw [outsAt0_B m c ⟨n, hn⟩ h0 h3]
        dsimp only
        rw [acc_B]
        exact step m c ⟨n, hn⟩ hp

/-! ## The result -/

/-- The cotangent of the normalized input. -/
def grad (x x' : S8192x5632.Idx → EReal) (y y' : S2048x5632.Idx → EReal) (a b : ℕ) : EReal :=
  ∑ l ∈ range 5632, ent x a l * ent y b l + ∑ l ∈ range 5632, ent x' a l * ent y' b l

theorem wrote4 (t : Fin cfg0.N) (hf : (cfg0.win 4).flush t = true) :
    (dats m 0 c).flushed 4 t = ((cfg0.win 4).blk t).view.read (Elt Ideal) (mat (n0 := 8192) (n1 := 2048) (grad (a0 m c) (a1 m c) (a2 m c) (a3 m c))) := by
  have h3 := (flush0_4 t).mp hf
  have h := acc_at m c t.val t.isLt
  rw [outsAt0_C m c t (by omega) h3] at h
  dsimp only at h
  rw [acc_C, h3] at h
  rw [flushed4_C m c t (by omega) h3, out_C_4]
  funext y
  obtain ⟨a, b, rfl⟩ : ∃ (a : Fin 512) (b : Fin 1024), y = ix2 a b := ⟨_, _, eq_ix2 y⟩
  rw [View.read_apply]
  refine (show _ = both _ _ _ _ _ (ix2 a b) from rfl).trans ((h a b).trans ?_)
  show _ = grad (a0 m c) (a1 m c) (a2 m c) (a3 m c) (win0_4.index t 0 * 512 + 1 * a.val) (win0_4.index t 1 * 1024 + 1 * b.val)
  rw [(idx4 t).1, (idx4 t).2, show t.val / 8 * 512 + 1 * a.val = 512 * (t.val / 8) + a.val by omega,
    show t.val / 4 % 2 * 1024 + 1 * b.val = 1024 * (t.val / 4 % 2) + b.val by omega]
  rfl

theorem last4 : (dats m 0 c).arrAt 4 cfg0.N = mat (n0 := 8192) (n1 := 2048) (grad (a0 m c) (a1 m c) (a2 m c) (a3 m c)) :=
  (dats m 0 c).arrAt_eq_of_cover 4 _ (wrote4 m c) fun i => by
    have h0 : (i 0 : ℕ) < 8192 := (i 0).isLt
    have h1 : (i 1 : ℕ) < 2048 := (i 1).isLt
    have ht : (i 0 : ℕ) / 512 * 8 + (i 1 : ℕ) / 1024 * 4 + 3 < cfg0.N := by show _ < 128; omega
    have hI := idx4 ⟨_, ht⟩
    refine ⟨⟨_, ht⟩, (flush0_4 ⟨_, ht⟩).mpr (by dsimp only; omega), ?_⟩
    show i ∈ ((View.whole main_v10).slice (win0_4.rect ⟨_, ht⟩)).set
    rw [View.set_slice_whole, Rect.mem_set_unit]
    intro a
    match a with
    | ⟨0, _⟩ =>
      show win0_4.index ⟨_, ht⟩ 0 * 512 ≤ (i 0 : ℕ) ∧ (i 0 : ℕ) < win0_4.index ⟨_, ht⟩ 0 * 512 + 512
      rw [hI.1]; dsimp only; omega
    | ⟨1, _⟩ =>
      show win0_4.index ⟨_, ht⟩ 1 * 1024 ≤ (i 1 : ℕ) ∧ (i 1 : ℕ) < win0_4.index ⟨_, ht⟩ 1 * 1024 + 1024
      rw [hI.2]; dsimp only; omega

end Cert.Proof.Pair

end
-- ==== Proof.GateGradI.lean ====
/-
  The call `grad_w_gate` over the extended reals: what its two results hold after the run.
-/
module

public import proofs.«01_k».proof.Proof.Products
public import proofs.«01_k».proof.Proof.Gen.Kernel3Ideal.Value
public import Idealize.ShloMosaic.Lib.Tactic

@[expose] public section

set_option maxRecDepth 16384

noncomputable section

namespace Cert.Proof.GateGrad

open Cert.Kernel3Ideal Cert.Kernel3Ideal.Gen Cert.Kernel3Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products

theorem zz : (![0, 0] : Fin 2 → Nat) = fun _ => 0 := funext fun a => by fin_cases a <;> rfl

/-! ## One grid point -/

section
variable (c : Dev nD) (i : grid0.Coords) (a3 : Memref sig .tc .vmem S1024x1024 .bf16) (h3 : a3.IsWhole) (a4 : Memref sig .tc .vmem S1024x1408 .bf16) (h4 : a4.IsWhole)
  (a5 : Memref sig .tc .vmem S1024x1408 .f32) (h5 : a5.IsWhole) (a6 : Memref sig .tc .vmem S1024x1408 .bf16) (h6 : a6.IsWhole)
  (a7 : Memref sig .tc .vmem S1024x1408 .f32) (h7 : a7.IsWhole) (X : Vec Ideal S1024x1024 .bf16) (Y : Vec Ideal S1024x1408 .bf16) (W : Vec Ideal S1024x1408 .f32)

theorem acc_A (hc0 : cond0_0 i) (hc1 : ¬cond0_1 i) :
    sout0_A_0 c i a3 h3 a4 h4 a5 h5 a6 h6 a7 h7 hc0 hc1 X Y = k0_pay2 (F := Ideal) (k0_pay1 (F := Ideal)) X Y := by
  unfold sout0_A_0
  rw [View.read_writes_eq_canon _ _ _ (scover0_A_0 c i a3 h3 a4 h4 a5 h5 a6 h6 a7 h7 hc0 hc1 X Y)]
  unfold kernelRun0_A
  dsimp only
  sl_unfold_words
  rw [View.canon_cons_unit_zero (S := S1024x1408) zz, View.readCov_unit_zero (S := S1024x1408) _ zz]
  simp only [View.readAt_eq_ld, h3.read_unread, h4.read_unread, View.ld_unit_zero (S := S1024x1024) zz, View.ld_unit_zero (S := S1024x1408) zz]

theorem acc_B (hc0 : ¬cond0_0 i) (hc1 : ¬cond0_1 i) :
    sout0_B_0 c i a3 h3 a4 h4 a5 h5 a6 h6 a7 h7 hc0 hc1 X Y W = k0_pay2 (F := Ideal) W X Y := by
  unfold sout0_B_0
  rw [View.read_writes_eq_canon _ _ _ (scover0_B_0 c i a3 h3 a4 h4 a5 h5 a6 h6 a7 h7 hc0 hc1 X Y W)]
  unfold kernelRun0_B
  dsimp only
  sl_unfold_words
  rw [View.canon_unit_zero zz]
  simp only [View.readAt_eq_ld, h3.read_unread, h4.read_unread, h7.read_unread, View.ld_unit_zero (S := S1024x1024) zz, View.ld_unit_zero (S := S1024x1408) zz]

theorem acc_C (hc0 : ¬cond0_0 i) (hc1 : cond0_1 i) :
    sout0_C_0 c i a3 h3 a4 h4 a5 h5 a6 h6 a7 h7 hc0 hc1 X Y W = k0_pay2 (F := Ideal) W X Y := by
  unfold sout0_C_0
  rw [View.read_writes_eq_canon _ _ _ (scover0_C_0 c i a3 h3 a4 h4 a5 h5 a6 h6 a7 h7 hc0 hc1 X Y W)]
  unfold kernelRun0_C
  dsimp only
  sl_unfold_words
  rw [View.canon_unit_zero zz]
  simp only [View.readAt_eq_ld, h3.read_unread, h4.read_unread, h7.read_unread, View.ld_unit_zero (S := S1024x1024) zz, View.ld_unit_zero (S := S1024x1408) zz]

theorem out_C_2 (hc0 : ¬cond0_0 i) (hc1 : cond0_1 i) :
    out0_C_2 c i a3 h3 a4 h4 a5 h5 a6 h6 a7 h7 hc0 hc1 X Y W = k0_pay2 (F := Ideal) W X Y := by
  unfold out0_C_2
  rw [View.read_writes_eq_canon _ _ _ (cover0_C_2 c i a3 h3 a4 h4 a5 h5 a6 h6 a7 h7 hc0 hc1 X Y W)]
  unfold kernelRun0_C
  dsimp only
  sl_unfold_words
  rw [View.canon_unit_zero zz, View.readCov_unit_zero (S := S1024x1408) _ zz]
  simp only [View.readAt_eq_ld, h3.read_unread, h4.read_unread, h7.read_unread, View.ld_unit_zero (S := S1024x1024) zz, View.ld_unit_zero (S := S1024x1408) zz]

theorem out_C_3 (hc0 : ¬cond0_0 i) (hc1 : cond0_1 i) :
    out0_C_3 c i a3 h3 a4 h4 a5 h5 a6 h6 a7 h7 hc0 hc1 X Y W = k0_pay3 (F := Ideal) (k0_pay2 (F := Ideal) W X Y) := by
  unfold out0_C_3
  rw [View.read_writes_eq_canon _ _ _ (cover0_C_3 c i a3 h3 a4 h4 a5 h5 a6 h6 a7 h7 hc0 hc1 X Y W)]
  unfold kernelRun0_C
  dsimp only
  sl_unfold_words
  rw [View.canon_unit_zero zz, View.readCov_unit_zero (S := S1024x1408) _ zz]
  simp only [View.readAt_eq_ld, h3.read_unread, h4.read_unread, h7.read_unread, View.ld_unit_zero (S := S1024x1024) zz, View.ld_unit_zero (S := S1024x1408) zz]

end

theorem pay1_at : At2 (k0_pay1 (F := Ideal)) fun _ _ => 0 := fun a b => by
  unfold k0_pay1
  rw [shapeCast_self]
  exact Ideal.ofBits_zero_f32

theorem pay2_at {W : Vec Ideal S1024x1408 .f32} {X : Vec Ideal S1024x1024 .bf16} {Y : Vec Ideal S1024x1408 .bf16} {w f g : ℕ → ℕ → EReal}
    (hW : At2 W w) (hX : At2 X f) (hY : At2 Y g) :
    At2 (k0_pay2 (F := Ideal) W X Y) fun a b => w a b + ∑ k ∈ range 1024, f k a * g k b := fun a b => by
  unfold k0_pay2
  simp only [shapeCast_self]
  exact congrArg₂ (· + ·) (hW a b) (matmul_tn _ hX hY a b)

/-! ## The blocks read -/

variable (m : (ℓ : Loc nD τ sig) → Buf (Elt Ideal) ℓ) (c : Dev nD)

/-- Device `c`'s arguments at launch. -/
abbrev a0 : S8192x2048.Idx → EReal := m ((c : Thread nD τ).loc main_arg0)
abbrev a1 : S8192x5632.Idx → EReal := m ((c : Thread nD τ).loc main_arg1)

theorem V0 : V m c main_v0 = a0 m c := by
  dsimp only [V, hostOps0]
  after_results_simp <;> rfl

theorem V1 : V m c main_v1 = a1 m c := by
  dsimp only [V, hostOps0]
  after_results_simp <;> rfl

theorem idx0 : ∀ t : Fin cfg0.N, win0_0.index t 0 = t.val % 8 ∧ win0_0.index t 1 = t.val / 32 := by decide +kernel
theorem idx1 : ∀ t : Fin cfg0.N, win0_1.index t 0 = t.val % 8 ∧ win0_1.index t 1 = t.val / 8 % 4 := by decide +kernel
theorem idx2 : ∀ t : Fin cfg0.N, win0_2.index t 0 = 2 * (t.val / 8 % 4) + t.val / 32 ∧ win0_2.index t 1 = 0 := by decide +kernel
theorem idx3 : ∀ t : Fin cfg0.N, win0_3.index t 0 = 2 * (t.val / 8 % 4) + t.val / 32 ∧ win0_3.index t 1 = 0 := by decide +kernel

theorem lt64 (t : Fin cfg0.N) : t.val < 64 := t.isLt

theorem blk0 (t : Fin cfg0.N) : At2 (iblk m c 0 t : S1024x1024.Idx → EReal) fun k a => ent (a0 m c) (1024 * (t.val % 8) + k) (1024 * (t.val / 32) + a) := fun k a => by
  have ht := lt64 t
  have hk := k.isLt
  have ha := a.isLt
  unfold iblk
  rw [View.read_apply]
  show V m c main_v0 _ = _
  rw [V0]
  refine (congrArg (a0 m c) (show _ = ix2 (n0 := 8192) (n1 := 2048) ⟨1024 * (t.val % 8) + k.val, by omega⟩ ⟨1024 * (t.val / 32) + a.val, by omega⟩ from ?_)).trans
    (at2_ent (a0 m c) _ _)
  funext x
  match x with
  | ⟨0, _⟩ => exact Fin.ext (show win0_0.index t 0 * 1024 + 1 * k.val = 1024 * (t.val % 8) + k.val by rw [(idx0 t).1]; omega)
  | ⟨1, _⟩ => exact Fin.ext (show win0_0.index t 1 * 1024 + 1 * a.val = 1024 * (t.val / 32) + a.val by rw [(idx0 t).2]; omega)

theorem blk1 (t : Fin cfg0.N) : At2 (iblk m c 1 t : S1024x1408.Idx → EReal) fun k b => ent (a1 m c) (1024 * (t.val % 8) + k) (1408 * (t.val / 8 % 4) + b) := fun k b => by
  have ht := lt64 t
  have hk := k.isLt
  have hb := b.isLt
  unfold iblk
  rw [View.read_apply]
  show V m c main_v1 _ = _
  rw [V1]
  refine (congrArg (a1 m c) (show _ = ix2 (n0 := 8192) (n1 := 5632) ⟨1024 * (t.val % 8) + k.val, by omega⟩ ⟨1408 * (t.val / 8 % 4) + b.val, by omega⟩ from ?_)).trans
    (at2_ent (a1 m c) _ _)
  funext x
  match x with
  | ⟨0, _⟩ => exact Fin.ext (show win0_1.index t 0 * 1024 + 1 * k.val = 1024 * (t.val % 8) + k.val by rw [(idx1 t).1]; omega)
  | ⟨1, _⟩ => exact Fin.ext (show win0_1.index t 1 * 1408 + 1 * b.val = 1408 * (t.val / 8 % 4) + b.val by rw [(idx1 t).2]; omega)

/-! ## The accumulated sum -/

/-- The sum's term `l` at entry `(a, b)` of point `n`'s block. -/
abbrev term (n a b l : ℕ) : EReal := ent (a0 m c) l (1024 * (n / 32) + a) * ent (a1 m c) l (1408 * (n / 8 % 4) + b)

/-- One point's product added to the sum over the blocks before it. -/
theorem step (t : Fin cfg0.N) {W : Vec Ideal S1024x1408 .f32} (hW : At2 W fun a b => ∑ l ∈ range (1024 * (t.val % 8)), term m c t.val a b l) :
    At2 (k0_pay2 (F := Ideal) W (iblk m c 0 t) (iblk m c 1 t)) fun a b => ∑ l ∈ range (1024 * (t.val % 8 + 1)), term m c t.val a b l := fun a b =>
  (pay2_at hW (blk0 m c t) (blk1 m c t) a b).trans (sum_block (term m c t.val a.val b.val) 1024 (t.val % 8)).symm

theorem acc_at (n : ℕ) (hn : n < cfg0.N) : At2 (outsAt0 m c n hn).2.2 fun a b => ∑ l ∈ range (1024 * (n % 8 + 1)), term m c n a b l := by
  induction n using Nat.strong_induction_on with
  | _ n ih =>
    have hN : n < 64 := hn
    by_cases h0 : n % 8 = 0
    · rw [outsAt0_A m c ⟨n, hn⟩ h0 (by dsimp only; omega)]
      dsimp only
      rw [acc_A]
      refine step m c ⟨n, hn⟩ fun a b => ?_
      rw [pay1_at a b]
      dsimp only
      rw [h0, Nat.mul_zero, sum_range_zero]
    · have hp : At2 (outsAt0 m c (n - 1) (Nat.lt_of_le_of_lt (Nat.sub_le _ _) hn)).2.2 fun a b => ∑ l ∈ range (1024 * (n % 8)), term m c n a b l := fun a b => by
        rw [ih (n - 1) (by omega) _ a b]
        dsimp only
        unfold term
        rw [show (n - 1) % 8 + 1 = n % 8 by omega, show (n - 1) / 32 = n / 32 by omega, show (n - 1) / 8 = n / 8 by omega]
      by_cases h7 : n % 8 = 7
      · rw [outsAt0_C m c ⟨n, hn⟩ h0 h7]
        dsimp only
        rw [acc_C]
        exact step m c ⟨n, hn⟩ hp
      · rw [outsAt0_B m c ⟨n, hn⟩ h0 h7]
        dsimp only
        rw [acc_B]
        exact step m c ⟨n, hn⟩ hp

/-- What the last point of a sweep writes. -/
theorem last_at (t : Fin cfg0.N) (h7 : t.val % 8 = 7) :
    At2 (k0_pay2 (F := Ideal) (outsAt0 m c (t.val - 1) (Nat.lt_of_le_of_lt (Nat.sub_le _ _) t.isLt)).2.2 (iblk m c 0 t) (iblk m c 1 t))
      fun a b => ∑ l ∈ range 8192, term m c t.val a b l := by
  have h := acc_at m c t.val t.isLt
  rw [outsAt0_C m c t (by omega) h7] at h
  dsimp only at h
  rw [acc_C, h7] at h
  exact h

/-! ## The results -/

/-- The gradient of the weight: four column shards, stacked by rows. -/
def grad (x : S8192x2048.Idx → EReal) (y : S8192x5632.Idx → EReal) (r b : ℕ) : EReal := ∑ l ∈ range 8192, ent x l (r % 2048) * ent y l (1408 * (r / 2048) + b)

theorem grad_eq (t : Fin cfg0.N) (a b : ℕ) (ha : a < 1024) (r : ℕ) (hr : r = (2 * (t.val / 8 % 4) + t.val / 32) * 1024 + 1 * a) :
    ∑ l ∈ range 8192, term m c t.val a b l = grad (a0 m c) (a1 m c) r b := by
  have ht := lt64 t
  subst hr
  unfold grad term
  rw [show ((2 * (t.val / 8 % 4) + t.val / 32) * 1024 + 1 * a) % 2048 = 1024 * (t.val / 32) + a by omega,
    show ((2 * (t.val / 8 % 4) + t.val / 32) * 1024 + 1 * a) / 2048 = t.val / 8 % 4 by omega]

theorem wrote2 (t : Fin cfg0.N) (hf : (cfg0.win 2).flush t = true) :
    (dats m 0 c).flushed 2 t = ((cfg0.win 2).blk t).view.read (Elt Ideal) (mat (n0 := 8192) (n1 := 1408) (grad (a0 m c) (a1 m c))) := by
  have h7 := (flush0_2 t).mp hf
  rw [flushed2_C m c t (by omega) h7, out_C_2]
  funext y
  obtain ⟨a, b, rfl⟩ : ∃ (a : Fin 1024) (b : Fin 1408), y = ix2 a b := ⟨_, _, eq_ix2 y⟩
  rw [View.read_apply]
  refine (show _ = k0_pay2 (F := Ideal) _ _ _ (ix2 a b) from rfl).trans ((last_at m c t h7 a b).trans ?_)
  show _ = grad (a0 m c) (a1 m c) (win0_2.index t 0 * 1024 + 1 * a.val) (win0_2.index t 1 * 1408 + 1 * b.val)
  rw [(idx2 t).1, (idx2 t).2, show 0 * 1408 + 1 * b.val = b.val by omega]
  exact grad_eq m c t _ _ a.isLt _ rfl

theorem wrote3 (t : Fin cfg0.N) (hf : (cfg0.win 3).flush t = true) :
    (dats m 0 c).flushed 3 t = ((cfg0.win 3).blk t).view.read (Elt Ideal) (mat (n0 := 8192) (n1 := 1408) (grad (a0 m c) (a1 m c))) := by
  have h7 := (flush0_3 t).mp hf
  rw [flushed3_C m c t (by omega) h7, out_C_3]
  funext y
  obtain ⟨a, b, rfl⟩ : ∃ (a : Fin 1024) (b : Fin 1408), y = ix2 a b := ⟨_, _, eq_ix2 y⟩
  rw [View.read_apply]
  refine (show _ = k0_pay2 (F := Ideal) _ _ _ (ix2 a b) from rfl).trans ((last_at m c t h7 a b).trans ?_)
  show _ = grad (a0 m c) (a1 m c) (win0_3.index t 0 * 1024 + 1 * a.val) (win0_3.index t 1 * 1408 + 1 * b.val)
  rw [(idx3 t).1, (idx3 t).2, show 0 * 1408 + 1 * b.val = b.val by omega]
  exact grad_eq m c t _ _ a.isLt _ rfl

/-- The last point of the sweep over block row `u`. -/
theorem last_of : ∀ u < 8, 2 * ((u % 2 * 32 + u / 2 * 8 + 7) / 8 % 4) + (u % 2 * 32 + u / 2 * 8 + 7) / 32 = u := by decide

theorem final2 : (dats m 0 c).arrAt 2 cfg0.N = mat (n0 := 8192) (n1 := 1408) (grad (a0 m c) (a1 m c)) :=
  (dats m 0 c).arrAt_eq_of_cover 2 _ (wrote2 m c) fun i => by
    have h0 : (i 0 : ℕ) < 8192 := (i 0).isLt
    have h1 : (i 1 : ℕ) < 1408 := (i 1).isLt
    have ht : (i 0 : ℕ) / 1024 % 2 * 32 + (i 0 : ℕ) / 1024 / 2 * 8 + 7 < cfg0.N := by show _ < 64; omega
    have hI := idx2 ⟨_, ht⟩
    refine ⟨⟨_, ht⟩, (flush0_2 ⟨_, ht⟩).mpr (by dsimp only; omega), ?_⟩
    show i ∈ ((View.whole main_v2_0).slice (win0_2.rect ⟨_, ht⟩)).set
    rw [View.set_slice_whole, Rect.mem_set_unit]
    intro a
    match a with
    | ⟨0, _⟩ =>
      show win0_2.index ⟨_, ht⟩ 0 * 1024 ≤ (i 0 : ℕ) ∧ (i 0 : ℕ) < win0_2.index ⟨_, ht⟩ 0 * 1024 + 1024
      rw [hI.1]; dsimp only; rw [last_of ((i 0 : ℕ) / 1024) (by omega)]; omega
    | ⟨1, _⟩ =>
      show win0_2.index ⟨_, ht⟩ 1 * 1408 ≤ (i 1 : ℕ) ∧ (i 1 : ℕ) < win0_2.index ⟨_, ht⟩ 1 * 1408 + 1408
      rw [hI.2]; omega

theorem final3 : (dats m 0 c).arrAt 3 cfg0.N = mat (n0 := 8192) (n1 := 1408) (grad (a0 m c) (a1 m c)) :=
  (dats m 0 c).arrAt_eq_of_cover 3 _ (wrote3 m c) fun i => by
    have h0 : (i 0 : ℕ) < 8192 := (i 0).isLt
    have h1 : (i 1 : ℕ) < 1408 := (i 1).isLt
    have ht : (i 0 : ℕ) / 1024 % 2 * 32 + (i 0 : ℕ) / 1024 / 2 * 8 + 7 < cfg0.N := by show _ < 64; omega
    have hI := idx3 ⟨_, ht⟩
    refine ⟨⟨_, ht⟩, (flush0_3 ⟨_, ht⟩).mpr (by dsimp only; omega), ?_⟩
    show i ∈ ((View.whole main_v2_1).slice (win0_3.rect ⟨_, ht⟩)).set
    rw [View.set_slice_whole, Rect.mem_set_unit]
    intro a
    match a with
    | ⟨0, _⟩ =>
      show win0_3.index ⟨_, ht⟩ 0 * 1024 ≤ (i 0 : ℕ) ∧ (i 0 : ℕ) < win0_3.index ⟨_, ht⟩ 0 * 1024 + 1024
      rw [hI.1]; dsimp only; rw [last_of ((i 0 : ℕ) / 1024) (by omega)]; omega
    | ⟨1, _⟩ =>
      show win0_3.index ⟨_, ht⟩ 1 * 1408 ≤ (i 1 : ℕ) ∧ (i 1 : ℕ) < win0_3.index ⟨_, ht⟩ 1 * 1408 + 1408
      rw [hI.2]; omega

end Cert.Proof.GateGrad

end
-- ==== Proof.DownCotI.lean ====
/-
  The call `d_a` over the extended reals: what its result holds after the run.
-/
module

public import proofs.«01_k».proof.Proof.Products
public import proofs.«01_k».proof.Proof.Gen.Kernel4Ideal.Value
public import Idealize.ShloMosaic.Lib.Tactic

@[expose] public section

set_option maxRecDepth 16384

noncomputable section

namespace Cert.Proof.DownCot

open Cert.Kernel4Ideal Cert.Kernel4Ideal.Gen Cert.Kernel4Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products

theorem zz : (![0, 0] : Fin 2 → Nat) = fun _ => 0 := funext fun a => by fin_cases a <;> rfl

theorem out_eq (X : Vec Ideal S1024x2048 .bf16) (Y : Vec Ideal S512x2048 .bf16) : out0_2 (F := Ideal) X Y = k0_pay1 (F := Ideal) X Y := by
  unfold out0_2
  rw [View.canon_unit_zero zz]
  simp only [View.ld_unit_zero (S := S1024x2048) zz, View.ld_unit_zero (S := S512x2048) zz]

theorem pay1_at {X : Vec Ideal S1024x2048 .bf16} {Y : Vec Ideal S512x2048 .bf16} {f g : ℕ → ℕ → EReal} (hX : At2 X f) (hY : At2 Y g) :
    At2 (k0_pay1 (F := Ideal) X Y) fun a b => ∑ k ∈ range 2048, f a k * g b k := fun a b => by
  unfold k0_pay1
  simp only [shapeCast_self]
  exact matmul_nt (φ₁ := .bf16) (φ₂ := .bf16) _ hX hY a b

/-! ## The blocks read -/

variable (m : (ℓ : Loc nD τ sig) → Buf (Elt Ideal) ℓ) (c : Dev nD)

/-- Device `c`'s arguments at launch. -/
abbrev a0 : S8192x2048.Idx → EReal := m ((c : Thread nD τ).loc main_arg0)
abbrev a1 : S5632x2048.Idx → EReal := m ((c : Thread nD τ).loc main_arg1)

theorem V0 : V m c main_v0 = a0 m c := by
  dsimp only [V, hostOps0]
  after_results_simp <;> rfl

theorem V1 : V m c main_v1 = a1 m c := by
  dsimp only [V, hostOps0]
  after_results_simp <;> rfl

theorem idx0 : ∀ t : Fin cfg0.N, win0_0.index t 0 = t.val / 11 ∧ win0_0.index t 1 = 0 := by decide +kernel
theorem idx1 : ∀ t : Fin cfg0.N, win0_1.index t 0 = t.val % 11 ∧ win0_1.index t 1 = 0 := by decide +kernel
theorem idx2 : ∀ t : Fin cfg0.N, win0_2.index t 0 = t.val / 11 ∧ win0_2.index t 1 = t.val % 11 := by decide +kernel

theorem lt88 (t : Fin cfg0.N) : t.val < 88 := t.isLt

theorem blk0 (t : Fin cfg0.N) : At2 (iblk m c 0 t : S1024x2048.Idx → EReal) fun a k => ent (a0 m c) (1024 * (t.val / 11) + a) k := fun a k => by
  have ht := lt88 t
  have ha := a.isLt
  unfold iblk
  rw [View.read_apply]
  show V m c main_v0 _ = _
  rw [V0]
  refine (congrArg (a0 m c) (show _ = ix2 (n0 := 8192) (n1 := 2048) ⟨1024 * (t.val / 11) + a.val, by omega⟩ k from ?_)).trans (at2_ent (a0 m c) _ _)
  funext x
  match x with
  | ⟨0, _⟩ => exact Fin.ext (show win0_0.index t 0 * 1024 + 1 * a.val = 1024 * (t.val / 11) + a.val by rw [(idx0 t).1]; omega)
  | ⟨1, _⟩ => exact Fin.ext (show win0_0.index t 1 * 2048 + 1 * k.val = k.val by rw [(idx0 t).2]; omega)

theorem blk1 (t : Fin cfg0.N) : At2 (iblk m c 1 t : S512x2048.Idx → EReal) fun b k => ent (a1 m c) (512 * (t.val % 11) + b) k := fun b k => by
  have ht := lt88 t
  have hb := b.isLt
  unfold iblk
  rw [View.read_apply]
  show V m c main_v1 _ = _
  rw [V1]
  refine (congrArg (a1 m c) (show _ = ix2 (n0 := 5632) (n1 := 2048) ⟨512 * (t.val % 11) + b.val, by omega⟩ k from ?_)).trans (at2_ent (a1 m c) _ _)
  funext x
  match x with
  | ⟨0, _⟩ => exact Fin.ext (show win0_1.index t 0 * 512 + 1 * b.val = 512 * (t.val % 11) + b.val by rw [(idx1 t).1]; omega)
  | ⟨1, _⟩ => exact Fin.ext (show win0_1.index t 1 * 2048 + 1 * k.val = k.val by rw [(idx1 t).2]; omega)

/-! ## The result -/

/-- The cotangent of the activation. -/
def grad (x : S8192x2048.Idx → EReal) (y : S5632x2048.Idx → EReal) (a b : ℕ) : EReal := ∑ k ∈ range 2048, ent x a k * ent y b k

theorem wrote2 (t : Fin cfg0.N) (hf : (cfg0.win 2).flush t = true) :
    (dats m 0 c).flushed 2 t = ((cfg0.win 2).blk t).view.read (Elt Ideal) (mat (n0 := 8192) (n1 := 5632) (grad (a0 m c) (a1 m c))) := by
  rw [flushed2 m c t, out_eq]
  funext y
  obtain ⟨a, b, rfl⟩ : ∃ (a : Fin 1024) (b : Fin 512), y = ix2 a b := ⟨_, _, eq_ix2 y⟩
  rw [View.read_apply]
  refine (show _ = k0_pay1 (F := Ideal) _ _ (ix2 a b) from rfl).trans ((pay1_at (blk0 m c t) (blk1 m c t) a b).trans ?_)
  show _ = grad (a0 m c) (a1 m c) (win0_2.index t 0 * 1024 + 1 * a.val) (win0_2.index t 1 * 512 + 1 * b.val)
  rw [(idx2 t).1, (idx2 t).2, show t.val / 11 * 1024 + 1 * a.val = 1024 * (t.val / 11) + a.val by omega,
    show t.val % 11 * 512 + 1 * b.val = 512 * (t.val % 11) + b.val by omega]
  rfl

theorem final2 : (dats m 0 c).arrAt 2 cfg0.N = mat (n0 := 8192) (n1 := 5632) (grad (a0 m c) (a1 m c)) :=
  (dats m 0 c).arrAt_eq_of_cover 2 _ (wrote2 m c) fun i => by
    have h0 : (i 0 : ℕ) < 8192 := (i 0).isLt
    have h1 : (i 1 : ℕ) < 5632 := (i 1).isLt
    have ht : (i 0 : ℕ) / 1024 * 11 + (i 1 : ℕ) / 512 < cfg0.N := by show _ < 88; omega
    have hI := idx2 ⟨_, ht⟩
    refine ⟨⟨_, ht⟩, flush0_2 ⟨_, ht⟩, ?_⟩
    show i ∈ ((View.whole main_v2).slice (win0_2.rect ⟨_, ht⟩)).set
    rw [View.set_slice_whole, Rect.mem_set_unit]
    intro a
    match a with
    | ⟨0, _⟩ =>
      show win0_2.index ⟨_, ht⟩ 0 * 1024 ≤ (i 0 : ℕ) ∧ (i 0 : ℕ) < win0_2.index ⟨_, ht⟩ 0 * 1024 + 1024
      rw [hI.1]; dsimp only; omega
    | ⟨1, _⟩ =>
      show win0_2.index ⟨_, ht⟩ 1 * 512 ≤ (i 1 : ℕ) ∧ (i 1 : ℕ) < win0_2.index ⟨_, ht⟩ 1 * 512 + 512
      rw [hI.2]; dsimp only; omega

end Cert.Proof.DownCot

end
-- ==== Proof.DownGradI.lean ====
/-
  The call `grad_w_down` over the extended reals: what its two results hold after the run.
-/
module

public import proofs.«01_k».proof.Proof.Products
public import proofs.«01_k».proof.Proof.Gen.Kernel5Ideal.Value
public import Idealize.ShloMosaic.Lib.Tactic

@[expose] public section

set_option maxRecDepth 16384

noncomputable section

namespace Cert.Proof.DownGrad

open Cert.Kernel5Ideal Cert.Kernel5Ideal.Gen Cert.Kernel5Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products

theorem zz : (![0, 0] : Fin 2 → Nat) = fun _ => 0 := funext fun a => by fin_cases a <;> rfl

/-! ## One grid point -/

section
variable (c : Dev nD) (i : grid0.Coords) (a3 : Memref sig .tc .vmem S1024x1408 .bf16) (h3 : a3.IsWhole) (a4 : Memref sig .tc .vmem S1024x1024 .bf16) (h4 : a4.IsWhole)
  (a5 : Memref sig .tc .vmem S1408x1024 .f32) (h5 : a5.IsWhole) (a6 : Memref sig .tc .vmem S1408x1024 .bf16) (h6 : a6.IsWhole)
  (a7 : Memref sig .tc .vmem S1408x1024 .f32) (h7 : a7.IsWhole) (X : Vec Ideal S1024x1408 .bf16) (Y : Vec Ideal S1024x1024 .bf16) (W : Vec Ideal S1408x1024 .f32)

theorem acc_A (hc0 : cond0_0 i) (hc1 : ¬cond0_1 i) :
    sout0_A_0 c i a3 h3 a4 h4 a5 h5 a6 h6 a7 h7 hc0 hc1 X Y = k0_pay2 (F := Ideal) (k0_pay1 (F := Ideal)) X Y := by
  unfold sout0_A_0
  rw [View.read_writes_eq_canon _ _ _ (scover0_A_0 c i a3 h3 a4 h4 a5 h5 a6 h6 a7 h7 hc0 hc1 X Y)]
  unfold kernelRun0_A
  dsimp only
  sl_unfold_words
  rw [View.canon_cons_unit_zero (S := S1408x1024) zz, View.readCov_unit_zero (S := S1408x1024) _ zz]
  simp only [View.readAt_eq_ld, h3.read_unread, h4.read_unread, View.ld_unit_zero (S := S1024x1408) zz, View.ld_unit_zero (S := S1024x1024) zz, View.ld_unit_zero (S := S1408x1024) zz]

theorem acc_B (hc0 : ¬cond0_0 i) (hc1 : ¬cond0_1 i) :
    sout0_B_0 c i a3 h3 a4 h4 a5 h5 a6 h6 a7 h7 hc0 hc1 X Y W = k0_pay2 (F := Ideal) W X Y := by
  unfold sout0_B_0
  rw [View.read_writes_eq_canon _ _ _ (scover0_B_0 c i a3 h3 a4 h4 a5 h5 a6 h6 a7 h7 hc0 hc1 X Y W)]
  unfold kernelRun0_B
  dsimp only
  sl_unfold_words
  rw [View.canon_unit_zero zz]
  simp only [View.readAt_eq_ld, h3.read_unread, h4.read_unread, h7.read_unread, View.ld_unit_zero (S := S1024x1408) zz, View.ld_unit_zero (S := S1024x1024) zz, View.ld_unit_zero (S := S1408x1024) zz]

theorem acc_C (hc0 : ¬cond0_0 i) (hc1 : cond0_1 i) :
    sout0_C_0 c i a3 h3 a4 h4 a5 h5 a6 h6 a7 h7 hc0 hc1 X Y W = k0_pay2 (F := Ideal) W X Y := by
  unfold sout0_C_0
  rw [View.read_writes_eq_canon _ _ _ (scover0_C_0 c i a3 h3 a4 h4 a5 h5 a6 h6 a7 h7 hc0 hc1 X Y W)]
  unfold kernelRun0_C
  dsimp only
  sl_unfold_words
  rw [View.canon_unit_zero zz]
  simp only [View.readAt_eq_ld, h3.read_unread, h4.read_unread, h7.read_unread, View.ld_unit_zero (S := S1024x1408) zz, View.ld_unit_zero (S := S1024x1024) zz, View.ld_unit_zero (S := S1408x1024) zz]

theorem out_C_2 (hc0 : ¬cond0_0 i) (hc1 : cond0_1 i) :
    out0_C_2 c i a3 h3 a4 h4 a5 h5 a6 h6 a7 h7 hc0 hc1 X Y W = k0_pay2 (F := Ideal) W X Y := by
  unfold out0_C_2
  rw [View.read_writes_eq_canon _ _ _ (cover0_C_2 c i a3 h3 a4 h4 a5 h5 a6 h6 a7 h7 hc0 hc1 X Y W)]
  unfold kernelRun0_C
  dsimp only
  sl_unfold_words
  rw [View.canon_unit_zero zz, View.readCov_unit_zero (S := S1408x1024) _ zz]
  simp only [View.readAt_eq_ld, h3.read_unread, h4.read_unread, h7.read_unread, View.ld_unit_zero (S := S1024x1408) zz, View.ld_unit_zero (S := S1024x1024) zz, View.ld_unit_zero (S := S1408x1024) zz]

theorem out_C_3 (hc0 : ¬cond0_0 i) (hc1 : cond0_1 i) :
    out0_C_3 c i a3 h3 a4 h4 a5 h5 a6 h6 a7 h7 hc0 hc1 X Y W = k0_pay3 (F := Ideal) (k0_pay2 (F := Ideal) W X Y) := by
  unfold out0_C_3
  rw [View.read_writes_eq_canon _ _ _ (cover0_C_3 c i a3 h3 a4 h4 a5 h5 a6 h6 a7 h7 hc0 hc1 X Y W)]
  unfold kernelRun0_C
  dsimp only
  sl_unfold_words
  rw [View.canon_unit_zero zz, View.readCov_unit_zero (S := S1408x1024) _ zz]
  simp only [View.readAt_eq_ld, h3.read_unread, h4.read_unread, h7.read_unread, View.ld_unit_zero (S := S1024x1408) zz, View.ld_unit_zero (S := S1024x1024) zz, View.ld_unit_zero (S := S1408x1024) zz]

end

theorem pay1_at : At2 (k0_pay1 (F := Ideal)) fun _ _ => 0 := fun a b => by
  unfold k0_pay1
  rw [shapeCast_self]
  exact Ideal.ofBits_zero_f32

theorem pay2_at {W : Vec Ideal S1408x1024 .f32} {X : Vec Ideal S1024x1408 .bf16} {Y : Vec Ideal S1024x1024 .bf16} {w f g : ℕ → ℕ → EReal}
    (hW : At2 W w) (hX : At2 X f) (hY : At2 Y g) :
    At2 (k0_pay2 (F := Ideal) W X Y) fun a b => w a b + ∑ k ∈ range 1024, f k a * g k b := fun a b => by
  unfold k0_pay2
  simp only [shapeCast_self]
  exact congrArg₂ (· + ·) (hW a b) (matmul_tn _ hX hY a b)

/-! ## The blocks read -/

variable (m : (ℓ : Loc nD τ sig) → Buf (Elt Ideal) ℓ) (c : Dev nD)

/-- Device `c`'s arguments at launch. -/
abbrev a0 : S8192x5632.Idx → EReal := m ((c : Thread nD τ).loc main_arg0)
abbrev a1 : S8192x2048.Idx → EReal := m ((c : Thread nD τ).loc main_arg1)

theorem V0 : V m c main_v0 = a0 m c := by
  dsimp only [V, hostOps0]
  after_results_simp <;> rfl

theorem V1 : V m c main_v1 = a1 m c := by
  dsimp only [V, hostOps0]
  after_results_simp <;> rfl

theorem idx0 : ∀ t : Fin cfg0.N, win0_0.index t 0 = t.val % 8 ∧ win0_0.index t 1 = t.val / 16 := by decide +kernel
theorem idx1 : ∀ t : Fin cfg0.N, win0_1.index t 0 = t.val % 8 ∧ win0_1.index t 1 = t.val / 8 % 2 := by decide +kernel
theorem idx2 : ∀ t : Fin cfg0.N, win0_2.index t 0 = t.val / 16 ∧ win0_2.index t 1 = t.val / 8 % 2 := by decide +kernel
theorem idx3 : ∀ t : Fin cfg0.N, win0_3.index t 0 = t.val / 16 ∧ win0_3.index t 1 = t.val / 8 % 2 := by decide +kernel

theorem lt64 (t : Fin cfg0.N) : t.val < 64 := t.isLt

theorem blk0 (t : Fin cfg0.N) : At2 (iblk m c 0 t : S1024x1408.Idx → EReal) fun k a => ent (a0 m c) (1024 * (t.val % 8) + k) (1408 * (t.val / 16) + a) := fun k a => by
  have ht := lt64 t
  have hk := k.isLt
  have ha := a.isLt
  unfold iblk
  rw [View.read_apply]
  show V m c main_v0 _ = _
  rw [V0]
  refine (congrArg (a0 m c) (show _ = ix2 (n0 := 8192) (n1 := 5632) ⟨1024 * (t.val % 8) + k.val, by omega⟩ ⟨1408 * (t.val / 16) + a.val, by omega⟩ from ?_)).trans
    (at2_ent (a0 m c) _ _)
  funext x
  match x with
  | ⟨0, _⟩ => exact Fin.ext (show win0_0.index t 0 * 1024 + 1 * k.val = 1024 * (t.val % 8) + k.val by rw [(idx0 t).1]; omega)
  | ⟨1, _⟩ => exact Fin.ext (show win0_0.index t 1 * 1408 + 1 * a.val = 1408 * (t.val / 16) + a.val by rw [(idx0 t).2]; omega)

theorem blk1 (t : Fin cfg0.N) : At2 (iblk m c 1 t : S1024x1024.Idx → EReal) fun k b => ent (a1 m c) (1024 * (t.val % 8) + k) (1024 * (t.val / 8 % 2) + b) := fun k b => by
  have ht := lt64 t
  have hk := k.isLt
  have hb := b.isLt
  unfold iblk
  rw [View.read_apply]
  show V m c main_v1 _ = _
  rw [V1]
  refine (congrArg (a1 m c) (show _ = ix2 (n0 := 8192) (n1 := 2048) ⟨1024 * (t.val % 8) + k.val, by omega⟩ ⟨1024 * (t.val / 8 % 2) + b.val, by omega⟩ from ?_)).trans
    (at2_ent (a1 m c) _ _)
  funext x
  match x with
  | ⟨0, _⟩ => exact Fin.ext (show win0_1.index t 0 * 1024 + 1 * k.val = 1024 * (t.val % 8) + k.val by rw [(idx1 t).1]; omega)
  | ⟨1, _⟩ => exact Fin.ext (show win0_1.index t 1 * 1024 + 1 * b.val = 1024 * (t.val / 8 % 2) + b.val by rw [(idx1 t).2]; omega)

/-! ## The accumulated sum -/

/-- The sum's term `l` at entry `(a, b)` of point `n`'s block. -/
abbrev term (n a b l : ℕ) : EReal := ent (a0 m c) l (1408 * (n / 16) + a) * ent (a1 m c) l (1024 * (n / 8 % 2) + b)

/-- One point's product added to the sum over the blocks before it. -/
theorem step (t : Fin cfg0.N) {W : Vec Ideal S1408x1024 .f32} (hW : At2 W fun a b => ∑ l ∈ range (1024 * (t.val % 8)), term m c t.val a b l) :
    At2 (k0_pay2 (F := Ideal) W (iblk m c 0 t) (iblk m c 1 t)) fun a b => ∑ l ∈ range (1024 * (t.val % 8 + 1)), term m c t.val a b l := fun a b =>
  (pay2_at hW (blk0 m c t) (blk1 m c t) a b).trans (sum_block (term m c t.val a.val b.val) 1024 (t.val % 8)).symm

theorem acc_at (n : ℕ) (hn : n < cfg0.N) : At2 (outsAt0 m c n hn).2.2 fun a b => ∑ l ∈ range (1024 * (n % 8 + 1)), term m c n a b l := by
  induction n using Nat.strong_induction_on with
  | _ n ih =>
    have hN : n < 64 := hn
    by_cases h0 : n % 8 = 0
    · rw [outsAt0_A m c ⟨n, hn⟩ h0 (by dsimp only; omega)]
      dsimp only
      rw [acc_A]
      refine step m c ⟨n, hn⟩ fun a b => ?_
      rw [pay1_at a b]
      dsimp only
      rw [h0, Nat.mul_zero, sum_range_zero]
    · have hp : At2 (outsAt0 m c (n - 1) (Nat.lt_of_le_of_lt (Nat.sub_le _ _) hn)).2.2 fun a b => ∑ l ∈ range (1024 * (n % 8)), term m c n a b l := fun a b => by
        rw [ih (n - 1) (by omega) _ a b]
        dsimp only
        unfold term
        rw [show (n - 1) % 8 + 1 = n % 8 by omega, show (n - 1) / 16 = n / 16 by omega, show (n - 1) / 8 = n / 8 by omega]
      by_cases h7 : n % 8 = 7
      · rw [outsAt0_C m c ⟨n, hn⟩ h0 h7]
        dsimp only
        rw [acc_C]
        exact step m c ⟨n, hn⟩ hp
      · rw [outsAt0_B m c ⟨n, hn⟩ h0 h7]
        dsimp only
        rw [acc_B]
        exact step m c ⟨n, hn⟩ hp

/-- What the last point of a sweep writes. -/
theorem last_at (t : Fin cfg0.N) (h7 : t.val % 8 = 7) :
    At2 (k0_pay2 (F := Ideal) (outsAt0 m c (t.val - 1) (Nat.lt_of_le_of_lt (Nat.sub_le _ _) t.isLt)).2.2 (iblk m c 0 t) (iblk m c 1 t))
      fun a b => ∑ l ∈ range 8192, term m c t.val a b l := by
  have h := acc_at m c t.val t.isLt
  rw [outsAt0_C m c t (by omega) h7] at h
  dsimp only at h
  rw [acc_C, h7] at h
  exact h

/-! ## The results -/

/-- The gradient of the weight. -/
def grad (x : S8192x5632.Idx → EReal) (y : S8192x2048.Idx → EReal) (r b : ℕ) : EReal := ∑ l ∈ range 8192, ent x l r * ent y l b

theorem wrote2 (t : Fin cfg0.N) (hf : (cfg0.win 2).flush t = true) :
    (dats m 0 c).flushed 2 t = ((cfg0.win 2).blk t).view.read (Elt Ideal) (mat (n0 := 5632) (n1 := 2048) (grad (a0 m c) (a1 m c))) := by
  have h7 := (flush0_2 t).mp hf
  rw [flushed2_C m c t (by omega) h7, out_C_2]
  funext y
  obtain ⟨a, b, rfl⟩ : ∃ (a : Fin 1408) (b : Fin 1024), y = ix2 a b := ⟨_, _, eq_ix2 y⟩
  rw [View.read_apply]
  refine (show _ = k0_pay2 (F := Ideal) _ _ _ (ix2 a b) from rfl).trans ((last_at m c t h7 a b).trans ?_)
  show _ = grad (a0 m c) (a1 m c) (win0_2.index t 0 * 1408 + 1 * a.val) (win0_2.index t 1 * 1024 + 1 * b.val)
  rw [(idx2 t).1, (idx2 t).2, show t.val / 16 * 1408 + 1 * a.val = 1408 * (t.val / 16) + a.val by omega,
    show t.val / 8 % 2 * 1024 + 1 * b.val = 1024 * (t.val / 8 % 2) + b.val by omega]
  rfl

theorem wrote3 (t : Fin cfg0.N) (hf : (cfg0.win 3).flush t = true) :
    (dats m 0 c).flushed 3 t = ((cfg0.win 3).blk t).view.read (Elt Ideal) (mat (n0 := 5632) (n1 := 2048) (grad (a0 m c) (a1 m c))) := by
  have h7 := (flush0_3 t).mp hf
  rw [flushed3_C m c t (by omega) h7, out_C_3]
  funext y
  obtain ⟨a, b, rfl⟩ : ∃ (a : Fin 1408) (b : Fin 1024), y = ix2 a b := ⟨_, _, eq_ix2 y⟩
  rw [View.read_apply]
  refine (show _ = k0_pay2 (F := Ideal) _ _ _ (ix2 a b) from rfl).trans ((last_at m c t h7 a b).trans ?_)
  show _ = grad (a0 m c) (a1 m c) (win0_3.index t 0 * 1408 + 1 * a.val) (win0_3.index t 1 * 1024 + 1 * b.val)
  rw [(idx3 t).1, (idx3 t).2, show t.val / 16 * 1408 + 1 * a.val = 1408 * (t.val / 16) + a.val by omega,
    show t.val / 8 % 2 * 1024 + 1 * b.val = 1024 * (t.val / 8 % 2) + b.val by omega]
  rfl

theorem final2 : (dats m 0 c).arrAt 2 cfg0.N = mat (n0 := 5632) (n1 := 2048) (grad (a0 m c) (a1 m c)) :=
  (dats m 0 c).arrAt_eq_of_cover 2 _ (wrote2 m c) fun i => by
    have h0 : (i 0 : ℕ) < 5632 := (i 0).isLt
    have h1 : (i 1 : ℕ) < 2048 := (i 1).isLt
    have ht : (i 0 : ℕ) / 1408 * 16 + (i 1 : ℕ) / 1024 * 8 + 7 < cfg0.N := by show _ < 64; omega
    have hI := idx2 ⟨_, ht⟩
    refine ⟨⟨_, ht⟩, (flush0_2 ⟨_, ht⟩).mpr (by dsimp only; omega), ?_⟩
    show i ∈ ((View.whole main_v2_0).slice (win0_2.rect ⟨_, ht⟩)).set
    rw [View.set_slice_whole, Rect.mem_set_unit]
    intro a
    match a with
    | ⟨0, _⟩ =>
      show win0_2.index ⟨_, ht⟩ 0 * 1408 ≤ (i 0 : ℕ) ∧ (i 0 : ℕ) < win0_2.index ⟨_, ht⟩ 0 * 1408 + 1408
      rw [hI.1]; dsimp only; omega
    | ⟨1, _⟩ =>
      show win0_2.index ⟨_, ht⟩ 1 * 1024 ≤ (i 1 : ℕ) ∧ (i 1 : ℕ) < win0_2.index ⟨_, ht⟩ 1 * 1024 + 1024
      rw [hI.2]; dsimp only; omega

theorem final3 : (dats m 0 c).arrAt 3 cfg0.N = mat (n0 := 5632) (n1 := 2048) (grad (a0 m c) (a1 m c)) :=
  (dats m 0 c).arrAt_eq_of_cover 3 _ (wrote3 m c) fun i => by
    have h0 : (i 0 : ℕ) < 5632 := (i 0).isLt
    have h1 : (i 1 : ℕ) < 2048 := (i 1).isLt
    have ht : (i 0 : ℕ) / 1408 * 16 + (i 1 : ℕ) / 1024 * 8 + 7 < cfg0.N := by show _ < 64; omega
    have hI := idx3 ⟨_, ht⟩
    refine ⟨⟨_, ht⟩, (flush0_3 ⟨_, ht⟩).mpr (by dsimp only; omega), ?_⟩
    show i ∈ ((View.whole main_v2_1).slice (win0_3.rect ⟨_, ht⟩)).set
    rw [View.set_slice_whole, Rect.mem_set_unit]
    intro a
    match a with
    | ⟨0, _⟩ =>
      show win0_3.index ⟨_, ht⟩ 0 * 1408 ≤ (i 0 : ℕ) ∧ (i 0 : ℕ) < win0_3.index ⟨_, ht⟩ 0 * 1408 + 1408
      rw [hI.1]; dsimp only; omega
    | ⟨1, _⟩ =>
      show win0_3.index ⟨_, ht⟩ 1 * 1024 ≤ (i 1 : ℕ) ∧ (i 1 : ℕ) < win0_3.index ⟨_, ht⟩ 1 * 1024 + 1024
      rw [hI.2]; dsimp only; omega

end Cert.Proof.DownGrad

end
-- ==== Proof.GateFwdI.lean ====
/-
  The call `gate_proj` over the extended reals: what its result holds after the run.
-/
module

public import proofs.«01_k».proof.Proof.Products
public import proofs.«01_k».proof.Proof.PairI
public import proofs.«01_k».proof.Proof.Gen.Kernel6Ideal.Value
public import Idealize.ShloMosaic.Lib.Tactic

@[expose] public section

set_option maxRecDepth 16384

noncomputable section

namespace Cert.Proof.GateFwd

open Cert.Kernel6Ideal Cert.Kernel6Ideal.Gen Cert.Kernel6Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products

theorem zz : (![0, 0] : Fin 2 → Nat) = fun _ => 0 := funext fun a => by fin_cases a <;> rfl

theorem out_eq (X : Vec Ideal S1024x2048 .bf16) (Y : Vec Ideal S2048x1408 .bf16) : out0_2 (F := Ideal) X Y = k0_pay1 (F := Ideal) X Y := by
  unfold out0_2
  rw [View.canon_unit_zero zz]
  simp only [View.ld_unit_zero (S := S1024x2048) zz, View.ld_unit_zero (S := S2048x1408) zz]

theorem pay1_at {X : Vec Ideal S1024x2048 .bf16} {Y : Vec Ideal S2048x1408 .bf16} {f g : ℕ → ℕ → EReal} (hX : At2 X f) (hY : At2 Y g) :
    At2 (k0_pay1 (F := Ideal) X Y) fun a b => ∑ k ∈ range 2048, f a k * g k b := fun a b => by
  unfold k0_pay1
  simp only [shapeCast_self]
  exact matmul_nn (φ₁ := .bf16) (φ₂ := .bf16) _ hX hY a b

/-! ## The blocks read -/

variable (m : (ℓ : Loc nD τ sig) → Buf (Elt Ideal) ℓ) (c : Dev nD)

/-- Device `c`'s arguments at launch. -/
abbrev a0 : S8192x2048.Idx → EReal := m ((c : Thread nD τ).loc main_arg0)
abbrev a1 : S2048x5632.Idx → EReal := m ((c : Thread nD τ).loc main_arg1)

theorem V0 : V m c main_v0 = a0 m c := by
  dsimp only [V, hostOps0]
  after_results_simp <;> rfl

theorem V4 : V m c main_v4 = Pair.shards (a1 m c) := by
  dsimp only [V, hostOps0]
  after_results_simp <;> rfl

theorem idx0 : ∀ t : Fin cfg0.N, win0_0.index t 0 = t.val / 4 ∧ win0_0.index t 1 = 0 := by decide +kernel
theorem idx1 : ∀ t : Fin cfg0.N, win0_1.index t 0 = t.val % 4 ∧ win0_1.index t 1 = 0 := by decide +kernel
theorem idx2 : ∀ t : Fin cfg0.N, win0_2.index t 0 = t.val / 4 ∧ win0_2.index t 1 = t.val % 4 := by decide +kernel

theorem lt32 (t : Fin cfg0.N) : t.val < 32 := t.isLt

theorem blk0 (t : Fin cfg0.N) : At2 (iblk m c 0 t : S1024x2048.Idx → EReal) fun a k => ent (a0 m c) (1024 * (t.val / 4) + a) k := fun a k => by
  have ht := lt32 t
  have ha := a.isLt
  unfold iblk
  rw [View.read_apply]
  show V m c main_v0 _ = _
  rw [V0]
  refine (congrArg (a0 m c) (show _ = ix2 (n0 := 8192) (n1 := 2048) ⟨1024 * (t.val / 4) + a.val, by omega⟩ k from ?_)).trans (at2_ent (a0 m c) _ _)
  funext x
  match x with
  | ⟨0, _⟩ => exact Fin.ext (show win0_0.index t 0 * 1024 + 1 * a.val = 1024 * (t.val / 4) + a.val by rw [(idx0 t).1]; omega)
  | ⟨1, _⟩ => exact Fin.ext (show win0_0.index t 1 * 2048 + 1 * k.val = k.val by rw [(idx0 t).2]; omega)

theorem blk1 (t : Fin cfg0.N) : At2 (iblk m c 1 t : S2048x1408.Idx → EReal) fun k b => ent (a1 m c) k (1408 * (t.val % 4) + b) := fun k b => by
  have ht := lt32 t
  have hk := k.isLt
  unfold iblk
  rw [View.read_apply]
  show V m c main_v4 _ = _
  rw [V4]
  refine (congrArg (Pair.shards (a1 m c)) (show _ = ix2 (n0 := 8192) (n1 := 1408) ⟨2048 * (t.val % 4) + k.val, by omega⟩ b from ?_)).trans
    ((Pair.shards_at (a1 m c) _ _).trans ?_)
  · funext x
    match x with
    | ⟨0, _⟩ => exact Fin.ext (show win0_1.index t 0 * 2048 + 1 * k.val = 2048 * (t.val % 4) + k.val by rw [(idx1 t).1]; omega)
    | ⟨1, _⟩ => exact Fin.ext (show win0_1.index t 1 * 1408 + 1 * b.val = b.val by rw [(idx1 t).2]; omega)
  · dsimp only
    rw [show (2048 * (t.val % 4) + k.val) % 2048 = k.val by omega, show (2048 * (t.val % 4) + k.val) / 2048 = t.val % 4 by omega]

/-! ## The result -/

/-- The product. -/
def grad (x : S8192x2048.Idx → EReal) (y : S2048x5632.Idx → EReal) (a b : ℕ) : EReal := ∑ k ∈ range 2048, ent x a k * ent y k b

theorem wrote2 (t : Fin cfg0.N) (hf : (cfg0.win 2).flush t = true) :
    (dats m 0 c).flushed 2 t = ((cfg0.win 2).blk t).view.read (Elt Ideal) (mat (n0 := 8192) (n1 := 5632) (grad (a0 m c) (a1 m c))) := by
  rw [flushed2 m c t, out_eq]
  funext y
  obtain ⟨a, b, rfl⟩ : ∃ (a : Fin 1024) (b : Fin 1408), y = ix2 a b := ⟨_, _, eq_ix2 y⟩
  rw [View.read_apply]
  refine (show _ = k0_pay1 (F := Ideal) _ _ (ix2 a b) from rfl).trans ((pay1_at (blk0 m c t) (blk1 m c t) a b).trans ?_)
  show _ = grad (a0 m c) (a1 m c) (win0_2.index t 0 * 1024 + 1 * a.val) (win0_2.index t 1 * 1408 + 1 * b.val)
  rw [(idx2 t).1, (idx2 t).2, show t.val / 4 * 1024 + 1 * a.val = 1024 * (t.val / 4) + a.val by omega,
    show t.val % 4 * 1408 + 1 * b.val = 1408 * (t.val % 4) + b.val by omega]
  rfl

theorem final2 : (dats m 0 c).arrAt 2 cfg0.N = mat (n0 := 8192) (n1 := 5632) (grad (a0 m c) (a1 m c)) :=
  (dats m 0 c).arrAt_eq_of_cover 2 _ (wrote2 m c) fun i => by
    have h0 : (i 0 : ℕ) < 8192 := (i 0).isLt
    have h1 : (i 1 : ℕ) < 5632 := (i 1).isLt
    have ht : (i 0 : ℕ) / 1024 * 4 + (i 1 : ℕ) / 1408 < cfg0.N := by show _ < 32; omega
    have hI := idx2 ⟨_, ht⟩
    refine ⟨⟨_, ht⟩, flush0_2 ⟨_, ht⟩, ?_⟩
    show i ∈ ((View.whole main_v5).slice (win0_2.rect ⟨_, ht⟩)).set
    rw [View.set_slice_whole, Rect.mem_set_unit]
    intro a
    match a with
    | ⟨0, _⟩ =>
      show win0_2.index ⟨_, ht⟩ 0 * 1024 ≤ (i 0 : ℕ) ∧ (i 0 : ℕ) < win0_2.index ⟨_, ht⟩ 0 * 1024 + 1024
      rw [hI.1]; dsimp only; omega
    | ⟨1, _⟩ =>
      show win0_2.index ⟨_, ht⟩ 1 * 1408 ≤ (i 1 : ℕ) ∧ (i 1 : ℕ) < win0_2.index ⟨_, ht⟩ 1 * 1408 + 1408
      rw [hI.2]; dsimp only; omega

end Cert.Proof.GateFwd

end
-- ==== Proof.DownFwdI.lean ====
/-
  The call `down_proj` over the extended reals: what its result holds after the run.
-/
module

public import proofs.«01_k».proof.Proof.Products
public import proofs.«01_k».proof.Proof.Gen.Kernel7Ideal.Value
public import Idealize.ShloMosaic.Lib.Tactic
public import Idealize.ShloMosaic.Lib.VecWindow

@[expose] public section

set_option maxRecDepth 16384

noncomputable section

namespace Cert.Proof.DownFwd

open Cert.Kernel7Ideal Cert.Kernel7Ideal.Gen Cert.Kernel7Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products

theorem zz : (![0, 0] : Fin 2 → Nat) = fun _ => 0 := funext fun a => by fin_cases a <;> rfl

/-! ## One grid point -/

section
variable (c : Dev nD) (i : grid0.Coords) (a3 : Memref sig .tc .vmem S512x2816 .bf16) (h3 : a3.IsWhole) (a4 : Memref sig .tc .vmem S2816x1024 .bf16) (h4 : a4.IsWhole)
  (a5 : Memref sig .tc .vmem S512x1024 .f32) (h5 : a5.IsWhole) (a6 : Memref sig .tc .vmem S512x1024 .f32) (h6 : a6.IsWhole)
  (a7 : Memref sig .tc .vmem S512x1024 .f32) (h7 : a7.IsWhole) (X : Vec Ideal S512x2816 .bf16) (Y : Vec Ideal S2816x1024 .bf16) (Z W : Vec Ideal S512x1024 .f32)

theorem acc_A (hc0 : cond0_0 i) (hc1 : ¬cond0_1 i) :
    sout0_A_0 c i a3 h3 a4 h4 a5 h5 a6 h6 a7 h7 hc0 hc1 X Y Z = k0_pay2 (F := Ideal) (k0_pay1 (F := Ideal)) X Y := by
  unfold sout0_A_0
  rw [View.read_writes_eq_canon _ _ _ (scover0_A_0 c i a3 h3 a4 h4 a5 h5 a6 h6 a7 h7 hc0 hc1 X Y Z)]
  unfold kernelRun0_A
  dsimp only
  sl_unfold_words
  simp only [View.canon_cons_unit_zero (S := S512x1024) zz, View.readCov_full (s := S512x1024), View.readAt_eq_ld, h3.read_unread, h4.read_unread, h5.read_unread, h7.read_unread, View.ld_unit_zero (S := S512x2816) zz, View.ld_unit_zero (S := S2816x1024) zz, View.ld_unit_zero (S := S512x1024) zz]

theorem out_B (hc0 : ¬cond0_0 i) (hc1 : cond0_1 i) :
    out0_B_3 c i a3 h3 a4 h4 a5 h5 a6 h6 a7 h7 hc0 hc1 X Y Z W = k0_pay3 (F := Ideal) (k0_pay2 (F := Ideal) W X Y) Z := by
  unfold out0_B_3
  rw [View.read_writes_eq_canon _ _ _ (cover0_B_3 c i a3 h3 a4 h4 a5 h5 a6 h6 a7 h7 hc0 hc1 X Y Z W)]
  unfold kernelRun0_B
  dsimp only
  sl_unfold_words
  simp only [View.canon_cons_unit_zero (S := S512x1024) zz, View.readCov_full (s := S512x1024), View.readAt_eq_ld, h3.read_unread, h4.read_unread, h5.read_unread, h7.read_unread, View.ld_unit_zero (S := S512x2816) zz, View.ld_unit_zero (S := S2816x1024) zz, View.ld_unit_zero (S := S512x1024) zz]

end

theorem pay1_at : At2 (k0_pay1 (F := Ideal)) fun _ _ => 0 := fun a b => by
  unfold k0_pay1
  rw [shapeCast_self]
  exact Ideal.ofBits_zero_f32

theorem pay2_at {W : Vec Ideal S512x1024 .f32} {X : Vec Ideal S512x2816 .bf16} {Y : Vec Ideal S2816x1024 .bf16} {w f g : ℕ → ℕ → EReal}
    (hW : At2 W w) (hX : At2 X f) (hY : At2 Y g) :
    At2 (k0_pay2 (F := Ideal) W X Y) fun a b => w a b + ∑ k ∈ range 2816, f a k * g k b := fun a b => by
  unfold k0_pay2
  simp only [shapeCast_self]
  exact congrArg₂ (· + ·) (hW a b) (matmul_nn (φ₁ := .bf16) (φ₂ := .bf16) _ hX hY a b)

/-! ## The blocks read -/

variable (m : (ℓ : Loc nD τ sig) → Buf (Elt Ideal) ℓ) (c : Dev nD)

/-- Device `c`'s arguments at launch. -/
abbrev a0 : S8192x5632.Idx → EReal := m ((c : Thread nD τ).loc main_arg0)
abbrev a1 : S5632x2048.Idx → EReal := m ((c : Thread nD τ).loc main_arg1)
abbrev a2 : S8192x2048.Idx → EReal := m ((c : Thread nD τ).loc main_arg2)

theorem V0 : V m c main_v0 = a0 m c := by
  dsimp only [V, hostOps0]
  after_results_simp <;> rfl

theorem V1 : V m c main_v1 = a1 m c := by
  dsimp only [V, hostOps0]
  after_results_simp <;> rfl

theorem V2 : V m c main_arg2 = a2 m c := by
  dsimp only [V, hostOps0]
  after_results_simp <;> rfl

theorem idx0 : ∀ t : Fin cfg0.N, win0_0.index t 0 = t.val / 4 ∧ win0_0.index t 1 = t.val % 2 := by decide +kernel
theorem idx1 : ∀ t : Fin cfg0.N, win0_1.index t 0 = t.val % 2 ∧ win0_1.index t 1 = t.val / 2 % 2 := by decide +kernel
theorem idx2 : ∀ t : Fin cfg0.N, win0_2.index t 0 = t.val / 4 ∧ win0_2.index t 1 = t.val / 2 % 2 := by decide +kernel
theorem idx3 : ∀ t : Fin cfg0.N, win0_3.index t 0 = t.val / 4 ∧ win0_3.index t 1 = t.val / 2 % 2 := by decide +kernel

theorem lt64 (t : Fin cfg0.N) : t.val < 64 := t.isLt

theorem blk0 (t : Fin cfg0.N) : At2 (iblk m c 0 t : S512x2816.Idx → EReal) fun a b => ent (a0 m c) (512 * (t.val / 4) + a) (2816 * (t.val % 2) + b) := fun a b => by
  have ht := lt64 t
  have ha := a.isLt
  have hb := b.isLt
  unfold iblk
  rw [View.read_apply]
  show V m c main_v0 _ = _
  rw [V0]
  refine (congrArg (a0 m c) (show _ = ix2 (n0 := 8192) (n1 := 5632) ⟨512 * (t.val / 4) + a.val, by omega⟩ ⟨2816 * (t.val % 2) + b.val, by omega⟩ from ?_)).trans
    (at2_ent (a0 m c) _ _)
  funext x
  match x with
  | ⟨0, _⟩ => exact Fin.ext (show win0_0.index t 0 * 512 + 1 * a.val = 512 * (t.val / 4) + a.val by rw [(idx0 t).1]; omega)
  | ⟨1, _⟩ => exact Fin.ext (show win0_0.index t 1 * 2816 + 1 * b.val = 2816 * (t.val % 2) + b.val by rw [(idx0 t).2]; omega)

theorem blk1 (t : Fin cfg0.N) : At2 (iblk m c 1 t : S2816x1024.Idx → EReal) fun a b => ent (a1 m c) (2816 * (t.val % 2) + a) (1024 * (t.val / 2 % 2) + b) := fun a b => by
  have ht := lt64 t
  have ha := a.isLt
  have hb := b.isLt
  unfold iblk
  rw [View.read_apply]
  show V m c main_v1 _ = _
  rw [V1]
  refine (congrArg (a1 m c) (show _ = ix2 (n0 := 5632) (n1 := 2048) ⟨2816 * (t.val % 2) + a.val, by omega⟩ ⟨1024 * (t.val / 2 % 2) + b.val, by omega⟩ from ?_)).trans
    (at2_ent (a1 m c) _ _)
  funext x
  match x with
  | ⟨0, _⟩ => exact Fin.ext (show win0_1.index t 0 * 2816 + 1 * a.val = 2816 * (t.val % 2) + a.val by rw [(idx1 t).1]; omega)
  | ⟨1, _⟩ => exact Fin.ext (show win0_1.index t 1 * 1024 + 1 * b.val = 1024 * (t.val / 2 % 2) + b.val by rw [(idx1 t).2]; omega)

theorem blk2 (t : Fin cfg0.N) : At2 (iblk m c 2 t : S512x1024.Idx → EReal) fun a b => ent (a2 m c) (512 * (t.val / 4) + a) (1024 * (t.val / 2 % 2) + b) := fun a b => by
  have ht := lt64 t
  have ha := a.isLt
  have hb := b.isLt
  unfold iblk
  rw [View.read_apply]
  show V m c main_arg2 _ = _
  rw [V2]
  refine (congrArg (a2 m c) (show _ = ix2 (n0 := 8192) (n1 := 2048) ⟨512 * (t.val / 4) + a.val, by omega⟩ ⟨1024 * (t.val / 2 % 2) + b.val, by omega⟩ from ?_)).trans
    (at2_ent (a2 m c) _ _)
  funext x
  match x with
  | ⟨0, _⟩ => exact Fin.ext (show win0_2.index t 0 * 512 + 1 * a.val = 512 * (t.val / 4) + a.val by rw [(idx2 t).1]; omega)
  | ⟨1, _⟩ => exact Fin.ext (show win0_2.index t 1 * 1024 + 1 * b.val = 1024 * (t.val / 2 % 2) + b.val by rw [(idx2 t).2]; omega)

/-! ## The result -/

/-- The sum's term `l` at entry `(a, b)` of point `n`'s block. -/
abbrev term (n a b l : ℕ) : EReal := ent (a0 m c) (512 * (n / 4) + a) l * ent (a1 m c) l (1024 * (n / 2 % 2) + b)

/-- The product, onto the residual. -/
def grad (x : S8192x5632.Idx → EReal) (y : S5632x2048.Idx → EReal) (z : S8192x2048.Idx → EReal) (a b : ℕ) : EReal :=
  ∑ k ∈ range 5632, ent x a k * ent y k b + ent z a b

/-- One point's product added to the sum over the blocks before it. -/
theorem step (t : Fin cfg0.N) {W : Vec Ideal S512x1024 .f32} (hW : At2 W fun a b => ∑ l ∈ range (2816 * (t.val % 2)), term m c t.val a b l) :
    At2 (k0_pay2 (F := Ideal) W (iblk m c 0 t) (iblk m c 1 t)) fun a b => ∑ l ∈ range (2816 * (t.val % 2 + 1)), term m c t.val a b l := fun a b =>
  (pay2_at hW (blk0 m c t) (blk1 m c t) a b).trans (sum_block (term m c t.val a.val b.val) 2816 (t.val % 2)).symm

theorem first_at (t : Fin cfg0.N) (h0 : t.val % 2 = 0) : At2 (outsAt0 m c t.val t.isLt).2 fun a b => ∑ l ∈ range 2816, term m c t.val a b l := by
  rw [outsAt0_A m c t h0 (by omega)]
  dsimp only
  rw [acc_A]
  have h := step m c t (W := k0_pay1 (F := Ideal)) fun a b => by
    rw [pay1_at a b]
    dsimp only
    rw [h0, Nat.mul_zero, sum_range_zero]
  rw [h0] at h
  exact h

theorem last_at (t : Fin cfg0.N) (h1 : t.val % 2 = 1) :
    At2 (k0_pay2 (F := Ideal) (outsAt0 m c (t.val - 1) (Nat.lt_of_le_of_lt (Nat.sub_le _ _) t.isLt)).2 (iblk m c 0 t) (iblk m c 1 t))
      fun a b => ∑ l ∈ range 5632, term m c t.val a b l := by
  have h := step m c t (W := (outsAt0 m c (t.val - 1) (Nat.lt_of_le_of_lt (Nat.sub_le _ _) t.isLt)).2) fun a b => by
    rw [first_at m c ⟨t.val - 1, Nat.lt_of_le_of_lt (Nat.sub_le _ _) t.isLt⟩ (by dsimp only; omega) a b]
    dsimp only
    unfold term
    rw [h1, show (t.val - 1) / 4 = t.val / 4 by omega, show (t.val - 1) / 2 = t.val / 2 by omega]
  rw [h1] at h
  exact h

theorem wrote3 (t : Fin cfg0.N) (hf : (cfg0.win 3).flush t = true) :
    (dats m 0 c).flushed 3 t = ((cfg0.win 3).blk t).view.read (Elt Ideal) (mat (n0 := 8192) (n1 := 2048) (grad (a0 m c) (a1 m c) (a2 m c))) := by
  have h1 := (flush0_3 t).mp hf
  rw [flushed3_B m c t (by omega) h1, out_B]
  funext y
  obtain ⟨a, b, rfl⟩ : ∃ (a : Fin 512) (b : Fin 1024), y = ix2 a b := ⟨_, _, eq_ix2 y⟩
  rw [View.read_apply]
  refine (show _ = k0_pay3 (F := Ideal) _ _ (ix2 a b) from rfl).trans ((show _ = _ + _ from congrArg₂ (· + ·) (last_at m c t h1 a b) (blk2 m c t a b)).trans ?_)
  show _ = grad (a0 m c) (a1 m c) (a2 m c) (win0_3.index t 0 * 512 + 1 * a.val) (win0_3.index t 1 * 1024 + 1 * b.val)
  rw [(idx3 t).1, (idx3 t).2, show t.val / 4 * 512 + 1 * a.val = 512 * (t.val / 4) + a.val by omega,
    show t.val / 2 % 2 * 1024 + 1 * b.val = 1024 * (t.val / 2 % 2) + b.val by omega]
  rfl

theorem final3 : (dats m 0 c).arrAt 3 cfg0.N = mat (n0 := 8192) (n1 := 2048) (grad (a0 m c) (a1 m c) (a2 m c)) :=
  (dats m 0 c).arrAt_eq_of_cover 3 _ (wrote3 m c) fun i => by
    have h0 : (i 0 : ℕ) < 8192 := (i 0).isLt
    have h1 : (i 1 : ℕ) < 2048 := (i 1).isLt
    have ht : (i 0 : ℕ) / 512 * 4 + (i 1 : ℕ) / 1024 * 2 + 1 < cfg0.N := by show _ < 64; omega
    have hI := idx3 ⟨_, ht⟩
    refine ⟨⟨_, ht⟩, (flush0_3 ⟨_, ht⟩).mpr (by dsimp only; omega), ?_⟩
    show i ∈ ((View.whole main_v2).slice (win0_3.rect ⟨_, ht⟩)).set
    rw [View.set_slice_whole, Rect.mem_set_unit]
    intro a
    match a with
    | ⟨0, _⟩ =>
      show win0_3.index ⟨_, ht⟩ 0 * 512 ≤ (i 0 : ℕ) ∧ (i 0 : ℕ) < win0_3.index ⟨_, ht⟩ 0 * 512 + 512
      rw [hI.1]; dsimp only; omega
    | ⟨1, _⟩ =>
      show win0_3.index ⟨_, ht⟩ 1 * 1024 ≤ (i 1 : ℕ) ∧ (i 1 : ℕ) < win0_3.index ⟨_, ht⟩ 1 * 1024 + 1024
      rw [hI.2]; dsimp only; omega

end Cert.Proof.DownFwd

end
-- ==== Proof.MixCotI.lean ====
/-
  The call `d_cat` over the extended reals: what its result holds after the run.
-/
module

public import proofs.«01_k».proof.Proof.Products
public import proofs.«01_k».proof.Proof.Gen.Kernel8Ideal.Value
public import Idealize.ShloMosaic.Lib.Tactic

@[expose] public section

set_option maxRecDepth 16384

noncomputable section

namespace Cert.Proof.MixCot

open Cert.Kernel8Ideal Cert.Kernel8Ideal.Gen Cert.Kernel8Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products

theorem zz : (![0, 0] : Fin 2 → Nat) = fun _ => 0 := funext fun a => by fin_cases a <;> rfl

theorem out_eq (X : Vec Ideal S1024x2048 .bf16) (Y : Vec Ideal S1024x2048 .bf16) : out0_2 (F := Ideal) X Y = k0_pay1 (F := Ideal) X Y := by
  unfold out0_2
  rw [View.canon_unit_zero zz]
  simp only [View.ld_unit_zero (S := S1024x2048) zz]

theorem pay1_at {X : Vec Ideal S1024x2048 .bf16} {Y : Vec Ideal S1024x2048 .bf16} {f g : ℕ → ℕ → EReal} (hX : At2 X f) (hY : At2 Y g) :
    At2 (k0_pay1 (F := Ideal) X Y) fun a b => ∑ k ∈ range 2048, f a k * g b k := fun a b => by
  unfold k0_pay1
  simp only [shapeCast_self]
  exact matmul_nt (φ₁ := .bf16) (φ₂ := .bf16) _ hX hY a b

/-! ## The blocks read -/

variable (m : (ℓ : Loc nD τ sig) → Buf (Elt Ideal) ℓ) (c : Dev nD)

/-- Device `c`'s arguments at launch. -/
abbrev a0 : S8192x2048.Idx → EReal := m ((c : Thread nD τ).loc main_arg0)
abbrev a1 : S2048x2048.Idx → EReal := m ((c : Thread nD τ).loc main_arg1)

theorem V0 : V m c main_v0 = a0 m c := by
  dsimp only [V, hostOps0]
  after_results_simp <;> rfl

theorem V1 : V m c main_v1 = a1 m c := by
  dsimp only [V, hostOps0]
  after_results_simp <;> rfl

theorem idx0 : ∀ t : Fin cfg0.N, win0_0.index t 0 = t.val / 2 ∧ win0_0.index t 1 = 0 := by decide +kernel
theorem idx1 : ∀ t : Fin cfg0.N, win0_1.index t 0 = t.val % 2 ∧ win0_1.index t 1 = 0 := by decide +kernel
theorem idx2 : ∀ t : Fin cfg0.N, win0_2.index t 0 = t.val / 2 ∧ win0_2.index t 1 = t.val % 2 := by decide +kernel

theorem lt16 (t : Fin cfg0.N) : t.val < 16 := t.isLt

theorem blk0 (t : Fin cfg0.N) : At2 (iblk m c 0 t : S1024x2048.Idx → EReal) fun a k => ent (a0 m c) (1024 * (t.val / 2) + a) k := fun a k => by
  have ht := lt16 t
  have ha := a.isLt
  unfold iblk
  rw [View.read_apply]
  show V m c main_v0 _ = _
  rw [V0]
  refine (congrArg (a0 m c) (show _ = ix2 (n0 := 8192) (n1 := 2048) ⟨1024 * (t.val / 2) + a.val, by omega⟩ k from ?_)).trans (at2_ent (a0 m c) _ _)
  funext x
  match x with
  | ⟨0, _⟩ => exact Fin.ext (show win0_0.index t 0 * 1024 + 1 * a.val = 1024 * (t.val / 2) + a.val by rw [(idx0 t).1]; omega)
  | ⟨1, _⟩ => exact Fin.ext (show win0_0.index t 1 * 2048 + 1 * k.val = k.val by rw [(idx0 t).2]; omega)

theorem blk1 (t : Fin cfg0.N) : At2 (iblk m c 1 t : S1024x2048.Idx → EReal) fun b k => ent (a1 m c) (1024 * (t.val % 2) + b) k := fun b k => by
  have ht := lt16 t
  have hb := b.isLt
  unfold iblk
  rw [View.read_apply]
  show V m c main_v1 _ = _
  rw [V1]
  refine (congrArg (a1 m c) (show _ = ix2 (n0 := 2048) (n1 := 2048) ⟨1024 * (t.val % 2) + b.val, by omega⟩ k from ?_)).trans (at2_ent (a1 m c) _ _)
  funext x
  match x with
  | ⟨0, _⟩ => exact Fin.ext (show win0_1.index t 0 * 1024 + 1 * b.val = 1024 * (t.val % 2) + b.val by rw [(idx1 t).1]; omega)
  | ⟨1, _⟩ => exact Fin.ext (show win0_1.index t 1 * 2048 + 1 * k.val = k.val by rw [(idx1 t).2]; omega)

/-! ## The result -/

/-- The gradient of the concatenated mixers. -/
def grad (x : S8192x2048.Idx → EReal) (y : S2048x2048.Idx → EReal) (a b : ℕ) : EReal := ∑ k ∈ range 2048, ent x a k * ent y b k

theorem wrote2 (t : Fin cfg0.N) (hf : (cfg0.win 2).flush t = true) :
    (dats m 0 c).flushed 2 t = ((cfg0.win 2).blk t).view.read (Elt Ideal) (mat (n0 := 8192) (n1 := 2048) (grad (a0 m c) (a1 m c))) := by
  rw [flushed2 m c t, out_eq]
  funext y
  obtain ⟨a, b, rfl⟩ : ∃ (a : Fin 1024) (b : Fin 1024), y = ix2 a b := ⟨_, _, eq_ix2 y⟩
  rw [View.read_apply]
  refine (show _ = k0_pay1 (F := Ideal) _ _ (ix2 a b) from rfl).trans ((pay1_at (blk0 m c t) (blk1 m c t) a b).trans ?_)
  show _ = grad (a0 m c) (a1 m c) (win0_2.index t 0 * 1024 + 1 * a.val) (win0_2.index t 1 * 1024 + 1 * b.val)
  rw [(idx2 t).1, (idx2 t).2, show t.val / 2 * 1024 + 1 * a.val = 1024 * (t.val / 2) + a.val by omega,
    show t.val % 2 * 1024 + 1 * b.val = 1024 * (t.val % 2) + b.val by omega]
  rfl

theorem final2 : (dats m 0 c).arrAt 2 cfg0.N = mat (n0 := 8192) (n1 := 2048) (grad (a0 m c) (a1 m c)) :=
  (dats m 0 c).arrAt_eq_of_cover 2 _ (wrote2 m c) fun i => by
    have h0 : (i 0 : ℕ) < 8192 := (i 0).isLt
    have h1 : (i 1 : ℕ) < 2048 := (i 1).isLt
    have ht : (i 0 : ℕ) / 1024 * 2 + (i 1 : ℕ) / 1024 < cfg0.N := by show _ < 16; omega
    have hI := idx2 ⟨_, ht⟩
    refine ⟨⟨_, ht⟩, flush0_2 ⟨_, ht⟩, ?_⟩
    show i ∈ ((View.whole main_v2).slice (win0_2.rect ⟨_, ht⟩)).set
    rw [View.set_slice_whole, Rect.mem_set_unit]
    intro a
    match a with
    | ⟨0, _⟩ =>
      show win0_2.index ⟨_, ht⟩ 0 * 1024 ≤ (i 0 : ℕ) ∧ (i 0 : ℕ) < win0_2.index ⟨_, ht⟩ 0 * 1024 + 1024
      rw [hI.1]; dsimp only; omega
    | ⟨1, _⟩ =>
      show win0_2.index ⟨_, ht⟩ 1 * 1024 ≤ (i 1 : ℕ) ∧ (i 1 : ℕ) < win0_2.index ⟨_, ht⟩ 1 * 1024 + 1024
      rw [hI.2]; dsimp only; omega

end Cert.Proof.MixCot

end
-- ==== Proof.MixGradI.lean ====
/-
  The call `grad_w_o` over the extended reals: what its two results hold after the run.
-/
module

public import proofs.«01_k».proof.Proof.Products
public import proofs.«01_k».proof.Proof.Gen.Kernel9Ideal.Value
public import Idealize.ShloMosaic.Lib.Tactic

@[expose] public section

set_option maxRecDepth 16384

noncomputable section

namespace Cert.Proof.MixGrad

open Cert.Kernel9Ideal Cert.Kernel9Ideal.Gen Cert.Kernel9Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products

theorem zz : (![0, 0] : Fin 2 → Nat) = fun _ => 0 := funext fun a => by fin_cases a <;> rfl

/-! ## One grid point -/

section
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .bf16) (h6 : a6.IsWhole)
  (a7 : Memref sig .tc .vmem S1024x1024 .f32) (h7 : a7.IsWhole) (X : Vec Ideal S1024x1024 .bf16) (Y : Vec Ideal S1024x1024 .bf16) (W : Vec Ideal S1024x1024 .f32)

theorem acc_A (hc0 : cond0_0 i) (hc1 : ¬cond0_1 i) :
    sout0_A_0 c i a3 h3 a4 h4 a5 h5 a6 h6 a7 h7 hc0 hc1 X Y = k0_pay2 (F := Ideal) (k0_pay1 (F := Ideal)) X Y := by
  unfold sout0_A_0
  rw [View.read_writes_eq_canon _ _ _ (scover0_A_0 c i a3 h3 a4 h4 a5 h5 a6 h6 a7 h7 hc0 hc1 X Y)]
  unfold kernelRun0_A
  dsimp only
  sl_unfold_words
  rw [View.canon_cons_unit_zero (S := S1024x1024) zz, View.readCov_unit_zero (S := S1024x1024) _ zz]
  simp only [View.readAt_eq_ld, h3.read_unread, h4.read_unread, View.ld_unit_zero (S := S1024x1024) zz]

theorem acc_B (hc0 : ¬cond0_0 i) (hc1 : ¬cond0_1 i) :
    sout0_B_0 c i a3 h3 a4 h4 a5 h5 a6 h6 a7 h7 hc0 hc1 X Y W = k0_pay2 (F := Ideal) W X Y := by
  unfold sout0_B_0
  rw [View.read_writes_eq_canon _ _ _ (scover0_B_0 c i a3 h3 a4 h4 a5 h5 a6 h6 a7 h7 hc0 hc1 X Y W)]
  unfold kernelRun0_B
  dsimp only
  sl_unfold_words
  rw [View.canon_unit_zero zz]
  simp only [View.readAt_eq_ld, h3.read_unread, h4.read_unread, h7.read_unread, View.ld_unit_zero (S := S1024x1024) zz]

theorem acc_C (hc0 : ¬cond0_0 i) (hc1 : cond0_1 i) :
    sout0_C_0 c i a3 h3 a4 h4 a5 h5 a6 h6 a7 h7 hc0 hc1 X Y W = k0_pay2 (F := Ideal) W X Y := by
  unfold sout0_C_0
  rw [View.read_writes_eq_canon _ _ _ (scover0_C_0 c i a3 h3 a4 h4 a5 h5 a6 h6 a7 h7 hc0 hc1 X Y W)]
  unfold kernelRun0_C
  dsimp only
  sl_unfold_words
  rw [View.canon_unit_zero zz]
  simp only [View.readAt_eq_ld, h3.read_unread, h4.read_unread, h7.read_unread, View.ld_unit_zero (S := S1024x1024) zz]

theorem out_C_2 (hc0 : ¬cond0_0 i) (hc1 : cond0_1 i) :
    out0_C_2 c i a3 h3 a4 h4 a5 h5 a6 h6 a7 h7 hc0 hc1 X Y W = k0_pay2 (F := Ideal) W X Y := by
  unfold out0_C_2
  rw [View.read_writes_eq_canon _ _ _ (cover0_C_2 c i a3 h3 a4 h4 a5 h5 a6 h6 a7 h7 hc0 hc1 X Y W)]
  unfold kernelRun0_C
  dsimp only
  sl_unfold_words
  rw [View.canon_unit_zero zz, View.readCov_unit_zero (S := S1024x1024) _ zz]
  simp only [View.readAt_eq_ld, h3.read_unread, h4.read_unread, h7.read_unread, View.ld_unit_zero (S := S1024x1024) zz]

theorem out_C_3 (hc0 : ¬cond0_0 i) (hc1 : cond0_1 i) :
    out0_C_3 c i a3 h3 a4 h4 a5 h5 a6 h6 a7 h7 hc0 hc1 X Y W = k0_pay3 (F := Ideal) (k0_pay2 (F := Ideal) W X Y) := by
  unfold out0_C_3
  rw [View.read_writes_eq_canon _ _ _ (cover0_C_3 c i a3 h3 a4 h4 a5 h5 a6 h6 a7 h7 hc0 hc1 X Y W)]
  unfold kernelRun0_C
  dsimp only
  sl_unfold_words
  rw [View.canon_unit_zero zz, View.readCov_unit_zero (S := S1024x1024) _ zz]
  simp only [View.readAt_eq_ld, h3.read_unread, h4.read_unread, h7.read_unread, View.ld_unit_zero (S := S1024x1024) zz]

end

theorem pay1_at : At2 (k0_pay1 (F := Ideal)) fun _ _ => 0 := fun a b => by
  unfold k0_pay1
  rw [shapeCast_self]
  exact Ideal.ofBits_zero_f32

theorem pay2_at {W : Vec Ideal S1024x1024 .f32} {X : Vec Ideal S1024x1024 .bf16} {Y : Vec Ideal S1024x1024 .bf16} {w f g : ℕ → ℕ → EReal}
    (hW : At2 W w) (hX : At2 X f) (hY : At2 Y g) :
    At2 (k0_pay2 (F := Ideal) W X Y) fun a b => w a b + ∑ k ∈ range 1024, f k a * g k b := fun a b => by
  unfold k0_pay2
  simp only [shapeCast_self]
  exact congrArg₂ (· + ·) (hW a b) (matmul_tn _ hX hY a b)

/-! ## The blocks read -/

variable (m : (ℓ : Loc nD τ sig) → Buf (Elt Ideal) ℓ) (c : Dev nD)

/-- Device `c`'s arguments at launch. -/
abbrev a0 : S8192x2048.Idx → EReal := m ((c : Thread nD τ).loc main_arg0)
abbrev a1 : S8192x2048.Idx → EReal := m ((c : Thread nD τ).loc main_arg1)

theorem V0 : V m c main_v0 = a0 m c := by
  dsimp only [V, hostOps0]
  after_results_simp <;> rfl

theorem V1 : V m c main_v1 = a1 m c := by
  dsimp only [V, hostOps0]
  after_results_simp <;> rfl

theorem idx0 : ∀ t : Fin cfg0.N, win0_0.index t 0 = t.val % 8 ∧ win0_0.index t 1 = t.val / 16 := by decide +kernel
theorem idx1 : ∀ t : Fin cfg0.N, win0_1.index t 0 = t.val % 8 ∧ win0_1.index t 1 = t.val / 8 % 2 := by decide +kernel
theorem idx2 : ∀ t : Fin cfg0.N, win0_2.index t 0 = t.val / 16 ∧ win0_2.index t 1 = t.val / 8 % 2 := by decide +kernel
theorem idx3 : ∀ t : Fin cfg0.N, win0_3.index t 0 = t.val / 16 ∧ win0_3.index t 1 = t.val / 8 % 2 := by decide +kernel

theorem lt32 (t : Fin cfg0.N) : t.val < 32 := t.isLt

theorem blk0 (t : Fin cfg0.N) : At2 (iblk m c 0 t : S1024x1024.Idx → EReal) fun k a => ent (a0 m c) (1024 * (t.val % 8) + k) (1024 * (t.val / 16) + a) := fun k a => by
  have ht := lt32 t
  have hk := k.isLt
  have ha := a.isLt
  unfold iblk
  rw [View.read_apply]
  show V m c main_v0 _ = _
  rw [V0]
  refine (congrArg (a0 m c) (show _ = ix2 (n0 := 8192) (n1 := 2048) ⟨1024 * (t.val % 8) + k.val, by omega⟩ ⟨1024 * (t.val / 16) + a.val, by omega⟩ from ?_)).trans
    (at2_ent (a0 m c) _ _)
  funext x
  match x with
  | ⟨0, _⟩ => exact Fin.ext (show win0_0.index t 0 * 1024 + 1 * k.val = 1024 * (t.val % 8) + k.val by rw [(idx0 t).1]; omega)
  | ⟨1, _⟩ => exact Fin.ext (show win0_0.index t 1 * 1024 + 1 * a.val = 1024 * (t.val / 16) + a.val by rw [(idx0 t).2]; omega)

theorem blk1 (t : Fin cfg0.N) : At2 (iblk m c 1 t : S1024x1024.Idx → EReal) fun k b => ent (a1 m c) (1024 * (t.val % 8) + k) (1024 * (t.val / 8 % 2) + b) := fun k b => by
  have ht := lt32 t
  have hk := k.isLt
  have hb := b.isLt
  unfold iblk
  rw [View.read_apply]
  show V m c main_v1 _ = _
  rw [V1]
  refine (congrArg (a1 m c) (show _ = ix2 (n0 := 8192) (n1 := 2048) ⟨1024 * (t.val % 8) + k.val, by omega⟩ ⟨1024 * (t.val / 8 % 2) + b.val, by omega⟩ from ?_)).trans
    (at2_ent (a1 m c) _ _)
  funext x
  match x with
  | ⟨0, _⟩ => exact Fin.ext (show win0_1.index t 0 * 1024 + 1 * k.val = 1024 * (t.val % 8) + k.val by rw [(idx1 t).1]; omega)
  | ⟨1, _⟩ => exact Fin.ext (show win0_1.index t 1 * 1024 + 1 * b.val = 1024 * (t.val / 8 % 2) + b.val by rw [(idx1 t).2]; omega)

/-! ## The accumulated sum -/

/-- The sum's term `l` at entry `(a, b)` of point `n`'s block. -/
abbrev term (n a b l : ℕ) : EReal := ent (a0 m c) l (1024 * (n / 16) + a) * ent (a1 m c) l (1024 * (n / 8 % 2) + b)

/-- One point's product added to the sum over the blocks before it. -/
theorem step (t : Fin cfg0.N) {W : Vec Ideal S1024x1024 .f32} (hW : At2 W fun a b => ∑ l ∈ range (1024 * (t.val % 8)), term m c t.val a b l) :
    At2 (k0_pay2 (F := Ideal) W (iblk m c 0 t) (iblk m c 1 t)) fun a b => ∑ l ∈ range (1024 * (t.val % 8 + 1)), term m c t.val a b l := fun a b =>
  (pay2_at hW (blk0 m c t) (blk1 m c t) a b).trans (sum_block (term m c t.val a.val b.val) 1024 (t.val % 8)).symm

theorem acc_at (n : ℕ) (hn : n < cfg0.N) : At2 (outsAt0 m c n hn).2.2 fun a b => ∑ l ∈ range (1024 * (n % 8 + 1)), term m c n a b l := by
  induction n using Nat.strong_induction_on with
  | _ n ih =>
    have hN : n < 32 := hn
    by_cases h0 : n % 8 = 0
    · rw [outsAt0_A m c ⟨n, hn⟩ h0 (by dsimp only; omega)]
      dsimp only
      rw [acc_A]
      refine step m c ⟨n, hn⟩ fun a b => ?_
      rw [pay1_at a b]
      dsimp only
      rw [h0, Nat.mul_zero, sum_range_zero]
    · have hp : At2 (outsAt0 m c (n - 1) (Nat.lt_of_le_of_lt (Nat.sub_le _ _) hn)).2.2 fun a b => ∑ l ∈ range (1024 * (n % 8)), term m c n a b l := fun a b => by
        rw [ih (n - 1) (by omega) _ a b]
        dsimp only
        unfold term
        rw [show (n - 1) % 8 + 1 = n % 8 by omega, show (n - 1) / 16 = n / 16 by omega, show (n - 1) / 8 = n / 8 by omega]
      by_cases h7 : n % 8 = 7
      · rw [outsAt0_C m c ⟨n, hn⟩ h0 h7]
        dsimp only
        rw [acc_C]
        exact step m c ⟨n, hn⟩ hp
      · rw [outsAt0_B m c ⟨n, hn⟩ h0 h7]
        dsimp only
        rw [acc_B]
        exact step m c ⟨n, hn⟩ hp

/-- What the last point of a sweep writes. -/
theorem last_at (t : Fin cfg0.N) (h7 : t.val % 8 = 7) :
    At2 (k0_pay2 (F := Ideal) (outsAt0 m c (t.val - 1) (Nat.lt_of_le_of_lt (Nat.sub_le _ _) t.isLt)).2.2 (iblk m c 0 t) (iblk m c 1 t))
      fun a b => ∑ l ∈ range 8192, term m c t.val a b l := by
  have h := acc_at m c t.val t.isLt
  rw [outsAt0_C m c t (by omega) h7] at h
  dsimp only at h
  rw [acc_C, h7] at h
  exact h

/-! ## The results -/

/-- The gradient of the weight. -/
def grad (x : S8192x2048.Idx → EReal) (y : S8192x2048.Idx → EReal) (r b : ℕ) : EReal := ∑ l ∈ range 8192, ent x l r * ent y l b

theorem wrote2 (t : Fin cfg0.N) (hf : (cfg0.win 2).flush t = true) :
    (dats m 0 c).flushed 2 t = ((cfg0.win 2).blk t).view.read (Elt Ideal) (mat (n0 := 2048) (n1 := 2048) (grad (a0 m c) (a1 m c))) := by
  have h7 := (flush0_2 t).mp hf
  rw [flushed2_C m c t (by omega) h7, out_C_2]
  funext y
  obtain ⟨a, b, rfl⟩ : ∃ (a : Fin 1024) (b : Fin 1024), y = ix2 a b := ⟨_, _, eq_ix2 y⟩
  rw [View.read_apply]
  refine (show _ = k0_pay2 (F := Ideal) _ _ _ (ix2 a b) from rfl).trans ((last_at m c t h7 a b).trans ?_)
  show _ = grad (a0 m c) (a1 m c) (win0_2.index t 0 * 1024 + 1 * a.val) (win0_2.index t 1 * 1024 + 1 * b.val)
  rw [(idx2 t).1, (idx2 t).2, show t.val / 16 * 1024 + 1 * a.val = 1024 * (t.val / 16) + a.val by omega,
    show t.val / 8 % 2 * 1024 + 1 * b.val = 1024 * (t.val / 8 % 2) + b.val by omega]
  rfl

theorem wrote3 (t : Fin cfg0.N) (hf : (cfg0.win 3).flush t = true) :
    (dats m 0 c).flushed 3 t = ((cfg0.win 3).blk t).view.read (Elt Ideal) (mat (n0 := 2048) (n1 := 2048) (grad (a0 m c) (a1 m c))) := by
  have h7 := (flush0_3 t).mp hf
  rw [flushed3_C m c t (by omega) h7, out_C_3]
  funext y
  obtain ⟨a, b, rfl⟩ : ∃ (a : Fin 1024) (b : Fin 1024), y = ix2 a b := ⟨_, _, eq_ix2 y⟩
  rw [View.read_apply]
  refine (show _ = k0_pay2 (F := Ideal) _ _ _ (ix2 a b) from rfl).trans ((last_at m c t h7 a b).trans ?_)
  show _ = grad (a0 m c) (a1 m c) (win0_3.index t 0 * 1024 + 1 * a.val) (win0_3.index t 1 * 1024 + 1 * b.val)
  rw [(idx3 t).1, (idx3 t).2, show t.val / 16 * 1024 + 1 * a.val = 1024 * (t.val / 16) + a.val by omega,
    show t.val / 8 % 2 * 1024 + 1 * b.val = 1024 * (t.val / 8 % 2) + b.val by omega]
  rfl

theorem final2 : (dats m 0 c).arrAt 2 cfg0.N = mat (n0 := 2048) (n1 := 2048) (grad (a0 m c) (a1 m c)) :=
  (dats m 0 c).arrAt_eq_of_cover 2 _ (wrote2 m c) fun i => by
    have h0 : (i 0 : ℕ) < 2048 := (i 0).isLt
    have h1 : (i 1 : ℕ) < 2048 := (i 1).isLt
    have ht : (i 0 : ℕ) / 1024 * 16 + (i 1 : ℕ) / 1024 * 8 + 7 < cfg0.N := by show _ < 32; omega
    have hI := idx2 ⟨_, ht⟩
    refine ⟨⟨_, ht⟩, (flush0_2 ⟨_, ht⟩).mpr (by dsimp only; omega), ?_⟩
    show i ∈ ((View.whole main_v2_0).slice (win0_2.rect ⟨_, ht⟩)).set
    rw [View.set_slice_whole, Rect.mem_set_unit]
    intro a
    match a with
    | ⟨0, _⟩ =>
      show win0_2.index ⟨_, ht⟩ 0 * 1024 ≤ (i 0 : ℕ) ∧ (i 0 : ℕ) < win0_2.index ⟨_, ht⟩ 0 * 1024 + 1024
      rw [hI.1]; dsimp only; omega
    | ⟨1, _⟩ =>
      show win0_2.index ⟨_, ht⟩ 1 * 1024 ≤ (i 1 : ℕ) ∧ (i 1 : ℕ) < win0_2.index ⟨_, ht⟩ 1 * 1024 + 1024
      rw [hI.2]; dsimp only; omega

theorem final3 : (dats m 0 c).arrAt 3 cfg0.N = mat (n0 := 2048) (n1 := 2048) (grad (a0 m c) (a1 m c)) :=
  (dats m 0 c).arrAt_eq_of_cover 3 _ (wrote3 m c) fun i => by
    have h0 : (i 0 : ℕ) < 2048 := (i 0).isLt
    have h1 : (i 1 : ℕ) < 2048 := (i 1).isLt
    have ht : (i 0 : ℕ) / 1024 * 16 + (i 1 : ℕ) / 1024 * 8 + 7 < cfg0.N := by show _ < 32; omega
    have hI := idx3 ⟨_, ht⟩
    refine ⟨⟨_, ht⟩, (flush0_3 ⟨_, ht⟩).mpr (by dsimp only; omega), ?_⟩
    show i ∈ ((View.whole main_v2_1).slice (win0_3.rect ⟨_, ht⟩)).set
    rw [View.set_slice_whole, Rect.mem_set_unit]
    intro a
    match a with
    | ⟨0, _⟩ =>
      show win0_3.index ⟨_, ht⟩ 0 * 1024 ≤ (i 0 : ℕ) ∧ (i 0 : ℕ) < win0_3.index ⟨_, ht⟩ 0 * 1024 + 1024
      rw [hI.1]; dsimp only; omega
    | ⟨1, _⟩ =>
      show win0_3.index ⟨_, ht⟩ 1 * 1024 ≤ (i 1 : ℕ) ∧ (i 1 : ℕ) < win0_3.index ⟨_, ht⟩ 1 * 1024 + 1024
      rw [hI.2]; dsimp only; omega

end Cert.Proof.MixGrad

end
-- ==== Proof.MixFwdI.lean ====
/-
  The call `o_proj` over the extended reals: what its result holds after the run.
-/
module

public import proofs.«01_k».proof.Proof.Products
public import proofs.«01_k».proof.Proof.Gen.Kernel10Ideal.Value
public import Idealize.ShloMosaic.Lib.Tactic

@[expose] public section

set_option maxRecDepth 16384

noncomputable section

namespace Cert.Proof.MixFwd

open Cert.Kernel10Ideal Cert.Kernel10Ideal.Gen Cert.Kernel10Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products

theorem zz : (![0, 0] : Fin 2 → Nat) = fun _ => 0 := funext fun a => by fin_cases a <;> rfl

theorem out_eq (X : Vec Ideal S512x2048 .bf16) (Y : Vec Ideal S2048x2048 .bf16) (Z : Vec Ideal S512x2048 .f32) :
    out0_3 (F := Ideal) X Y Z = k0_pay1 (F := Ideal) X Y Z := by
  unfold out0_3
  rw [View.canon_unit_zero zz]
  simp only [View.ld_unit_zero (S := S512x2048) zz, View.ld_unit_zero (S := S2048x2048) zz]

theorem pay1_at {X : Vec Ideal S512x2048 .bf16} {Y : Vec Ideal S2048x2048 .bf16} {Z : Vec Ideal S512x2048 .f32} {f g z : ℕ → ℕ → EReal}
    (hX : At2 X f) (hY : At2 Y g) (hZ : At2 Z z) : At2 (k0_pay1 (F := Ideal) X Y Z) fun a b => ∑ k ∈ range 2048, f a k * g k b + z a b := fun a b => by
  unfold k0_pay1
  simp only [shapeCast_self]
  exact congrArg₂ (· + ·) (matmul_nn (φ₁ := .bf16) (φ₂ := .bf16) _ hX hY a b) (hZ a b)

/-! ## The blocks read -/

variable (m : (ℓ : Loc nD τ sig) → Buf (Elt Ideal) ℓ) (c : Dev nD)

/-- Device `c`'s arguments at launch. -/
abbrev a0 : S8192x2048.Idx → EReal := m ((c : Thread nD τ).loc main_arg0)
abbrev a1 : S2048x2048.Idx → EReal := m ((c : Thread nD τ).loc main_arg1)
abbrev a2 : S8192x2048.Idx → EReal := m ((c : Thread nD τ).loc main_arg2)

theorem V0 : V m c main_v0 = a0 m c := by
  dsimp only [V, hostOps0]
  after_results_simp <;> rfl

theorem V1 : V m c main_v1 = a1 m c := by
  dsimp only [V, hostOps0]
  after_results_simp <;> rfl

theorem V2 : V m c main_arg2 = a2 m c := by
  dsimp only [V, hostOps0]
  after_results_simp <;> rfl

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel

theorem lt16 (t : Fin cfg0.N) : t.val < 16 := t.isLt

theorem blk0 (t : Fin cfg0.N) : At2 (iblk m c 0 t : S512x2048.Idx → EReal) fun a k => ent (a0 m c) (512 * t.val + a) k := fun a k => by
  have ht := lt16 t
  have ha := a.isLt
  unfold iblk
  rw [View.read_apply]
  show V m c main_v0 _ = _
  rw [V0]
  refine (congrArg (a0 m c) (show _ = ix2 (n0 := 8192) (n1 := 2048) ⟨512 * t.val + a.val, by omega⟩ k from ?_)).trans (at2_ent (a0 m c) _ _)
  funext x
  match x with
  | ⟨0, _⟩ => exact Fin.ext (show win0_0.index t 0 * 512 + 1 * a.val = 512 * t.val + a.val by rw [(idx0 t).1]; omega)
  | ⟨1, _⟩ => exact Fin.ext (show win0_0.index t 1 * 2048 + 1 * k.val = k.val by rw [(idx0 t).2]; omega)

theorem blk1 (t : Fin cfg0.N) : At2 (iblk m c 1 t : S2048x2048.Idx → EReal) (ent (a1 m c)) := fun k b => by
  unfold iblk
  rw [View.read_apply]
  show V m c main_v1 _ = _
  rw [V1]
  refine (congrArg (a1 m c) (show _ = ix2 (n0 := 2048) (n1 := 2048) k b from ?_)).trans (at2_ent (a1 m c) _ _)
  funext x
  match x with
  | ⟨0, _⟩ => exact Fin.ext (show win0_1.index t 0 * 2048 + 1 * k.val = k.val by rw [(idx1 t).1]; omega)
  | ⟨1, _⟩ => exact Fin.ext (show win0_1.index t 1 * 2048 + 1 * b.val = b.val by rw [(idx1 t).2]; omega)

theorem blk2 (t : Fin cfg0.N) : At2 (iblk m c 2 t : S512x2048.Idx → EReal) fun a b => ent (a2 m c) (512 * t.val + a) b := fun a b => by
  have ht := lt16 t
  have ha := a.isLt
  unfold iblk
  rw [View.read_apply]
  show V m c main_arg2 _ = _
  rw [V2]
  refine (congrArg (a2 m c) (show _ = ix2 (n0 := 8192) (n1 := 2048) ⟨512 * t.val + a.val, by omega⟩ b from ?_)).trans (at2_ent (a2 m c) _ _)
  funext x
  match x with
  | ⟨0, _⟩ => exact Fin.ext (show win0_2.index t 0 * 512 + 1 * a.val = 512 * t.val + a.val by rw [(idx2 t).1]; omega)
  | ⟨1, _⟩ => exact Fin.ext (show win0_2.index t 1 * 2048 + 1 * b.val = b.val by rw [(idx2 t).2]; omega)

/-! ## The result -/

/-- The product, onto the residual. -/
def grad (x : S8192x2048.Idx → EReal) (y : S2048x2048.Idx → EReal) (z : S8192x2048.Idx → EReal) (a b : ℕ) : EReal :=
  ∑ k ∈ range 2048, ent x a k * ent y k b + ent z a b

theorem wrote3 (t : Fin cfg0.N) (hf : (cfg0.win 3).flush t = true) :
    (dats m 0 c).flushed 3 t = ((cfg0.win 3).blk t).view.read (Elt Ideal) (mat (n0 := 8192) (n1 := 2048) (grad (a0 m c) (a1 m c) (a2 m c))) := by
  rw [flushed3 m c t, out_eq]
  funext y
  obtain ⟨a, b, rfl⟩ : ∃ (a : Fin 512) (b : Fin 2048), y = ix2 a b := ⟨_, _, eq_ix2 y⟩
  rw [View.read_apply]
  refine (show _ = k0_pay1 (F := Ideal) _ _ _ (ix2 a b) from rfl).trans ((pay1_at (blk0 m c t) (blk1 m c t) (blk2 m c t) a b).trans ?_)
  show _ = grad (a0 m c) (a1 m c) (a2 m c) (win0_3.index t 0 * 512 + 1 * a.val) (win0_3.index t 1 * 2048 + 1 * b.val)
  rw [(idx3 t).1, (idx3 t).2, show t.val * 512 + 1 * a.val = 512 * t.val + a.val by omega, show 0 * 2048 + 1 * b.val = b.val by omega]
  rfl

theorem final3 : (dats m 0 c).arrAt 3 cfg0.N = mat (n0 := 8192) (n1 := 2048) (grad (a0 m c) (a1 m c) (a2 m c)) :=
  (dats m 0 c).arrAt_eq_of_cover 3 _ (wrote3 m c) fun i => by
    have h0 : (i 0 : ℕ) < 8192 := (i 0).isLt
    have h1 : (i 1 : ℕ) < 2048 := (i 1).isLt
    have ht : (i 0 : ℕ) / 512 < cfg0.N := by show _ < 16; omega
    have hI := idx3 ⟨_, ht⟩
    refine ⟨⟨_, ht⟩, flush0_3 ⟨_, ht⟩, ?_⟩
    show i ∈ ((View.whole main_v2).slice (win0_3.rect ⟨_, ht⟩)).set
    rw [View.set_slice_whole, Rect.mem_set_unit]
    intro a
    match a with
    | ⟨0, _⟩ =>
      show win0_3.index ⟨_, ht⟩ 0 * 512 ≤ (i 0 : ℕ) ∧ (i 0 : ℕ) < win0_3.index ⟨_, ht⟩ 0 * 512 + 512
      rw [hI.1]; dsimp only; omega
    | ⟨1, _⟩ =>
      show win0_3.index ⟨_, ht⟩ 1 * 2048 ≤ (i 1 : ℕ) ∧ (i 1 : ℕ) < win0_3.index ⟨_, ht⟩ 1 * 2048 + 2048
      rw [hI.2]; dsimp only; omega

end Cert.Proof.MixFwd

end
-- ==== Proof.ProductsAlgebra.lean ====
/-
  The product kernels' results are their references', over the extended reals, for any arguments.
-/
module

public import proofs.«01_k».proof.Defs
public import proofs.«01_k».proof.Proof.PairI
public import proofs.«01_k».proof.Proof.GateGradI
public import proofs.«01_k».proof.Proof.DownCotI
public import proofs.«01_k».proof.Proof.DownGradI
public import proofs.«01_k».proof.Proof.GateFwdI
public import proofs.«01_k».proof.Proof.DownFwdI
public import proofs.«01_k».proof.Proof.MixCotI
public import proofs.«01_k».proof.Proof.MixGradI
public import proofs.«01_k».proof.Proof.MixFwdI
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run

@[expose] public section

set_option maxRecDepth 16384

noncomputable section

namespace Cert.Proof

open Idealize.ShloMosaic Idealize.ShloMosaic.TcCoe Idealize.ShloMosaic.ValueIdx Idealize.SL.Sem
open Finset Cert.Proof.Products

/-! ## The references' layout, at an index -/

/-- A matrix's transpose. -/
theorem transpose_at {n0 n1 : ℕ} {X : (⟨2, ![n0, n1]⟩ : Shape).Idx → EReal} {f : ℕ → ℕ → EReal} (hX : At2 X f)
    (h : Shape.Transposes ⟨2, ![n0, n1]⟩ [1, 0] ⟨2, ![n1, n0]⟩) : At2 (transpose ⟨2, ![n1, n0]⟩ [1, 0] X h) fun a b => f b a := fun a b => by
  rw [transpose_apply [1, 0] X h (ix2 (n0 := n1) (n1 := n0) a b) (ix2 (n0 := n0) (n1 := n1) b a) (fun x => by
    match x with
    | ⟨0, _⟩ => rfl
    | ⟨1, _⟩ => rfl)]
  exact hX b a

section
open Cert.Reference3Ideal

/-- The columns from `o` on. -/
theorem slice_at {X : S2048x5632.Idx → EReal} {f : ℕ → ℕ → EReal} (hX : At2 X f) (o : ℕ) (ho : o + 1408 ≤ 5632)
    (h : S2048x5632.Slices ![0, o] S2048x1408) : At2 (n0 := 2048) (n1 := 1408) (extractStridedSlice S2048x1408 ![0, o] X h) fun a b => f a (o + b) := fun a b => by
  rw [extractStridedSlice_apply _ _ _ (ix2 (n0 := 2048) (n1 := 1408) a b) (ix2 (n0 := 2048) (n1 := 5632) a ⟨o + b.val, by omega⟩) (fun x => by
    match x with
    | ⟨0, _⟩ => exact (Nat.zero_add _).symm
    | ⟨1, _⟩ => rfl)]
  exact hX a _

/-- The four column shards of a matrix, stacked by rows. -/
theorem stack_at {x0 x1 x2 x3 : S2048x1408.Idx → EReal} {f : ℕ → ℕ → EReal} (h0 : At2 x0 fun a b => f a (0 + b)) (h1 : At2 x1 fun a b => f a (1408 + b))
    (h2 : At2 x2 fun a b => f a (2816 + b)) (h3 : At2 x3 fun a b => f a (4224 + b))
    (h : Shape.Concatenates [S2048x1408, S2048x1408, S2048x1408, S2048x1408] S8192x1408 0) :
    At2 (n0 := 8192) (n1 := 1408) (concatenate S8192x1408 0 [⟨S2048x1408, x0⟩, ⟨S2048x1408, x1⟩, ⟨S2048x1408, x2⟩, ⟨S2048x1408, x3⟩] h)
      fun r b => f (r % 2048) (1408 * (r / 2048) + b) := fun r b => by
  have hr := r.isLt
  have key : ∀ (q : ℕ) (hq : q < 4) (x : S2048x1408.Idx → EReal) (hx : At2 x fun a b => f a (1408 * q + b)) (hrq : r.val / 2048 = q)
      (hp : ([⟨S2048x1408, x0⟩, ⟨S2048x1408, x1⟩, ⟨S2048x1408, x2⟩, ⟨S2048x1408, x3⟩] : List ((s : Shape) × (s.Idx → EReal)))[q]'hq = ⟨S2048x1408, x⟩)
      (hs : (((([⟨S2048x1408, x0⟩, ⟨S2048x1408, x1⟩, ⟨S2048x1408, x2⟩, ⟨S2048x1408, x3⟩] : List ((s : Shape) × (s.Idx → EReal))).take q).map (·.1)).map
        fun s => if h : s.rank = S8192x1408.rank then s.size ((0 : Fin S8192x1408.rank).cast h.symm) else 0).sum = 2048 * q),
      concatenate S8192x1408 0 [⟨S2048x1408, x0⟩, ⟨S2048x1408, x1⟩, ⟨S2048x1408, x2⟩, ⟨S2048x1408, x3⟩] h (ix2 (n0 := 8192) (n1 := 1408) r b)
        = f (r.val % 2048) (1408 * (r.val / 2048) + b.val) := fun q hq x hx hrq hp hs => by
    rw [concatenate_apply_piece (t := S8192x1408) 0 [⟨S2048x1408, x0⟩, ⟨S2048x1408, x1⟩, ⟨S2048x1408, x2⟩, ⟨S2048x1408, x3⟩] h _ q hq S2048x1408 x hp rfl (2048 * q) hs
      (ix2 (n0 := 2048) (n1 := 1408) ⟨r.val % 2048, by omega⟩ b) (fun y hy => by
        match y, hy with
        | ⟨0, _⟩, hy => exact absurd rfl hy
        | ⟨1, _⟩, _ => rfl) (by show 2048 * q + r.val % 2048 = r.val; omega), hrq]
    exact hx _ b
  rcases (by omega : r.val / 2048 = 0 ∨ r.val / 2048 = 1 ∨ r.val / 2048 = 2 ∨ r.val / 2048 = 3) with e | e | e | e
  · exact key 0 (by decide) x0 h0 e rfl rfl
  · exact key 1 (by decide) x1 h1 e rfl rfl
  · exact key 2 (by decide) x2 h2 e rfl rfl
  · exact key 3 (by decide) x3 h3 e rfl rfl

/-- The gradient of the weight, its columns cut into four shards and stacked. -/
theorem ref3_at [Facts] (x : S8192x2048.Idx → EReal) (y : S8192x5632.Idx → EReal) (ht : S5632x2048.Transposes [1, 0] S2048x5632) (h0 h1 h2 h3)
    (hc : Shape.Concatenates [S2048x1408, S2048x1408, S2048x1408, S2048x1408] S8192x1408 0) :
    concatenate S8192x1408 0 [⟨S2048x1408, extractStridedSlice S2048x1408 ![0, 0] (transpose S2048x5632 [1, 0] (Host.dotGeneral (F := Ideal) (φ₁ := .f32) (φ₂ := .f32) dot_S8192x5632_S8192x2048_S5632x2048_0_0_1_1_n_n none y x) ht) h0⟩,
      ⟨S2048x1408, extractStridedSlice S2048x1408 ![0, 1408] (transpose S2048x5632 [1, 0] (Host.dotGeneral (F := Ideal) (φ₁ := .f32) (φ₂ := .f32) dot_S8192x5632_S8192x2048_S5632x2048_0_0_1_1_n_n none y x) ht) h1⟩,
      ⟨S2048x1408, extractStridedSlice S2048x1408 ![0, 2816] (transpose S2048x5632 [1, 0] (Host.dotGeneral (F := Ideal) (φ₁ := .f32) (φ₂ := .f32) dot_S8192x5632_S8192x2048_S5632x2048_0_0_1_1_n_n none y x) ht) h2⟩,
      ⟨S2048x1408, extractStridedSlice S2048x1408 ![0, 4224] (transpose S2048x5632 [1, 0] (Host.dotGeneral (F := Ideal) (φ₁ := .f32) (φ₂ := .f32) dot_S8192x5632_S8192x2048_S5632x2048_0_0_1_1_n_n none y x) ht) h3⟩]
      hc = mat (n0 := 8192) (n1 := 1408) (GateGrad.grad x y) := by
  have hT := transpose_at (host_tn (φ₁ := .f32) (φ₂ := .f32) dot_S8192x5632_S8192x2048_S5632x2048_0_0_1_1_n_n.wf (at2_ent y) (at2_ent x)) ht
  refine (At2.eq_mat (stack_at (f := fun a b => ∑ k ∈ range 8192, ent y k b * ent x k a) (slice_at hT 0 (by decide) h0) (slice_at hT 1408 (by decide) h1) (slice_at hT 2816 (by decide) h2) (slice_at hT 4224 (by decide) h3)
    hc)).trans (congrArg mat (funext fun r => funext fun b => ?_))
  exact sum_congr rfl fun l _ => mul_comm _ _

end

/-- The gradient of the normed input: both products, in either order. -/
theorem ref2_at [Cert.Reference2Ideal.Facts] (x x' : Cert.Reference2Ideal.S8192x5632.Idx → EReal) (y y' : Cert.Reference2Ideal.S2048x5632.Idx → EReal) :
    addf (F := Ideal) (φ := .f32) (Host.dotGeneral (F := Ideal) (φ₁ := .f32) (φ₂ := .f32) Cert.Reference2Ideal.dot_S8192x5632_S2048x5632_S8192x2048_1_1_0_0_n_n none x' y')
      (Host.dotGeneral (F := Ideal) (φ₁ := .f32) (φ₂ := .f32) Cert.Reference2Ideal.dot_S8192x5632_S2048x5632_S8192x2048_1_1_0_0_n_n none x y)
      = mat (n0 := 8192) (n1 := 2048) (Pair.grad x x' y y') := by
  have h1 := host_nt (φ₁ := .f32) (φ₂ := .f32) Cert.Reference2Ideal.dot_S8192x5632_S2048x5632_S8192x2048_1_1_0_0_n_n.wf (at2_ent x) (at2_ent y)
  have h2 := host_nt (φ₁ := .f32) (φ₂ := .f32) Cert.Reference2Ideal.dot_S8192x5632_S2048x5632_S8192x2048_1_1_0_0_n_n.wf (at2_ent x') (at2_ent y')
  refine At2.eq_mat fun a b => ?_
  exact (congrArg₂ (· + ·) (h2 a b) (h1 a b)).trans (add_comm _ _)

/-- The gradient of the activation. -/
theorem ref4_at [Cert.Reference4Ideal.Facts] (x : Cert.Reference4Ideal.S8192x2048.Idx → EReal) (y : Cert.Reference4Ideal.S5632x2048.Idx → EReal) :
    Host.dotGeneral (F := Ideal) (φ₁ := .f32) (φ₂ := .f32) Cert.Reference4Ideal.dot_S8192x2048_S5632x2048_S8192x5632_1_1_0_0_n_n none x y
      = mat (n0 := 8192) (n1 := 5632) (DownCot.grad x y) :=
  At2.eq_mat (host_nt (φ₁ := .f32) (φ₂ := .f32) Cert.Reference4Ideal.dot_S8192x2048_S5632x2048_S8192x5632_1_1_0_0_n_n.wf (at2_ent x) (at2_ent y))

/-- The gradient of the weight of the down projection. -/
theorem ref5_at [Cert.Reference5Ideal.Facts] (x : Cert.Reference5Ideal.S8192x5632.Idx → EReal) (y : Cert.Reference5Ideal.S8192x2048.Idx → EReal)
    (ht : Cert.Reference5Ideal.S2048x5632.Transposes [1, 0] Cert.Reference5Ideal.S5632x2048) :
    transpose Cert.Reference5Ideal.S5632x2048 [1, 0] (Host.dotGeneral (F := Ideal) (φ₁ := .f32) (φ₂ := .f32) Cert.Reference5Ideal.dot_S8192x2048_S8192x5632_S2048x5632_0_0_1_1_n_n none y x)
      ht = mat (n0 := 5632) (n1 := 2048) (DownGrad.grad x y) := by
  refine (At2.eq_mat (transpose_at (host_tn (φ₁ := .f32) (φ₂ := .f32) Cert.Reference5Ideal.dot_S8192x2048_S8192x5632_S2048x5632_0_0_1_1_n_n.wf (at2_ent y) (at2_ent x))
    ht)).trans (congrArg mat (funext fun r => funext fun b => ?_))
  exact sum_congr rfl fun l _ => mul_comm _ _

/-- The gate projection. -/
theorem ref6_at [Cert.Reference6Ideal.Facts] (x : Cert.Reference6Ideal.S8192x2048.Idx → EReal) (y : Cert.Reference6Ideal.S2048x5632.Idx → EReal) :
    Host.dotGeneral (F := Ideal) (φ₁ := .f32) (φ₂ := .f32) Cert.Reference6Ideal.dot_S8192x2048_S2048x5632_S8192x5632_1_0_0_1_n_n none x y
      = mat (n0 := 8192) (n1 := 5632) (GateFwd.grad x y) :=
  At2.eq_mat (host_nn (φ₁ := .f32) (φ₂ := .f32) Cert.Reference6Ideal.dot_S8192x2048_S2048x5632_S8192x5632_1_0_0_1_n_n.wf (at2_ent x) (at2_ent y))

/-- The down projection, onto the residual. -/
theorem ref7_at [Cert.Reference7Ideal.Facts] (x : Cert.Reference7Ideal.S8192x5632.Idx → EReal) (y : Cert.Reference7Ideal.S5632x2048.Idx → EReal)
    (z : Cert.Reference7Ideal.S8192x2048.Idx → EReal) :
    addf (F := Ideal) (φ := .f32) z (Host.dotGeneral (F := Ideal) (φ₁ := .f32) (φ₂ := .f32) Cert.Reference7Ideal.dot_S8192x5632_S5632x2048_S8192x2048_1_0_0_1_n_n none x y)
      = mat (n0 := 8192) (n1 := 2048) (DownFwd.grad x y z) := by
  have h := host_nn (φ₁ := .f32) (φ₂ := .f32) Cert.Reference7Ideal.dot_S8192x5632_S5632x2048_S8192x2048_1_0_0_1_n_n.wf (at2_ent x) (at2_ent y)
  refine At2.eq_mat fun a b => ?_
  exact (congrArg₂ (· + ·) (at2_ent z a b) (h a b)).trans (add_comm _ _)

/-- The gradient of the concatenated mixers. -/
theorem ref8_at [Cert.Reference8Ideal.Facts] (x : Cert.Reference8Ideal.S8192x2048.Idx → EReal) (y : Cert.Reference8Ideal.S2048x2048.Idx → EReal) :
    Host.dotGeneral (F := Ideal) (φ₁ := .f32) (φ₂ := .f32) Cert.Reference8Ideal.dot_S8192x2048_S2048x2048_S8192x2048_1_1_0_0_n_n none x y
      = mat (n0 := 8192) (n1 := 2048) (MixCot.grad x y) :=
  At2.eq_mat (host_nt (φ₁ := .f32) (φ₂ := .f32) Cert.Reference8Ideal.dot_S8192x2048_S2048x2048_S8192x2048_1_1_0_0_n_n.wf (at2_ent x) (at2_ent y))

/-- The gradient of the weight of the output projection. -/
theorem ref9_at [Cert.Reference9Ideal.Facts] (x y : Cert.Reference9Ideal.S8192x2048.Idx → EReal)
    (ht : Cert.Reference9Ideal.S2048x2048.Transposes [1, 0] Cert.Reference9Ideal.S2048x2048) :
    transpose Cert.Reference9Ideal.S2048x2048 [1, 0] (Host.dotGeneral (F := Ideal) (φ₁ := .f32) (φ₂ := .f32) Cert.Reference9Ideal.dot_S8192x2048_S8192x2048_S2048x2048_0_0_1_1_n_n none y x)
      ht = mat (n0 := 2048) (n1 := 2048) (MixGrad.grad x y) := by
  refine (At2.eq_mat (transpose_at (host_tn (φ₁ := .f32) (φ₂ := .f32) Cert.Reference9Ideal.dot_S8192x2048_S8192x2048_S2048x2048_0_0_1_1_n_n.wf (at2_ent y) (at2_ent x))
    ht)).trans (congrArg mat (funext fun r => funext fun b => ?_))
  exact sum_congr rfl fun l _ => mul_comm _ _

/-- The output projection, onto the residual. -/
theorem ref10_at [Cert.Reference10Ideal.Facts] (x : Cert.Reference10Ideal.S8192x2048.Idx → EReal) (y : Cert.Reference10Ideal.S2048x2048.Idx → EReal)
    (z : Cert.Reference10Ideal.S8192x2048.Idx → EReal) :
    addf (F := Ideal) (φ := .f32) z (Host.dotGeneral (F := Ideal) (φ₁ := .f32) (φ₂ := .f32) Cert.Reference10Ideal.dot_S8192x2048_S2048x2048_S8192x2048_1_0_0_1_n_n none x y)
      = mat (n0 := 8192) (n1 := 2048) (MixFwd.grad x y z) := by
  have h := host_nn (φ₁ := .f32) (φ₂ := .f32) Cert.Reference10Ideal.dot_S8192x2048_S2048x2048_S8192x2048_1_0_0_1_n_n.wf (at2_ent x) (at2_ent y)
  refine At2.eq_mat fun a b => ?_
  exact (congrArg₂ (· + ·) (at2_ent z a b) (h a b)).trans (add_comm _ _)

/-! ## The claims -/

theorem algebraic2 : Cert.algebraic_Kernel2Ideal_Reference2Ideal (hKernel2Ideal := Cert.Kernel2Ideal.Gen.facts) (hReference2Ideal := Cert.Reference2Ideal.Gen.facts) := by
  intro m g m' g' _ harg
  refine ⟨fun c => mat (n0 := 8192) (n1 := 2048) (Pair.grad (Pair.a0 m c) (Pair.a1 m c) (Pair.a2 m c) (Pair.a3 m c)), ?_, ?_⟩
  · refine (θ_run _ _ _).mono (fun r h c => ?_) (Cert.Kernel2Ideal.Value.run_blocks m g)
    exact ⟨(h c).1.trans (Pair.last4 m c), (h c).2⟩
  · refine (θ_run _ _ _).mono (fun r h c => ?_) (Cert.Reference2Ideal.Value.run m' g')
    obtain ⟨e0, e1, e2, e3⟩ := harg c
    obtain ⟨r0, ha⟩ := h c
    refine ⟨r0.trans ?_, ha⟩
    rw [e0, e1, e2, e3]
    exact ref2_at _ _ _ _

theorem algebraic3 : Cert.algebraic_Kernel3Ideal_Reference3Ideal (hKernel3Ideal := Cert.Kernel3Ideal.Gen.facts) (hReference3Ideal := Cert.Reference3Ideal.Gen.facts) := by
  intro m g m' g' _ harg
  refine ⟨fun c => mat (n0 := 8192) (n1 := 1408) (GateGrad.grad (GateGrad.a0 m c) (GateGrad.a1 m c)),
    fun c => mat (n0 := 8192) (n1 := 1408) (GateGrad.grad (GateGrad.a0 m c) (GateGrad.a1 m c)), ?_, ?_⟩
  · refine (θ_run _ _ _).mono (fun r h c => ?_) (Cert.Kernel3Ideal.Value.run_blocks m g)
    exact ⟨(h c).1.trans (GateGrad.final2 m c), (h c).2.1.trans (GateGrad.final3 m c), (h c).2.2⟩
  · refine (θ_run _ _ _).mono (fun r h c => ?_) (Cert.Reference3Ideal.Value.run m' g')
    obtain ⟨e0, e1⟩ := harg c
    obtain ⟨r0, r1, ha⟩ := h c
    refine ⟨r0.trans ?_, r1.trans ?_, ha⟩ <;> rw [e0, e1] <;> exact ref3_at _ _ Cert.Reference3Ideal.Gen.transposes_S5632x2048_S2048x5632_1_0 Cert.Reference3Ideal.Gen.slices_S2048x5632_S2048x1408_0_0
      Cert.Reference3Ideal.Gen.slices_S2048x5632_S2048x1408_0_1408 Cert.Reference3Ideal.Gen.slices_S2048x5632_S2048x1408_0_2816
      Cert.Reference3Ideal.Gen.slices_S2048x5632_S2048x1408_0_4224 Cert.Reference3Ideal.Gen.concatenates_S2048x1408_S2048x1408_S2048x1408_S2048x1408_S8192x1408_d0

theorem algebraic4 : Cert.algebraic_Kernel4Ideal_Reference4Ideal (hKernel4Ideal := Cert.Kernel4Ideal.Gen.facts) (hReference4Ideal := Cert.Reference4Ideal.Gen.facts) := by
  intro m g m' g' _ harg
  refine ⟨fun c => mat (n0 := 8192) (n1 := 5632) (DownCot.grad (DownCot.a0 m c) (DownCot.a1 m c)), ?_, ?_⟩
  · refine (θ_run _ _ _).mono (fun r h c => ?_) (Cert.Kernel4Ideal.Value.run_blocks m g)
    exact ⟨(h c).1.trans (DownCot.final2 m c), (h c).2⟩
  · refine (θ_run _ _ _).mono (fun r h c => ?_) (Cert.Reference4Ideal.Value.run m' g')
    obtain ⟨e0, e1⟩ := harg c
    obtain ⟨r0, ha⟩ := h c
    refine ⟨r0.trans ?_, ha⟩
    rw [e0, e1]
    exact ref4_at _ _

theorem algebraic5 : Cert.algebraic_Kernel5Ideal_Reference5Ideal (hKernel5Ideal := Cert.Kernel5Ideal.Gen.facts) (hReference5Ideal := Cert.Reference5Ideal.Gen.facts) := by
  intro m g m' g' _ harg
  refine ⟨fun c => mat (n0 := 5632) (n1 := 2048) (DownGrad.grad (DownGrad.a0 m c) (DownGrad.a1 m c)),
    fun c => mat (n0 := 5632) (n1 := 2048) (DownGrad.grad (DownGrad.a0 m c) (DownGrad.a1 m c)), ?_, ?_⟩
  · refine (θ_run _ _ _).mono (fun r h c => ?_) (Cert.Kernel5Ideal.Value.run_blocks m g)
    exact ⟨(h c).1.trans (DownGrad.final2 m c), (h c).2.1.trans (DownGrad.final3 m c), (h c).2.2⟩
  · refine (θ_run _ _ _).mono (fun r h c => ?_) (Cert.Reference5Ideal.Value.run m' g')
    obtain ⟨e0, e1⟩ := harg c
    obtain ⟨r0, r1, ha⟩ := h c
    refine ⟨r0.trans ?_, r1.trans ?_, ha⟩ <;> rw [e0, e1] <;> exact ref5_at _ _ Cert.Reference5Ideal.Gen.transposes_S2048x5632_S5632x2048_1_0

theorem algebraic6 : Cert.algebraic_Kernel6Ideal_Reference6Ideal (hKernel6Ideal := Cert.Kernel6Ideal.Gen.facts) (hReference6Ideal := Cert.Reference6Ideal.Gen.facts) := by
  intro m g m' g' _ harg
  refine ⟨fun c => mat (n0 := 8192) (n1 := 5632) (GateFwd.grad (GateFwd.a0 m c) (GateFwd.a1 m c)), ?_, ?_⟩
  · refine (θ_run _ _ _).mono (fun r h c => ?_) (Cert.Kernel6Ideal.Value.run_blocks m g)
    exact ⟨(h c).1.trans (GateFwd.final2 m c), (h c).2⟩
  · refine (θ_run _ _ _).mono (fun r h c => ?_) (Cert.Reference6Ideal.Value.run m' g')
    obtain ⟨e0, e1⟩ := harg c
    obtain ⟨r0, ha⟩ := h c
    refine ⟨r0.trans ?_, ha⟩
    rw [e0, e1]
    exact ref6_at _ _

theorem algebraic7 : Cert.algebraic_Kernel7Ideal_Reference7Ideal (hKernel7Ideal := Cert.Kernel7Ideal.Gen.facts) (hReference7Ideal := Cert.Reference7Ideal.Gen.facts) := by
  intro m g m' g' _ harg
  refine ⟨fun c => mat (n0 := 8192) (n1 := 2048) (DownFwd.grad (DownFwd.a0 m c) (DownFwd.a1 m c) (DownFwd.a2 m c)), ?_, ?_⟩
  · refine (θ_run _ _ _).mono (fun r h c => ?_) (Cert.Kernel7Ideal.Value.run_blocks m g)
    exact ⟨(h c).1.trans (DownFwd.final3 m c), (h c).2⟩
  · refine (θ_run _ _ _).mono (fun r h c => ?_) (Cert.Reference7Ideal.Value.run m' g')
    obtain ⟨e0, e1, e2⟩ := harg c
    obtain ⟨r0, ha⟩ := h c
    refine ⟨r0.trans ?_, ha⟩
    rw [e0, e1, e2]
    exact ref7_at _ _ _

theorem algebraic8 : Cert.algebraic_Kernel8Ideal_Reference8Ideal (hKernel8Ideal := Cert.Kernel8Ideal.Gen.facts) (hReference8Ideal := Cert.Reference8Ideal.Gen.facts) := by
  intro m g m' g' _ harg
  refine ⟨fun c => mat (n0 := 8192) (n1 := 2048) (MixCot.grad (MixCot.a0 m c) (MixCot.a1 m c)), ?_, ?_⟩
  · refine (θ_run _ _ _).mono (fun r h c => ?_) (Cert.Kernel8Ideal.Value.run_blocks m g)
    exact ⟨(h c).1.trans (MixCot.final2 m c), (h c).2⟩
  · refine (θ_run _ _ _).mono (fun r h c => ?_) (Cert.Reference8Ideal.Value.run m' g')
    obtain ⟨e0, e1⟩ := harg c
    obtain ⟨r0, ha⟩ := h c
    refine ⟨r0.trans ?_, ha⟩
    rw [e0, e1]
    exact ref8_at _ _

theorem algebraic9 : Cert.algebraic_Kernel9Ideal_Reference9Ideal (hKernel9Ideal := Cert.Kernel9Ideal.Gen.facts) (hReference9Ideal := Cert.Reference9Ideal.Gen.facts) := by
  intro m g m' g' _ harg
  refine ⟨fun c => mat (n0 := 2048) (n1 := 2048) (MixGrad.grad (MixGrad.a0 m c) (MixGrad.a1 m c)),
    fun c => mat (n0 := 2048) (n1 := 2048) (MixGrad.grad (MixGrad.a0 m c) (MixGrad.a1 m c)), ?_, ?_⟩
  · refine (θ_run _ _ _).mono (fun r h c => ?_) (Cert.Kernel9Ideal.Value.run_blocks m g)
    exact ⟨(h c).1.trans (MixGrad.final2 m c), (h c).2.1.trans (MixGrad.final3 m c), (h c).2.2⟩
  · refine (θ_run _ _ _).mono (fun r h c => ?_) (Cert.Reference9Ideal.Value.run m' g')
    obtain ⟨e0, e1⟩ := harg c
    obtain ⟨r0, r1, ha⟩ := h c
    refine ⟨r0.trans ?_, r1.trans ?_, ha⟩ <;> rw [e0, e1] <;> exact ref9_at _ _ Cert.Reference9Ideal.Gen.transposes_S2048x2048_S2048x2048_1_0

theorem algebraic10 : Cert.algebraic_Kernel10Ideal_Reference10Ideal (hKernel10Ideal := Cert.Kernel10Ideal.Gen.facts) (hReference10Ideal := Cert.Reference10Ideal.Gen.facts) := by
  intro m g m' g' _ harg
  refine ⟨fun c => mat (n0 := 8192) (n1 := 2048) (MixFwd.grad (MixFwd.a0 m c) (MixFwd.a1 m c) (MixFwd.a2 m c)), ?_, ?_⟩
  · refine (θ_run _ _ _).mono (fun r h c => ?_) (Cert.Kernel10Ideal.Value.run_blocks m g)
    exact ⟨(h c).1.trans (MixFwd.final3 m c), (h c).2⟩
  · refine (θ_run _ _ _).mono (fun r h c => ?_) (Cert.Reference10Ideal.Value.run m' g')
    obtain ⟨e0, e1, e2⟩ := harg c
    obtain ⟨r0, ha⟩ := h c
    refine ⟨r0.trans ?_, ha⟩
    rw [e0, e1, e2]
    exact ref10_at _ _ _

end Cert.Proof

end
-- ==== Proof.Columns.lean ====
/-
  The order in which the calls hold the columns of the input projection: the pool and the query groups, the memory query group, the
  key and value group, the rope key, and 64 columns of zeros.
-/
module

public import proofs.«01_k».proof.Proof.Products
public import Idealize.ShloMosaic.Lib.Tactic
public import Idealize.ShloMosaic.Lib.IdealHost

@[expose] public section

set_option maxRecDepth 16384

noncomputable section

namespace Cert.Proof.Columns

open Idealize.ShloMosaic Idealize.ShloMosaic.ValueIdx
open Finset Cert.Proof.Products

/-- The columns of `f` in the calls' order. -/
def spread (f : ℕ → ℕ → EReal) (a b : ℕ) : EReal :=
  if b < 1024 then f a b else if b < 1536 then f a (b + 320) else if b < 1856 then f a (b - 512) else 0

theorem cols_at {n w v : ℕ} {X : (⟨2, ![n, w]⟩ : Shape).Idx → EReal} {f : ℕ → ℕ → EReal} (hX : At2 X f) (o : ℕ) (ho : o + v ≤ w)
    (h : Shape.Slices ⟨2, ![n, w]⟩ ![0, o] ⟨2, ![n, v]⟩) : At2 (extractStridedSlice ⟨2, ![n, v]⟩ ![0, o] X h) fun a b => f a (o + b) := fun a b => by
  rw [extractStridedSlice_apply _ _ _ (ix2 a b) (ix2 (n0 := n) (n1 := w) a ⟨o + b.val, by omega⟩) (fun x => by
    match x with
    | ⟨0, _⟩ => exact (Nat.zero_add _).symm
    | ⟨1, _⟩ => rfl)]
  exact hX a _

/-- Six groups of columns, side by side. -/
theorem spread_at {n : ℕ} {x0 x1 x2 : (⟨2, ![n, 512]⟩ : Shape).Idx → EReal} {x3 : (⟨2, ![n, 256]⟩ : Shape).Idx → EReal} {x4 x5 : (⟨2, ![n, 64]⟩ : Shape).Idx → EReal}
    {f : ℕ → ℕ → EReal} (h0 : At2 x0 fun a b => f a (0 + b)) (h1 : At2 x1 fun a b => f a (512 + b)) (h2 : At2 x2 fun a b => f a (1344 + b))
    (h3 : At2 x3 fun a b => f a (1024 + b)) (h4 : At2 x4 fun a b => f a (1280 + b)) (h5 : ∀ i, x5 i = 0)
    (h : Shape.Concatenates [⟨2, ![n, 512]⟩, ⟨2, ![n, 512]⟩, ⟨2, ![n, 512]⟩, ⟨2, ![n, 256]⟩, ⟨2, ![n, 64]⟩, ⟨2, ![n, 64]⟩] ⟨2, ![n, 1920]⟩ 1) :
    At2 (n0 := n) (n1 := 1920) (concatenate ⟨2, ![n, 1920]⟩ 1 [⟨⟨2, ![n, 512]⟩, x0⟩, ⟨⟨2, ![n, 512]⟩, x1⟩, ⟨⟨2, ![n, 512]⟩, x2⟩, ⟨⟨2, ![n, 256]⟩, x3⟩, ⟨⟨2, ![n, 64]⟩, x4⟩, ⟨⟨2, ![n, 64]⟩, x5⟩] h)
      (spread f) := fun a b => by
  have hb := b.isLt
  have key : ∀ (q : ℕ) (hq : q < 6) (w p : ℕ) (x : (⟨2, ![n, w]⟩ : Shape).Idx → EReal) (hl : p ≤ b.val) (hr : b.val - p < w)
      (hp : ([⟨⟨2, ![n, 512]⟩, x0⟩, ⟨⟨2, ![n, 512]⟩, x1⟩, ⟨⟨2, ![n, 512]⟩, x2⟩, ⟨⟨2, ![n, 256]⟩, x3⟩, ⟨⟨2, ![n, 64]⟩, x4⟩, ⟨⟨2, ![n, 64]⟩, x5⟩] : List ((s : Shape) × (s.Idx → EReal)))[q]'hq = ⟨⟨2, ![n, w]⟩, x⟩)
      (hs : (((([⟨⟨2, ![n, 512]⟩, x0⟩, ⟨⟨2, ![n, 512]⟩, x1⟩, ⟨⟨2, ![n, 512]⟩, x2⟩, ⟨⟨2, ![n, 256]⟩, x3⟩, ⟨⟨2, ![n, 64]⟩, x4⟩, ⟨⟨2, ![n, 64]⟩, x5⟩] : List ((s : Shape) × (s.Idx → EReal))).take q).map (·.1)).map
        fun s => if h : s.rank = (⟨2, ![n, 1920]⟩ : Shape).rank then s.size ((1 : Fin (⟨2, ![n, 1920]⟩ : Shape).rank).cast h.symm) else 0).sum = p),
      concatenate ⟨2, ![n, 1920]⟩ 1 [⟨⟨2, ![n, 512]⟩, x0⟩, ⟨⟨2, ![n, 512]⟩, x1⟩, ⟨⟨2, ![n, 512]⟩, x2⟩, ⟨⟨2, ![n, 256]⟩, x3⟩, ⟨⟨2, ![n, 64]⟩, x4⟩, ⟨⟨2, ![n, 64]⟩, x5⟩] h (ix2 (n0 := n) (n1 := 1920) a b)
        = x (ix2 (n0 := n) (n1 := w) a ⟨b.val - p, hr⟩) := fun q hq w p x hl hr hp hs =>
    concatenate_apply_piece (t := ⟨2, ![n, 1920]⟩) 1 [⟨⟨2, ![n, 512]⟩, x0⟩, ⟨⟨2, ![n, 512]⟩, x1⟩, ⟨⟨2, ![n, 512]⟩, x2⟩, ⟨⟨2, ![n, 256]⟩, x3⟩, ⟨⟨2, ![n, 64]⟩, x4⟩, ⟨⟨2, ![n, 64]⟩, x5⟩] h _ q hq ⟨2, ![n, w]⟩ x hp rfl p hs
      (ix2 (n0 := n) (n1 := w) a ⟨b.val - p, hr⟩) (fun y hy => by
        match y, hy with
        | ⟨0, _⟩, _ => rfl
        | ⟨1, _⟩, hy => exact absurd rfl hy) (by show p + (b.val - p) = b.val; omega)
  unfold spread
  by_cases b1 : b.val < 512
  · rw [key 0 (by decide) 512 0 x0 (by omega) (by omega) rfl rfl, h0, if_pos (by omega)]
    exact congrArg (f a.val) (by show 0 + (b.val - 0) = b.val; omega)
  by_cases b2 : b.val < 1024
  · rw [key 1 (by decide) 512 512 x1 (by omega) (by omega) rfl rfl, h1, if_pos (by omega)]
    exact congrArg (f a.val) (by show 512 + (b.val - 512) = b.val; omega)
  by_cases b3 : b.val < 1536
  · rw [key 2 (by decide) 512 1024 x2 (by omega) (by omega) rfl rfl, h2, if_neg (by omega), if_pos (by omega)]
    exact congrArg (f a.val) (by show 1344 + (b.val - 1024) = b.val + 320; omega)
  by_cases b4 : b.val < 1792
  · rw [key 3 (by decide) 256 1536 x3 (by omega) (by omega) rfl rfl, h3, if_neg (by omega), if_neg (by omega), if_pos (by omega)]
    exact congrArg (f a.val) (by show 1024 + (b.val - 1536) = b.val - 512; omega)
  by_cases b5 : b.val < 1856
  · rw [key 4 (by decide) 64 1792 x4 (by omega) (by omega) rfl rfl, h4, if_neg (by omega), if_neg (by omega), if_pos (by omega)]
    exact congrArg (f a.val) (by show 1280 + (b.val - 1792) = b.val - 512; omega)
  · rw [key 5 (by decide) 64 1856 x5 (by omega) (by omega) rfl rfl, h5, if_neg (by omega), if_neg (by omega), if_neg (by omega)]

/-- A matrix's columns, cut out and put in the calls' order. -/
theorem slices_at {n : ℕ} {x : (⟨2, ![n, 1856]⟩ : Shape).Idx → EReal} {f : ℕ → ℕ → EReal} (hx : At2 x f) {z : (⟨2, ![n, 64]⟩ : Shape).Idx → EReal} (hz : ∀ i, z i = 0)
    (s0 : Shape.Slices ⟨2, ![n, 1856]⟩ ![0, 0] ⟨2, ![n, 512]⟩) (s1 : Shape.Slices ⟨2, ![n, 1856]⟩ ![0, 512] ⟨2, ![n, 512]⟩)
    (s2 : Shape.Slices ⟨2, ![n, 1856]⟩ ![0, 1344] ⟨2, ![n, 512]⟩) (s3 : Shape.Slices ⟨2, ![n, 1856]⟩ ![0, 1024] ⟨2, ![n, 256]⟩)
    (s4 : Shape.Slices ⟨2, ![n, 1856]⟩ ![0, 1280] ⟨2, ![n, 64]⟩)
    (h : Shape.Concatenates [⟨2, ![n, 512]⟩, ⟨2, ![n, 512]⟩, ⟨2, ![n, 512]⟩, ⟨2, ![n, 256]⟩, ⟨2, ![n, 64]⟩, ⟨2, ![n, 64]⟩] ⟨2, ![n, 1920]⟩ 1) :
    At2 (n0 := n) (n1 := 1920) (concatenate ⟨2, ![n, 1920]⟩ 1 [⟨⟨2, ![n, 512]⟩, extractStridedSlice ⟨2, ![n, 512]⟩ ![0, 0] x s0⟩, ⟨⟨2, ![n, 512]⟩, extractStridedSlice ⟨2, ![n, 512]⟩ ![0, 512] x s1⟩,
      ⟨⟨2, ![n, 512]⟩, extractStridedSlice ⟨2, ![n, 512]⟩ ![0, 1344] x s2⟩, ⟨⟨2, ![n, 256]⟩, extractStridedSlice ⟨2, ![n, 256]⟩ ![0, 1024] x s3⟩,
      ⟨⟨2, ![n, 64]⟩, extractStridedSlice ⟨2, ![n, 64]⟩ ![0, 1280] x s4⟩, ⟨⟨2, ![n, 64]⟩, z⟩] h) (spread f) :=
  spread_at (f := f) (cols_at hx 0 (by decide) s0) (cols_at hx 512 (by decide) s1) (cols_at hx 1344 (by decide) s2) (cols_at hx 1024 (by decide) s3)
    (cols_at hx 1280 (by decide) s4) hz h

/-- A product with the reordered columns is the product, its columns reordered. -/
theorem sum_spread (n : ℕ) (u : ℕ → EReal) (g : ℕ → ℕ → EReal) (a b : ℕ) :
    ∑ k ∈ range n, u k * spread g k b = spread (fun _ c => ∑ k ∈ range n, u k * g k c) a b := by
  unfold spread
  split_ifs
  · rfl
  · rfl
  · rfl
  · exact sum_eq_zero fun k _ => mul_zero _

/-- A sum over all columns does not see their order. -/
theorem sum_cols (f g : ℕ → ℕ → EReal) (a b : ℕ) : ∑ l ∈ range 1920, spread f a l * spread g b l = ∑ l ∈ range 1856, f a l * g b l := by
  rw [show (1920 : ℕ) = 1024 + 512 + 320 + 64 from rfl, show (1856 : ℕ) = 1024 + 320 + 512 from rfl, sum_range_add, sum_range_add, sum_range_add, sum_range_add, sum_range_add]
  have e1 : ∑ l ∈ range 1024, spread f a l * spread g b l = ∑ l ∈ range 1024, f a l * g b l := sum_congr rfl fun l hl => by
    have := mem_range.mp hl
    unfold spread
    rw [if_pos this, if_pos this]
  have e2 : ∑ l ∈ range 512, spread f a (1024 + l) * spread g b (1024 + l) = ∑ l ∈ range 512, f a (1024 + 320 + l) * g b (1024 + 320 + l) := sum_congr rfl fun l hl => by
    have := mem_range.mp hl
    unfold spread
    rw [if_neg (by omega), if_pos (by omega), if_neg (by omega), if_pos (by omega), show 1024 + l + 320 = 1024 + 320 + l by omega]
  have e3 : ∑ l ∈ range 320, spread f a (1024 + 512 + l) * spread g b (1024 + 512 + l) = ∑ l ∈ range 320, f a (1024 + l) * g b (1024 + l) := sum_congr rfl fun l hl => by
    have := mem_range.mp hl
    unfold spread
    rw [if_neg (by omega), if_neg (by omega), if_pos (by omega), if_neg (by omega), if_neg (by omega), if_pos (by omega), show 1024 + 512 + l - 512 = 1024 + l by omega]
  have e4 : ∑ l ∈ range 64, spread f a (1024 + 512 + 320 + l) * spread g b (1024 + 512 + 320 + l) = 0 := sum_eq_zero fun l hl => by
    unfold spread
    rw [if_neg (by omega), if_neg (by omega), if_neg (by omega), zero_mul]
  rw [e1, e2, e3, e4, add_zero, add_right_comm]

end Cert.Proof.Columns

end
-- ==== Proof.InFwdI.lean ====
/-
  The call `z_proj` over the extended reals: what its result holds after the run.
-/
module

public import proofs.«01_k».proof.Proof.Products
public import proofs.«01_k».proof.Proof.Columns
public import proofs.«01_k».proof.Proof.Gen.Kernel11Ideal.Value
public import Idealize.ShloMosaic.Lib.Tactic

@[expose] public section

set_option maxRecDepth 16384

noncomputable section

namespace Cert.Proof.InFwd

open Cert.Kernel11Ideal Cert.Kernel11Ideal.Gen Cert.Kernel11Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products Cert.Proof.Columns

theorem zz : (![0, 0] : Fin 2 → Nat) = fun _ => 0 := funext fun a => by fin_cases a <;> rfl

theorem out_eq (X : Vec Ideal S1024x2048 .bf16) (Y : Vec Ideal S2048x1920 .bf16) : out0_2 (F := Ideal) X Y = k0_pay1 (F := Ideal) X Y := by
  unfold out0_2
  rw [View.canon_unit_zero zz]
  simp only [View.ld_unit_zero (S := S1024x2048) zz, View.ld_unit_zero (S := S2048x1920) zz]

theorem pay1_at {X : Vec Ideal S1024x2048 .bf16} {Y : Vec Ideal S2048x1920 .bf16} {f g : ℕ → ℕ → EReal} (hX : At2 X f) (hY : At2 Y g) :
    At2 (k0_pay1 (F := Ideal) X Y) fun a b => ∑ k ∈ range 2048, f a k * g k b := fun a b => by
  unfold k0_pay1
  simp only [shapeCast_self]
  exact matmul_nn (φ₁ := .bf16) (φ₂ := .bf16) _ hX hY a b

/-! ## The blocks read -/

variable (m : (ℓ : Loc nD τ sig) → Buf (Elt Ideal) ℓ) (c : Dev nD)

/-- Device `c`'s arguments at launch. -/
abbrev a0 : S8192x2048.Idx → EReal := m ((c : Thread nD τ).loc main_arg0)
abbrev a1 : S2048x1856.Idx → EReal := m ((c : Thread nD τ).loc main_arg1)

theorem V0 : V m c main_v0 = a0 m c := by
  dsimp only [V, hostOps0]
  after_results_simp <;> rfl

theorem V8 : At2 (V m c main_v8 : S2048x1920.Idx → EReal) (spread (ent (a1 m c))) := by
  have e : (V m c main_v8 : S2048x1920.Idx → EReal) = concatenate S2048x1920 1 [⟨S2048x512, extractStridedSlice S2048x512 ![0, 0] (a1 m c) slices_S2048x1856_S2048x512_0_0⟩, ⟨S2048x512, extractStridedSlice S2048x512 ![0, 512] (a1 m c) slices_S2048x1856_S2048x512_0_512⟩, ⟨S2048x512, extractStridedSlice S2048x512 ![0, 1344] (a1 m c) slices_S2048x1856_S2048x512_0_1344⟩, ⟨S2048x256, extractStridedSlice S2048x256 ![0, 1024] (a1 m c) slices_S2048x1856_S2048x256_0_1024⟩,
      ⟨S2048x64, extractStridedSlice S2048x64 ![0, 1280] (a1 m c) slices_S2048x1856_S2048x64_0_1280⟩, ⟨S2048x64, broadcastInDim S2048x64 ![] bcast_S_S2048x64 (constant (F := Ideal) S_ .f32 0x00000000#32)⟩]
      concatenates_S2048x512_S2048x512_S2048x512_S2048x256_S2048x64_S2048x64_S2048x1920_d1 := by
    dsimp only [V, hostOps0]
    after_results_simp <;> rfl
  rw [e]
  exact slices_at (at2_ent (a1 m c)) (fun i => by rw [broadcastInDim_scalar_apply]; exact Ideal.ofBits_zero_f32) _ _ _ _ _ _

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel

theorem lt8 (t : Fin cfg0.N) : t.val < 8 := t.isLt

theorem blk0 (t : Fin cfg0.N) : At2 (iblk m c 0 t : S1024x2048.Idx → EReal) fun a k => ent (a0 m c) (1024 * t.val + a) k := fun a k => by
  have ht := lt8 t
  have ha := a.isLt
  unfold iblk
  rw [View.read_apply]
  show V m c main_v0 _ = _
  rw [V0]
  refine (congrArg (a0 m c) (show _ = ix2 (n0 := 8192) (n1 := 2048) ⟨1024 * t.val + a.val, by omega⟩ k from ?_)).trans (at2_ent (a0 m c) _ _)
  funext x
  match x with
  | ⟨0, _⟩ => exact Fin.ext (show win0_0.index t 0 * 1024 + 1 * a.val = 1024 * t.val + a.val by rw [(idx0 t).1]; omega)
  | ⟨1, _⟩ => exact Fin.ext (show win0_0.index t 1 * 2048 + 1 * k.val = k.val by rw [(idx0 t).2]; omega)

theorem blk1 (t : Fin cfg0.N) : At2 (iblk m c 1 t : S2048x1920.Idx → EReal) (spread (ent (a1 m c))) := fun k b => by
  unfold iblk
  rw [View.read_apply]
  show V m c main_v8 _ = _
  refine (congrArg (V m c main_v8 : S2048x1920.Idx → EReal) (show _ = ix2 (n0 := 2048) (n1 := 1920) k b from ?_)).trans (V8 m c _ _)
  funext x
  match x with
  | ⟨0, _⟩ => exact Fin.ext (show win0_1.index t 0 * 2048 + 1 * k.val = k.val by rw [(idx1 t).1]; omega)
  | ⟨1, _⟩ => exact Fin.ext (show win0_1.index t 1 * 1920 + 1 * b.val = b.val by rw [(idx1 t).2]; omega)

/-! ## The result -/

/-- The product, its columns in the call's order. -/
def grad (x : S8192x2048.Idx → EReal) (y : S2048x1856.Idx → EReal) (a b : ℕ) : EReal := ∑ k ∈ range 2048, ent x a k * spread (ent y) k b

theorem wrote2 (t : Fin cfg0.N) (hf : (cfg0.win 2).flush t = true) :
    (dats m 0 c).flushed 2 t = ((cfg0.win 2).blk t).view.read (Elt Ideal) (mat (n0 := 8192) (n1 := 1920) (grad (a0 m c) (a1 m c))) := by
  rw [flushed2 m c t, out_eq]
  funext y
  obtain ⟨a, b, rfl⟩ : ∃ (a : Fin 1024) (b : Fin 1920), y = ix2 a b := ⟨_, _, eq_ix2 y⟩
  rw [View.read_apply]
  refine (show _ = k0_pay1 (F := Ideal) _ _ (ix2 a b) from rfl).trans ((pay1_at (blk0 m c t) (blk1 m c t) a b).trans ?_)
  show _ = grad (a0 m c) (a1 m c) (win0_2.index t 0 * 1024 + 1 * a.val) (win0_2.index t 1 * 1920 + 1 * b.val)
  rw [(idx2 t).1, (idx2 t).2, show t.val * 1024 + 1 * a.val = 1024 * t.val + a.val by omega,
    show 0 * 1920 + 1 * b.val = b.val by omega]
  rfl

theorem final2 : (dats m 0 c).arrAt 2 cfg0.N = mat (n0 := 8192) (n1 := 1920) (grad (a0 m c) (a1 m c)) :=
  (dats m 0 c).arrAt_eq_of_cover 2 _ (wrote2 m c) fun i => by
    have h0 : (i 0 : ℕ) < 8192 := (i 0).isLt
    have h1 : (i 1 : ℕ) < 1920 := (i 1).isLt
    have ht : (i 0 : ℕ) / 1024 < cfg0.N := by show _ < 8; omega
    have hI := idx2 ⟨_, ht⟩
    refine ⟨⟨_, ht⟩, flush0_2 ⟨_, ht⟩, ?_⟩
    show i ∈ ((View.whole main_v9).slice (win0_2.rect ⟨_, ht⟩)).set
    rw [View.set_slice_whole, Rect.mem_set_unit]
    intro a
    match a with
    | ⟨0, _⟩ =>
      show win0_2.index ⟨_, ht⟩ 0 * 1024 ≤ (i 0 : ℕ) ∧ (i 0 : ℕ) < win0_2.index ⟨_, ht⟩ 0 * 1024 + 1024
      rw [hI.1]; dsimp only; omega
    | ⟨1, _⟩ =>
      show win0_2.index ⟨_, ht⟩ 1 * 1920 ≤ (i 1 : ℕ) ∧ (i 1 : ℕ) < win0_2.index ⟨_, ht⟩ 1 * 1920 + 1920
      rw [hI.2]; dsimp only; omega

end Cert.Proof.InFwd

end
-- ==== Proof.InGradI.lean ====
/-
  The call `grad_w_in` over the extended reals: what its two results hold after the run.
-/
module

public import proofs.«01_k».proof.Proof.Products
public import proofs.«01_k».proof.Proof.Columns
public import proofs.«01_k».proof.Proof.Gen.Kernel12Ideal.Value
public import Idealize.ShloMosaic.Lib.Tactic

@[expose] public section

set_option maxRecDepth 16384

noncomputable section

namespace Cert.Proof.InGrad

open Cert.Kernel12Ideal Cert.Kernel12Ideal.Gen Cert.Kernel12Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products Cert.Proof.Columns

theorem zz : (![0, 0] : Fin 2 → Nat) = fun _ => 0 := funext fun a => by fin_cases a <;> rfl

/-! ## One grid point -/

section
variable (c : Dev nD) (i : grid0.Coords) (a3 : Memref sig .tc .vmem S1024x512 .bf16) (h3 : a3.IsWhole) (a4 : Memref sig .tc .vmem S1024x1920 .bf16) (h4 : a4.IsWhole)
  (a5 : Memref sig .tc .vmem S512x1920 .f32) (h5 : a5.IsWhole) (a6 : Memref sig .tc .vmem S512x1920 .bf16) (h6 : a6.IsWhole)
  (a7 : Memref sig .tc .vmem S512x1920 .f32) (h7 : a7.IsWhole) (X : Vec Ideal S1024x512 .bf16) (Y : Vec Ideal S1024x1920 .bf16) (W : Vec Ideal S512x1920 .f32)

theorem acc_A (hc0 : cond0_0 i) (hc1 : ¬cond0_1 i) :
    sout0_A_0 c i a3 h3 a4 h4 a5 h5 a6 h6 a7 h7 hc0 hc1 X Y = k0_pay2 (F := Ideal) (k0_pay1 (F := Ideal)) X Y := by
  unfold sout0_A_0
  rw [View.read_writes_eq_canon _ _ _ (scover0_A_0 c i a3 h3 a4 h4 a5 h5 a6 h6 a7 h7 hc0 hc1 X Y)]
  unfold kernelRun0_A
  dsimp only
  sl_unfold_words
  rw [View.canon_cons_unit_zero (S := S512x1920) zz, View.readCov_unit_zero (S := S512x1920) _ zz]
  simp only [View.readAt_eq_ld, h3.read_unread, h4.read_unread, View.ld_unit_zero (S := S1024x512) zz, View.ld_unit_zero (S := S1024x1920) zz, View.ld_unit_zero (S := S512x1920) zz]

theorem acc_B (hc0 : ¬cond0_0 i) (hc1 : ¬cond0_1 i) :
    sout0_B_0 c i a3 h3 a4 h4 a5 h5 a6 h6 a7 h7 hc0 hc1 X Y W = k0_pay2 (F := Ideal) W X Y := by
  unfold sout0_B_0
  rw [View.read_writes_eq_canon _ _ _ (scover0_B_0 c i a3 h3 a4 h4 a5 h5 a6 h6 a7 h7 hc0 hc1 X Y W)]
  unfold kernelRun0_B
  dsimp only
  sl_unfold_words
  rw [View.canon_unit_zero zz]
  simp only [View.readAt_eq_ld, h3.read_unread, h4.read_unread, h7.read_unread, View.ld_unit_zero (S := S1024x512) zz, View.ld_unit_zero (S := S1024x1920) zz, View.ld_unit_zero (S := S512x1920) zz]

theorem acc_C (hc0 : ¬cond0_0 i) (hc1 : cond0_1 i) :
    sout0_C_0 c i a3 h3 a4 h4 a5 h5 a6 h6 a7 h7 hc0 hc1 X Y W = k0_pay2 (F := Ideal) W X Y := by
  unfold sout0_C_0
  rw [View.read_writes_eq_canon _ _ _ (scover0_C_0 c i a3 h3 a4 h4 a5 h5 a6 h6 a7 h7 hc0 hc1 X Y W)]
  unfold kernelRun0_C
  dsimp only
  sl_unfold_words
  rw [View.canon_unit_zero zz]
  simp only [View.readAt_eq_ld, h3.read_unread, h4.read_unread, h7.read_unread, View.ld_unit_zero (S := S1024x512) zz, View.ld_unit_zero (S := S1024x1920) zz, View.ld_unit_zero (S := S512x1920) zz]

theorem out_C_2 (hc0 : ¬cond0_0 i) (hc1 : cond0_1 i) :
    out0_C_2 c i a3 h3 a4 h4 a5 h5 a6 h6 a7 h7 hc0 hc1 X Y W = k0_pay2 (F := Ideal) W X Y := by
  unfold out0_C_2
  rw [View.read_writes_eq_canon _ _ _ (cover0_C_2 c i a3 h3 a4 h4 a5 h5 a6 h6 a7 h7 hc0 hc1 X Y W)]
  unfold kernelRun0_C
  dsimp only
  sl_unfold_words
  rw [View.canon_unit_zero zz, View.readCov_unit_zero (S := S512x1920) _ zz]
  simp only [View.readAt_eq_ld, h3.read_unread, h4.read_unread, h7.read_unread, View.ld_unit_zero (S := S1024x512) zz, View.ld_unit_zero (S := S1024x1920) zz, View.ld_unit_zero (S := S512x1920) zz]

theorem out_C_3 (hc0 : ¬cond0_0 i) (hc1 : cond0_1 i) :
    out0_C_3 c i a3 h3 a4 h4 a5 h5 a6 h6 a7 h7 hc0 hc1 X Y W = k0_pay3 (F := Ideal) (k0_pay2 (F := Ideal) W X Y) := by
  unfold out0_C_3
  rw [View.read_writes_eq_canon _ _ _ (cover0_C_3 c i a3 h3 a4 h4 a5 h5 a6 h6 a7 h7 hc0 hc1 X Y W)]
  unfold kernelRun0_C
  dsimp only
  sl_unfold_words
  rw [View.canon_unit_zero zz, View.readCov_unit_zero (S := S512x1920) _ zz]
  simp only [View.readAt_eq_ld, h3.read_unread, h4.read_unread, h7.read_unread, View.ld_unit_zero (S := S1024x512) zz, View.ld_unit_zero (S := S1024x1920) zz, View.ld_unit_zero (S := S512x1920) zz]

end

theorem pay1_at : At2 (k0_pay1 (F := Ideal)) fun _ _ => 0 := fun a b => by
  unfold k0_pay1
  rw [shapeCast_self]
  exact Ideal.ofBits_zero_f32

theorem pay2_at {W : Vec Ideal S512x1920 .f32} {X : Vec Ideal S1024x512 .bf16} {Y : Vec Ideal S1024x1920 .bf16} {w f g : ℕ → ℕ → EReal}
    (hW : At2 W w) (hX : At2 X f) (hY : At2 Y g) :
    At2 (k0_pay2 (F := Ideal) W X Y) fun a b => w a b + ∑ k ∈ range 1024, f k a * g k b := fun a b => by
  unfold k0_pay2
  simp only [shapeCast_self]
  exact congrArg₂ (· + ·) (hW a b) (matmul_tn (φ₁ := .bf16) (φ₂ := .bf16) _ hX hY a b)

/-! ## The blocks read -/

variable (m : (ℓ : Loc nD τ sig) → Buf (Elt Ideal) ℓ) (c : Dev nD)

/-- Device `c`'s arguments at launch. -/
abbrev a0 : S8192x2048.Idx → EReal := m ((c : Thread nD τ).loc main_arg0)
abbrev a1 : S8192x1856.Idx → EReal := m ((c : Thread nD τ).loc main_arg1)

theorem V0 : V m c main_v0 = a0 m c := by
  dsimp only [V, hostOps0]
  after_results_simp <;> rfl

theorem V8 : At2 (V m c main_v8 : S8192x1920.Idx → EReal) (spread (ent (a1 m c))) := by
  have e : (V m c main_v8 : S8192x1920.Idx → EReal) = concatenate S8192x1920 1 [⟨S8192x512, extractStridedSlice S8192x512 ![0, 0] (a1 m c) slices_S8192x1856_S8192x512_0_0⟩, ⟨S8192x512, extractStridedSlice S8192x512 ![0, 512] (a1 m c) slices_S8192x1856_S8192x512_0_512⟩, ⟨S8192x512, extractStridedSlice S8192x512 ![0, 1344] (a1 m c) slices_S8192x1856_S8192x512_0_1344⟩, ⟨S8192x256, extractStridedSlice S8192x256 ![0, 1024] (a1 m c) slices_S8192x1856_S8192x256_0_1024⟩,
      ⟨S8192x64, extractStridedSlice S8192x64 ![0, 1280] (a1 m c) slices_S8192x1856_S8192x64_0_1280⟩, ⟨S8192x64, broadcastInDim S8192x64 ![] bcast_S_S8192x64 (constant (F := Ideal) S_ .f32 0x00000000#32)⟩]
      concatenates_S8192x512_S8192x512_S8192x512_S8192x256_S8192x64_S8192x64_S8192x1920_d1 := by
    dsimp only [V, hostOps0]
    after_results_simp <;> rfl
  rw [e]
  exact slices_at (at2_ent (a1 m c)) (fun i => by rw [broadcastInDim_scalar_apply]; exact Ideal.ofBits_zero_f32) _ _ _ _ _ _

theorem idx0 : ∀ t : Fin cfg0.N, win0_0.index t 0 = t.val % 8 ∧ win0_0.index t 1 = t.val / 8 := by decide +kernel
theorem idx1 : ∀ t : Fin cfg0.N, win0_1.index t 0 = t.val % 8 ∧ win0_1.index t 1 = 0 := by decide +kernel
theorem idx2 : ∀ t : Fin cfg0.N, win0_2.index t 0 = t.val / 8 ∧ win0_2.index t 1 = 0 := by decide +kernel
theorem idx3 : ∀ t : Fin cfg0.N, win0_3.index t 0 = t.val / 8 ∧ win0_3.index t 1 = 0 := by decide +kernel

theorem lt32 (t : Fin cfg0.N) : t.val < 32 := t.isLt

theorem blk0 (t : Fin cfg0.N) : At2 (iblk m c 0 t : S1024x512.Idx → EReal) fun k a => ent (a0 m c) (1024 * (t.val % 8) + k) (512 * (t.val / 8) + a) := fun k a => by
  have ht := lt32 t
  have hk := k.isLt
  have ha := a.isLt
  unfold iblk
  rw [View.read_apply]
  show V m c main_v0 _ = _
  rw [V0]
  refine (congrArg (a0 m c) (show _ = ix2 (n0 := 8192) (n1 := 2048) ⟨1024 * (t.val % 8) + k.val, by omega⟩ ⟨512 * (t.val / 8) + a.val, by omega⟩ from ?_)).trans
    (at2_ent (a0 m c) _ _)
  funext x
  match x with
  | ⟨0, _⟩ => exact Fin.ext (show win0_0.index t 0 * 1024 + 1 * k.val = 1024 * (t.val % 8) + k.val by rw [(idx0 t).1]; omega)
  | ⟨1, _⟩ => exact Fin.ext (show win0_0.index t 1 * 512 + 1 * a.val = 512 * (t.val / 8) + a.val by rw [(idx0 t).2]; omega)

theorem blk1 (t : Fin cfg0.N) : At2 (iblk m c 1 t : S1024x1920.Idx → EReal) fun k b => spread (ent (a1 m c)) (1024 * (t.val % 8) + k) b := fun k b => by
  have ht := t.isLt
  change t.val < 32 at ht
  have ha := k.isLt
  unfold iblk
  rw [View.read_apply]
  show V m c main_v8 _ = _
  refine (congrArg (V m c main_v8 : S8192x1920.Idx → EReal) (show _ = ix2 (n0 := 8192) (n1 := 1920) ⟨1024 * (t.val % 8) + k.val, by omega⟩ b from ?_)).trans (V8 m c _ _)
  funext x
  match x with
  | ⟨0, _⟩ => exact Fin.ext (show win0_1.index t 0 * 1024 + 1 * k.val = 1024 * (t.val % 8) + k.val by rw [(idx1 t).1]; omega)
  | ⟨1, _⟩ => exact Fin.ext (show win0_1.index t 1 * 1920 + 1 * b.val = b.val by rw [(idx1 t).2]; omega)

/-! ## The accumulated sum -/

/-- The sum's term `l` at entry `(a, b)` of point `n`'s block. -/
abbrev term (n a b l : ℕ) : EReal := ent (a0 m c) l (512 * (n / 8) + a) * spread (ent (a1 m c)) l b

/-- One point's product added to the sum over the blocks before it. -/
theorem step (t : Fin cfg0.N) {W : Vec Ideal S512x1920 .f32} (hW : At2 W fun a b => ∑ l ∈ range (1024 * (t.val % 8)), term m c t.val a b l) :
    At2 (k0_pay2 (F := Ideal) W (iblk m c 0 t) (iblk m c 1 t)) fun a b => ∑ l ∈ range (1024 * (t.val % 8 + 1)), term m c t.val a b l := fun a b =>
  (pay2_at hW (blk0 m c t) (blk1 m c t) a b).trans (sum_block (term m c t.val a.val b.val) 1024 (t.val % 8)).symm

theorem acc_at (n : ℕ) (hn : n < cfg0.N) : At2 (outsAt0 m c n hn).2.2 fun a b => ∑ l ∈ range (1024 * (n % 8 + 1)), term m c n a b l := by
  induction n using Nat.strong_induction_on with
  | _ n ih =>
    have hN : n < 32 := hn
    by_cases h0 : n % 8 = 0
    · rw [outsAt0_A m c ⟨n, hn⟩ h0 (by dsimp only; omega)]
      dsimp only
      rw [acc_A]
      refine step m c ⟨n, hn⟩ fun a b => ?_
      rw [pay1_at a b]
      dsimp only
      rw [h0, Nat.mul_zero, sum_range_zero]
    · have hp : At2 (outsAt0 m c (n - 1) (Nat.lt_of_le_of_lt (Nat.sub_le _ _) hn)).2.2 fun a b => ∑ l ∈ range (1024 * (n % 8)), term m c n a b l := fun a b => by
        rw [ih (n - 1) (by omega) _ a b]
        dsimp only
        unfold term
        rw [show (n - 1) % 8 + 1 = n % 8 by omega, show (n - 1) / 8 = n / 8 by omega]
      by_cases h7 : n % 8 = 7
      · rw [outsAt0_C m c ⟨n, hn⟩ h0 h7]
        dsimp only
        rw [acc_C]
        exact step m c ⟨n, hn⟩ hp
      · rw [outsAt0_B m c ⟨n, hn⟩ h0 h7]
        dsimp only
        rw [acc_B]
        exact step m c ⟨n, hn⟩ hp

/-- What the last point of a sweep writes. -/
theorem last_at (t : Fin cfg0.N) (h7 : t.val % 8 = 7) :
    At2 (k0_pay2 (F := Ideal) (outsAt0 m c (t.val - 1) (Nat.lt_of_le_of_lt (Nat.sub_le _ _) t.isLt)).2.2 (iblk m c 0 t) (iblk m c 1 t))
      fun a b => ∑ l ∈ range 8192, term m c t.val a b l := by
  have h := acc_at m c t.val t.isLt
  rw [outsAt0_C m c t (by omega) h7] at h
  dsimp only at h
  rw [acc_C, h7] at h
  exact h

/-! ## The results -/

/-- The gradient of the weight, its columns in the call's order. -/
def grad (x : S8192x2048.Idx → EReal) (y : S8192x1856.Idx → EReal) (a b : ℕ) : EReal := ∑ l ∈ range 8192, ent x l a * spread (ent y) l b

theorem wrote2 (t : Fin cfg0.N) (hf : (cfg0.win 2).flush t = true) :
    (dats m 0 c).flushed 2 t = ((cfg0.win 2).blk t).view.read (Elt Ideal) (mat (n0 := 2048) (n1 := 1920) (grad (a0 m c) (a1 m c))) := by
  have h7 := (flush0_2 t).mp hf
  rw [flushed2_C m c t (by omega) h7, out_C_2]
  funext y
  obtain ⟨a, b, rfl⟩ : ∃ (a : Fin 512) (b : Fin 1920), y = ix2 a b := ⟨_, _, eq_ix2 y⟩
  rw [View.read_apply]
  refine (show _ = k0_pay2 (F := Ideal) _ _ _ (ix2 a b) from rfl).trans ((last_at m c t h7 a b).trans ?_)
  show _ = grad (a0 m c) (a1 m c) (win0_2.index t 0 * 512 + 1 * a.val) (win0_2.index t 1 * 1920 + 1 * b.val)
  rw [(idx2 t).1, (idx2 t).2, show t.val / 8 * 512 + 1 * a.val = 512 * (t.val / 8) + a.val by omega, show 0 * 1920 + 1 * b.val = b.val by omega]
  rfl

theorem final2 : (dats m 0 c).arrAt 2 cfg0.N = mat (n0 := 2048) (n1 := 1920) (grad (a0 m c) (a1 m c)) :=
  (dats m 0 c).arrAt_eq_of_cover 2 _ (wrote2 m c) fun i => by
    have h0 : (i 0 : ℕ) < 2048 := (i 0).isLt
    have h1 : (i 1 : ℕ) < 1920 := (i 1).isLt
    have ht : (i 0 : ℕ) / 512 * 8 + 7 < cfg0.N := by show _ < 32; omega
    have hI := idx2 ⟨_, ht⟩
    refine ⟨⟨_, ht⟩, (flush0_2 ⟨_, ht⟩).mpr (by dsimp only; omega), ?_⟩
    show i ∈ ((View.whole main_v9_0).slice (win0_2.rect ⟨_, ht⟩)).set
    rw [View.set_slice_whole, Rect.mem_set_unit]
    intro a
    match a with
    | ⟨0, _⟩ =>
      show win0_2.index ⟨_, ht⟩ 0 * 512 ≤ (i 0 : ℕ) ∧ (i 0 : ℕ) < win0_2.index ⟨_, ht⟩ 0 * 512 + 512
      rw [hI.1]; dsimp only; omega
    | ⟨1, _⟩ =>
      show win0_2.index ⟨_, ht⟩ 1 * 1920 ≤ (i 1 : ℕ) ∧ (i 1 : ℕ) < win0_2.index ⟨_, ht⟩ 1 * 1920 + 1920
      rw [hI.2]; omega

theorem wrote3 (t : Fin cfg0.N) (hf : (cfg0.win 3).flush t = true) :
    (dats m 0 c).flushed 3 t = ((cfg0.win 3).blk t).view.read (Elt Ideal) (mat (n0 := 2048) (n1 := 1920) (grad (a0 m c) (a1 m c))) := by
  have h7 := (flush0_3 t).mp hf
  rw [flushed3_C m c t (by omega) h7, out_C_3]
  funext y
  obtain ⟨a, b, rfl⟩ : ∃ (a : Fin 512) (b : Fin 1920), y = ix2 a b := ⟨_, _, eq_ix2 y⟩
  rw [View.read_apply]
  refine (show _ = k0_pay2 (F := Ideal) _ _ _ (ix2 a b) from rfl).trans ((last_at m c t h7 a b).trans ?_)
  show _ = grad (a0 m c) (a1 m c) (win0_3.index t 0 * 512 + 1 * a.val) (win0_3.index t 1 * 1920 + 1 * b.val)
  rw [(idx3 t).1, (idx3 t).2, show t.val / 8 * 512 + 1 * a.val = 512 * (t.val / 8) + a.val by omega, show 0 * 1920 + 1 * b.val = b.val by omega]
  rfl

theorem final3 : (dats m 0 c).arrAt 3 cfg0.N = mat (n0 := 2048) (n1 := 1920) (grad (a0 m c) (a1 m c)) :=
  (dats m 0 c).arrAt_eq_of_cover 3 _ (wrote3 m c) fun i => by
    have h0 : (i 0 : ℕ) < 2048 := (i 0).isLt
    have h1 : (i 1 : ℕ) < 1920 := (i 1).isLt
    have ht : (i 0 : ℕ) / 512 * 8 + 7 < cfg0.N := by show _ < 32; omega
    have hI := idx3 ⟨_, ht⟩
    refine ⟨⟨_, ht⟩, (flush0_3 ⟨_, ht⟩).mpr (by dsimp only; omega), ?_⟩
    show i ∈ ((View.whole main_v9_1).slice (win0_3.rect ⟨_, ht⟩)).set
    rw [View.set_slice_whole, Rect.mem_set_unit]
    intro a
    match a with
    | ⟨0, _⟩ =>
      show win0_3.index ⟨_, ht⟩ 0 * 512 ≤ (i 0 : ℕ) ∧ (i 0 : ℕ) < win0_3.index ⟨_, ht⟩ 0 * 512 + 512
      rw [hI.1]; dsimp only; omega
    | ⟨1, _⟩ =>
      show win0_3.index ⟨_, ht⟩ 1 * 1920 ≤ (i 1 : ℕ) ∧ (i 1 : ℕ) < win0_3.index ⟨_, ht⟩ 1 * 1920 + 1920
      rw [hI.2]; omega

end Cert.Proof.InGrad

end
-- ==== Proof.InCotI.lean ====
/-
  The call `d_h` over the extended reals: what its result holds after the run.
-/
module

public import proofs.«01_k».proof.Proof.Products
public import proofs.«01_k».proof.Proof.Columns
public import proofs.«01_k».proof.Proof.Gen.Kernel13Ideal.Value
public import Idealize.ShloMosaic.Lib.Tactic

@[expose] public section

set_option maxRecDepth 16384

noncomputable section

namespace Cert.Proof.InCot

open Cert.Kernel13Ideal Cert.Kernel13Ideal.Gen Cert.Kernel13Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products Cert.Proof.Columns

theorem zz : (![0, 0] : Fin 2 → Nat) = fun _ => 0 := funext fun a => by fin_cases a <;> rfl

theorem out_eq (X : Vec Ideal S1024x1920 .bf16) (Y : Vec Ideal S1024x1920 .bf16) : out0_2 (F := Ideal) X Y = k0_pay1 (F := Ideal) X Y := by
  unfold out0_2
  rw [View.canon_unit_zero zz]
  simp only [View.ld_unit_zero (S := S1024x1920) zz]

theorem pay1_at {X : Vec Ideal S1024x1920 .bf16} {Y : Vec Ideal S1024x1920 .bf16} {f g : ℕ → ℕ → EReal} (hX : At2 X f) (hY : At2 Y g) :
    At2 (k0_pay1 (F := Ideal) X Y) fun a b => ∑ k ∈ range 1920, f a k * g b k := fun a b => by
  unfold k0_pay1
  simp only [shapeCast_self]
  exact matmul_nt (φ₁ := .bf16) (φ₂ := .bf16) _ hX hY a b

/-! ## The blocks read -/

variable (m : (ℓ : Loc nD τ sig) → Buf (Elt Ideal) ℓ) (c : Dev nD)

/-- Device `c`'s arguments at launch. -/
abbrev a0 : S8192x1856.Idx → EReal := m ((c : Thread nD τ).loc main_arg0)
abbrev a1 : S2048x1856.Idx → EReal := m ((c : Thread nD τ).loc main_arg1)

theorem V7 : At2 (V m c main_v7 : S8192x1920.Idx → EReal) (spread (ent (a0 m c))) := by
  have e : (V m c main_v7 : S8192x1920.Idx → EReal) = concatenate S8192x1920 1 [⟨S8192x512, extractStridedSlice S8192x512 ![0, 0] (a0 m c) slices_S8192x1856_S8192x512_0_0⟩, ⟨S8192x512, extractStridedSlice S8192x512 ![0, 512] (a0 m c) slices_S8192x1856_S8192x512_0_512⟩, ⟨S8192x512, extractStridedSlice S8192x512 ![0, 1344] (a0 m c) slices_S8192x1856_S8192x512_0_1344⟩, ⟨S8192x256, extractStridedSlice S8192x256 ![0, 1024] (a0 m c) slices_S8192x1856_S8192x256_0_1024⟩,
      ⟨S8192x64, extractStridedSlice S8192x64 ![0, 1280] (a0 m c) slices_S8192x1856_S8192x64_0_1280⟩, ⟨S8192x64, broadcastInDim S8192x64 ![] bcast_S_S8192x64 (constant (F := Ideal) S_ .f32 0x00000000#32)⟩]
      concatenates_S8192x512_S8192x512_S8192x512_S8192x256_S8192x64_S8192x64_S8192x1920_d1 := by
    dsimp only [V, hostOps0]
    after_results_simp <;> rfl
  rw [e]
  exact slices_at (at2_ent (a0 m c)) (fun i => by rw [broadcastInDim_scalar_apply]; exact Ideal.ofBits_zero_f32) _ _ _ _ _ _

theorem V15 : At2 (V m c main_v15 : S2048x1920.Idx → EReal) (spread (ent (a1 m c))) := by
  have e : (V m c main_v15 : S2048x1920.Idx → EReal) = concatenate S2048x1920 1 [⟨S2048x512, extractStridedSlice S2048x512 ![0, 0] (a1 m c) slices_S2048x1856_S2048x512_0_0⟩, ⟨S2048x512, extractStridedSlice S2048x512 ![0, 512] (a1 m c) slices_S2048x1856_S2048x512_0_512⟩, ⟨S2048x512, extractStridedSlice S2048x512 ![0, 1344] (a1 m c) slices_S2048x1856_S2048x512_0_1344⟩, ⟨S2048x256, extractStridedSlice S2048x256 ![0, 1024] (a1 m c) slices_S2048x1856_S2048x256_0_1024⟩,
      ⟨S2048x64, extractStridedSlice S2048x64 ![0, 1280] (a1 m c) slices_S2048x1856_S2048x64_0_1280⟩, ⟨S2048x64, broadcastInDim S2048x64 ![] bcast_S_S2048x64 (constant (F := Ideal) S_ .f32 0x00000000#32)⟩]
      concatenates_S2048x512_S2048x512_S2048x512_S2048x256_S2048x64_S2048x64_S2048x1920_d1 := by
    dsimp only [V, hostOps0]
    after_results_simp <;> rfl
  rw [e]
  exact slices_at (at2_ent (a1 m c)) (fun i => by rw [broadcastInDim_scalar_apply]; exact Ideal.ofBits_zero_f32) _ _ _ _ _ _

theorem idx0 : ∀ t : Fin cfg0.N, win0_0.index t 0 = t.val / 2 ∧ win0_0.index t 1 = 0 := by decide +kernel
theorem idx1 : ∀ t : Fin cfg0.N, win0_1.index t 0 = t.val % 2 ∧ win0_1.index t 1 = 0 := by decide +kernel
theorem idx2 : ∀ t : Fin cfg0.N, win0_2.index t 0 = t.val / 2 ∧ win0_2.index t 1 = t.val % 2 := by decide +kernel

theorem lt16 (t : Fin cfg0.N) : t.val < 16 := t.isLt

theorem blk0 (t : Fin cfg0.N) : At2 (iblk m c 0 t : S1024x1920.Idx → EReal) fun a k => spread (ent (a0 m c)) (1024 * (t.val / 2) + a) k := fun a k => by
  have ht := t.isLt
  change t.val < 16 at ht
  have ha := a.isLt
  unfold iblk
  rw [View.read_apply]
  show V m c main_v7 _ = _
  refine (congrArg (V m c main_v7 : S8192x1920.Idx → EReal) (show _ = ix2 (n0 := 8192) (n1 := 1920) ⟨1024 * (t.val / 2) + a.val, by omega⟩ k from ?_)).trans (V7 m c _ _)
  funext x
  match x with
  | ⟨0, _⟩ => exact Fin.ext (show win0_0.index t 0 * 1024 + 1 * a.val = 1024 * (t.val / 2) + a.val by rw [(idx0 t).1]; omega)
  | ⟨1, _⟩ => exact Fin.ext (show win0_0.index t 1 * 1920 + 1 * k.val = k.val by rw [(idx0 t).2]; omega)

theorem blk1 (t : Fin cfg0.N) : At2 (iblk m c 1 t : S1024x1920.Idx → EReal) fun b k => spread (ent (a1 m c)) (1024 * (t.val % 2) + b) k := fun b k => by
  have ht := t.isLt
  change t.val < 16 at ht
  have ha := b.isLt
  unfold iblk
  rw [View.read_apply]
  show V m c main_v15 _ = _
  refine (congrArg (V m c main_v15 : S2048x1920.Idx → EReal) (show _ = ix2 (n0 := 2048) (n1 := 1920) ⟨1024 * (t.val % 2) + b.val, by omega⟩ k from ?_)).trans (V15 m c _ _)
  funext x
  match x with
  | ⟨0, _⟩ => exact Fin.ext (show win0_1.index t 0 * 1024 + 1 * b.val = 1024 * (t.val % 2) + b.val by rw [(idx1 t).1]; omega)
  | ⟨1, _⟩ => exact Fin.ext (show win0_1.index t 1 * 1920 + 1 * k.val = k.val by rw [(idx1 t).2]; omega)

/-! ## The result -/

/-- The gradient of the normed input. -/
def grad (x : S8192x1856.Idx → EReal) (y : S2048x1856.Idx → EReal) (a b : ℕ) : EReal := ∑ k ∈ range 1920, spread (ent x) a k * spread (ent y) b k

theorem wrote2 (t : Fin cfg0.N) (hf : (cfg0.win 2).flush t = true) :
    (dats m 0 c).flushed 2 t = ((cfg0.win 2).blk t).view.read (Elt Ideal) (mat (n0 := 8192) (n1 := 2048) (grad (a0 m c) (a1 m c))) := by
  rw [flushed2 m c t, out_eq]
  funext y
  obtain ⟨a, b, rfl⟩ : ∃ (a : Fin 1024) (b : Fin 1024), y = ix2 a b := ⟨_, _, eq_ix2 y⟩
  rw [View.read_apply]
  refine (show _ = k0_pay1 (F := Ideal) _ _ (ix2 a b) from rfl).trans ((pay1_at (blk0 m c t) (blk1 m c t) a b).trans ?_)
  show _ = grad (a0 m c) (a1 m c) (win0_2.index t 0 * 1024 + 1 * a.val) (win0_2.index t 1 * 1024 + 1 * b.val)
  rw [(idx2 t).1, (idx2 t).2, show t.val / 2 * 1024 + 1 * a.val = 1024 * (t.val / 2) + a.val by omega,
    show t.val % 2 * 1024 + 1 * b.val = 1024 * (t.val % 2) + b.val by omega]
  rfl

theorem final2 : (dats m 0 c).arrAt 2 cfg0.N = mat (n0 := 8192) (n1 := 2048) (grad (a0 m c) (a1 m c)) :=
  (dats m 0 c).arrAt_eq_of_cover 2 _ (wrote2 m c) fun i => by
    have h0 : (i 0 : ℕ) < 8192 := (i 0).isLt
    have h1 : (i 1 : ℕ) < 2048 := (i 1).isLt
    have ht : (i 0 : ℕ) / 1024 * 2 + (i 1 : ℕ) / 1024 < cfg0.N := by show _ < 16; omega
    have hI := idx2 ⟨_, ht⟩
    refine ⟨⟨_, ht⟩, flush0_2 ⟨_, ht⟩, ?_⟩
    show i ∈ ((View.whole main_v16).slice (win0_2.rect ⟨_, ht⟩)).set
    rw [View.set_slice_whole, Rect.mem_set_unit]
    intro a
    match a with
    | ⟨0, _⟩ =>
      show win0_2.index ⟨_, ht⟩ 0 * 1024 ≤ (i 0 : ℕ) ∧ (i 0 : ℕ) < win0_2.index ⟨_, ht⟩ 0 * 1024 + 1024
      rw [hI.1]; dsimp only; omega
    | ⟨1, _⟩ =>
      show win0_2.index ⟨_, ht⟩ 1 * 1024 ≤ (i 1 : ℕ) ∧ (i 1 : ℕ) < win0_2.index ⟨_, ht⟩ 1 * 1024 + 1024
      rw [hI.2]; dsimp only; omega

end Cert.Proof.InCot

end
-- ==== Proof.UpGradI.lean ====
/-
  The call `grad_w_up` over the extended reals: what its two results hold after the run.
-/
module

public import proofs.«01_k».proof.Proof.Products
public import proofs.«01_k».proof.Proof.Gen.Kernel14Ideal.Value
public import Idealize.ShloMosaic.Lib.Tactic

@[expose] public section

set_option maxRecDepth 16384

noncomputable section

namespace Cert.Proof.UpGrad

open Cert.Kernel14Ideal Cert.Kernel14Ideal.Gen Cert.Kernel14Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products

theorem zz : (![0, 0] : Fin 2 → Nat) = fun _ => 0 := funext fun a => by fin_cases a <;> rfl

/-! ## One grid point -/

section
variable (c : Dev nD) (i : grid0.Coords) (a3 : Memref sig .tc .vmem S1024x1024 .bf16) (h3 : a3.IsWhole) (a4 : Memref sig .tc .vmem S1024x1408 .bf16) (h4 : a4.IsWhole)
  (a5 : Memref sig .tc .vmem S1024x1408 .f32) (h5 : a5.IsWhole) (a6 : Memref sig .tc .vmem S1024x1408 .bf16) (h6 : a6.IsWhole)
  (a7 : Memref sig .tc .vmem S1024x1408 .f32) (h7 : a7.IsWhole) (X : Vec Ideal S1024x1024 .bf16) (Y : Vec Ideal S1024x1408 .bf16) (W : Vec Ideal S1024x1408 .f32)

theorem acc_A (hc0 : cond0_0 i) (hc1 : ¬cond0_1 i) :
    sout0_A_0 c i a3 h3 a4 h4 a5 h5 a6 h6 a7 h7 hc0 hc1 X Y = k0_pay2 (F := Ideal) (k0_pay1 (F := Ideal)) X Y := by
  unfold sout0_A_0
  rw [View.read_writes_eq_canon _ _ _ (scover0_A_0 c i a3 h3 a4 h4 a5 h5 a6 h6 a7 h7 hc0 hc1 X Y)]
  unfold kernelRun0_A
  dsimp only
  sl_unfold_words
  rw [View.canon_cons_unit_zero (S := S1024x1408) zz, View.readCov_unit_zero (S := S1024x1408) _ zz]
  simp only [View.readAt_eq_ld, h3.read_unread, h4.read_unread, View.ld_unit_zero (S := S1024x1024) zz, View.ld_unit_zero (S := S1024x1408) zz]

theorem acc_B (hc0 : ¬cond0_0 i) (hc1 : ¬cond0_1 i) :
    sout0_B_0 c i a3 h3 a4 h4 a5 h5 a6 h6 a7 h7 hc0 hc1 X Y W = k0_pay2 (F := Ideal) W X Y := by
  unfold sout0_B_0
  rw [View.read_writes_eq_canon _ _ _ (scover0_B_0 c i a3 h3 a4 h4 a5 h5 a6 h6 a7 h7 hc0 hc1 X Y W)]
  unfold kernelRun0_B
  dsimp only
  sl_unfold_words
  rw [View.canon_unit_zero zz]
  simp only [View.readAt_eq_ld, h3.read_unread, h4.read_unread, h7.read_unread, View.ld_unit_zero (S := S1024x1024) zz, View.ld_unit_zero (S := S1024x1408) zz]

theorem acc_C (hc0 : ¬cond0_0 i) (hc1 : cond0_1 i) :
    sout0_C_0 c i a3 h3 a4 h4 a5 h5 a6 h6 a7 h7 hc0 hc1 X Y W = k0_pay2 (F := Ideal) W X Y := by
  unfold sout0_C_0
  rw [View.read_writes_eq_canon _ _ _ (scover0_C_0 c i a3 h3 a4 h4 a5 h5 a6 h6 a7 h7 hc0 hc1 X Y W)]
  unfold kernelRun0_C
  dsimp only
  sl_unfold_words
  rw [View.canon_unit_zero zz]
  simp only [View.readAt_eq_ld, h3.read_unread, h4.read_unread, h7.read_unread, View.ld_unit_zero (S := S1024x1024) zz, View.ld_unit_zero (S := S1024x1408) zz]

theorem out_C_2 (hc0 : ¬cond0_0 i) (hc1 : cond0_1 i) :
    out0_C_2 c i a3 h3 a4 h4 a5 h5 a6 h6 a7 h7 hc0 hc1 X Y W = k0_pay2 (F := Ideal) W X Y := by
  unfold out0_C_2
  rw [View.read_writes_eq_canon _ _ _ (cover0_C_2 c i a3 h3 a4 h4 a5 h5 a6 h6 a7 h7 hc0 hc1 X Y W)]
  unfold kernelRun0_C
  dsimp only
  sl_unfold_words
  rw [View.canon_unit_zero zz, View.readCov_unit_zero (S := S1024x1408) _ zz]
  simp only [View.readAt_eq_ld, h3.read_unread, h4.read_unread, h7.read_unread, View.ld_unit_zero (S := S1024x1024) zz, View.ld_unit_zero (S := S1024x1408) zz]

theorem out_C_3 (hc0 : ¬cond0_0 i) (hc1 : cond0_1 i) :
    out0_C_3 c i a3 h3 a4 h4 a5 h5 a6 h6 a7 h7 hc0 hc1 X Y W = k0_pay3 (F := Ideal) (k0_pay2 (F := Ideal) W X Y) := by
  unfold out0_C_3
  rw [View.read_writes_eq_canon _ _ _ (cover0_C_3 c i a3 h3 a4 h4 a5 h5 a6 h6 a7 h7 hc0 hc1 X Y W)]
  unfold kernelRun0_C
  dsimp only
  sl_unfold_words
  rw [View.canon_unit_zero zz, View.readCov_unit_zero (S := S1024x1408) _ zz]
  simp only [View.readAt_eq_ld, h3.read_unread, h4.read_unread, h7.read_unread, View.ld_unit_zero (S := S1024x1024) zz, View.ld_unit_zero (S := S1024x1408) zz]

end

theorem pay1_at : At2 (k0_pay1 (F := Ideal)) fun _ _ => 0 := fun a b => by
  unfold k0_pay1
  rw [shapeCast_self]
  exact Ideal.ofBits_zero_f32

theorem pay2_at {W : Vec Ideal S1024x1408 .f32} {X : Vec Ideal S1024x1024 .bf16} {Y : Vec Ideal S1024x1408 .bf16} {w f g : ℕ → ℕ → EReal}
    (hW : At2 W w) (hX : At2 X f) (hY : At2 Y g) :
    At2 (k0_pay2 (F := Ideal) W X Y) fun a b => w a b + ∑ k ∈ range 1024, f k a * g k b := fun a b => by
  unfold k0_pay2
  simp only [shapeCast_self]
  exact congrArg₂ (· + ·) (hW a b) (matmul_tn _ hX hY a b)

/-! ## The blocks read -/

variable (m : (ℓ : Loc nD τ sig) → Buf (Elt Ideal) ℓ) (c : Dev nD)

/-- Device `c`'s arguments at launch. -/
abbrev a0 : S8192x2048.Idx → EReal := m ((c : Thread nD τ).loc main_arg0)
abbrev a1 : S8192x5632.Idx → EReal := m ((c : Thread nD τ).loc main_arg1)

theorem V0 : V m c main_v0 = a0 m c := by
  dsimp only [V, hostOps0]
  after_results_simp <;> rfl

theorem V1 : V m c main_v1 = a1 m c := by
  dsimp only [V, hostOps0]
  after_results_simp <;> rfl

theorem idx0 : ∀ t : Fin cfg0.N, win0_0.index t 0 = t.val % 8 ∧ win0_0.index t 1 = t.val / 32 := by decide +kernel
theorem idx1 : ∀ t : Fin cfg0.N, win0_1.index t 0 = t.val % 8 ∧ win0_1.index t 1 = t.val / 8 % 4 := by decide +kernel
theorem idx2 : ∀ t : Fin cfg0.N, win0_2.index t 0 = 2 * (t.val / 8 % 4) + t.val / 32 ∧ win0_2.index t 1 = 0 := by decide +kernel
theorem idx3 : ∀ t : Fin cfg0.N, win0_3.index t 0 = 2 * (t.val / 8 % 4) + t.val / 32 ∧ win0_3.index t 1 = 0 := by decide +kernel

theorem lt64 (t : Fin cfg0.N) : t.val < 64 := t.isLt

theorem blk0 (t : Fin cfg0.N) : At2 (iblk m c 0 t : S1024x1024.Idx → EReal) fun k a => ent (a0 m c) (1024 * (t.val % 8) + k) (1024 * (t.val / 32) + a) := fun k a => by
  have ht := lt64 t
  have hk := k.isLt
  have ha := a.isLt
  unfold iblk
  rw [View.read_apply]
  show V m c main_v0 _ = _
  rw [V0]
  refine (congrArg (a0 m c) (show _ = ix2 (n0 := 8192) (n1 := 2048) ⟨1024 * (t.val % 8) + k.val, by omega⟩ ⟨1024 * (t.val / 32) + a.val, by omega⟩ from ?_)).trans
    (at2_ent (a0 m c) _ _)
  funext x
  match x with
  | ⟨0, _⟩ => exact Fin.ext (show win0_0.index t 0 * 1024 + 1 * k.val = 1024 * (t.val % 8) + k.val by rw [(idx0 t).1]; omega)
  | ⟨1, _⟩ => exact Fin.ext (show win0_0.index t 1 * 1024 + 1 * a.val = 1024 * (t.val / 32) + a.val by rw [(idx0 t).2]; omega)

theorem blk1 (t : Fin cfg0.N) : At2 (iblk m c 1 t : S1024x1408.Idx → EReal) fun k b => ent (a1 m c) (1024 * (t.val % 8) + k) (1408 * (t.val / 8 % 4) + b) := fun k b => by
  have ht := lt64 t
  have hk := k.isLt
  have hb := b.isLt
  unfold iblk
  rw [View.read_apply]
  show V m c main_v1 _ = _
  rw [V1]
  refine (congrArg (a1 m c) (show _ = ix2 (n0 := 8192) (n1 := 5632) ⟨1024 * (t.val % 8) + k.val, by omega⟩ ⟨1408 * (t.val / 8 % 4) + b.val, by omega⟩ from ?_)).trans
    (at2_ent (a1 m c) _ _)
  funext x
  match x with
  | ⟨0, _⟩ => exact Fin.ext (show win0_1.index t 0 * 1024 + 1 * k.val = 1024 * (t.val % 8) + k.val by rw [(idx1 t).1]; omega)
  | ⟨1, _⟩ => exact Fin.ext (show win0_1.index t 1 * 1408 + 1 * b.val = 1408 * (t.val / 8 % 4) + b.val by rw [(idx1 t).2]; omega)

/-! ## The accumulated sum -/

/-- The sum's term `l` at entry `(a, b)` of point `n`'s block. -/
abbrev term (n a b l : ℕ) : EReal := ent (a0 m c) l (1024 * (n / 32) + a) * ent (a1 m c) l (1408 * (n / 8 % 4) + b)

/-- One point's product added to the sum over the blocks before it. -/
theorem step (t : Fin cfg0.N) {W : Vec Ideal S1024x1408 .f32} (hW : At2 W fun a b => ∑ l ∈ range (1024 * (t.val % 8)), term m c t.val a b l) :
    At2 (k0_pay2 (F := Ideal) W (iblk m c 0 t) (iblk m c 1 t)) fun a b => ∑ l ∈ range (1024 * (t.val % 8 + 1)), term m c t.val a b l := fun a b =>
  (pay2_at hW (blk0 m c t) (blk1 m c t) a b).trans (sum_block (term m c t.val a.val b.val) 1024 (t.val % 8)).symm

theorem acc_at (n : ℕ) (hn : n < cfg0.N) : At2 (outsAt0 m c n hn).2.2 fun a b => ∑ l ∈ range (1024 * (n % 8 + 1)), term m c n a b l := by
  induction n using Nat.strong_induction_on with
  | _ n ih =>
    have hN : n < 64 := hn
    by_cases h0 : n % 8 = 0
    · rw [outsAt0_A m c ⟨n, hn⟩ h0 (by dsimp only; omega)]
      dsimp only
      rw [acc_A]
      refine step m c ⟨n, hn⟩ fun a b => ?_
      rw [pay1_at a b]
      dsimp only
      rw [h0, Nat.mul_zero, sum_range_zero]
    · have hp : At2 (outsAt0 m c (n - 1) (Nat.lt_of_le_of_lt (Nat.sub_le _ _) hn)).2.2 fun a b => ∑ l ∈ range (1024 * (n % 8)), term m c n a b l := fun a b => by
        rw [ih (n - 1) (by omega) _ a b]
        dsimp only
        unfold term
        rw [show (n - 1) % 8 + 1 = n % 8 by omega, show (n - 1) / 32 = n / 32 by omega, show (n - 1) / 8 = n / 8 by omega]
      by_cases h7 : n % 8 = 7
      · rw [outsAt0_C m c ⟨n, hn⟩ h0 h7]
        dsimp only
        rw [acc_C]
        exact step m c ⟨n, hn⟩ hp
      · rw [outsAt0_B m c ⟨n, hn⟩ h0 h7]
        dsimp only
        rw [acc_B]
        exact step m c ⟨n, hn⟩ hp

/-- What the last point of a sweep writes. -/
theorem last_at (t : Fin cfg0.N) (h7 : t.val % 8 = 7) :
    At2 (k0_pay2 (F := Ideal) (outsAt0 m c (t.val - 1) (Nat.lt_of_le_of_lt (Nat.sub_le _ _) t.isLt)).2.2 (iblk m c 0 t) (iblk m c 1 t))
      fun a b => ∑ l ∈ range 8192, term m c t.val a b l := by
  have h := acc_at m c t.val t.isLt
  rw [outsAt0_C m c t (by omega) h7] at h
  dsimp only at h
  rw [acc_C, h7] at h
  exact h

/-! ## The results -/

/-- The gradient of the weight: four column shards, stacked by rows. -/
def grad (x : S8192x2048.Idx → EReal) (y : S8192x5632.Idx → EReal) (r b : ℕ) : EReal := ∑ l ∈ range 8192, ent x l (r % 2048) * ent y l (1408 * (r / 2048) + b)

theorem grad_eq (t : Fin cfg0.N) (a b : ℕ) (ha : a < 1024) (r : ℕ) (hr : r = (2 * (t.val / 8 % 4) + t.val / 32) * 1024 + 1 * a) :
    ∑ l ∈ range 8192, term m c t.val a b l = grad (a0 m c) (a1 m c) r b := by
  have ht := lt64 t
  subst hr
  unfold grad term
  rw [show ((2 * (t.val / 8 % 4) + t.val / 32) * 1024 + 1 * a) % 2048 = 1024 * (t.val / 32) + a by omega,
    show ((2 * (t.val / 8 % 4) + t.val / 32) * 1024 + 1 * a) / 2048 = t.val / 8 % 4 by omega]

theorem wrote2 (t : Fin cfg0.N) (hf : (cfg0.win 2).flush t = true) :
    (dats m 0 c).flushed 2 t = ((cfg0.win 2).blk t).view.read (Elt Ideal) (mat (n0 := 8192) (n1 := 1408) (grad (a0 m c) (a1 m c))) := by
  have h7 := (flush0_2 t).mp hf
  rw [flushed2_C m c t (by omega) h7, out_C_2]
  funext y
  obtain ⟨a, b, rfl⟩ : ∃ (a : Fin 1024) (b : Fin 1408), y = ix2 a b := ⟨_, _, eq_ix2 y⟩
  rw [View.read_apply]
  refine (show _ = k0_pay2 (F := Ideal) _ _ _ (ix2 a b) from rfl).trans ((last_at m c t h7 a b).trans ?_)
  show _ = grad (a0 m c) (a1 m c) (win0_2.index t 0 * 1024 + 1 * a.val) (win0_2.index t 1 * 1408 + 1 * b.val)
  rw [(idx2 t).1, (idx2 t).2, show 0 * 1408 + 1 * b.val = b.val by omega]
  exact grad_eq m c t _ _ a.isLt _ rfl

theorem wrote3 (t : Fin cfg0.N) (hf : (cfg0.win 3).flush t = true) :
    (dats m 0 c).flushed 3 t = ((cfg0.win 3).blk t).view.read (Elt Ideal) (mat (n0 := 8192) (n1 := 1408) (grad (a0 m c) (a1 m c))) := by
  have h7 := (flush0_3 t).mp hf
  rw [flushed3_C m c t (by omega) h7, out_C_3]
  funext y
  obtain ⟨a, b, rfl⟩ : ∃ (a : Fin 1024) (b : Fin 1408), y = ix2 a b := ⟨_, _, eq_ix2 y⟩
  rw [View.read_apply]
  refine (show _ = k0_pay2 (F := Ideal) _ _ _ (ix2 a b) from rfl).trans ((last_at m c t h7 a b).trans ?_)
  show _ = grad (a0 m c) (a1 m c) (win0_3.index t 0 * 1024 + 1 * a.val) (win0_3.index t 1 * 1408 + 1 * b.val)
  rw [(idx3 t).1, (idx3 t).2, show 0 * 1408 + 1 * b.val = b.val by omega]
  exact grad_eq m c t _ _ a.isLt _ rfl

/-- The last point of the sweep over block row `u`. -/
theorem last_of : ∀ u < 8, 2 * ((u % 2 * 32 + u / 2 * 8 + 7) / 8 % 4) + (u % 2 * 32 + u / 2 * 8 + 7) / 32 = u := by decide

theorem final2 : (dats m 0 c).arrAt 2 cfg0.N = mat (n0 := 8192) (n1 := 1408) (grad (a0 m c) (a1 m c)) :=
  (dats m 0 c).arrAt_eq_of_cover 2 _ (wrote2 m c) fun i => by
    have h0 : (i 0 : ℕ) < 8192 := (i 0).isLt
    have h1 : (i 1 : ℕ) < 1408 := (i 1).isLt
    have ht : (i 0 : ℕ) / 1024 % 2 * 32 + (i 0 : ℕ) / 1024 / 2 * 8 + 7 < cfg0.N := by show _ < 64; omega
    have hI := idx2 ⟨_, ht⟩
    refine ⟨⟨_, ht⟩, (flush0_2 ⟨_, ht⟩).mpr (by dsimp only; omega), ?_⟩
    show i ∈ ((View.whole main_v2_0).slice (win0_2.rect ⟨_, ht⟩)).set
    rw [View.set_slice_whole, Rect.mem_set_unit]
    intro a
    match a with
    | ⟨0, _⟩ =>
      show win0_2.index ⟨_, ht⟩ 0 * 1024 ≤ (i 0 : ℕ) ∧ (i 0 : ℕ) < win0_2.index ⟨_, ht⟩ 0 * 1024 + 1024
      rw [hI.1]; dsimp only; rw [last_of ((i 0 : ℕ) / 1024) (by omega)]; omega
    | ⟨1, _⟩ =>
      show win0_2.index ⟨_, ht⟩ 1 * 1408 ≤ (i 1 : ℕ) ∧ (i 1 : ℕ) < win0_2.index ⟨_, ht⟩ 1 * 1408 + 1408
      rw [hI.2]; omega

theorem final3 : (dats m 0 c).arrAt 3 cfg0.N = mat (n0 := 8192) (n1 := 1408) (grad (a0 m c) (a1 m c)) :=
  (dats m 0 c).arrAt_eq_of_cover 3 _ (wrote3 m c) fun i => by
    have h0 : (i 0 : ℕ) < 8192 := (i 0).isLt
    have h1 : (i 1 : ℕ) < 1408 := (i 1).isLt
    have ht : (i 0 : ℕ) / 1024 % 2 * 32 + (i 0 : ℕ) / 1024 / 2 * 8 + 7 < cfg0.N := by show _ < 64; omega
    have hI := idx3 ⟨_, ht⟩
    refine ⟨⟨_, ht⟩, (flush0_3 ⟨_, ht⟩).mpr (by dsimp only; omega), ?_⟩
    show i ∈ ((View.whole main_v2_1).slice (win0_3.rect ⟨_, ht⟩)).set
    rw [View.set_slice_whole, Rect.mem_set_unit]
    intro a
    match a with
    | ⟨0, _⟩ =>
      show win0_3.index ⟨_, ht⟩ 0 * 1024 ≤ (i 0 : ℕ) ∧ (i 0 : ℕ) < win0_3.index ⟨_, ht⟩ 0 * 1024 + 1024
      rw [hI.1]; dsimp only; rw [last_of ((i 0 : ℕ) / 1024) (by omega)]; omega
    | ⟨1, _⟩ =>
      show win0_3.index ⟨_, ht⟩ 1 * 1408 ≤ (i 1 : ℕ) ∧ (i 1 : ℕ) < win0_3.index ⟨_, ht⟩ 1 * 1408 + 1408
      rw [hI.2]; omega

end Cert.Proof.UpGrad

end
-- ==== Proof.UpFwdI.lean ====
/-
  The call `up_proj` over the extended reals: what its result holds after the run.
-/
module

public import proofs.«01_k».proof.Proof.Products
public import proofs.«01_k».proof.Proof.PairI
public import proofs.«01_k».proof.Proof.Gen.Kernel15Ideal.Value
public import Idealize.ShloMosaic.Lib.Tactic

@[expose] public section

set_option maxRecDepth 16384

noncomputable section

namespace Cert.Proof.UpFwd

open Cert.Kernel15Ideal Cert.Kernel15Ideal.Gen Cert.Kernel15Ideal.Value
open Idealize.ShloMosaic Idealize.ShloMosaic.TcCoe Idealize.ShloMosaic.ValueIdx Idealize.ShloMosaic.StableHlo
open Idealize.ShloMosaic.Pipeline (Dat)
open Idealize.SL.Sem
open Finset Cert.Proof.Products

theorem zz : (![0, 0] : Fin 2 → Nat) = fun _ => 0 := funext fun a => by fin_cases a <;> rfl

theorem out_eq (X : Vec Ideal S1024x2048 .bf16) (Y : Vec Ideal S2048x1408 .bf16) : out0_2 (F := Ideal) X Y = k0_pay1 (F := Ideal) X Y := by
  unfold out0_2
  rw [View.canon_unit_zero zz]
  simp only [View.ld_unit_zero (S := S1024x2048) zz, View.ld_unit_zero (S := S2048x1408) zz]

theorem pay1_at {X : Vec Ideal S1024x2048 .bf16} {Y : Vec Ideal S2048x1408 .bf16} {f g : ℕ → ℕ → EReal} (hX : At2 X f) (hY : At2 Y g) :
    At2 (k0_pay1 (F := Ideal) X Y) fun a b => ∑ k ∈ range 2048, f a k * g k b := fun a b => by
  unfold k0_pay1
  simp only [shapeCast_self]
  exact matmul_nn (φ₁ := .bf16) (φ₂ := .bf16) _ hX hY a b

/-! ## The blocks read -/

variable (m : (ℓ : Loc nD τ sig) → Buf (Elt Ideal) ℓ) (c : Dev nD)

/-- Device `c`'s arguments at launch. -/
abbrev a0 : S8192x2048.Idx → EReal := m ((c : Thread nD τ).loc main_arg0)
abbrev a1 : S2048x5632.Idx → EReal := m ((c : Thread nD τ).loc main_arg1)

theorem V0 : V m c main_v0 = a0 m c := by
  dsimp only [V, hostOps0]
  after_results_simp <;> rfl

theorem V4 : V m c main_v4 = Pair.shards (a1 m c) := by
  dsimp only [V, hostOps0]
  after_results_simp <;> rfl

theorem idx0 : ∀ t : Fin cfg0.N, win0_0.index t 0 = t.val / 4 ∧ win0_0.index t 1 = 0 := by decide +kernel
theorem idx1 : ∀ t : Fin cfg0.N, win0_1.index t 0 = t.val % 4 ∧ win0_1.index t 1 = 0 := by decide +kernel
theorem idx2 : ∀ t : Fin cfg0.N, win0_2.index t 0 = t.val / 4 ∧ win0_2.index t 1 = t.val % 4 := by decide +kernel

theorem lt32 (t : Fin cfg0.N) : t.val < 32 := t.isLt

theorem blk0 (t : Fin cfg0.N) : At2 (iblk m c 0 t : S1024x2048.Idx → EReal) fun a k => ent (a0 m c) (1024 * (t.val / 4) + a) k := fun a k => by
  have ht := lt32 t
  have ha := a.isLt
  unfold iblk
  rw [View.read_apply]
  show V m c main_v0 _ = _
  rw [V0]
  refine (congrArg (a0 m c) (show _ = ix2 (n0 := 8192) (n1 := 2048) ⟨1024 * (t.val / 4) + a.val, by omega⟩ k from ?_)).trans (at2_ent (a0 m c) _ _)
  funext x
  match x with
  | ⟨0, _⟩ => exact Fin.ext (show win0_0.index t 0 * 1024 + 1 * a.val = 1024 * (t.val / 4) + a.val by rw [(idx0 t).1]; omega)
  | ⟨1, _⟩ => exact Fin.ext (show win0_0.index t 1 * 2048 + 1 * k.val = k.val by rw [(idx0 t).2]; omega)

theorem blk1 (t : Fin cfg0.N) : At2 (iblk m c 1 t : S2048x1408.Idx → EReal) fun k b => ent (a1 m c) k (1408 * (t.val % 4) + b) := fun k b => by
  have ht := lt32 t
  have hk := k.isLt
  unfold iblk
  rw [View.read_apply]
  show V m c main_v4 _ = _
  rw [V4]
  refine (congrArg (Pair.shards (a1 m c)) (show _ = ix2 (n0 := 8192) (n1 := 1408) ⟨2048 * (t.val % 4) + k.val, by omega⟩ b from ?_)).trans
    ((Pair.shards_at (a1 m c) _ _).trans ?_)
  · funext x
    match x with
    | ⟨0, _⟩ => exact Fin.ext (show win0_1.index t 0 * 2048 + 1 * k.val = 2048 * (t.val % 4) + k.val by rw [(idx1 t).1]; omega)
    | ⟨1, _⟩ => exact Fin.ext (show win0_1.index t 1 * 1408 + 1 * b.val = b.val by rw [(idx1 t).2]; omega)
  · dsimp only
    rw [show (2048 * (t.val % 4) + k.val) % 2048 = k.val by omega, show (2048 * (t.val % 4) + k.val) / 2048 = t.val % 4 by omega]

/-! ## The result -/

/-- The product. -/
def grad (x : S8192x2048.Idx → EReal) (y : S2048x5632.Idx → EReal) (a b : ℕ) : EReal := ∑ k ∈ range 2048, ent x a k * ent y k b

theorem wrote2 (t : Fin cfg0.N) (hf : (cfg0.win 2).flush t = true) :
    (dats m 0 c).flushed 2 t = ((cfg0.win 2).blk t).view.read (Elt Ideal) (mat (n0 := 8192) (n1 := 5632) (grad (a0 m c) (a1 m c))) := by
  rw [flushed2 m c t, out_eq]
  funext y
  obtain ⟨a, b, rfl⟩ : ∃ (a : Fin 1024) (b : Fin 1408), y = ix2 a b := ⟨_, _, eq_ix2 y⟩
  rw [View.read_apply]
  refine (show _ = k0_pay1 (F := Ideal) _ _ (ix2 a b) from rfl).trans ((pay1_at (blk0 m c t) (blk1 m c t) a b).trans ?_)
  show _ = grad (a0 m c) (a1 m c) (win0_2.index t 0 * 1024 + 1 * a.val) (win0_2.index t 1 * 1408 + 1 * b.val)
  rw [(idx2 t).1, (idx2 t).2, show t.val / 4 * 1024 + 1 * a.val = 1024 * (t.val / 4) + a.val by omega,
    show t.val % 4 * 1408 + 1 * b.val = 1408 * (t.val % 4) + b.val by omega]
  rfl

theorem final2 : (dats m 0 c).arrAt 2 cfg0.N = mat (n0 := 8192) (n1 := 5632) (grad (a0 m c) (a1 m c)) :=
  (dats m 0 c).arrAt_eq_of_cover 2 _ (wrote2 m c) fun i => by
    have h0 : (i 0 : ℕ) < 8192 := (i 0).isLt
    have h1 : (i 1 : ℕ) < 5632 := (i 1).isLt
    have ht : (i 0 : ℕ) / 1024 * 4 + (i 1 : ℕ) / 1408 < cfg0.N := by show _ < 32; omega
    have hI := idx2 ⟨_, ht⟩
    refine ⟨⟨_, ht⟩, flush0_2 ⟨_, ht⟩, ?_⟩
    show i ∈ ((View.whole main_v5).slice (win0_2.rect ⟨_, ht⟩)).set
    rw [View.set_slice_whole, Rect.mem_set_unit]
    intro a
    match a with
    | ⟨0, _⟩ =>
      show win0_2.index ⟨_, ht⟩ 0 * 1024 ≤ (i 0 : ℕ) ∧ (i 0 : ℕ) < win0_2.index ⟨_, ht⟩ 0 * 1024 + 1024
      rw [hI.1]; dsimp only; omega
    | ⟨1, _⟩ =>
      show win0_2.index ⟨_, ht⟩ 1 * 1408 ≤ (i 1 : ℕ) ∧ (i 1 : ℕ) < win0_2.index ⟨_, ht⟩ 1 * 1408 + 1408
      rw [hI.2]; dsimp only; omega

end Cert.Proof.UpFwd

end
-- ==== Proof.InputAlgebra.lean ====
/-
  The results of the input projection's kernels and of those of the value of the feed-forward layer are their references', over the
  extended reals, for any arguments.
-/
module

public import proofs.«01_k».proof.Proof.ProductsAlgebra
public import proofs.«01_k».proof.Proof.InFwdI
public import proofs.«01_k».proof.Proof.InGradI
public import proofs.«01_k».proof.Proof.InCotI
public import proofs.«01_k».proof.Proof.UpGradI
public import proofs.«01_k».proof.Proof.UpFwdI
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run

@[expose] public section

set_option maxRecDepth 16384

noncomputable section

namespace Cert.Proof

open Idealize.ShloMosaic Idealize.ShloMosaic.TcCoe Idealize.ShloMosaic.ValueIdx Idealize.SL.Sem
open Finset Cert.Proof.Products Cert.Proof.Columns

/-! ## The references, at an index -/

/-- Only the row asked for matters. -/
theorem spread_row (f : ℕ → ℕ → EReal) (a b : ℕ) : spread f a b = spread (fun _ c => f a c) a b := rfl

/-- The input projection. -/
theorem ref11_at [Cert.Reference11Ideal.Facts] (x : Cert.Reference11Ideal.S8192x2048.Idx → EReal) (y : Cert.Reference11Ideal.S2048x1856.Idx → EReal)
    {z : Cert.Reference11Ideal.S8192x64.Idx → EReal} (hz : ∀ i, z i = 0) (h0 : Cert.Reference11Ideal.S8192x1856.Slices ![0, 0] Cert.Reference11Ideal.S8192x512) (h1 : Cert.Reference11Ideal.S8192x1856.Slices ![0, 512] Cert.Reference11Ideal.S8192x512)
    (h2 : Cert.Reference11Ideal.S8192x1856.Slices ![0, 1344] Cert.Reference11Ideal.S8192x512) (h3 : Cert.Reference11Ideal.S8192x1856.Slices ![0, 1024] Cert.Reference11Ideal.S8192x256)
    (h4 : Cert.Reference11Ideal.S8192x1856.Slices ![0, 1280] Cert.Reference11Ideal.S8192x64)
    (hc : Shape.Concatenates [Cert.Reference11Ideal.S8192x512, Cert.Reference11Ideal.S8192x512, Cert.Reference11Ideal.S8192x512, Cert.Reference11Ideal.S8192x256, Cert.Reference11Ideal.S8192x64, Cert.Reference11Ideal.S8192x64] Cert.Reference11Ideal.S8192x1920 1) :
    concatenate Cert.Reference11Ideal.S8192x1920 1 [⟨Cert.Reference11Ideal.S8192x512, extractStridedSlice Cert.Reference11Ideal.S8192x512 ![0, 0] (Host.dotGeneral (F := Ideal) (φ₁ := .f32) (φ₂ := .f32) Cert.Reference11Ideal.dot_S8192x2048_S2048x1856_S8192x1856_1_0_0_1_n_n none x y) h0⟩,
      ⟨Cert.Reference11Ideal.S8192x512, extractStridedSlice Cert.Reference11Ideal.S8192x512 ![0, 512] (Host.dotGeneral (F := Ideal) (φ₁ := .f32) (φ₂ := .f32) Cert.Reference11Ideal.dot_S8192x2048_S2048x1856_S8192x1856_1_0_0_1_n_n none x y) h1⟩,
      ⟨Cert.Reference11Ideal.S8192x512, extractStridedSlice Cert.Reference11Ideal.S8192x512 ![0, 1344] (Host.dotGeneral (F := Ideal) (φ₁ := .f32) (φ₂ := .f32) Cert.Reference11Ideal.dot_S8192x2048_S2048x1856_S8192x1856_1_0_0_1_n_n none x y) h2⟩,
      ⟨Cert.Reference11Ideal.S8192x256, extractStridedSlice Cert.Reference11Ideal.S8192x256 ![0, 1024] (Host.dotGeneral (F := Ideal) (φ₁ := .f32) (φ₂ := .f32) Cert.Reference11Ideal.dot_S8192x2048_S2048x1856_S8192x1856_1_0_0_1_n_n none x y) h3⟩,
      ⟨Cert.Reference11Ideal.S8192x64, extractStridedSlice Cert.Reference11Ideal.S8192x64 ![0, 1280] (Host.dotGeneral (F := Ideal) (φ₁ := .f32) (φ₂ := .f32) Cert.Reference11Ideal.dot_S8192x2048_S2048x1856_S8192x1856_1_0_0_1_n_n none x y) h4⟩, ⟨Cert.Reference11Ideal.S8192x64, z⟩] hc
      = mat (n0 := 8192) (n1 := 1920) (InFwd.grad x y) := by
  refine (At2.eq_mat (slices_at (host_nn (φ₁ := .f32) (φ₂ := .f32) Cert.Reference11Ideal.dot_S8192x2048_S2048x1856_S8192x1856_1_0_0_1_n_n.wf (at2_ent x) (at2_ent y)) hz h0 h1 h2 h3 h4 hc)).trans
    (congrArg mat (funext fun a => funext fun b => ?_))
  exact (spread_row (fun a b => ∑ k ∈ range 2048, ent x a k * ent y k b) a b).trans (sum_spread 2048 (ent x a) (ent y) a b).symm

/-- The gradient of the weight of the input projection. -/
theorem ref12_at [Cert.Reference12Ideal.Facts] (x : Cert.Reference12Ideal.S8192x2048.Idx → EReal) (y : Cert.Reference12Ideal.S8192x1856.Idx → EReal)
    (ht : Cert.Reference12Ideal.S1856x2048.Transposes [1, 0] Cert.Reference12Ideal.S2048x1856)
    {z : Cert.Reference12Ideal.S2048x64.Idx → EReal} (hz : ∀ i, z i = 0) (h0 : Cert.Reference12Ideal.S2048x1856.Slices ![0, 0] Cert.Reference12Ideal.S2048x512) (h1 : Cert.Reference12Ideal.S2048x1856.Slices ![0, 512] Cert.Reference12Ideal.S2048x512)
    (h2 : Cert.Reference12Ideal.S2048x1856.Slices ![0, 1344] Cert.Reference12Ideal.S2048x512) (h3 : Cert.Reference12Ideal.S2048x1856.Slices ![0, 1024] Cert.Reference12Ideal.S2048x256)
    (h4 : Cert.Reference12Ideal.S2048x1856.Slices ![0, 1280] Cert.Reference12Ideal.S2048x64)
    (hc : Shape.Concatenates [Cert.Reference12Ideal.S2048x512, Cert.Reference12Ideal.S2048x512, Cert.Reference12Ideal.S2048x512, Cert.Reference12Ideal.S2048x256, Cert.Reference12Ideal.S2048x64, Cert.Reference12Ideal.S2048x64] Cert.Reference12Ideal.S2048x1920 1) :
    concatenate Cert.Reference12Ideal.S2048x1920 1 [⟨Cert.Reference12Ideal.S2048x512, extractStridedSlice Cert.Reference12Ideal.S2048x512 ![0, 0] (transpose Cert.Reference12Ideal.S2048x1856 [1, 0] (Host.dotGeneral (F := Ideal) (φ₁ := .f32) (φ₂ := .f32) Cert.Reference12Ideal.dot_S8192x1856_S8192x2048_S1856x2048_0_0_1_1_n_n none y x) ht) h0⟩,
      ⟨Cert.Reference12Ideal.S2048x512, extractStridedSlice Cert.Reference12Ideal.S2048x512 ![0, 512] (transpose Cert.Reference12Ideal.S2048x1856 [1, 0] (Host.dotGeneral (F := Ideal) (φ₁ := .f32) (φ₂ := .f32) Cert.Reference12Ideal.dot_S8192x1856_S8192x2048_S1856x2048_0_0_1_1_n_n none y x) ht) h1⟩,
      ⟨Cert.Reference12Ideal.S2048x512, extractStridedSlice Cert.Reference12Ideal.S2048x512 ![0, 1344] (transpose Cert.Reference12Ideal.S2048x1856 [1, 0] (Host.dotGeneral (F := Ideal) (φ₁ := .f32) (φ₂ := .f32) Cert.Reference12Ideal.dot_S8192x1856_S8192x2048_S1856x2048_0_0_1_1_n_n none y x) ht) h2⟩,
      ⟨Cert.Reference12Ideal.S2048x256, extractStridedSlice Cert.Reference12Ideal.S2048x256 ![0, 1024] (transpose Cert.Reference12Ideal.S2048x1856 [1, 0] (Host.dotGeneral (F := Ideal) (φ₁ := .f32) (φ₂ := .f32) Cert.Reference12Ideal.dot_S8192x1856_S8192x2048_S1856x2048_0_0_1_1_n_n none y x) ht) h3⟩,
      ⟨Cert.Reference12Ideal.S2048x64, extractStridedSlice Cert.Reference12Ideal.S2048x64 ![0, 1280] (transpose Cert.Reference12Ideal.S2048x1856 [1, 0] (Host.dotGeneral (F := Ideal) (φ₁ := .f32) (φ₂ := .f32) Cert.Reference12Ideal.dot_S8192x1856_S8192x2048_S1856x2048_0_0_1_1_n_n none y x) ht) h4⟩, ⟨Cert.Reference12Ideal.S2048x64, z⟩] hc
      = mat (n0 := 2048) (n1 := 1920) (InGrad.grad x y) := by
  have hT : At2 (transpose Cert.Reference12Ideal.S2048x1856 [1, 0] (Host.dotGeneral (F := Ideal) (φ₁ := .f32) (φ₂ := .f32) Cert.Reference12Ideal.dot_S8192x1856_S8192x2048_S1856x2048_0_0_1_1_n_n none y x) ht) fun a b => ∑ l ∈ range 8192, ent x l a * ent y l b := fun a b =>
    (transpose_at (host_tn (φ₁ := .f32) (φ₂ := .f32) Cert.Reference12Ideal.dot_S8192x1856_S8192x2048_S1856x2048_0_0_1_1_n_n.wf (at2_ent y) (at2_ent x)) ht a b).trans
      (sum_congr rfl fun l _ => mul_comm _ _)
  refine (At2.eq_mat (slices_at hT hz h0 h1 h2 h3 h4 hc)).trans (congrArg mat (funext fun a => funext fun b => ?_))
  exact (spread_row (fun a b => ∑ l ∈ range 8192, ent x l a * ent y l b) a b).trans (sum_spread 8192 (fun l => ent x l a) (ent y) a b).symm

/-- The gradient of the normed input of the input projection. -/
theorem ref13_at [Cert.Reference13Ideal.Facts] (x : Cert.Reference13Ideal.S8192x1856.Idx → EReal) (y : Cert.Reference13Ideal.S2048x1856.Idx → EReal) :
    Host.dotGeneral (F := Ideal) (φ₁ := .f32) (φ₂ := .f32) Cert.Reference13Ideal.dot_S8192x1856_S2048x1856_S8192x2048_1_1_0_0_n_n none x y
      = mat (n0 := 8192) (n1 := 2048) (InCot.grad x y) :=
  (At2.eq_mat (host_nt (φ₁ := .f32) (φ₂ := .f32) Cert.Reference13Ideal.dot_S8192x1856_S2048x1856_S8192x2048_1_1_0_0_n_n.wf (at2_ent x) (at2_ent y))).trans
    (congrArg mat (funext fun a => funext fun b => (sum_cols (ent x) (ent y) a b).symm))

section
open Cert.Reference14Ideal

/-- The gradient of the weight of the value, its columns cut into four shards and stacked. -/
theorem ref14_at [Facts] (x : S8192x2048.Idx → EReal) (y : S8192x5632.Idx → EReal) (ht : S5632x2048.Transposes [1, 0] S2048x5632) (h0 h1 h2 h3)
    (hc : Shape.Concatenates [S2048x1408, S2048x1408, S2048x1408, S2048x1408] S8192x1408 0) :
    concatenate S8192x1408 0 [⟨S2048x1408, extractStridedSlice S2048x1408 ![0, 0] (transpose S2048x5632 [1, 0] (Host.dotGeneral (F := Ideal) (φ₁ := .f32) (φ₂ := .f32) dot_S8192x5632_S8192x2048_S5632x2048_0_0_1_1_n_n none y x) ht) h0⟩,
      ⟨S2048x1408, extractStridedSlice S2048x1408 ![0, 1408] (transpose S2048x5632 [1, 0] (Host.dotGeneral (F := Ideal) (φ₁ := .f32) (φ₂ := .f32) dot_S8192x5632_S8192x2048_S5632x2048_0_0_1_1_n_n none y x) ht) h1⟩,
      ⟨S2048x1408, extractStridedSlice S2048x1408 ![0, 2816] (transpose S2048x5632 [1, 0] (Host.dotGeneral (F := Ideal) (φ₁ := .f32) (φ₂ := .f32) dot_S8192x5632_S8192x2048_S5632x2048_0_0_1_1_n_n none y x) ht) h2⟩,
      ⟨S2048x1408, extractStridedSlice S2048x1408 ![0, 4224] (transpose S2048x5632 [1, 0] (Host.dotGeneral (F := Ideal) (φ₁ := .f32) (φ₂ := .f32) dot_S8192x5632_S8192x2048_S5632x2048_0_0_1_1_n_n none y x) ht) h3⟩]
      hc = mat (n0 := 8192) (n1 := 1408) (UpGrad.grad x y) := by
  have hT := transpose_at (host_tn (φ₁ := .f32) (φ₂ := .f32) dot_S8192x5632_S8192x2048_S5632x2048_0_0_1_1_n_n.wf (at2_ent y) (at2_ent x)) ht
  refine (At2.eq_mat (stack_at (f := fun a b => ∑ k ∈ range 8192, ent y k b * ent x k a) (slice_at hT 0 (by decide) h0) (slice_at hT 1408 (by decide) h1) (slice_at hT 2816 (by decide) h2) (slice_at hT 4224 (by decide) h3)
    hc)).trans (congrArg mat (funext fun r => funext fun b => ?_))
  exact sum_congr rfl fun l _ => mul_comm _ _

end

/-- The projection of the value. -/
theorem ref15_at [Cert.Reference15Ideal.Facts] (x : Cert.Reference15Ideal.S8192x2048.Idx → EReal) (y : Cert.Reference15Ideal.S2048x5632.Idx → EReal) :
    Host.dotGeneral (F := Ideal) (φ₁ := .f32) (φ₂ := .f32) Cert.Reference15Ideal.dot_S8192x2048_S2048x5632_S8192x5632_1_0_0_1_n_n none x y
      = mat (n0 := 8192) (n1 := 5632) (UpFwd.grad x y) :=
  At2.eq_mat (host_nn (φ₁ := .f32) (φ₂ := .f32) Cert.Reference15Ideal.dot_S8192x2048_S2048x5632_S8192x5632_1_0_0_1_n_n.wf (at2_ent x) (at2_ent y))

/-! ## The claims -/

theorem algebraic11 : Cert.algebraic_Kernel11Ideal_Reference11Ideal (hKernel11Ideal := Cert.Kernel11Ideal.Gen.facts) (hReference11Ideal := Cert.Reference11Ideal.Gen.facts) := by
  intro m g m' g' _ harg
  refine ⟨fun c => mat (n0 := 8192) (n1 := 1920) (InFwd.grad (InFwd.a0 m c) (InFwd.a1 m c)), ?_, ?_⟩
  · refine (θ_run _ _ _).mono (fun r h c => ?_) (Cert.Kernel11Ideal.Value.run_blocks m g)
    exact ⟨(h c).1.trans (InFwd.final2 m c), (h c).2⟩
  · refine (θ_run _ _ _).mono (fun r h c => ?_) (Cert.Reference11Ideal.Value.run m' g')
    obtain ⟨e0, e1⟩ := harg c
    obtain ⟨r0, ha⟩ := h c
    refine ⟨r0.trans ?_, ha⟩
    rw [e0, e1]
    exact ref11_at _ _ (fun i => by rw [broadcastInDim_scalar_apply]; exact Ideal.ofBits_zero_f32) Cert.Reference11Ideal.Gen.slices_S8192x1856_S8192x512_0_0 Cert.Reference11Ideal.Gen.slices_S8192x1856_S8192x512_0_512
      Cert.Reference11Ideal.Gen.slices_S8192x1856_S8192x512_0_1344 Cert.Reference11Ideal.Gen.slices_S8192x1856_S8192x256_0_1024 Cert.Reference11Ideal.Gen.slices_S8192x1856_S8192x64_0_1280
      Cert.Reference11Ideal.Gen.concatenates_S8192x512_S8192x512_S8192x512_S8192x256_S8192x64_S8192x64_S8192x1920_d1

theorem algebraic12 : Cert.algebraic_Kernel12Ideal_Reference12Ideal (hKernel12Ideal := Cert.Kernel12Ideal.Gen.facts) (hReference12Ideal := Cert.Reference12Ideal.Gen.facts) := by
  intro m g m' g' _ harg
  refine ⟨fun c => mat (n0 := 2048) (n1 := 1920) (InGrad.grad (InGrad.a0 m c) (InGrad.a1 m c)),
    fun c => mat (n0 := 2048) (n1 := 1920) (InGrad.grad (InGrad.a0 m c) (InGrad.a1 m c)), ?_, ?_⟩
  · refine (θ_run _ _ _).mono (fun r h c => ?_) (Cert.Kernel12Ideal.Value.run_blocks m g)
    exact ⟨(h c).1.trans (InGrad.final2 m c), (h c).2.1.trans (InGrad.final3 m c), (h c).2.2⟩
  · refine (θ_run _ _ _).mono (fun r h c => ?_) (Cert.Reference12Ideal.Value.run m' g')
    obtain ⟨e0, e1⟩ := harg c
    obtain ⟨r0, r1, ha⟩ := h c
    refine ⟨r0.trans ?_, r1.trans ?_, ha⟩ <;> rw [e0, e1] <;> exact ref12_at _ _ Cert.Reference12Ideal.Gen.transposes_S1856x2048_S2048x1856_1_0 (fun i => by rw [broadcastInDim_scalar_apply]; exact Ideal.ofBits_zero_f32) Cert.Reference12Ideal.Gen.slices_S2048x1856_S2048x512_0_0 Cert.Reference12Ideal.Gen.slices_S2048x1856_S2048x512_0_512
      Cert.Reference12Ideal.Gen.slices_S2048x1856_S2048x512_0_1344 Cert.Reference12Ideal.Gen.slices_S2048x1856_S2048x256_0_1024 Cert.Reference12Ideal.Gen.slices_S2048x1856_S2048x64_0_1280
      Cert.Reference12Ideal.Gen.concatenates_S2048x512_S2048x512_S2048x512_S2048x256_S2048x64_S2048x64_S2048x1920_d1

theorem algebraic13 : Cert.algebraic_Kernel13Ideal_Reference13Ideal (hKernel13Ideal := Cert.Kernel13Ideal.Gen.facts) (hReference13Ideal := Cert.Reference13Ideal.Gen.facts) := by
  intro m g m' g' _ harg
  refine ⟨fun c => mat (n0 := 8192) (n1 := 2048) (InCot.grad (InCot.a0 m c) (InCot.a1 m c)), ?_, ?_⟩
  · refine (θ_run _ _ _).mono (fun r h c => ?_) (Cert.Kernel13Ideal.Value.run_blocks m g)
    exact ⟨(h c).1.trans (InCot.final2 m c), (h c).2⟩
  · refine (θ_run _ _ _).mono (fun r h c => ?_) (Cert.Reference13Ideal.Value.run m' g')
    obtain ⟨e0, e1⟩ := harg c
    obtain ⟨r0, ha⟩ := h c
    refine ⟨r0.trans ?_, ha⟩
    rw [e0, e1]
    exact ref13_at _ _

theorem algebraic14 : Cert.algebraic_Kernel14Ideal_Reference14Ideal (hKernel14Ideal := Cert.Kernel14Ideal.Gen.facts) (hReference14Ideal := Cert.Reference14Ideal.Gen.facts) := by
  intro m g m' g' _ harg
  refine ⟨fun c => mat (n0 := 8192) (n1 := 1408) (UpGrad.grad (UpGrad.a0 m c) (UpGrad.a1 m c)),
    fun c => mat (n0 := 8192) (n1 := 1408) (UpGrad.grad (UpGrad.a0 m c) (UpGrad.a1 m c)), ?_, ?_⟩
  · refine (θ_run _ _ _).mono (fun r h c => ?_) (Cert.Kernel14Ideal.Value.run_blocks m g)
    exact ⟨(h c).1.trans (UpGrad.final2 m c), (h c).2.1.trans (UpGrad.final3 m c), (h c).2.2⟩
  · refine (θ_run _ _ _).mono (fun r h c => ?_) (Cert.Reference14Ideal.Value.run m' g')
    obtain ⟨e0, e1⟩ := harg c
    obtain ⟨r0, r1, ha⟩ := h c
    refine ⟨r0.trans ?_, r1.trans ?_, ha⟩ <;> rw [e0, e1] <;> exact ref14_at _ _ Cert.Reference14Ideal.Gen.transposes_S5632x2048_S2048x5632_1_0 Cert.Reference14Ideal.Gen.slices_S2048x5632_S2048x1408_0_0
      Cert.Reference14Ideal.Gen.slices_S2048x5632_S2048x1408_0_1408 Cert.Reference14Ideal.Gen.slices_S2048x5632_S2048x1408_0_2816
      Cert.Reference14Ideal.Gen.slices_S2048x5632_S2048x1408_0_4224 Cert.Reference14Ideal.Gen.concatenates_S2048x1408_S2048x1408_S2048x1408_S2048x1408_S8192x1408_d0

theorem algebraic15 : Cert.algebraic_Kernel15Ideal_Reference15Ideal (hKernel15Ideal := Cert.Kernel15Ideal.Gen.facts) (hReference15Ideal := Cert.Reference15Ideal.Gen.facts) := by
  intro m g m' g' _ harg
  refine ⟨fun c => mat (n0 := 8192) (n1 := 5632) (UpFwd.grad (UpFwd.a0 m c) (UpFwd.a1 m c)), ?_, ?_⟩
  · refine (θ_run _ _ _).mono (fun r h c => ?_) (Cert.Kernel15Ideal.Value.run_blocks m g)
    exact ⟨(h c).1.trans (UpFwd.final2 m c), (h c).2⟩
  · refine (θ_run _ _ _).mono (fun r h c => ?_) (Cert.Reference15Ideal.Value.run m' g')
    obtain ⟨e0, e1⟩ := harg c
    obtain ⟨r0, ha⟩ := h c
    refine ⟨r0.trans ?_, ha⟩
    rw [e0, e1]
    exact ref15_at _ _

end Cert.Proof

end
-- ==== Proof.lean ====
module

public import proofs.«01_k».proof.Defs
public import proofs.«01_k».proof.Proof.Frames
public import proofs.«01_k».proof.Proof.Algebra
public import proofs.«01_k».proof.Proof.ProductsFrames
public import proofs.«01_k».proof.Proof.ProductsAlgebra
public import proofs.«01_k».proof.Proof.InputAlgebra

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    preFacts, quiescent_Kernel, quiescent_KernelIdeal,
    fun m g _ => quiescent_KernelIdeal m g trivial, quiescent_ReferenceIdeal, fun m g _ => quiescent_ReferenceIdeal m g trivial,
    quiescent_Kernel2, quiescent_Kernel2Ideal, quiescent_Reference2Ideal,
    quiescent_Kernel3, quiescent_Kernel3Ideal, quiescent_Reference3Ideal,
    quiescent_Kernel4, quiescent_Kernel4Ideal, quiescent_Reference4Ideal,
    quiescent_Kernel5, quiescent_Kernel5Ideal, quiescent_Reference5Ideal,
    quiescent_Kernel6, quiescent_Kernel6Ideal, quiescent_Reference6Ideal,
    quiescent_Kernel7, quiescent_Kernel7Ideal, quiescent_Reference7Ideal,
    quiescent_Kernel8, quiescent_Kernel8Ideal, quiescent_Reference8Ideal,
    quiescent_Kernel9, quiescent_Kernel9Ideal, quiescent_Reference9Ideal,
    quiescent_Kernel10, quiescent_Kernel10Ideal, quiescent_Reference10Ideal,
    quiescent_Kernel11, quiescent_Kernel11Ideal, quiescent_Reference11Ideal,
    quiescent_Kernel12, quiescent_Kernel12Ideal, quiescent_Reference12Ideal,
    quiescent_Kernel13, quiescent_Kernel13Ideal, quiescent_Reference13Ideal,
    quiescent_Kernel14, quiescent_Kernel14Ideal, quiescent_Reference14Ideal,
    quiescent_Kernel15, quiescent_Kernel15Ideal, quiescent_Reference15Ideal,
    preserves, algebraic,
    trivial, algebraic2, trivial, algebraic3, trivial, algebraic4, trivial, algebraic5,
    trivial, algebraic6, trivial, algebraic7, trivial, algebraic8, trivial, algebraic9, trivial, algebraic10,
    trivial, algebraic11, trivial, algebraic12, trivial, algebraic13, trivial, algebraic14, trivial, algebraic15⟩

end Cert.Proof

end
